-- ==== Defs.lean ====
def Pre_Kernel [hPre_expert_ids : Cert.Pre_expert_ids.Facts] (m : (ℓ : Loc Cert.Kernel.nD Cert.Kernel.τ Cert.Kernel.sig) → Buf (Elt Bits) ℓ) : Prop :=
  ∀ c : Dev Cert.Kernel.nD,
    (Cert.Pre_expert_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_expert_ids : Cert.Pre_expert_ids.Facts] (m : (ℓ : Loc Cert.KernelIdeal.nD Cert.KernelIdeal.τ Cert.KernelIdeal.sig) → Buf (Elt Ideal) ℓ) : Prop :=
  ∀ c : Dev Cert.KernelIdeal.nD,
    (Cert.Pre_expert_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_ids [hPre_expert_ids : Cert.Pre_expert_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_qk [hPre_finite_qk : Cert.Pre_finite_qk.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_qk.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_qk [hPre_finite_qk : Cert.Pre_finite_qk.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_qk.fn (F := Ideal) (m ((c.tc : Thread Cert.Reference5Ideal.nD Cert.Reference5Ideal.τ).loc Cert.Reference5Ideal.main_arg0))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_expert_ids : Cert.Pre_expert_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_expert_ids [hReferenceIdeal : Cert.ReferenceIdeal.Facts] [hPre_expert_ids : Cert.Pre_expert_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_finite_qk [hKernel5Ideal : Cert.Kernel5Ideal.Facts] [hPre_finite_qk : Cert.Pre_finite_qk.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_qk m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_finite_qk [hReference5Ideal : Cert.Reference5Ideal.Facts] [hPre_finite_qk : Cert.Pre_finite_qk.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_qk m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_ids : Cert.Pre_expert_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v119) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_qk [hKernel5Ideal : Cert.Kernel5Ideal.Facts] [hReference5Ideal : Cert.Reference5Ideal.Facts] [hPre_finite_qk : Cert.Pre_finite_qk.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_qk m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)) (v2 : (c : Dev Cert.Kernel9Ideal.nD) → Buf (Elt Ideal) ((c.tc : Thread Cert.Kernel9Ideal.nD Cert.Kernel9Ideal.τ).loc Cert.Kernel9Ideal.main_v12_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_v12_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v119) = v0 c
          ∧ r.2.mem ((c.tc : Thread Cert.Reference9Ideal.nD Cert.Reference9Ideal.τ).loc Cert.Reference9Ideal.main_v120) = v1 c
          ∧ r.2.mem ((c.tc : Thread Cert.Reference9Ideal.nD Cert.Reference9Ideal.τ).loc Cert.Reference9Ideal.main_v121) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_expert_ids : Cert.Pre_expert_ids.Facts) (hPre_finite_qk : Cert.Pre_finite_qk.Facts),
    quiescent_Kernel (hKernel := hKernel) (hPre_expert_ids := hPre_expert_ids)
    ∧ quiescent_KernelIdeal (hKernelIdeal := hKernelIdeal) (hPre_expert_ids := hPre_expert_ids)
    ∧ quiescent_ReferenceIdeal (hReferenceIdeal := hReferenceIdeal)
    ∧ quiescent_ReferenceIdeal_pre_expert_ids (hReferenceIdeal := hReferenceIdeal) (hPre_expert_ids := hPre_expert_ids)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_qk (hKernel5Ideal := hKernel5Ideal) (hPre_finite_qk := hPre_finite_qk)
    ∧ quiescent_Reference5Ideal (hReference5Ideal := hReference5Ideal)
    ∧ quiescent_Reference5Ideal_pre_finite_qk (hReference5Ideal := hReference5Ideal) (hPre_finite_qk := hPre_finite_qk)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal) (hPre_expert_ids := hPre_expert_ids)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_qk (hKernel5Ideal := hKernel5Ideal) (hReference5Ideal := hReference5Ideal) (hPre_finite_qk := hPre_finite_qk)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_expert_ids.lean ====
abbrev S36864x8x128 : Shape := ⟨3, ![36864, 8, 128]⟩
abbrev S72 : Shape := ⟨1, ![72]⟩
abbrev S1 : Shape := ⟨1, ![1]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x8x128 .f32) (main_arg1 : IVec S72 32) (main_arg2 : IVec S1 32) (main_arg3 : FVec F S8x1024x5632 .bf16) (main_arg4 : FVec F S8x2816x1024 .bf16) : IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  main_v4
-- ==== Pre_finite_qk.lean ====
abbrev S4x256x3456 : Shape := ⟨3, ![4, 256, 3456]⟩
abbrev S4x256x768 : Shape := ⟨3, ![4, 256, 768]⟩
abbrev S_ : Shape := ⟨0, ![]⟩

class Facts : Prop where
  slices_S4x256x3456_S4x256x768_0_0_2304 : S4x256x3456.Slices ![0, 0, 2304] S4x256x768
  bitsLt_bf16_f32 : FTy.bits .bf16 < FTy.bits .f32
  bcast_S_S4x256x768 : S_.BroadcastsInDim S4x256x768 (![] : Fin 0 → Fin S4x256x768.rank)

variable [Facts]

def fn {F : FTy → Type} [FloatOps F] (main_arg0 : FVec F S4x256x3456 .bf16) : IVec S4x256x768 1 :=
  let main_v0 : FVec F S4x256x768 .bf16 := (extractStridedSlice S4x256x768 ![0, 0, 2304] · slices_S4x256x3456_S4x256x768_0_0_2304) main_arg0
  let main_v1 : FVec F S4x256x768 .f32 := (extf .f32 · bitsLt_bf16_f32) main_v0
  let main_cst : FVec F S_ .f32 := constant S_ .f32 0xFF800000#32
  let main_v2 : FVec F S4x256x768 .f32 := broadcastInDim S4x256x768 ![] bcast_S_S4x256x768 main_cst
  let main_v3 : IVec S4x256x768 1 := cmpf .ogt main_v1 main_v2
  let main_cst_0 : FVec F S_ .f32 := constant S_ .f32 0x7F800000#32
  let main_v4 : FVec F S4x256x768 .f32 := broadcastInDim S4x256x768 ![] bcast_S_S4x256x768 main_cst_0
  let main_v5 : IVec S4x256x768 1 := cmpf .olt main_v1 main_v4
  let main_v6 : IVec S4x256x768 1 := andi main_v3 main_v5
  main_v6
-- ==== Kernel.lean ====
abbrev S36864x8x128 : Shape := ⟨3, ![36864, 8, 128]⟩
abbrev S72 : Shape := ⟨1, ![72]⟩
abbrev S1 : Shape := ⟨1, ![1]⟩
abbrev S8x1024x5632 : Shape := ⟨3, ![8, 1024, 5632]⟩
abbrev S8x2816x1024 : Shape := ⟨3, ![8, 2816, 1024]⟩
abbrev S36864x1024 : Shape := ⟨2, ![36864, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S2 : Shape := ⟨1, ![2]⟩
abbrev S_ : Shape := ⟨0, ![]⟩
abbrev S512x128 : Shape := ⟨2, ![512, 128]⟩
abbrev S512x1x128 : Shape := ⟨3, ![512, 1, 128]⟩
abbrev S1024x5632 : Shape := ⟨2, ![1024, 5632]⟩
abbrev S1024x1536 : Shape := ⟨2, ![1024, 1536]⟩
abbrev S512x1536 : Shape := ⟨2, ![512, 1536]⟩
abbrev S2816x1024 : Shape := ⟨2, ![2816, 1024]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 4
  | .vmem => 8
  | .smem => 2
  | _ => 0

abbrev bufTy : (tb : Table) → Fin (tcTables nBuf tb) → BufTy
  | .hbm, ⟨0, _⟩ => ⟨S36864x8x128, .f32⟩
  | .hbm, ⟨1, _⟩ => ⟨S8x1024x5632, .bf16⟩
  | .hbm, ⟨2, _⟩ => ⟨S8x2816x1024, .bf16⟩
  | .hbm, ⟨3, _⟩ => ⟨S36864x1024, .f32⟩
  | .local _ .vmem, ⟨0, _⟩ => ⟨S1x1024x5632, .bf16⟩
  | .local _ .vmem, ⟨1, _⟩ => ⟨S1x1024x5632, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .smem, ⟨0, _⟩ => ⟨S72, .i32⟩
  | .local _ .smem, ⟨1, _⟩ => ⟨S1, .i32⟩
  | _, _ => ⟨S36864x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_15 : BitVec 32 := 0#32
  c0_i32_15
def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c1_i32_15 : BitVec 32 := 1#32
  let v29 : BitVec 32 := Scalar.addi arg0 c1_i32_15
  let c72_i32 : BitVec 32 := 72#32
  let v30 : BitVec 1 := Scalar.cmpi .slt v29 c72_i32
  let v31 : BitVec 32 := Scalar.extui v30
  let c0_i32_16 : BitVec 32 := 0#32
  let v32 : BitVec 1 := Scalar.cmpi .ne v31 c0_i32_16
  v32

def k0_mult2 (i : grid0.Coords) : BitVec 32 :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  v84
def k0_off2 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c0_i32_51 : BitVec 32 := 0#32
  let c0_i32_55 : BitVec 32 := 0#32
  ![v85.toNat, 0, 0]
def k0_off3 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c1_i32_56 : BitVec 32 := 1#32
  let c0_i32_60 : BitVec 32 := 0#32
  ![v85.toNat, 1, 0]
def k0_off4 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c2_i32_61 : BitVec 32 := 2#32
  let c0_i32_65 : BitVec 32 := 0#32
  ![v85.toNat, 2, 0]
def k0_off5 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c3_i32_66 : BitVec 32 := 3#32
  let c0_i32_70 : BitVec 32 := 0#32
  ![v85.toNat, 3, 0]
def k0_off6 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c4_i32_71 : BitVec 32 := 4#32
  let c0_i32_75 : BitVec 32 := 0#32
  ![v85.toNat, 4, 0]
def k0_off7 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c5_i32_76 : BitVec 32 := 5#32
  let c0_i32_80 : BitVec 32 := 0#32
  ![v85.toNat, 5, 0]
def k0_off8 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c6_i32_81 : BitVec 32 := 6#32
  let c0_i32_85 : BitVec 32 := 0#32
  ![v85.toNat, 6, 0]
def k0_off9 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c7_i32_86 : BitVec 32 := 7#32
  let c0_i32_90 : BitVec 32 := 0#32
  ![v85.toNat, 7, 0]
def k0_mult3 (i : grid0.Coords) : BitVec 32 :=
  let arg0 : BitVec 32 := BitVec.ofNat 32 (i 0).val
  let c512_i32 : BitVec 32 := 512#32
  let v33 : BitVec 32 := Scalar.muli arg0 c512_i32
  v33
def k0_off10 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c0_i32_17 : BitVec 32 := 0#32
  let c0_i32_21 : BitVec 32 := 0#32
  ![v34.toNat, 0, 0]
def k0_off11 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c1_i32_22 : BitVec 32 := 1#32
  let c0_i32_25 : BitVec 32 := 0#32
  ![v34.toNat, 1, 0]
def k0_off12 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c2_i32_26 : BitVec 32 := 2#32
  let c0_i32_29 : BitVec 32 := 0#32
  ![v34.toNat, 2, 0]
def k0_off13 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c3_i32 : BitVec 32 := 3#32
  let c0_i32_32 : BitVec 32 := 0#32
  ![v34.toNat, 3, 0]
def k0_off14 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c4_i32 : BitVec 32 := 4#32
  let c0_i32_36 : BitVec 32 := 0#32
  ![v34.toNat, 4, 0]
def k0_off15 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c5_i32 : BitVec 32 := 5#32
  let c0_i32_39 : BitVec 32 := 0#32
  ![v34.toNat, 5, 0]
def k0_off16 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c6_i32 : BitVec 32 := 6#32
  let c0_i32_42 : BitVec 32 := 0#32
  ![v34.toNat, 6, 0]
def k0_off17 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c7_i32 : BitVec 32 := 7#32
  let c0_i32_45 : BitVec 32 := 0#32
  ![v34.toNat, 7, 0]
def k0_cond6 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond7 (i : grid0.Coords) : BitVec 1 :=
  let arg0 : BitVec 32 := BitVec.ofNat 32 (i 0).val
  let c1_i32_15 : BitVec 32 := 1#32
  let v29 : BitVec 32 := Scalar.addi arg0 c1_i32_15
  let c72_i32 : BitVec 32 := 72#32
  let v30 : BitVec 1 := Scalar.cmpi .slt v29 c72_i32
  let v31 : BitVec 32 := Scalar.extui v30
  let c0_i32_16 : BitVec 32 := 0#32
  let v32 : BitVec 1 := Scalar.cmpi .ne v31 c0_i32_16
  v32

def k0_mult4 (i : grid0.Coords) : BitVec 32 :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  v84
def k0_off18 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c0_i32_51 : BitVec 32 := 0#32
  let c0_i32_55 : BitVec 32 := 0#32
  ![v85.toNat, 0, 0]
def k0_off19 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c1_i32_56 : BitVec 32 := 1#32
  let c0_i32_60 : BitVec 32 := 0#32
  ![v85.toNat, 1, 0]
def k0_off20 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c2_i32_61 : BitVec 32 := 2#32
  let c0_i32_65 : BitVec 32 := 0#32
  ![v85.toNat, 2, 0]
def k0_off21 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c3_i32_66 : BitVec 32 := 3#32
  let c0_i32_70 : BitVec 32 := 0#32
  ![v85.toNat, 3, 0]
def k0_off22 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c4_i32_71 : BitVec 32 := 4#32
  let c0_i32_75 : BitVec 32 := 0#32
  ![v85.toNat, 4, 0]
def k0_off23 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c5_i32_76 : BitVec 32 := 5#32
  let c0_i32_80 : BitVec 32 := 0#32
  ![v85.toNat, 5, 0]
def k0_off24 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c6_i32_81 : BitVec 32 := 6#32
  let c0_i32_85 : BitVec 32 := 0#32
  ![v85.toNat, 6, 0]
def k0_off25 (i : grid0.Coords) : Fin 3 → Nat :=
  let arg0 : BitVec 32 := BitVec.ofNat 32 (i 0).val
  let c1_i32_49 : BitVec 32 := 1#32
  let v83 : BitVec 32 := Scalar.addi arg0 c1_i32_49
  let c512_i32_50 : BitVec 32 := 512#32
  let v84 : BitVec 32 := Scalar.muli v83 c512_i32_50
  let v85 : BitVec 32 := v84
  let c7_i32_86 : BitVec 32 := 7#32
  let c0_i32_90 : BitVec 32 := 0#32
  ![v85.toNat, 7, 0]
def k0_mult5 (i : grid0.Coords) : BitVec 32 :=
  let arg0 : BitVec 32 := BitVec.ofNat 32 (i 0).val
  let c512_i32 : BitVec 32 := 512#32
  let v33 : BitVec 32 := Scalar.muli arg0 c512_i32
  v33
def k0_off26 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c0_i32_17 : BitVec 32 := 0#32
  let c0_i32_21 : BitVec 32 := 0#32
  ![v34.toNat, 0, 0]
def k0_off27 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c1_i32_22 : BitVec 32 := 1#32
  let c0_i32_25 : BitVec 32 := 0#32
  ![v34.toNat, 1, 0]
def k0_off28 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c2_i32_26 : BitVec 32 := 2#32
  let c0_i32_29 : BitVec 32 := 0#32
  ![v34.toNat, 2, 0]
def k0_off29 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c3_i32 : BitVec 32 := 3#32
  let c0_i32_32 : BitVec 32 := 0#32
  ![v34.toNat, 3, 0]
def k0_off30 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c4_i32 : BitVec 32 := 4#32
  let c0_i32_36 : BitVec 32 := 0#32
  ![v34.toNat, 4, 0]
def k0_off31 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c5_i32 : BitVec 32 := 5#32
  let c0_i32_39 : BitVec 32 := 0#32
  ![v34.toNat, 5, 0]
def k0_off32 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c6_i32 : BitVec 32 := 6#32
  let c0_i32_42 : BitVec 32 := 0#32
  ![v34.toNat, 6, 0]
def k0_off33 (i : grid0.Coords) : Fin 3 → Nat :=
  let arg0 : BitVec 32 := BitVec.ofNat 32 (i 0).val
  let c512_i32 : BitVec 32 := 512#32
  let v33 : BitVec 32 := Scalar.muli arg0 c512_i32
  let v34 : BitVec 32 := v33
  let c7_i32 : BitVec 32 := 7#32
  let c0_i32_45 : BitVec 32 := 0#32
  ![v34.toNat, 7, 0]
def k0_cond4 (i : grid0.Coords) (v75 : BitVec 32) : BitVec 1 :=
  let arg0 : BitVec 32 := BitVec.ofNat 32 (i 0).val
  let v76 : BitVec 1 := Scalar.cmpi .slt arg0 v75
  let v77 : BitVec 32 := Scalar.extui v76
  let c0_i32_46 : BitVec 32 := 0#32
  let v78 : BitVec 1 := Scalar.cmpi .ne v77 c0_i32_46
  v78

def k0_cond5 (i : grid0.Coords) (v79 : BitVec 32) : BitVec 1 :=
  let arg0 : BitVec 32 := BitVec.ofNat 32 (i 0).val
  let v80 : BitVec 1 := Scalar.cmpi .sge arg0 v79
  let v81 : BitVec 32 := Scalar.extui v80
  let c0_i32_48 : BitVec 32 := 0#32
  let v82 : BitVec 1 := Scalar.cmpi .ne v81 c0_i32_48
  v82

def k0_cond8 (i : grid0.Coords) (v75 : BitVec 32) : BitVec 1 :=
  let arg0 : BitVec 32 := BitVec.ofNat 32 (i 0).val
  let v76 : BitVec 1 := Scalar.cmpi .slt arg0 v75
  let v77 : BitVec 32 := Scalar.extui v76
  let c0_i32_46 : BitVec 32 := 0#32
  let v78 : BitVec 1 := Scalar.cmpi .ne v77 c0_i32_46
  v78

def k0_cond9 (i : grid0.Coords) (v79 : BitVec 32) : BitVec 1 :=
  let arg0 : BitVec 32 := BitVec.ofNat 32 (i 0).val
  let v80 : BitVec 1 := Scalar.cmpi .sge arg0 v79
  let v81 : BitVec 32 := Scalar.extui v80
  let c0_i32_48 : BitVec 32 := 0#32
  let v82 : BitVec 1 := Scalar.cmpi .ne v81 c0_i32_48
  v82

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S36864x8x128 : Shape := ⟨3, ![36864, 8, 128]⟩
abbrev S72 : Shape := ⟨1, ![72]⟩
abbrev S1 : Shape := ⟨1, ![1]⟩
abbrev S8x1024x5632 : Shape := ⟨3, ![8, 1024, 5632]⟩
abbrev S8x2816x1024 : Shape := ⟨3, ![8, 2816, 1024]⟩
abbrev S36864x1024 : Shape := ⟨2, ![36864, 1024]⟩
abbrev S_ : Shape := ⟨0, ![]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S72x1x8 : Shape := ⟨3, ![72, 1, 8]⟩
abbrev S72x512x8 : Shape := ⟨3, ![72, 512, 8]⟩
abbrev S36864x8 : Shape := ⟨2, ![36864, 8]⟩
abbrev S36864x1 : Shape := ⟨2, ![36864, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S36864x5632 : Shape := ⟨2, ![36864, 5632]⟩
abbrev S36864x2816 : Shape := ⟨2, ![36864, 2816]⟩

abbrev nBuf : Space → Nat
  | .hbm => 221
  | .vmem => 0
  | .smem => 0
  | _ => 0

abbrev hbmTy0_0 (i : Nat) : BufTy := match i % 128 with
  | 0 => ⟨S36864x8x128, .f32⟩
  | 1 => ⟨S72, .i32⟩
  | 2 => ⟨S1, .i32⟩
  | 3 => ⟨S8x1024x5632, .bf16⟩
  | 4 => ⟨S8x2816x1024, .bf16⟩
  | 5 => ⟨S36864x1024, .f32⟩
  | 6 => ⟨S72, .i32⟩
  | 7 => ⟨S_, .i32⟩
  | 8 => ⟨S72, .i32⟩
  | 9 => ⟨S72, .i1⟩
  | 10 => ⟨S72x1, .i1⟩
  | 11 => ⟨S72x1, .i32⟩
  | 12 => ⟨S8, .i32⟩
  | 13 => ⟨S1x8, .i32⟩
  | 14 => ⟨S72x8, .i32⟩
  | 15 => ⟨S72x8, .i32⟩
  | 16 => ⟨S72x8, .i1⟩
  | 17 => ⟨S72x8, .i1⟩
  | 18 => ⟨S72x8, .i1⟩
  | 19 => ⟨S_, .f32⟩
  | 20 => ⟨S_, .f32⟩
  | 21 => ⟨S72x8, .f32⟩
  | 22 => ⟨S72x8, .f32⟩
  | 23 => ⟨S72x8, .f32⟩
  | 24 => ⟨S72x1x8, .f32⟩
  | 25 => ⟨S72x512x8, .f32⟩
  | 26 => ⟨S36864x8, .f32⟩
  | 27 => ⟨S_, .f32⟩
  | 28 => ⟨S36864x1024, .f32⟩
  | 29 => ⟨S36864x1, .f32⟩
  | 30 => ⟨S1x1024x5632, .bf16⟩
  | 31 => ⟨S1024x5632, .bf16⟩
  | 32 => ⟨S1x2816x1024, .bf16⟩
  | 33 => ⟨S2816x1024, .bf16⟩
  | 34 => ⟨S1024x5632, .f32⟩
  | 35 => ⟨S36864x5632, .f32⟩
  | 36 => ⟨S36864x2816, .f32⟩
  | 37 => ⟨S36864x2816, .f32⟩
  | 38 => ⟨S36864x2816, .f32⟩
  | 39 => ⟨S36864x2816, .f32⟩
  | 40 => ⟨S_, .f32⟩
  | 41 => ⟨S36864x2816, .f32⟩
  | 42 => ⟨S36864x2816, .f32⟩
  | 43 => ⟨S_, .f32⟩
  | 44 => ⟨S36864x2816, .f32⟩
  | 45 => ⟨S36864x2816, .f32⟩
  | 46 => ⟨S36864x2816, .f32⟩
  | 47 => ⟨S36864x2816, .f32⟩
  | 48 => ⟨S2816x1024, .f32⟩
  | 49 => ⟨S36864x1024, .f32⟩
  | 50 => ⟨S36864x1024, .f32⟩
  | 51 => ⟨S36864x1024, .f32⟩
  | 52 => ⟨S36864x1024, .f32⟩
  | 53 => ⟨S36864x1, .f32⟩
  | 54 => ⟨S1x1024x5632, .bf16⟩
  | 55 => ⟨S1024x5632, .bf16⟩
  | 56 => ⟨S1x2816x1024, .bf16⟩
  | 57 => ⟨S2816x1024, .bf16⟩
  | 58 => ⟨S1024x5632, .f32⟩
  | 59 => ⟨S36864x5632, .f32⟩
  | 60 => ⟨S36864x2816, .f32⟩
  | 61 => ⟨S36864x2816, .f32⟩
  | 62 => ⟨S36864x2816, .f32⟩
  | 63 => ⟨S36864x2816, .f32⟩
  | 64 => ⟨S_, .f32⟩
  | 65 => ⟨S36864x2816, .f32⟩
  | 66 => ⟨S36864x2816, .f32⟩
  | 67 => ⟨S_, .f32⟩
  | 68 => ⟨S36864x2816, .f32⟩
  | 69 => ⟨S36864x2816, .f32⟩
  | 70 => ⟨S36864x2816, .f32⟩
  | 71 => ⟨S36864x2816, .f32⟩
  | 72 => ⟨S2816x1024, .f32⟩
  | 73 => ⟨S36864x1024, .f32⟩
  | 74 => ⟨S36864x1024, .f32⟩
  | 75 => ⟨S36864x1024, .f32⟩
  | 76 => ⟨S36864x1024, .f32⟩
  | 77 => ⟨S36864x1, .f32⟩
  | 78 => ⟨S1x1024x5632, .bf16⟩
  | 79 => ⟨S1024x5632, .bf16⟩
  | 80 => ⟨S1x2816x1024, .bf16⟩
  | 81 => ⟨S2816x1024, .bf16⟩
  | 82 => ⟨S1024x5632, .f32⟩
  | 83 => ⟨S36864x5632, .f32⟩
  | 84 => ⟨S36864x2816, .f32⟩
  | 85 => ⟨S36864x2816, .f32⟩
  | 86 => ⟨S36864x2816, .f32⟩
  | 87 => ⟨S36864x2816, .f32⟩
  | 88 => ⟨S_, .f32⟩
  | 89 => ⟨S36864x2816, .f32⟩
  | 90 => ⟨S36864x2816, .f32⟩
  | 91 => ⟨S_, .f32⟩
  | 92 => ⟨S36864x2816, .f32⟩
  | 93 => ⟨S36864x2816, .f32⟩
  | 94 => ⟨S36864x2816, .f32⟩
  | 95 => ⟨S36864x2816, .f32⟩
  | 96 => ⟨S2816x1024, .f32⟩
  | 97 => ⟨S36864x1024, .f32⟩
  | 98 => ⟨S36864x1024, .f32⟩
  | 99 => ⟨S36864x1024, .f32⟩
  | 100 => ⟨S36864x1024, .f32⟩
  | 101 => ⟨S36864x1, .f32⟩
  | 102 => ⟨S1x1024x5632, .bf16⟩
  | 103 => ⟨S1024x5632, .bf16⟩
  | 104 => ⟨S1x2816x1024, .bf16⟩
  | 105 => ⟨S2816x1024, .bf16⟩
  | 106 => ⟨S1024x5632, .f32⟩
  | 107 => ⟨S36864x5632, .f32⟩
  | 108 => ⟨S36864x2816, .f32⟩
  | 109 => ⟨S36864x2816, .f32⟩
  | 110 => ⟨S36864x2816, .f32⟩
  | 111 => ⟨S36864x2816, .f32⟩
  | 112 => ⟨S_, .f32⟩
  | 113 => ⟨S36864x2816, .f32⟩
  | 114 => ⟨S36864x2816, .f32⟩
  | 115 => ⟨S_, .f32⟩
  | 116 => ⟨S36864x2816, .f32⟩
  | 117 => ⟨S36864x2816, .f32⟩
  | 118 => ⟨S36864x2816, .f32⟩
  | 119 => ⟨S36864x2816, .f32⟩
  | 120 => ⟨S2816x1024, .f32⟩
  | 121 => ⟨S36864x1024, .f32⟩
  | 122 => ⟨S36864x1024, .f32⟩
  | 123 => ⟨S36864x1024, .f32⟩
  | 124 => ⟨S36864x1024, .f32⟩
  | 125 => ⟨S36864x1, .f32⟩
  | 126 => ⟨S1x1024x5632, .bf16⟩
  | 127 => ⟨S1024x5632, .bf16⟩
  | _ => ⟨S36864x8x128, .f32⟩

abbrev hbmTy0_1 (i : Nat) : BufTy := match i % 128 with
  | 0 => ⟨S1x2816x1024, .bf16⟩
  | 1 => ⟨S2816x1024, .bf16⟩
  | 2 => ⟨S1024x5632, .f32⟩
  | 3 => ⟨S36864x5632, .f32⟩
  | 4 => ⟨S36864x2816, .f32⟩
  | 5 => ⟨S36864x2816, .f32⟩
  | 6 => ⟨S36864x2816, .f32⟩
  | 7 => ⟨S36864x2816, .f32⟩
  | 8 => ⟨S_, .f32⟩
  | 9 => ⟨S36864x2816, .f32⟩
  | 10 => ⟨S36864x2816, .f32⟩
  | 11 => ⟨S_, .f32⟩
  | 12 => ⟨S36864x2816, .f32⟩
  | 13 => ⟨S36864x2816, .f32⟩
  | 14 => ⟨S36864x2816, .f32⟩
  | 15 => ⟨S36864x2816, .f32⟩
  | 16 => ⟨S2816x1024, .f32⟩
  | 17 => ⟨S36864x1024, .f32⟩
  | 18 => ⟨S36864x1024, .f32⟩
  | 19 => ⟨S36864x1024, .f32⟩
  | 20 => ⟨S36864x1024, .f32⟩
  | 21 => ⟨S36864x1, .f32⟩
  | 22 => ⟨S1x1024x5632, .bf16⟩
  | 23 => ⟨S1024x5632, .bf16⟩
  | 24 => ⟨S1x2816x1024, .bf16⟩
  | 25 => ⟨S2816x1024, .bf16⟩
  | 26 => ⟨S1024x5632, .f32⟩
  | 27 => ⟨S36864x5632, .f32⟩
  | 28 => ⟨S36864x2816, .f32⟩
  | 29 => ⟨S36864x2816, .f32⟩
  | 30 => ⟨S36864x2816, .f32⟩
  | 31 => ⟨S36864x2816, .f32⟩
  | 32 => ⟨S_, .f32⟩
  | 33 => ⟨S36864x2816, .f32⟩
  | 34 => ⟨S36864x2816, .f32⟩
  | 35 => ⟨S_, .f32⟩
  | 36 => ⟨S36864x2816, .f32⟩
  | 37 => ⟨S36864x2816, .f32⟩
  | 38 => ⟨S36864x2816, .f32⟩
  | 39 => ⟨S36864x2816, .f32⟩
  | 40 => ⟨S2816x1024, .f32⟩
  | 41 => ⟨S36864x1024, .f32⟩
  | 42 => ⟨S36864x1024, .f32⟩
  | 43 => ⟨S36864x1024, .f32⟩
  | 44 => ⟨S36864x1024, .f32⟩
  | 45 => ⟨S36864x1, .f32⟩
  | 46 => ⟨S1x1024x5632, .bf16⟩
  | 47 => ⟨S1024x5632, .bf16⟩
  | 48 => ⟨S1x2816x1024, .bf16⟩
  | 49 => ⟨S2816x1024, .bf16⟩
  | 50 => ⟨S1024x5632, .f32⟩
  | 51 => ⟨S36864x5632, .f32⟩
  | 52 => ⟨S36864x2816, .f32⟩
  | 53 => ⟨S36864x2816, .f32⟩
  | 54 => ⟨S36864x2816, .f32⟩
  | 55 => ⟨S36864x2816, .f32⟩
  | 56 => ⟨S_, .f32⟩
  | 57 => ⟨S36864x2816, .f32⟩
  | 58 => ⟨S36864x2816, .f32⟩
  | 59 => ⟨S_, .f32⟩
  | 60 => ⟨S36864x2816, .f32⟩
  | 61 => ⟨S36864x2816, .f32⟩
  | 62 => ⟨S36864x2816, .f32⟩
  | 63 => ⟨S36864x2816, .f32⟩
  | 64 => ⟨S2816x1024, .f32⟩
  | 65 => ⟨S36864x1024, .f32⟩
  | 66 => ⟨S36864x1024, .f32⟩
  | 67 => ⟨S36864x1024, .f32⟩
  | 68 => ⟨S36864x1024, .f32⟩
  | 69 => ⟨S36864x1, .f32⟩
  | 70 => ⟨S1x1024x5632, .bf16⟩
  | 71 => ⟨S1024x5632, .bf16⟩
  | 72 => ⟨S1x2816x1024, .bf16⟩
  | 73 => ⟨S2816x1024, .bf16⟩
  | 74 => ⟨S1024x5632, .f32⟩
  | 75 => ⟨S36864x5632, .f32⟩
  | 76 => ⟨S36864x2816, .f32⟩
  | 77 => ⟨S36864x2816, .f32⟩
  | 78 => ⟨S36864x2816, .f32⟩
  | 79 => ⟨S36864x2816, .f32⟩
  | 80 => ⟨S_, .f32⟩
  | 81 => ⟨S36864x2816, .f32⟩
  | 82 => ⟨S36864x2816, .f32⟩
  | 83 => ⟨S_, .f32⟩
  | 84 => ⟨S36864x2816, .f32⟩
  | 85 => ⟨S36864x2816, .f32⟩
  | 86 => ⟨S36864x2816, .f32⟩
  | 87 => ⟨S36864x2816, .f32⟩
  | 88 => ⟨S2816x1024, .f32⟩
  | 89 => ⟨S36864x1024, .f32⟩
  | 90 => ⟨S36864x1024, .f32⟩
  | 91 => ⟨S36864x1024, .f32⟩
  | 92 => ⟨S36864x1024, .f32⟩
  | _ => ⟨S36864x8x128, .f32⟩

abbrev hbmTy (i : Nat) : BufTy := match i / 128 with
  | 0 => hbmTy0_0 i
  | 1 => hbmTy0_1 i
  | _ => ⟨S36864x8x128, .f32⟩

abbrev bufTy : (tb : Table) → Fin (tcTables nBuf tb) → BufTy
  | .hbm, ⟨i, _⟩ => hbmTy i
  | _, _ => ⟨S36864x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_call5_v0 : Ref sig .tc := ⟨.hbm, 134, rfl⟩
abbrev main_call5_v1 : Ref sig .tc := ⟨.hbm, 135, rfl⟩
abbrev main_call5_cst : Ref sig .tc := ⟨.hbm, 136, rfl⟩
abbrev main_call5_v2 : Ref sig .tc := ⟨.hbm, 137, rfl⟩
abbrev main_call5_v3 : Ref sig .tc := ⟨.hbm, 138, rfl⟩
abbrev main_call5_cst_0 : Ref sig .tc := ⟨.hbm, 139, rfl⟩
abbrev main_call5_v4 : Ref sig .tc := ⟨.hbm, 140, rfl⟩
abbrev main_call5_v5 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_call6_v0 : Ref sig .tc := ⟨.hbm, 158, rfl⟩
abbrev main_call6_v1 : Ref sig .tc := ⟨.hbm, 159, rfl⟩
abbrev main_call6_cst : Ref sig .tc := ⟨.hbm, 160, rfl⟩
abbrev main_call6_v2 : Ref sig .tc := ⟨.hbm, 161, rfl⟩
abbrev main_call6_v3 : Ref sig .tc := ⟨.hbm, 162, rfl⟩
abbrev main_call6_cst_0 : Ref sig .tc := ⟨.hbm, 163, rfl⟩
abbrev main_call6_v4 : Ref sig .tc := ⟨.hbm, 164, rfl⟩
abbrev main_call6_v5 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_call7_v0 : Ref sig .tc := ⟨.hbm, 182, rfl⟩
abbrev main_call7_v1 : Ref sig .tc := ⟨.hbm, 183, rfl⟩
abbrev main_call7_cst : Ref sig .tc := ⟨.hbm, 184, rfl⟩
abbrev main_call7_v2 : Ref sig .tc := ⟨.hbm, 185, rfl⟩
abbrev main_call7_v3 : Ref sig .tc := ⟨.hbm, 186, rfl⟩
abbrev main_call7_cst_0 : Ref sig .tc := ⟨.hbm, 187, rfl⟩
abbrev main_call7_v4 : Ref sig .tc := ⟨.hbm, 188, rfl⟩
abbrev main_call7_v5 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_call8_v0 : Ref sig .tc := ⟨.hbm, 206, rfl⟩
abbrev main_call8_v1 : Ref sig .tc := ⟨.hbm, 207, rfl⟩
abbrev main_call8_cst : Ref sig .tc := ⟨.hbm, 208, rfl⟩
abbrev main_call8_v2 : Ref sig .tc := ⟨.hbm, 209, rfl⟩
abbrev main_call8_v3 : Ref sig .tc := ⟨.hbm, 210, rfl⟩
abbrev main_call8_cst_0 : Ref sig .tc := ⟨.hbm, 211, rfl⟩
abbrev main_call8_v4 : Ref sig .tc := ⟨.hbm, 212, rfl⟩
abbrev main_call8_v5 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩

abbrev nD : Nat := 1
abbrev τ : Topo := Topo.v7x

variable {F : FTy → Type} [FloatOps F]
-- ==== Kernel2.lean ====
abbrev S16384x384 : Shape := ⟨2, ![16384, 384]⟩
abbrev S16384x256 : Shape := ⟨2, ![16384, 256]⟩
abbrev S16384x1024 : Shape := ⟨2, ![16384, 1024]⟩
abbrev S1024x1024 : Shape := ⟨2, ![1024, 1024]⟩
abbrev S4x1x1024 : Shape := ⟨3, ![4, 1, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x384 : Shape := ⟨2, ![1024, 384]⟩
abbrev S1024x256 : Shape := ⟨2, ![1024, 256]⟩
abbrev S1x1x1024 : Shape := ⟨3, ![1, 1, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 15
  | .vmem => 22
  | .smem => 0
  | _ => 0

abbrev bufTy : (tb : Table) → Fin (tcTables nBuf tb) → BufTy
  | .hbm, ⟨0, _⟩ => ⟨S16384x384, .bf16⟩
  | .hbm, ⟨1, _⟩ => ⟨S16384x256, .bf16⟩
  | .hbm, ⟨2, _⟩ => ⟨S16384x384, .bf16⟩
  | .hbm, ⟨3, _⟩ => ⟨S16384x1024, .f32⟩
  | .hbm, ⟨4, _⟩ => ⟨S1024x1024, .f32⟩
  | .hbm, ⟨5, _⟩ => ⟨S4x1x1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x5632, .bf16⟩
  | .hbm, ⟨10, _⟩ => ⟨S2816x1024, .bf16⟩
  | .hbm, ⟨11, _⟩ => ⟨S4x1x1024, .f32⟩
  | .hbm, ⟨12, _⟩ => ⟨S1024x1024, .bf16⟩
  | .hbm, ⟨13, _⟩ => ⟨S1x1024, .f32⟩
  | .hbm, ⟨14, _⟩ => ⟨S16384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x256, .bf16⟩
  | .local _ .vmem, ⟨3, _⟩ => ⟨S1024x256, .bf16⟩
  | .local _ .vmem, ⟨4, _⟩ => ⟨S1024x384, .bf16⟩
  | .local _ .vmem, ⟨5, _⟩ => ⟨S1024x384, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x5632, .bf16⟩
  | .local _ .vmem, ⟨17, _⟩ => ⟨S2816x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1024x1024, .f32⟩
  | .local _ .vmem, ⟨21, _⟩ => ⟨S1024x1024, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16384x384 : Shape := ⟨2, ![16384, 384]⟩
abbrev S16384x256 : Shape := ⟨2, ![16384, 256]⟩
abbrev S16384x1024 : Shape := ⟨2, ![16384, 1024]⟩
abbrev S1024x1024 : Shape := ⟨2, ![1024, 1024]⟩
abbrev S4x1x1024 : Shape := ⟨3, ![4, 1, 1024]⟩
abbrev S1024 : Shape := ⟨1, ![1024]⟩
abbrev S1024x5632 : Shape := ⟨2, ![1024, 5632]⟩
abbrev S2816x1024 : Shape := ⟨2, ![2816, 1024]⟩
abbrev S4x4096x1024 : Shape := ⟨3, ![4, 4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 66
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S16384x256, .bf16⟩
  | .hbm, ⟨2, _⟩ => ⟨S16384x384, .bf16⟩
  | .hbm, ⟨3, _⟩ => ⟨S16384x1024, .f32⟩
  | .hbm, ⟨4, _⟩ => ⟨S1024x1024, .f32⟩
  | .hbm, ⟨5, _⟩ => ⟨S4x1x1024, .f32⟩
  | .hbm, ⟨6, _⟩ => ⟨S1024, .f32⟩
  | .hbm, ⟨7, _⟩ => ⟨S4x1x1024, .f32⟩
  | .hbm, ⟨8, _⟩ => ⟨S4x1x1024, .f32⟩
  | .hbm, ⟨9, _⟩ => ⟨S1024x5632, .bf16⟩
  | .hbm, ⟨10, _⟩ => ⟨S2816x1024, .bf16⟩
  | .hbm, ⟨11, _⟩ => ⟨S4x1x1024, .f32⟩
  | .hbm, ⟨12, _⟩ => ⟨S16384x384, .f32⟩
  | .hbm, ⟨13, _⟩ => ⟨S16384x256, .f32⟩
  | .hbm, ⟨14, _⟩ => ⟨S16384x384, .f32⟩
  | .hbm, ⟨15, _⟩ => ⟨S16384x1024, .f32⟩
  | .hbm, ⟨16, _⟩ => ⟨S16384x1024, .f32⟩
  | .hbm, ⟨17, _⟩ => ⟨S4x4096x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S4x4096x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S4x4096x1024, .f32⟩
  | .hbm, ⟨40, _⟩ => ⟨S16384x1024, .f32⟩
  | .hbm, ⟨41, _⟩ => ⟨S4x4096x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x5632, .f32⟩
  | .hbm, ⟨49, _⟩ => ⟨S16384x5632, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S2816x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel3.lean ====
abbrev S4x4096x3456 : Shape := ⟨3, ![4, 4096, 3456]⟩
abbrev S3x256 : Shape := ⟨2, ![3, 256]⟩
abbrev S4x4096x256 : Shape := ⟨3, ![4, 4096, 256]⟩
abbrev S1x4096x128 : Shape := ⟨3, ![1, 4096, 128]⟩
abbrev S3x128 : Shape := ⟨2, ![3, 128]⟩
abbrev S4096x128 : Shape := ⟨2, ![4096, 128]⟩
abbrev S4096x1 : Shape := ⟨2, ![4096, 1]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4x4096x3456, .bf16⟩
  | .hbm, ⟨1, _⟩ => ⟨S3x256, .f32⟩
  | .hbm, ⟨2, _⟩ => ⟨S4x4096x256, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S3x128, .f32⟩
  | .local _ .vmem, ⟨7, _⟩ => ⟨S3x128, .f32⟩
  | .local _ .vmem, ⟨8, _⟩ => ⟨S1x4096x128, .bf16⟩
  | .local _ .vmem, ⟨9, _⟩ => ⟨S1x4096x128, .bf16⟩
  | _, _ => ⟨S4x4096x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x4096x3456 : Shape := ⟨3, ![4, 4096, 3456]⟩
abbrev S3x256 : Shape := ⟨2, ![3, 256]⟩
abbrev S4x4096x384 : Shape := ⟨3, ![4, 4096, 384]⟩
abbrev S4x4096x256 : Shape := ⟨3, ![4, 4096, 256]⟩
abbrev S_ : Shape := ⟨0, ![]⟩
abbrev S4x4098x256 : Shape := ⟨3, ![4, 4098, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x3456, .bf16⟩
  | .hbm, ⟨1, _⟩ => ⟨S3x256, .f32⟩
  | .hbm, ⟨2, _⟩ => ⟨S4x4096x3456, .f32⟩
  | .hbm, ⟨3, _⟩ => ⟨S4x4096x384, .f32⟩
  | .hbm, ⟨4, _⟩ => ⟨S4x4096x384, .f32⟩
  | .hbm, ⟨5, _⟩ => ⟨S4x4096x384, .f32⟩
  | .hbm, ⟨6, _⟩ => ⟨S4x4096x384, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S4x4096x384, .f32⟩
  | .hbm, ⟨11, _⟩ => ⟨S4x4096x384, .f32⟩
  | .hbm, ⟨12, _⟩ => ⟨S4x4096x384, .f32⟩
  | .hbm, ⟨13, _⟩ => ⟨S4x4096x256, .f32⟩
  | .hbm, ⟨14, _⟩ => ⟨S_, .i32⟩
  | .hbm, ⟨15, _⟩ => ⟨S_, .f32⟩
  | .hbm, ⟨16, _⟩ => ⟨S4x4098x256, .f32⟩
  | .hbm, ⟨17, _⟩ => ⟨S1x256, .f32⟩
  | .hbm, ⟨18, _⟩ => ⟨S256, .f32⟩
  | .hbm, ⟨19, _⟩ => ⟨S4x4096x256, .f32⟩
  | .hbm, ⟨20, _⟩ => ⟨S1x1x256, .f32⟩
  | .hbm, ⟨21, _⟩ => ⟨S4x4096x256, .f32⟩
  | .hbm, ⟨22, _⟩ => ⟨S4x4096x256, .f32⟩
  | .hbm, ⟨23, _⟩ => ⟨S1x256, .f32⟩
  | .hbm, ⟨24, _⟩ => ⟨S256, .f32⟩
  | .hbm, ⟨25, _⟩ => ⟨S4x4096x256, .f32⟩
  | .hbm, ⟨26, _⟩ => ⟨S1x1x256, .f32⟩
  | .hbm, ⟨27, _⟩ => ⟨S4x4096x256, .f32⟩
  | .hbm, ⟨28, _⟩ => ⟨S4x4096x256, .f32⟩
  | .hbm, ⟨29, _⟩ => ⟨S1x256, .f32⟩
  | .hbm, ⟨30, _⟩ => ⟨S256, .f32⟩
  | .hbm, ⟨31, _⟩ => ⟨S4x4096x256, .f32⟩
  | .hbm, ⟨32, _⟩ => ⟨S1x1x256, .f32⟩
  | .hbm, ⟨33, _⟩ => ⟨S4x4096x256, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S4x4096x256, .f32⟩
  | .hbm, ⟨38, _⟩ => ⟨S4x4096x256, .bf16⟩
  | _, _ => ⟨S4x4096x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S4x1x1024 : Shape := ⟨3, ![4, 1, 1024]⟩
abbrev S1024x3456 : Shape := ⟨2, ![1024, 3456]⟩
abbrev S4096x16 : Shape := ⟨2, ![4096, 16]⟩
abbrev S64 : Shape := ⟨1, ![64]⟩
abbrev S1x64 : Shape := ⟨2, ![1, 64]⟩
abbrev S4096x64 : Shape := ⟨2, ![4096, 64]⟩
abbrev S_ : Shape := ⟨0, ![]⟩
abbrev S4096x128 : Shape := ⟨2, ![4096, 128]⟩
abbrev S1x1024 : Shape := ⟨2, ![1, 1024]⟩
abbrev S16384x3456 : Shape := ⟨2, ![16384, 3456]⟩
abbrev S1024x1024 : Shape := ⟨2, ![1024, 1024]⟩
abbrev S1x1x1024 : Shape := ⟨3, ![1, 1, 1024]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S512x128 : Shape := ⟨2, ![512, 128]⟩
abbrev S1024x384 : Shape := ⟨2, ![1024, 384]⟩
abbrev S512x384 : Shape := ⟨2, ![512, 384]⟩

abbrev nBuf : Space → Nat
  | .hbm => 32
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3456, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S64, .i1⟩
  | .hbm, ⟨10, _⟩ => ⟨S1x64, .i1⟩
  | .hbm, ⟨11, _⟩ => ⟨S64, .i1⟩
  | .hbm, ⟨12, _⟩ => ⟨S1x64, .i1⟩
  | .hbm, ⟨13, _⟩ => ⟨S1024x3456, .bf16⟩
  | .hbm, ⟨14, _⟩ => ⟨S4096x64, .f32⟩
  | .hbm, ⟨15, _⟩ => ⟨S4096x64, .f32⟩
  | .hbm, ⟨16, _⟩ => ⟨S_, .f32⟩
  | .hbm, ⟨17, _⟩ => ⟨S_, .f32⟩
  | .hbm, ⟨18, _⟩ => ⟨S4096x64, .i1⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S_, .f32⟩
  | .hbm, ⟨24, _⟩ => ⟨S4096x64, .i1⟩
  | .hbm, ⟨25, _⟩ => ⟨S4096x64, .f32⟩
  | .hbm, ⟨26, _⟩ => ⟨S4096x64, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S1x1024, .f32⟩
  | .hbm, ⟨31, _⟩ => ⟨S16384x3456, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x3456, .bf16⟩
  | .local _ .vmem, ⟨15, _⟩ => ⟨S1024x3456, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3456 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S1024 : Shape := ⟨1, ![1024]⟩
abbrev S4x1x1024 : Shape := ⟨3, ![4, 1, 1024]⟩
abbrev S1024x3456 : Shape := ⟨2, ![1024, 3456]⟩
abbrev S4096x16 : Shape := ⟨2, ![4096, 16]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3456 : Shape := ⟨3, ![4, 4096, 3456]⟩
abbrev S4x4096x384 : Shape := ⟨3, ![4, 4096, 384]⟩
abbrev S4x4096x256 : Shape := ⟨3, ![4, 4096, 256]⟩
abbrev S4x4096x6x64 : Shape := ⟨4, ![4, 4096, 6, 64]⟩
abbrev S4x6x4096x64 : Shape := ⟨4, ![4, 6, 4096, 64]⟩
abbrev S4x6x4096x32 : Shape := ⟨4, ![4, 6, 4096, 32]⟩
abbrev S4x6x4096x16 : Shape := ⟨4, ![4, 6, 4096, 16]⟩
abbrev S1x1x4096x16 : Shape := ⟨4, ![1, 1, 4096, 16]⟩
abbrev S16384x3456 : Shape := ⟨2, ![16384, 3456]⟩

abbrev nBuf : Space → Nat
  | .hbm => 135
  | .vmem => 0
  | .smem => 0
  | _ => 0

abbrev hbmTy0_0 (i : Nat) : BufTy := match i % 128 with
  | 0 => ⟨S16384x1024, .f32⟩
  | 1 => ⟨S1024, .f32⟩
  | 2 => ⟨S4x1x1024, .f32⟩
  | 3 => ⟨S4x1x1024, .f32⟩
  | 4 => ⟨S1024x3456, .f32⟩
  | 5 => ⟨S4096x16, .f32⟩
  | 6 => ⟨S4096x16, .f32⟩
  | 7 => ⟨S4096x16, .f32⟩
  | 8 => ⟨S4096x16, .f32⟩
  | 9 => ⟨S4x4096x1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S_, .f32⟩
  | 27 => ⟨S4x1x1024, .f32⟩
  | 28 => ⟨S4x1x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x4096x3456, .f32⟩
  | 34 => ⟨S4x4096x384, .f32⟩
  | 35 => ⟨S4x4096x384, .f32⟩
  | 36 => ⟨S4x4096x384, .f32⟩
  | 37 => ⟨S4x4096x384, .f32⟩
  | 38 => ⟨S4x4096x256, .f32⟩
  | 39 => ⟨S4x4096x256, .f32⟩
  | 40 => ⟨S4x4096x256, .f32⟩
  | 41 => ⟨S4x4096x384, .f32⟩
  | 42 => ⟨S4x4096x384, .f32⟩
  | 43 => ⟨S4x4096x384, .f32⟩
  | 44 => ⟨S4x4096x6x64, .f32⟩
  | 45 => ⟨S4x6x4096x64, .f32⟩
  | 46 => ⟨S4x6x4096x32, .f32⟩
  | 47 => ⟨S4x6x4096x32, .f32⟩
  | 48 => ⟨S4x6x4096x16, .f32⟩
  | 49 => ⟨S4x6x4096x16, .f32⟩
  | 50 => ⟨S1x1x4096x16, .f32⟩
  | 51 => ⟨S4x6x4096x16, .f32⟩
  | 52 => ⟨S4x6x4096x16, .f32⟩
  | 53 => ⟨S1x1x4096x16, .f32⟩
  | 54 => ⟨S4x6x4096x16, .f32⟩
  | 55 => ⟨S4x6x4096x16, .f32⟩
  | 56 => ⟨S4x6x4096x16, .f32⟩
  | 57 => ⟨S1x1x4096x16, .f32⟩
  | 58 => ⟨S4x6x4096x16, .f32⟩
  | 59 => ⟨S4x6x4096x16, .f32⟩
  | 60 => ⟨S1x1x4096x16, .f32⟩
  | 61 => ⟨S4x6x4096x16, .f32⟩
  | 62 => ⟨S4x6x4096x16, .f32⟩
  | 63 => ⟨S4x6x4096x16, .f32⟩
  | 64 => ⟨S4x6x4096x32, .f32⟩
  | 65 => ⟨S4x6x4096x16, .f32⟩
  | 66 => ⟨S4x6x4096x16, .f32⟩
  | 67 => ⟨S1x1x4096x16, .f32⟩
  | 68 => ⟨S4x6x4096x16, .f32⟩
  | 69 => ⟨S4x6x4096x16, .f32⟩
  | 70 => ⟨S1x1x4096x16, .f32⟩
  | 71 => ⟨S4x6x4096x16, .f32⟩
  | 72 => ⟨S4x6x4096x16, .f32⟩
  | 73 => ⟨S4x6x4096x16, .f32⟩
  | 74 => ⟨S1x1x4096x16, .f32⟩
  | 75 => ⟨S4x6x4096x16, .f32⟩
  | 76 => ⟨S4x6x4096x16, .f32⟩
  | 77 => ⟨S1x1x4096x16, .f32⟩
  | 78 => ⟨S4x6x4096x16, .f32⟩
  | 79 => ⟨S4x6x4096x16, .f32⟩
  | 80 => ⟨S4x6x4096x16, .f32⟩
  | 81 => ⟨S4x6x4096x32, .f32⟩
  | 82 => ⟨S4x6x4096x64, .f32⟩
  | 83 => ⟨S4x4096x6x64, .f32⟩
  | 84 => ⟨S4x4096x384, .f32⟩
  | 85 => ⟨S4x4096x6x64, .f32⟩
  | 86 => ⟨S4x6x4096x64, .f32⟩
  | 87 => ⟨S4x6x4096x32, .f32⟩
  | 88 => ⟨S4x6x4096x32, .f32⟩
  | 89 => ⟨S4x6x4096x16, .f32⟩
  | 90 => ⟨S4x6x4096x16, .f32⟩
  | 91 => ⟨S1x1x4096x16, .f32⟩
  | 92 => ⟨S4x6x4096x16, .f32⟩
  | 93 => ⟨S4x6x4096x16, .f32⟩
  | 94 => ⟨S1x1x4096x16, .f32⟩
  | 95 => ⟨S4x6x4096x16, .f32⟩
  | 96 => ⟨S4x6x4096x16, .f32⟩
  | 97 => ⟨S4x6x4096x16, .f32⟩
  | 98 => ⟨S1x1x4096x16, .f32⟩
  | 99 => ⟨S4x6x4096x16, .f32⟩
  | 100 => ⟨S4x6x4096x16, .f32⟩
  | 101 => ⟨S1x1x4096x16, .f32⟩
  | 102 => ⟨S4x6x4096x16, .f32⟩
  | 103 => ⟨S4x6x4096x16, .f32⟩
  | 104 => ⟨S4x6x4096x16, .f32⟩
  | 105 => ⟨S4x6x4096x32, .f32⟩
  | 106 => ⟨S4x6x4096x16, .f32⟩
  | 107 => ⟨S4x6x4096x16, .f32⟩
  | 108 => ⟨S1x1x4096x16, .f32⟩
  | 109 => ⟨S4x6x4096x16, .f32⟩
  | 110 => ⟨S4x6x4096x16, .f32⟩
  | 111 => ⟨S1x1x4096x16, .f32⟩
  | 112 => ⟨S4x6x4096x16, .f32⟩
  | 113 => ⟨S4x6x4096x16, .f32⟩
  | 114 => ⟨S4x6x4096x16, .f32⟩
  | 115 => ⟨S1x1x4096x16, .f32⟩
  | 116 => ⟨S4x6x4096x16, .f32⟩
  | 117 => ⟨S4x6x4096x16, .f32⟩
  | 118 => ⟨S1x1x4096x16, .f32⟩
  | 119 => ⟨S4x6x4096x16, .f32⟩
  | 120 => ⟨S4x6x4096x16, .f32⟩
  | 121 => ⟨S4x6x4096x16, .f32⟩
  | 122 => ⟨S4x6x4096x32, .f32⟩
  | 123 => ⟨S4x6x4096x64, .f32⟩
  | 124 => ⟨S_, .f32⟩
  | 125 => ⟨S4x6x4096x64, .f32⟩
  | 126 => ⟨S4x6x4096x64, .f32⟩
  | 127 => ⟨S4x4096x6x64, .f32⟩
  | _ => ⟨S16384x1024, .f32⟩

abbrev hbmTy0_1 (i : Nat) : BufTy := match i % 128 with
  | 0 => ⟨S4x4096x384, .f32⟩
  | 1 => ⟨S_, .f32⟩
  | 2 => ⟨S4x4096x384, .f32⟩
  | 3 => ⟨S4x4096x384, .f32⟩
  | 4 => ⟨S4x4096x3456, .f32⟩
  | 5 => ⟨S16384x3456, .f32⟩
  | 6 => ⟨S16384x3456, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_cst_3 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_cst_4 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩

abbrev nD : Nat := 1
abbrev τ : Topo := Topo.v7x

variable {F : FTy → Type} [FloatOps F]
-- ==== Kernel5.lean ====
abbrev S4x256x3456 : Shape := ⟨3, ![4, 256, 3456]⟩
abbrev S4x256x384 : Shape := ⟨3, ![4, 256, 384]⟩
abbrev S1x256x128 : Shape := ⟨3, ![1, 256, 128]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4x256x3456, .bf16⟩
  | .hbm, ⟨1, _⟩ => ⟨S4x256x384, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S4x256x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x256x3456 : Shape := ⟨3, ![4, 256, 3456]⟩
abbrev S4x256x384 : Shape := ⟨3, ![4, 256, 384]⟩
abbrev S4x256x256 : Shape := ⟨3, ![4, 256, 256]⟩
abbrev S4x256x6x64 : Shape := ⟨4, ![4, 256, 6, 64]⟩
abbrev S4x6x256x64 : Shape := ⟨4, ![4, 6, 256, 64]⟩
abbrev S4x6x256x256 : Shape := ⟨4, ![4, 6, 256, 256]⟩
abbrev S_ : Shape := ⟨0, ![]⟩
abbrev S4x6x256 : Shape := ⟨3, ![4, 6, 256]⟩
abbrev S4x6x256x1 : Shape := ⟨4, ![4, 6, 256, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x256x3456, .bf16⟩
  | .hbm, ⟨1, _⟩ => ⟨S4x256x3456, .f32⟩
  | .hbm, ⟨2, _⟩ => ⟨S4x256x384, .f32⟩
  | .hbm, ⟨3, _⟩ => ⟨S4x256x384, .f32⟩
  | .hbm, ⟨4, _⟩ => ⟨S4x256x384, .f32⟩
  | .hbm, ⟨5, _⟩ => ⟨S4x256x384, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x384, .f32⟩
  | .hbm, ⟨10, _⟩ => ⟨S4x256x384, .f32⟩
  | .hbm, ⟨11, _⟩ => ⟨S4x256x384, .f32⟩
  | .hbm, ⟨12, _⟩ => ⟨S4x256x6x64, .f32⟩
  | .hbm, ⟨13, _⟩ => ⟨S4x6x256x64, .f32⟩
  | .hbm, ⟨14, _⟩ => ⟨S4x256x6x64, .f32⟩
  | .hbm, ⟨15, _⟩ => ⟨S4x6x256x64, .f32⟩
  | .hbm, ⟨16, _⟩ => ⟨S4x256x6x64, .f32⟩
  | .hbm, ⟨17, _⟩ => ⟨S4x6x256x64, .f32⟩
  | .hbm, ⟨18, _⟩ => ⟨S4x6x256x256, .f32⟩
  | .hbm, ⟨19, _⟩ => ⟨S_, .f32⟩
  | .hbm, ⟨20, _⟩ => ⟨S4x6x256, .f32⟩
  | .hbm, ⟨21, _⟩ => ⟨S_, .f32⟩
  | .hbm, ⟨22, _⟩ => ⟨S4x6x256, .f32⟩
  | .hbm, ⟨23, _⟩ => ⟨S4x6x256, .f32⟩
  | .hbm, ⟨24, _⟩ => ⟨S4x6x256x1, .f32⟩
  | .hbm, ⟨25, _⟩ => ⟨S4x6x256x256, .f32⟩
  | .hbm, ⟨26, _⟩ => ⟨S4x6x256x256, .f32⟩
  | .hbm, ⟨27, _⟩ => ⟨S4x6x256x256, .f32⟩
  | .hbm, ⟨28, _⟩ => ⟨S_, .f32⟩
  | .hbm, ⟨29, _⟩ => ⟨S4x6x256, .f32⟩
  | .hbm, ⟨30, _⟩ => ⟨S4x6x256x1, .f32⟩
  | .hbm, ⟨31, _⟩ => ⟨S4x6x256x256, .f32⟩
  | .hbm, ⟨32, _⟩ => ⟨S4x6x256x256, .f32⟩
  | .hbm, ⟨33, _⟩ => ⟨S4x6x256x64, .f32⟩
  | .hbm, ⟨34, _⟩ => ⟨S4x256x6x64, .f32⟩
  | .hbm, ⟨35, _⟩ => ⟨S4x256x384, .f32⟩
  | .hbm, ⟨36, _⟩ => ⟨S4x256x384, .bf16⟩
  | _, _ => ⟨S4x256x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_cst : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_1 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Kernel6.lean ====
abbrev S1024x1024 : Shape := ⟨2, ![1024, 1024]⟩
abbrev S1024 : Shape := ⟨1, ![1024]⟩
abbrev S1024x3456 : Shape := ⟨2, ![1024, 3456]⟩
abbrev S1x1x1024 : Shape := ⟨3, ![1, 1, 1024]⟩
abbrev S4x1x1024 : Shape := ⟨3, ![4, 1, 1024]⟩
abbrev S1x1024 : Shape := ⟨2, ![1, 1024]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S256x128 : Shape := ⟨2, ![256, 128]⟩
abbrev S1024x384 : Shape := ⟨2, ![1024, 384]⟩
abbrev S256x384 : Shape := ⟨2, ![256, 384]⟩

abbrev nBuf : Space → Nat
  | .hbm => 12
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3456, .f32⟩
  | .hbm, ⟨5, _⟩ => ⟨S1x1x1024, .f32⟩
  | .hbm, ⟨6, _⟩ => ⟨S4x1x1024, .f32⟩
  | .hbm, ⟨7, _⟩ => ⟨S1x1x1024, .f32⟩
  | .hbm, ⟨8, _⟩ => ⟨S4x1x1024, .f32⟩
  | .hbm, ⟨9, _⟩ => ⟨S1024x3456, .bf16⟩
  | .hbm, ⟨10, _⟩ => ⟨S1x1024, .f32⟩
  | .hbm, ⟨11, _⟩ => ⟨S1024x3456, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S256x3456, .bf16⟩
  | .local _ .vmem, ⟨9, _⟩ => ⟨S256x3456, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3456 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S1024x1024 : Shape := ⟨2, ![1024, 1024]⟩
abbrev S1024 : Shape := ⟨1, ![1024]⟩
abbrev S1024x3456 : Shape := ⟨2, ![1024, 3456]⟩
abbrev S4x256x1024 : Shape := ⟨3, ![4, 256, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x3456 : Shape := ⟨3, ![4, 256, 3456]⟩
abbrev S4x256x384 : Shape := ⟨3, ![4, 256, 384]⟩
abbrev S4x256x256 : Shape := ⟨3, ![4, 256, 256]⟩

abbrev nBuf : Space → Nat
  | .hbm => 51
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3456, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x1024, .f32⟩
  | .hbm, ⟨18, _⟩ => ⟨S4x256x1024, .f32⟩
  | .hbm, ⟨19, _⟩ => ⟨S1x1x1024, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1x1024, .f32⟩
  | .hbm, ⟨26, _⟩ => ⟨S4x256x1024, .f32⟩
  | .hbm, ⟨27, _⟩ => ⟨S4x256x1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S4x256x3456, .f32⟩
  | .hbm, ⟨32, _⟩ => ⟨S4x256x384, .f32⟩
  | .hbm, ⟨33, _⟩ => ⟨S4x256x384, .f32⟩
  | .hbm, ⟨34, _⟩ => ⟨S4x256x384, .f32⟩
  | .hbm, ⟨35, _⟩ => ⟨S4x256x384, .f32⟩
  | .hbm, ⟨36, _⟩ => ⟨S4x256x256, .f32⟩
  | .hbm, ⟨37, _⟩ => ⟨S4x256x256, .f32⟩
  | .hbm, ⟨38, _⟩ => ⟨S4x256x256, .f32⟩
  | .hbm, ⟨39, _⟩ => ⟨S4x256x384, .f32⟩
  | .hbm, ⟨40, _⟩ => ⟨S4x256x384, .f32⟩
  | .hbm, ⟨41, _⟩ => ⟨S4x256x384, .f32⟩
  | .hbm, ⟨42, _⟩ => ⟨S_, .f32⟩
  | .hbm, ⟨43, _⟩ => ⟨S4x256x384, .f32⟩
  | .hbm, ⟨44, _⟩ => ⟨S4x256x384, .f32⟩
  | .hbm, ⟨45, _⟩ => ⟨S_, .f32⟩
  | .hbm, ⟨46, _⟩ => ⟨S4x256x384, .f32⟩
  | .hbm, ⟨47, _⟩ => ⟨S4x256x384, .f32⟩
  | .hbm, ⟨48, _⟩ => ⟨S4x256x3456, .f32⟩
  | .hbm, ⟨49, _⟩ => ⟨S1024x3456, .f32⟩
  | .hbm, ⟨50, _⟩ => ⟨S1024x3456, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel7.lean ====
abbrev S1024x384 : Shape := ⟨2, ![1024, 384]⟩
abbrev S1024x256 : Shape := ⟨2, ![1024, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S4x1x1024 : Shape := ⟨3, ![4, 1, 1024]⟩
abbrev S1x1024 : Shape := ⟨2, ![1, 1024]⟩
abbrev S256x384 : Shape := ⟨2, ![256, 384]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 23
  | .vmem => 22
  | .smem => 0
  | _ => 0

abbrev bufTy : (tb : Table) → Fin (tcTables nBuf tb) → BufTy
  | .hbm, ⟨0, _⟩ => ⟨S1024x384, .bf16⟩
  | .hbm, ⟨1, _⟩ => ⟨S1024x256, .bf16⟩
  | .hbm, ⟨2, _⟩ => ⟨S1024x384, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S1x1x1024, .f32⟩
  | .hbm, ⟨13, _⟩ => ⟨S4x1x1024, .f32⟩
  | .hbm, ⟨14, _⟩ => ⟨S1x1x1024, .f32⟩
  | .hbm, ⟨15, _⟩ => ⟨S4x1x1024, .f32⟩
  | .hbm, ⟨16, _⟩ => ⟨S1x1x1024, .f32⟩
  | .hbm, ⟨17, _⟩ => ⟨S4x1x1024, .f32⟩
  | .hbm, ⟨18, _⟩ => ⟨S1x1x1024, .f32⟩
  | .hbm, ⟨19, _⟩ => ⟨S4x1x1024, .f32⟩
  | .hbm, ⟨20, _⟩ => ⟨S1024x1024, .bf16⟩
  | .hbm, ⟨21, _⟩ => ⟨S1x1024, .f32⟩
  | .hbm, ⟨22, _⟩ => ⟨S1024x1024, .f32⟩
  | .local _ .vmem, ⟨0, _⟩ => ⟨S256x384, .bf16⟩
  | .local _ .vmem, ⟨1, _⟩ => ⟨S256x384, .bf16⟩
  | .local _ .vmem, ⟨2, _⟩ => ⟨S256x256, .bf16⟩
  | .local _ .vmem, ⟨3, _⟩ => ⟨S256x256, .bf16⟩
  | .local _ .vmem, ⟨4, _⟩ => ⟨S256x384, .bf16⟩
  | .local _ .vmem, ⟨5, _⟩ => ⟨S256x384, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x5632, .bf16⟩
  | .local _ .vmem, ⟨17, _⟩ => ⟨S2816x1024, .bf16⟩
  | .local _ .vmem, ⟨18, _⟩ => ⟨S1x1x1024, .f32⟩
  | .local _ .vmem, ⟨19, _⟩ => ⟨S1x1x1024, .f32⟩
  | .local _ .vmem, ⟨20, _⟩ => ⟨S256x1024, .f32⟩
  | .local _ .vmem, ⟨21, _⟩ => ⟨S256x1024, .f32⟩
  | _, _ => ⟨S1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S1024x384 : Shape := ⟨2, ![1024, 384]⟩
abbrev S1024x256 : Shape := ⟨2, ![1024, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S1024x1 : Shape := ⟨2, ![1024, 1]⟩
abbrev S1024x2816 : Shape := ⟨2, ![1024, 2816]⟩

abbrev nBuf : Space → Nat
  | .hbm => 66
  | .vmem => 0
  | .smem => 0
  | _ => 0

abbrev bufTy : (tb : Table) → Fin (tcTables nBuf tb) → BufTy
  | .hbm, ⟨0, _⟩ => ⟨S1024x384, .bf16⟩
  | .hbm, ⟨1, _⟩ => ⟨S1024x256, .bf16⟩
  | .hbm, ⟨2, _⟩ => ⟨S1024x384, .bf16⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x5632, .bf16⟩
  | .hbm, ⟨10, _⟩ => ⟨S2816x1024, .bf16⟩
  | .hbm, ⟨11, _⟩ => ⟨S1024, .f32⟩
  | .hbm, ⟨12, _⟩ => ⟨S1024x384, .f32⟩
  | .hbm, ⟨13, _⟩ => ⟨S1024x256, .f32⟩
  | .hbm, ⟨14, _⟩ => ⟨S1024x384, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S_, .f32⟩
  | .hbm, ⟨26, _⟩ => ⟨S1024x1, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S1024x1024, .f32⟩
  | .hbm, ⟨42, _⟩ => ⟨S1024x1024, .f32⟩
  | .hbm, ⟨43, _⟩ => ⟨S1x1024, .f32⟩
  | .hbm, ⟨44, _⟩ => ⟨S1024x1024, .f32⟩
  | .hbm, ⟨45, _⟩ => ⟨S1024x1024, .f32⟩
  | .hbm, ⟨46, _⟩ => ⟨S1024x5632, .f32⟩
  | .hbm, ⟨47, _⟩ => ⟨S1024x5632, .f32⟩
  | .hbm, ⟨48, _⟩ => ⟨S1024x2816, .f32⟩
  | .hbm, ⟨49, _⟩ => ⟨S1024x2816, .f32⟩
  | .hbm, ⟨50, _⟩ => ⟨S1024x2816, .f32⟩
  | .hbm, ⟨51, _⟩ => ⟨S1024x2816, .f32⟩
  | .hbm, ⟨52, _⟩ => ⟨S_, .f32⟩
  | .hbm, ⟨53, _⟩ => ⟨S1024x2816, .f32⟩
  | .hbm, ⟨54, _⟩ => ⟨S1024x2816, .f32⟩
  | .hbm, ⟨55, _⟩ => ⟨S_, .f32⟩
  | .hbm, ⟨56, _⟩ => ⟨S1024x2816, .f32⟩
  | .hbm, ⟨57, _⟩ => ⟨S1024x2816, .f32⟩
  | .hbm, ⟨58, _⟩ => ⟨S1024x2816, .f32⟩
  | .hbm, ⟨59, _⟩ => ⟨S1024x2816, .f32⟩
  | .hbm, ⟨60, _⟩ => ⟨S2816x1024, .f32⟩
  | .hbm, ⟨61, _⟩ => ⟨S1024x1024, .f32⟩
  | .hbm, ⟨62, _⟩ => ⟨S1x1024, .f32⟩
  | .hbm, ⟨63, _⟩ => ⟨S1024x1024, .f32⟩
  | .hbm, ⟨64, _⟩ => ⟨S1024x1024, .f32⟩
  | .hbm, ⟨65, _⟩ => ⟨S1024x1024, .f32⟩
  | _, _ => ⟨S1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel8.lean ====
abbrev S4x256x3456 : Shape := ⟨3, ![4, 256, 3456]⟩
abbrev S3x256 : Shape := ⟨2, ![3, 256]⟩
abbrev S4x256x256 : Shape := ⟨3, ![4, 256, 256]⟩
abbrev S1x256x128 : Shape := ⟨3, ![1, 256, 128]⟩
abbrev S3x128 : Shape := ⟨2, ![3, 128]⟩
abbrev S256x128 : Shape := ⟨2, ![256, 128]⟩
abbrev S256x1 : Shape := ⟨2, ![256, 1]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4x256x3456, .bf16⟩
  | .hbm, ⟨1, _⟩ => ⟨S3x256, .f32⟩
  | .hbm, ⟨2, _⟩ => ⟨S4x256x256, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S3x128, .f32⟩
  | .local _ .vmem, ⟨7, _⟩ => ⟨S3x128, .f32⟩
  | .local _ .vmem, ⟨8, _⟩ => ⟨S1x256x128, .bf16⟩
  | .local _ .vmem, ⟨9, _⟩ => ⟨S1x256x128, .bf16⟩
  | _, _ => ⟨S4x256x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x256x3456 : Shape := ⟨3, ![4, 256, 3456]⟩
abbrev S3x256 : Shape := ⟨2, ![3, 256]⟩
abbrev S4x256x384 : Shape := ⟨3, ![4, 256, 384]⟩
abbrev S4x256x256 : Shape := ⟨3, ![4, 256, 256]⟩
abbrev S_ : Shape := ⟨0, ![]⟩
abbrev S4x258x256 : Shape := ⟨3, ![4, 258, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 39
  | .vmem => 0
  | .smem => 0
  | _ => 0

abbrev bufTy : (tb : Table) → Fin (tcTables nBuf tb) → BufTy
  | .hbm, ⟨0, _⟩ => ⟨S4x256x3456, .bf16⟩
  | .hbm, ⟨1, _⟩ => ⟨S3x256, .f32⟩
  | .hbm, ⟨2, _⟩ => ⟨S4x256x3456, .f32⟩
  | .hbm, ⟨3, _⟩ => ⟨S4x256x384, .f32⟩
  | .hbm, ⟨4, _⟩ => ⟨S4x256x384, .f32⟩
  | .hbm, ⟨5, _⟩ => ⟨S4x256x384, .f32⟩
  | .hbm, ⟨6, _⟩ => ⟨S4x256x384, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x384, .f32⟩
  | .hbm, ⟨11, _⟩ => ⟨S4x256x384, .f32⟩
  | .hbm, ⟨12, _⟩ => ⟨S4x256x384, .f32⟩
  | .hbm, ⟨13, _⟩ => ⟨S4x256x256, .f32⟩
  | .hbm, ⟨14, _⟩ => ⟨S_, .i32⟩
  | .hbm, ⟨15, _⟩ => ⟨S_, .f32⟩
  | .hbm, ⟨16, _⟩ => ⟨S4x258x256, .f32⟩
  | .hbm, ⟨17, _⟩ => ⟨S1x256, .f32⟩
  | .hbm, ⟨18, _⟩ => ⟨S256, .f32⟩
  | .hbm, ⟨19, _⟩ => ⟨S4x256x256, .f32⟩
  | .hbm, ⟨20, _⟩ => ⟨S1x1x256, .f32⟩
  | .hbm, ⟨21, _⟩ => ⟨S4x256x256, .f32⟩
  | .hbm, ⟨22, _⟩ => ⟨S4x256x256, .f32⟩
  | .hbm, ⟨23, _⟩ => ⟨S1x256, .f32⟩
  | .hbm, ⟨24, _⟩ => ⟨S256, .f32⟩
  | .hbm, ⟨25, _⟩ => ⟨S4x256x256, .f32⟩
  | .hbm, ⟨26, _⟩ => ⟨S1x1x256, .f32⟩
  | .hbm, ⟨27, _⟩ => ⟨S4x256x256, .f32⟩
  | .hbm, ⟨28, _⟩ => ⟨S4x256x256, .f32⟩
  | .hbm, ⟨29, _⟩ => ⟨S1x256, .f32⟩
  | .hbm, ⟨30, _⟩ => ⟨S256, .f32⟩
  | .hbm, ⟨31, _⟩ => ⟨S4x256x256, .f32⟩
  | .hbm, ⟨32, _⟩ => ⟨S1x1x256, .f32⟩
  | .hbm, ⟨33, _⟩ => ⟨S4x256x256, .f32⟩
  | .hbm, ⟨34, _⟩ => ⟨S4x256x256, .f32⟩
  | .hbm, ⟨35, _⟩ => ⟨S4x256x256, .f32⟩
  | .hbm, ⟨36, _⟩ => ⟨S4x256x256, .f32⟩
  | .hbm, ⟨37, _⟩ => ⟨S4x256x256, .f32⟩
  | .hbm, ⟨38, _⟩ => ⟨S4x256x256, .bf16⟩
  | _, _ => ⟨S4x256x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S4x1x1024 : Shape := ⟨3, ![4, 1, 1024]⟩
abbrev S1024x3456 : Shape := ⟨2, ![1024, 3456]⟩
abbrev S4096x16 : Shape := ⟨2, ![4096, 16]⟩
abbrev S1024x5632 : Shape := ⟨2, ![1024, 5632]⟩
abbrev S2816x1024 : Shape := ⟨2, ![2816, 1024]⟩
abbrev S64 : Shape := ⟨1, ![64]⟩
abbrev S1x64 : Shape := ⟨2, ![1, 64]⟩
abbrev S4096x64 : Shape := ⟨2, ![4096, 64]⟩
abbrev S_ : Shape := ⟨0, ![]⟩
abbrev S4096x128 : Shape := ⟨2, ![4096, 128]⟩
abbrev S1x1024 : Shape := ⟨2, ![1, 1024]⟩
abbrev S16384x3456 : Shape := ⟨2, ![16384, 3456]⟩
abbrev S1024x1024 : Shape := ⟨2, ![1024, 1024]⟩
abbrev S1x1x1024 : Shape := ⟨3, ![1, 1, 1024]⟩
abbrev S1024x128 : Shape := ⟨2, ![1024, 128]⟩
abbrev S64x5632 : Shape := ⟨2, ![64, 5632]⟩
abbrev S176x1024 : Shape := ⟨2, ![176, 1024]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S512x128 : Shape := ⟨2, ![512, 128]⟩
abbrev S1024x384 : Shape := ⟨2, ![1024, 384]⟩
abbrev S512x384 : Shape := ⟨2, ![512, 384]⟩

abbrev nBuf : Space → Nat
  | .hbm => 36
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3456, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S1024x5632, .f32⟩
  | .hbm, ⟨10, _⟩ => ⟨S2816x1024, .f32⟩
  | .hbm, ⟨11, _⟩ => ⟨S64, .i1⟩
  | .hbm, ⟨12, _⟩ => ⟨S1x64, .i1⟩
  | .hbm, ⟨13, _⟩ => ⟨S64, .i1⟩
  | .hbm, ⟨14, _⟩ => ⟨S1x64, .i1⟩
  | .hbm, ⟨15, _⟩ => ⟨S1024x3456, .bf16⟩
  | .hbm, ⟨16, _⟩ => ⟨S4096x64, .f32⟩
  | .hbm, ⟨17, _⟩ => ⟨S4096x64, .f32⟩
  | .hbm, ⟨18, _⟩ => ⟨S_, .f32⟩
  | .hbm, ⟨19, _⟩ => ⟨S_, .f32⟩
  | .hbm, ⟨20, _⟩ => ⟨S4096x64, .i1⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S_, .f32⟩
  | .hbm, ⟨25, _⟩ => ⟨S_, .f32⟩
  | .hbm, ⟨26, _⟩ => ⟨S4096x64, .i1⟩
  | .hbm, ⟨27, _⟩ => ⟨S4096x64, .f32⟩
  | .hbm, ⟨28, _⟩ => ⟨S4096x64, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S1x1024, .f32⟩
  | .hbm, ⟨33, _⟩ => ⟨S16384x3456, .bf16⟩
  | .hbm, ⟨34, _⟩ => ⟨S1024x5632, .bf16⟩
  | .hbm, ⟨35, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S64x5632, .f32⟩
  | .local _ .vmem, ⟨15, _⟩ => ⟨S64x5632, .f32⟩
  | .local _ .vmem, ⟨16, _⟩ => ⟨S176x1024, .f32⟩
  | .local _ .vmem, ⟨17, _⟩ => ⟨S176x1024, .f32⟩
  | .local _ .vmem, ⟨18, _⟩ => ⟨S1024x3456, .bf16⟩
  | .local _ .vmem, ⟨19, _⟩ => ⟨S1024x3456, .bf16⟩
  | .local _ .vmem, ⟨20, _⟩ => ⟨S64x5632, .bf16⟩
  | .local _ .vmem, ⟨21, _⟩ => ⟨S64x5632, .bf16⟩
  | .local _ .vmem, ⟨22, _⟩ => ⟨S176x1024, .bf16⟩
  | .local _ .vmem, ⟨23, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v12_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x3456 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S16384x1024 : Shape := ⟨2, ![16384, 1024]⟩
abbrev S1024 : Shape := ⟨1, ![1024]⟩
abbrev S4x1x1024 : Shape := ⟨3, ![4, 1, 1024]⟩
abbrev S1024x3456 : Shape := ⟨2, ![1024, 3456]⟩
abbrev S4096x16 : Shape := ⟨2, ![4096, 16]⟩
abbrev S1024x5632 : Shape := ⟨2, ![1024, 5632]⟩
abbrev S2816x1024 : Shape := ⟨2, ![2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3456 : Shape := ⟨3, ![4, 4096, 3456]⟩
abbrev S4x4096x384 : Shape := ⟨3, ![4, 4096, 384]⟩
abbrev S4x4096x256 : Shape := ⟨3, ![4, 4096, 256]⟩
abbrev S4x4096x6x64 : Shape := ⟨4, ![4, 4096, 6, 64]⟩
abbrev S4x6x4096x64 : Shape := ⟨4, ![4, 6, 4096, 64]⟩
abbrev S4x6x4096x32 : Shape := ⟨4, ![4, 6, 4096, 32]⟩
abbrev S4x6x4096x16 : Shape := ⟨4, ![4, 6, 4096, 16]⟩
abbrev S1x1x4096x16 : Shape := ⟨4, ![1, 1, 4096, 16]⟩
abbrev S16384x3456 : Shape := ⟨2, ![16384, 3456]⟩

abbrev nBuf : Space → Nat
  | .hbm => 139
  | .vmem => 0
  | .smem => 0
  | _ => 0

abbrev hbmTy0_0 (i : Nat) : BufTy := match i % 128 with
  | 0 => ⟨S16384x1024, .f32⟩
  | 1 => ⟨S1024, .f32⟩
  | 2 => ⟨S4x1x1024, .f32⟩
  | 3 => ⟨S4x1x1024, .f32⟩
  | 4 => ⟨S1024x3456, .f32⟩
  | 5 => ⟨S4096x16, .f32⟩
  | 6 => ⟨S4096x16, .f32⟩
  | 7 => ⟨S4096x16, .f32⟩
  | 8 => ⟨S4096x16, .f32⟩
  | 9 => ⟨S1024x5632, .f32⟩
  | 10 => ⟨S2816x1024, .f32⟩
  | 11 => ⟨S4x4096x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x3456, .f32⟩
  | 36 => ⟨S4x4096x384, .f32⟩
  | 37 => ⟨S4x4096x384, .f32⟩
  | 38 => ⟨S4x4096x384, .f32⟩
  | 39 => ⟨S4x4096x384, .f32⟩
  | 40 => ⟨S4x4096x256, .f32⟩
  | 41 => ⟨S4x4096x256, .f32⟩
  | 42 => ⟨S4x4096x256, .f32⟩
  | 43 => ⟨S4x4096x384, .f32⟩
  | 44 => ⟨S4x4096x384, .f32⟩
  | 45 => ⟨S4x4096x384, .f32⟩
  | 46 => ⟨S4x4096x6x64, .f32⟩
  | 47 => ⟨S4x6x4096x64, .f32⟩
  | 48 => ⟨S4x6x4096x32, .f32⟩
  | 49 => ⟨S4x6x4096x32, .f32⟩
  | 50 => ⟨S4x6x4096x16, .f32⟩
  | 51 => ⟨S4x6x4096x16, .f32⟩
  | 52 => ⟨S1x1x4096x16, .f32⟩
  | 53 => ⟨S4x6x4096x16, .f32⟩
  | 54 => ⟨S4x6x4096x16, .f32⟩
  | 55 => ⟨S1x1x4096x16, .f32⟩
  | 56 => ⟨S4x6x4096x16, .f32⟩
  | 57 => ⟨S4x6x4096x16, .f32⟩
  | 58 => ⟨S4x6x4096x16, .f32⟩
  | 59 => ⟨S1x1x4096x16, .f32⟩
  | 60 => ⟨S4x6x4096x16, .f32⟩
  | 61 => ⟨S4x6x4096x16, .f32⟩
  | 62 => ⟨S1x1x4096x16, .f32⟩
  | 63 => ⟨S4x6x4096x16, .f32⟩
  | 64 => ⟨S4x6x4096x16, .f32⟩
  | 65 => ⟨S4x6x4096x16, .f32⟩
  | 66 => ⟨S4x6x4096x32, .f32⟩
  | 67 => ⟨S4x6x4096x16, .f32⟩
  | 68 => ⟨S4x6x4096x16, .f32⟩
  | 69 => ⟨S1x1x4096x16, .f32⟩
  | 70 => ⟨S4x6x4096x16, .f32⟩
  | 71 => ⟨S4x6x4096x16, .f32⟩
  | 72 => ⟨S1x1x4096x16, .f32⟩
  | 73 => ⟨S4x6x4096x16, .f32⟩
  | 74 => ⟨S4x6x4096x16, .f32⟩
  | 75 => ⟨S4x6x4096x16, .f32⟩
  | 76 => ⟨S1x1x4096x16, .f32⟩
  | 77 => ⟨S4x6x4096x16, .f32⟩
  | 78 => ⟨S4x6x4096x16, .f32⟩
  | 79 => ⟨S1x1x4096x16, .f32⟩
  | 80 => ⟨S4x6x4096x16, .f32⟩
  | 81 => ⟨S4x6x4096x16, .f32⟩
  | 82 => ⟨S4x6x4096x16, .f32⟩
  | 83 => ⟨S4x6x4096x32, .f32⟩
  | 84 => ⟨S4x6x4096x64, .f32⟩
  | 85 => ⟨S4x4096x6x64, .f32⟩
  | 86 => ⟨S4x4096x384, .f32⟩
  | 87 => ⟨S4x4096x6x64, .f32⟩
  | 88 => ⟨S4x6x4096x64, .f32⟩
  | 89 => ⟨S4x6x4096x32, .f32⟩
  | 90 => ⟨S4x6x4096x32, .f32⟩
  | 91 => ⟨S4x6x4096x16, .f32⟩
  | 92 => ⟨S4x6x4096x16, .f32⟩
  | 93 => ⟨S1x1x4096x16, .f32⟩
  | 94 => ⟨S4x6x4096x16, .f32⟩
  | 95 => ⟨S4x6x4096x16, .f32⟩
  | 96 => ⟨S1x1x4096x16, .f32⟩
  | 97 => ⟨S4x6x4096x16, .f32⟩
  | 98 => ⟨S4x6x4096x16, .f32⟩
  | 99 => ⟨S4x6x4096x16, .f32⟩
  | 100 => ⟨S1x1x4096x16, .f32⟩
  | 101 => ⟨S4x6x4096x16, .f32⟩
  | 102 => ⟨S4x6x4096x16, .f32⟩
  | 103 => ⟨S1x1x4096x16, .f32⟩
  | 104 => ⟨S4x6x4096x16, .f32⟩
  | 105 => ⟨S4x6x4096x16, .f32⟩
  | 106 => ⟨S4x6x4096x16, .f32⟩
  | 107 => ⟨S4x6x4096x32, .f32⟩
  | 108 => ⟨S4x6x4096x16, .f32⟩
  | 109 => ⟨S4x6x4096x16, .f32⟩
  | 110 => ⟨S1x1x4096x16, .f32⟩
  | 111 => ⟨S4x6x4096x16, .f32⟩
  | 112 => ⟨S4x6x4096x16, .f32⟩
  | 113 => ⟨S1x1x4096x16, .f32⟩
  | 114 => ⟨S4x6x4096x16, .f32⟩
  | 115 => ⟨S4x6x4096x16, .f32⟩
  | 116 => ⟨S4x6x4096x16, .f32⟩
  | 117 => ⟨S1x1x4096x16, .f32⟩
  | 118 => ⟨S4x6x4096x16, .f32⟩
  | 119 => ⟨S4x6x4096x16, .f32⟩
  | 120 => ⟨S1x1x4096x16, .f32⟩
  | 121 => ⟨S4x6x4096x16, .f32⟩
  | 122 => ⟨S4x6x4096x16, .f32⟩
  | 123 => ⟨S4x6x4096x16, .f32⟩
  | 124 => ⟨S4x6x4096x32, .f32⟩
  | 125 => ⟨S4x6x4096x64, .f32⟩
  | 126 => ⟨S_, .f32⟩
  | 127 => ⟨S4x6x4096x64, .f32⟩
  | _ => ⟨S16384x1024, .f32⟩

abbrev hbmTy0_1 (i : Nat) : BufTy := match i % 128 with
  | 0 => ⟨S4x6x4096x64, .f32⟩
  | 1 => ⟨S4x4096x6x64, .f32⟩
  | 2 => ⟨S4x4096x384, .f32⟩
  | 3 => ⟨S_, .f32⟩
  | 4 => ⟨S4x4096x384, .f32⟩
  | 5 => ⟨S4x4096x384, .f32⟩
  | 6 => ⟨S4x4096x3456, .f32⟩
  | 7 => ⟨S16384x3456, .f32⟩
  | 8 => ⟨S16384x3456, .bf16⟩
  | 9 => ⟨S1024x5632, .bf16⟩
  | 10 => ⟨S2816x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_3 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_4 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩

abbrev nD : Nat := 1
abbrev τ : Topo := Topo.v7x

variable {F : FTy → Type} [FloatOps F]
-- ==== Proof.Experts.Setup.lean ====
/-
  Hand-written, untrusted. THE EXPERTS CALL'S NAMES: the launch memory's contents and tables, the two ends of the body's
  transfers, what they deliver, and the eight pieces a block of slots and a scratch buffer are cut into.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The memrefs of the body that no window stages -/

abbrev tbM1 : Memref sig .tc .smem S72 .i32 := Memref.whole main_arg1
abbrev tbM2 : Memref sig .tc .smem S1 .i32 := Memref.whole main_arg2
abbrev xsM : Memref sig .tc .hbm S36864x8x128 .f32 := Memref.whole main_arg0
abbrev xaM : Memref sig .tc .vmem S512x1024 .f32 := Memref.whole cc0_scratch0
abbrev xbM : Memref sig .tc .vmem S512x1024 .f32 := Memref.whole cc0_scratch1

abbrev BufM (c : Dev nD) {sp : Space} {S : Shape} {e : EltTy} (M : Memref sig .tc sp S e) : Type := Buf (Elt F) (M.view.loc (c : Thread nD τ))
abbrev wholePt (c : Dev nD) {sp : Space} {S : Shape} {e : EltTy} (M : Memref sig .tc sp S e) (f : BufM (F := F) c M) : sProp 𝕄 :=
  M.view.loc (c : Thread nD τ) ↦{fullShare} f
abbrev halfPt (c : Dev nD) {sp : Space} {S : Shape} {e : EltTy} (M : Memref sig .tc sp S e) (f : BufM (F := F) c M) : sProp 𝕄 :=
  M.view.loc (c : Thread nD τ) ↦{fullShare.right} f
abbrev ownPt (c : Dev nD) {sp : Space} {S : Shape} {e : EltTy} (M : Memref sig .tc sp S e) (f : BufM (F := F) c M) : sProp 𝕄 :=
  M.view.loc (c : Thread nD τ) ↦[M.view.set]{fullShare} f

/-! ## The transfers' ends, as printed -/

/-- A slab of 512 slots by 128 channels of the dispatched array, at the offsets `off`. -/
abbrev srcM (off : Fin 3 → ℕ) (h : ∀ a, off a + S512x1x128.size a ≤ S36864x8x128.size a) : Memref sig .tc .hbm S512x128 .f32 :=
  (xsM.slice (Rect.unit (s := S36864x8x128) off S512x1x128.size h) (fun _ => rfl)).squeeze S512x128 squeezes_S512x1x128_S512x128
/-- A column window of a scratch buffer, at the offsets `off`. -/
abbrev dstM (M : Memref sig .tc .vmem S512x1024 .f32) (off : Fin 2 → ℕ) (h : ∀ a, off a + S512x128.size a ≤ S512x1024.size a) :
    Memref sig .tc .vmem S512x128 .f32 :=
  M.slice (Rect.unit (s := S512x1024) off S512x128.size h) (fun _ => rfl)

/-- What a landed window holds: the slab, written whole over anything. -/
abbrev landed (c : Dev nD) (M : Memref sig .tc .vmem S512x1024 .f32) (o : Fin 2 → ℕ) (ho : ∀ a, o a + S512x128.size a ≤ S512x1024.size a)
    (off : Fin 3 → ℕ) (h : ∀ a, off a + S512x1x128.size a ≤ S36864x8x128.size a) (X : BufM (F := F) c xsM) :
    Buf (Elt F) ((dstM M o ho).view.loc (c : Thread nD τ)) :=
  (dstM M o ho).view.writes (Elt F) (dstM M o ho).view.junk [⟨Rect.whole S512x128, ReadAs.same.apply ((srcM off h).view.read (Elt F) X)⟩]

/-- One transfer's delivery: its window landed and its slab back. -/
abbrev dlv (c : Dev nD) (M : Memref sig .tc .vmem S512x1024 .f32) (o : Fin 2 → ℕ) (ho : ∀ a, o a + S512x128.size a ≤ S512x1024.size a)
    (off : Fin 3 → ℕ) (h : ∀ a, off a + S512x1x128.size a ≤ S36864x8x128.size a) (X : BufM (F := F) c xsM) : sProp 𝕄 :=
  iprop(((dstM M o ho).view.loc (c : Thread nD τ) ↦[(dstM M o ho).view.set]{fullShare} landed c M o ho off h X)
    ∗ ((srcM off h).view.loc (c : Thread nD τ) ↦[(srcM off h).view.set]{fullShare} X))

/-- The offsets of a block's eight slabs are in bounds. -/
abbrev InbS (off : Fin 8 → Fin 3 → ℕ) : Prop := ∀ k a, off k a + S512x1x128.size a ≤ S36864x8x128.size a

/-- A block's eight deliveries, in issue order. -/
def deliv (c : Dev nD) (M : Memref sig .tc .vmem S512x1024 .f32) (off : Fin 8 → Fin 3 → ℕ) (h : InbS off) (X : BufM (F := F) c xsM) : Fin 8 → sProp 𝕄
  | 0 => dlv c M ![0, 0] inb_S512x1024_S512x128_0_0 (off 0) (h 0) X
  | 1 => dlv c M ![0, 128] inb_S512x1024_S512x128_0_128 (off 1) (h 1) X
  | 2 => dlv c M ![0, 256] inb_S512x1024_S512x128_0_256 (off 2) (h 2) X
  | 3 => dlv c M ![0, 384] inb_S512x1024_S512x128_0_384 (off 3) (h 3) X
  | 4 => dlv c M ![0, 512] inb_S512x1024_S512x128_0_512 (off 4) (h 4) X
  | 5 => dlv c M ![0, 640] inb_S512x1024_S512x128_0_640 (off 5) (h 5) X
  | 6 => dlv c M ![0, 768] inb_S512x1024_S512x128_0_768 (off 6) (h 6) X
  | 7 => dlv c M ![0, 896] inb_S512x1024_S512x128_0_896 (off 7) (h 7) X

instance deliv_storable (c : Dev nD) (M : Memref sig .tc .vmem S512x1024 .f32) (off : Fin 8 → Fin 3 → ℕ) (h : InbS off) (X : BufM (F := F) c xsM)
    (t : Fin 8) : Storable (upEmb : UEmb _ 𝕄) (deliv c M off h X t) := by
  fin_cases t <;> simp only [deliv] <;> infer_instance

/-- The offsets of block `b`'s eight slabs. -/
abbrev offB (b : ℕ) : Fin 8 → Fin 3 → ℕ := fun k => ![512 * b, k.val, 0]
theorem inbB (b : ℕ) (hb : b < 72) : InbS (offB b) := by
  intro k a; have := k.isLt
  fin_cases a
  · show 512 * b + 512 ≤ 36864; omega
  · show k.val + 1 ≤ 8; omega
  · show 0 + 128 ≤ 128; omega

/-- A batch of eight slabs on cell `s` into the scratch `M`, `k` issued. -/
abbrev batch (c : Dev nD) (s : DmaSem sig) (M : Memref sig .tc .vmem S512x1024 .f32) (off : Fin 8 → Fin 3 → ℕ) (h : InbS off) (X : BufM (F := F) c xsM)
    (k : ℕ) : sProp 𝕄 :=
  Transfers.Batch (countersEmb (U := Pipeline.UD sig nD τ)) (c : Thread nD τ) (.dma s) () 8192 (deliv c M off h X) k 0

/-- The eight windows of a scratch buffer, each at some contents. -/
abbrev windows (c : Dev nD) (M : Memref sig .tc .vmem S512x1024 .f32) (f : BufM (F := F) c M) : sProp 𝕄 :=
  iprop(ownPt c (dstM M ![0, 0] inb_S512x1024_S512x128_0_0) f
    ∗ ownPt c (dstM M ![0, 128] inb_S512x1024_S512x128_0_128) f
    ∗ ownPt c (dstM M ![0, 256] inb_S512x1024_S512x128_0_256) f
    ∗ ownPt c (dstM M ![0, 384] inb_S512x1024_S512x128_0_384) f
    ∗ ownPt c (dstM M ![0, 512] inb_S512x1024_S512x128_0_512) f
    ∗ ownPt c (dstM M ![0, 640] inb_S512x1024_S512x128_0_640) f
    ∗ ownPt c (dstM M ![0, 768] inb_S512x1024_S512x128_0_768) f
    ∗ ownPt c (dstM M ![0, 896] inb_S512x1024_S512x128_0_896) f)

/-- The eight slabs of a block of the dispatched array. -/
abbrev slabs (c : Dev nD) (off : Fin 8 → Fin 3 → ℕ) (h : InbS off) (X : BufM (F := F) c xsM) : sProp 𝕄 :=
  iprop(ownPt c (srcM (off 0) (h 0)) X ∗ ownPt c (srcM (off 1) (h 1)) X ∗ ownPt c (srcM (off 2) (h 2)) X ∗ ownPt c (srcM (off 3) (h 3)) X
    ∗ ownPt c (srcM (off 4) (h 4)) X ∗ ownPt c (srcM (off 5) (h 5)) X ∗ ownPt c (srcM (off 6) (h 6)) X ∗ ownPt c (srcM (off 7) (h 7)) X)

end Cert.KernelIdeal.Hand

end
-- ==== Proof.Experts.Pieces.lean ====
/-
  Hand-written, untrusted. THE EIGHT PIECES: a block of the dispatched array is its eight slabs, a scratch buffer its eight
  column windows; eight landed windows are the buffer at the block's contents.
-/
module

public import proofs.«01_k».proof.Proof.Experts.Setup
public import Idealize.ShloMosaic.Lib.Pipeline.ValueKit
public import Idealize.ShloMosaic.Lib.ViewIndex
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-! ## The dispatched array -/

abbrev XIdx : Type := S36864x8x128.Idx
abbrev VIdx : Type := S512x1024.Idx

/-- Block `b` of the slots. -/
def blkSet (b : ℕ) : Finset XIdx := Finset.univ.filter fun y => (y 0).val / 512 = b
/-- Block `b`'s slab `k`. -/
def slabSet (b : ℕ) (k : Fin 8) : Finset XIdx := Finset.univ.filter fun y => (y 0).val / 512 = b ∧ (y 1).val = k.val

theorem mem_blkSet (b : ℕ) (y : XIdx) : y ∈ blkSet b ↔ (y 0).val / 512 = b := by simp [blkSet]
theorem mem_slabSet (b : ℕ) (k : Fin 8) (y : XIdx) : y ∈ slabSet b k ↔ (y 0).val / 512 = b ∧ (y 1).val = k.val := by simp [slabSet]

theorem slabSet_disjoint (b : ℕ) : ∀ k ∈ (Finset.univ : Finset (Fin 8)), ∀ k' ∈ (Finset.univ : Finset (Fin 8)), k ≠ k' → Disjoint (slabSet b k) (slabSet b k') := by
  intro k _ k' _ hne; rw [Finset.disjoint_left]; intro y hy hy'; rw [mem_slabSet] at hy hy'
  exact hne (Fin.ext (hy.2.symm.trans hy'.2))
theorem slabSet_cover (b : ℕ) : (Finset.univ : Finset (Fin 8)).biUnion (slabSet b) = blkSet b := by
  ext y; simp only [Finset.mem_biUnion, Finset.mem_univ, true_and, mem_slabSet, mem_blkSet]
  have h1 : (y 1).val < 8 := (y 1).isLt
  constructor
  · rintro ⟨k, h, -⟩; exact h
  · intro h; exact ⟨⟨(y 1).val, h1⟩, h, rfl⟩

theorem src_set (b : ℕ) (hb : b < 72) (k : Fin 8) : (srcM (offB b k) (inbB b hb k)).view.set = slabSet b k := by
  refine (View.set_reshape _ _).trans ((View.set_slice_whole _ _).trans ?_)
  ext y
  rw [Rect.mem_set_unit, mem_slabSet]
  have h2 : (y 2).val < 128 := (y 2).isLt
  constructor
  · intro H
    have a0 : 512 * b ≤ (y 0).val ∧ (y 0).val < 512 * b + 512 := H 0
    have a1 : k.val ≤ (y 1).val ∧ (y 1).val < k.val + 1 := H 1
    omega
  · rintro ⟨e0, e1⟩ a; fin_cases a
    · show 512 * b ≤ (y 0).val ∧ (y 0).val < 512 * b + 512; omega
    · show k.val ≤ (y 1).val ∧ (y 1).val < k.val + 1; omega
    · show 0 ≤ (y 2).val ∧ (y 2).val < 0 + 128; omega

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- A block of the array is its eight slabs. -/
theorem blk_slabs (c : Dev nD) (b : ℕ) (hb : b < 72) (X : BufM (F := F) c xsM) :
    (xsM.view.loc (c : Thread nD τ) ↦[blkSet b]{fullShare} X : sProp 𝕄) = slabs c (offB b) (inbB b hb) X := by
  rw [← slabSet_cover b, pointsTo_biUnion _ _ (slabSet_disjoint b), bigSep_fin8]
  unfold slabs ownPt
  simp only [src_set b hb]

/-- The array without block `b`, cut off a set that holds it. -/
theorem cut_blk (c : Dev nD) (S : Finset XIdx) (b : ℕ) (hb : b < 72) (hS : blkSet b ⊆ S) (X : BufM (F := F) c xsM) :
    (xsM.view.loc (c : Thread nD τ) ↦[S]{fullShare} X : sProp 𝕄)
      ⊣⊢ iprop(slabs c (offB b) (inbB b hb) X ∗ (xsM.view.loc (c : Thread nD τ) ↦[S \ blkSet b]{fullShare} X)) := by
  rw [← blk_slabs c b hb X]; exact pointsTo_split_subset hS

/-! ## A scratch buffer -/

/-- Column window `k`. -/
def colSet (k : Fin 8) : Finset VIdx := Finset.univ.filter fun y => (y 1).val / 128 = k.val
theorem mem_colSet (k : Fin 8) (y : VIdx) : y ∈ colSet k ↔ (y 1).val / 128 = k.val := by simp [colSet]
theorem colSet_disjoint : ∀ k ∈ (Finset.univ : Finset (Fin 8)), ∀ k' ∈ (Finset.univ : Finset (Fin 8)), k ≠ k' → Disjoint (colSet k) (colSet k') := by
  intro k _ k' _ hne; rw [Finset.disjoint_left]; intro y hy hy'; rw [mem_colSet] at hy hy'
  exact hne (Fin.ext (hy.symm.trans hy'))
theorem colSet_cover : (Finset.univ : Finset (Fin 8)).biUnion colSet = Finset.univ := by
  ext y; simp only [Finset.mem_biUnion, Finset.mem_univ, true_and, mem_colSet, iff_true]
  have h1 : (y 1).val < 1024 := (y 1).isLt
  exact ⟨⟨(y 1).val / 128, by omega⟩, rfl⟩

theorem col_rect (k : Fin 8) (o : Fin 2 → ℕ) (ho : ∀ a, o a + S512x128.size a ≤ S512x1024.size a) (h : o = ![0, 128 * k.val]) :
    (Rect.unit (s := S512x1024) o S512x128.size ho).set = colSet k := by
  subst h
  ext y
  rw [Rect.mem_set_unit, mem_colSet]
  have h0 : (y 0).val < 512 := (y 0).isLt
  constructor
  · intro H
    have a1 : 128 * k.val ≤ (y 1).val ∧ (y 1).val < 128 * k.val + 128 := H 1
    omega
  · intro e a; fin_cases a
    · show 0 ≤ (y 0).val ∧ (y 0).val < 0 + 512; omega
    · show 128 * k.val ≤ (y 1).val ∧ (y 1).val < 128 * k.val + 128; omega

theorem dst_set_a (k : Fin 8) (o : Fin 2 → ℕ) (ho) (h : o = ![0, 128 * k.val]) : (dstM xaM o ho).view.set = colSet k :=
  (View.set_slice_whole _ _).trans (col_rect k o ho h)
theorem dst_set_b (k : Fin 8) (o : Fin 2 → ℕ) (ho) (h : o = ![0, 128 * k.val]) : (dstM xbM o ho).view.set = colSet k :=
  (View.set_slice_whole _ _).trans (col_rect k o ho h)

theorem own_col_a (c : Dev nD) (f : BufM (F := F) c xaM) (k : Fin 8) (o : Fin 2 → ℕ) (ho) (h : o = ![0, 128 * k.val]) :
    (xaM.view.loc (c : Thread nD τ) ↦[colSet k]{fullShare} f : sProp 𝕄) = ownPt c (dstM xaM o ho) f :=
  congrArg (fun S : Finset VIdx => (xaM.view.loc (c : Thread nD τ) ↦[S]{fullShare} f : sProp 𝕄)) (dst_set_a k o ho h).symm
theorem whole_windows_a (c : Dev nD) (f : BufM (F := F) c xaM) : (wholePt c xaM f : sProp 𝕄) = windows c xaM f := by
  show (xaM.view.loc (c : Thread nD τ) ↦[Finset.univ]{fullShare} f : sProp 𝕄) = _
  rw [← colSet_cover, pointsTo_biUnion _ _ colSet_disjoint, bigSep_fin8]
  unfold windows
  rw [own_col_a c f 0 _ inb_S512x1024_S512x128_0_0 rfl, own_col_a c f 1 _ inb_S512x1024_S512x128_0_128 rfl,
    own_col_a c f 2 _ inb_S512x1024_S512x128_0_256 rfl, own_col_a c f 3 _ inb_S512x1024_S512x128_0_384 rfl,
    own_col_a c f 4 _ inb_S512x1024_S512x128_0_512 rfl, own_col_a c f 5 _ inb_S512x1024_S512x128_0_640 rfl,
    own_col_a c f 6 _ inb_S512x1024_S512x128_0_768 rfl, own_col_a c f 7 _ inb_S512x1024_S512x128_0_896 rfl]
theorem own_col_b (c : Dev nD) (f : BufM (F := F) c xbM) (k : Fin 8) (o : Fin 2 → ℕ) (ho) (h : o = ![0, 128 * k.val]) :
    (xbM.view.loc (c : Thread nD τ) ↦[colSet k]{fullShare} f : sProp 𝕄) = ownPt c (dstM xbM o ho) f :=
  congrArg (fun S : Finset VIdx => (xbM.view.loc (c : Thread nD τ) ↦[S]{fullShare} f : sProp 𝕄)) (dst_set_b k o ho h).symm
theorem whole_windows_b (c : Dev nD) (f : BufM (F := F) c xbM) : (wholePt c xbM f : sProp 𝕄) = windows c xbM f := by
  show (xbM.view.loc (c : Thread nD τ) ↦[Finset.univ]{fullShare} f : sProp 𝕄) = _
  rw [← colSet_cover, pointsTo_biUnion _ _ colSet_disjoint, bigSep_fin8]
  unfold windows
  rw [own_col_b c f 0 _ inb_S512x1024_S512x128_0_0 rfl, own_col_b c f 1 _ inb_S512x1024_S512x128_0_128 rfl,
    own_col_b c f 2 _ inb_S512x1024_S512x128_0_256 rfl, own_col_b c f 3 _ inb_S512x1024_S512x128_0_384 rfl,
    own_col_b c f 4 _ inb_S512x1024_S512x128_0_512 rfl, own_col_b c f 5 _ inb_S512x1024_S512x128_0_640 rfl,
    own_col_b c f 6 _ inb_S512x1024_S512x128_0_768 rfl, own_col_b c f 7 _ inb_S512x1024_S512x128_0_896 rfl]

/-! ## The landed block -/

/-- The place in the dispatched array of block `b`'s slot `y 0`, channel `y 1`. -/
def xAt (b : ℕ) (hb : b < 72) (y : VIdx) : XIdx := fun a => match a with
  | 0 => ⟨512 * b + (y 0).val, by have := (y 0).isLt; show _ < 36864; have : (y 0).val < 512 := (y 0).isLt; omega⟩
  | 1 => ⟨(y 1).val / 128, by show _ < 8; have : (y 1).val < 1024 := (y 1).isLt; omega⟩
  | 2 => ⟨(y 1).val % 128, by show _ < 128; omega⟩

/-- Block `b` of the dispatched array as a scratch buffer's contents. -/
def blk (b : ℕ) (hb : b < 72) (X : XIdx → Elt F .f32) : VIdx → Elt F .f32 := fun y => X (xAt b hb y)

theorem src_emb (b : ℕ) (hb : b < 72) (k : Fin 8) (x : S512x128.Idx) (y : VIdx) (h0 : (y 0).val = (x 0).val) (h1 : (y 1).val = 128 * k.val + (x 1).val) :
    (srcM (offB b k) (inbB b hb k)).view.emb x = xAt b hb y := by
  have hx0 : (x 0).val < 512 := (x 0).isLt
  have hx1 : (x 1).val < 128 := (x 1).isLt
  let z : S512x1x128.Idx := fun a => match a with | 0 => x 0 | 1 => ⟨0, by decide⟩ | 2 => x 1
  have hz : Shape.reshapeEquiv (s := S512x1x128) (s' := S512x128) squeezes_S512x1x128_S512x128.numel_eq x = z := by
    refine Shape.reshapeEquiv_eq_of_vals _ x z _ _ (rowMajor_val3 z _ _ rfl rfl) (rowMajor_val2 x _ rfl) ?_
    show (x 0).val * (1 * 128) + 0 * 128 + (x 1).val = (x 0).val * 128 + (x 1).val
    omega
  show (Rect.unit (s := S36864x8x128) (offB b k) S512x1x128.size (inbB b hb k)).emb (Shape.reshapeEquiv squeezes_S512x1x128_S512x128.numel_eq x) = _
  rw [hz]
  funext a
  apply Fin.ext
  rw [ValueKit.rect_emb_unit_val]
  fin_cases a
  · show 512 * b + (x 0).val = 512 * b + (y 0).val; omega
  · show k.val + 0 = (y 1).val / 128; omega
  · show 0 + (x 1).val = (y 1).val % 128; omega

theorem landed_eq_a (c : Dev nD) (k : Fin 8) (o : Fin 2 → ℕ) (ho) (h : o = ![0, 128 * k.val]) (b : ℕ) (hb : b < 72) (X : BufM (F := F) c xsM) :
    ((dstM xaM o ho).view.loc (c : Thread nD τ) ↦[(dstM xaM o ho).view.set]{fullShare} landed c xaM o ho (offB b k) (inbB b hb k) X : sProp 𝕄)
      = ownPt c (dstM xaM o ho) (blk b hb X : BufM (F := F) c xaM) := by
  refine pointsTo_congr fun i hi => ?_
  obtain ⟨x, -, rfl⟩ := Finset.mem_map.mp hi
  refine View.eq_of_read_eq ((congrFun (View.read_writes_whole _ _ _) x).trans ?_)
  show X ((srcM (offB b k) (inbB b hb k)).view.emb x) = X (xAt b hb ((dstM xaM o ho).view.emb x))
  rw [src_emb b hb k x ((dstM xaM o ho).view.emb x)]
  · subst h; exact (ValueKit.rect_emb_unit_val _ _ _ _ _).trans (Nat.zero_add _)
  · subst h; exact ValueKit.rect_emb_unit_val _ _ _ _ _

theorem landed_eq_b (c : Dev nD) (k : Fin 8) (o : Fin 2 → ℕ) (ho) (h : o = ![0, 128 * k.val]) (b : ℕ) (hb : b < 72) (X : BufM (F := F) c xsM) :
    ((dstM xbM o ho).view.loc (c : Thread nD τ) ↦[(dstM xbM o ho).view.set]{fullShare} landed c xbM o ho (offB b k) (inbB b hb k) X : sProp 𝕄)
      = ownPt c (dstM xbM o ho) (blk b hb X : BufM (F := F) c xbM) := by
  refine pointsTo_congr fun i hi => ?_
  obtain ⟨x, -, rfl⟩ := Finset.mem_map.mp hi
  refine View.eq_of_read_eq ((congrFun (View.read_writes_whole _ _ _) x).trans ?_)
  show X ((srcM (offB b k) (inbB b hb k)).view.emb x) = X (xAt b hb ((dstM xbM o ho).view.emb x))
  rw [src_emb b hb k x ((dstM xbM o ho).view.emb x)]
  · subst h; exact (ValueKit.rect_emb_unit_val _ _ _ _ _).trans (Nat.zero_add _)
  · subst h; exact ValueKit.rect_emb_unit_val _ _ _ _ _

/-- The eight landed windows are the buffer at the block. -/
theorem landed_whole_a (c : Dev nD) (b : ℕ) (hb : b < 72) (X : BufM (F := F) c xsM) :
    iprop(((dstM xaM ![0, 0] inb_S512x1024_S512x128_0_0).view.loc (c : Thread nD τ) ↦[(dstM xaM ![0, 0] inb_S512x1024_S512x128_0_0).view.set]{fullShare} landed c xaM ![0, 0] inb_S512x1024_S512x128_0_0 (offB b 0) (inbB b hb 0) X)
      ∗ ((dstM xaM ![0, 128] inb_S512x1024_S512x128_0_128).view.loc (c : Thread nD τ) ↦[(dstM xaM ![0, 128] inb_S512x1024_S512x128_0_128).view.set]{fullShare} landed c xaM ![0, 128] inb_S512x1024_S512x128_0_128 (offB b 1) (inbB b hb 1) X)
      ∗ ((dstM xaM ![0, 256] inb_S512x1024_S512x128_0_256).view.loc (c : Thread nD τ) ↦[(dstM xaM ![0, 256] inb_S512x1024_S512x128_0_256).view.set]{fullShare} landed c xaM ![0, 256] inb_S512x1024_S512x128_0_256 (offB b 2) (inbB b hb 2) X)
      ∗ ((dstM xaM ![0, 384] inb_S512x1024_S512x128_0_384).view.loc (c : Thread nD τ) ↦[(dstM xaM ![0, 384] inb_S512x1024_S512x128_0_384).view.set]{fullShare} landed c xaM ![0, 384] inb_S512x1024_S512x128_0_384 (offB b 3) (inbB b hb 3) X)
      ∗ ((dstM xaM ![0, 512] inb_S512x1024_S512x128_0_512).view.loc (c : Thread nD τ) ↦[(dstM xaM ![0, 512] inb_S512x1024_S512x128_0_512).view.set]{fullShare} landed c xaM ![0, 512] inb_S512x1024_S512x128_0_512 (offB b 4) (inbB b hb 4) X)
      ∗ ((dstM xaM ![0, 640] inb_S512x1024_S512x128_0_640).view.loc (c : Thread nD τ) ↦[(dstM xaM ![0, 640] inb_S512x1024_S512x128_0_640).view.set]{fullShare} landed c xaM ![0, 640] inb_S512x1024_S512x128_0_640 (offB b 5) (inbB b hb 5) X)
      ∗ ((dstM xaM ![0, 768] inb_S512x1024_S512x128_0_768).view.loc (c : Thread nD τ) ↦[(dstM xaM ![0, 768] inb_S512x1024_S512x128_0_768).view.set]{fullShare} landed c xaM ![0, 768] inb_S512x1024_S512x128_0_768 (offB b 6) (inbB b hb 6) X)
      ∗ ((dstM xaM ![0, 896] inb_S512x1024_S512x128_0_896).view.loc (c : Thread nD τ) ↦[(dstM xaM ![0, 896] inb_S512x1024_S512x128_0_896).view.set]{fullShare} landed c xaM ![0, 896] inb_S512x1024_S512x128_0_896 (offB b 7) (inbB b hb 7) X))
      = (wholePt c xaM (blk b hb X : BufM (F := F) c xaM) : sProp 𝕄) := by
  rw [whole_windows_a]
  unfold windows
  rw [← landed_eq_a c 0 _ inb_S512x1024_S512x128_0_0 rfl b hb X,
    ← landed_eq_a c 1 _ inb_S512x1024_S512x128_0_128 rfl b hb X,
    ← landed_eq_a c 2 _ inb_S512x1024_S512x128_0_256 rfl b hb X,
    ← landed_eq_a c 3 _ inb_S512x1024_S512x128_0_384 rfl b hb X,
    ← landed_eq_a c 4 _ inb_S512x1024_S512x128_0_512 rfl b hb X,
    ← landed_eq_a c 5 _ inb_S512x1024_S512x128_0_640 rfl b hb X,
    ← landed_eq_a c 6 _ inb_S512x1024_S512x128_0_768 rfl b hb X,
    ← landed_eq_a c 7 _ inb_S512x1024_S512x128_0_896 rfl b hb X]
/-- The eight landed windows are the buffer at the block. -/
theorem landed_whole_b (c : Dev nD) (b : ℕ) (hb : b < 72) (X : BufM (F := F) c xsM) :
    iprop(((dstM xbM ![0, 0] inb_S512x1024_S512x128_0_0).view.loc (c : Thread nD τ) ↦[(dstM xbM ![0, 0] inb_S512x1024_S512x128_0_0).view.set]{fullShare} landed c xbM ![0, 0] inb_S512x1024_S512x128_0_0 (offB b 0) (inbB b hb 0) X)
      ∗ ((dstM xbM ![0, 128] inb_S512x1024_S512x128_0_128).view.loc (c : Thread nD τ) ↦[(dstM xbM ![0, 128] inb_S512x1024_S512x128_0_128).view.set]{fullShare} landed c xbM ![0, 128] inb_S512x1024_S512x128_0_128 (offB b 1) (inbB b hb 1) X)
      ∗ ((dstM xbM ![0, 256] inb_S512x1024_S512x128_0_256).view.loc (c : Thread nD τ) ↦[(dstM xbM ![0, 256] inb_S512x1024_S512x128_0_256).view.set]{fullShare} landed c xbM ![0, 256] inb_S512x1024_S512x128_0_256 (offB b 2) (inbB b hb 2) X)
      ∗ ((dstM xbM ![0, 384] inb_S512x1024_S512x128_0_384).view.loc (c : Thread nD τ) ↦[(dstM xbM ![0, 384] inb_S512x1024_S512x128_0_384).view.set]{fullShare} landed c xbM ![0, 384] inb_S512x1024_S512x128_0_384 (offB b 3) (inbB b hb 3) X)
      ∗ ((dstM xbM ![0, 512] inb_S512x1024_S512x128_0_512).view.loc (c : Thread nD τ) ↦[(dstM xbM ![0, 512] inb_S512x1024_S512x128_0_512).view.set]{fullShare} landed c xbM ![0, 512] inb_S512x1024_S512x128_0_512 (offB b 4) (inbB b hb 4) X)
      ∗ ((dstM xbM ![0, 640] inb_S512x1024_S512x128_0_640).view.loc (c : Thread nD τ) ↦[(dstM xbM ![0, 640] inb_S512x1024_S512x128_0_640).view.set]{fullShare} landed c xbM ![0, 640] inb_S512x1024_S512x128_0_640 (offB b 5) (inbB b hb 5) X)
      ∗ ((dstM xbM ![0, 768] inb_S512x1024_S512x128_0_768).view.loc (c : Thread nD τ) ↦[(dstM xbM ![0, 768] inb_S512x1024_S512x128_0_768).view.set]{fullShare} landed c xbM ![0, 768] inb_S512x1024_S512x128_0_768 (offB b 6) (inbB b hb 6) X)
      ∗ ((dstM xbM ![0, 896] inb_S512x1024_S512x128_0_896).view.loc (c : Thread nD τ) ↦[(dstM xbM ![0, 896] inb_S512x1024_S512x128_0_896).view.set]{fullShare} landed c xbM ![0, 896] inb_S512x1024_S512x128_0_896 (offB b 7) (inbB b hb 7) X))
      = (wholePt c xbM (blk b hb X : BufM (F := F) c xbM) : sProp 𝕄) := by
  rw [whole_windows_b]
  unfold windows
  rw [← landed_eq_b c 0 _ inb_S512x1024_S512x128_0_0 rfl b hb X,
    ← landed_eq_b c 1 _ inb_S512x1024_S512x128_0_128 rfl b hb X,
    ← landed_eq_b c 2 _ inb_S512x1024_S512x128_0_256 rfl b hb X,
    ← landed_eq_b c 3 _ inb_S512x1024_S512x128_0_384 rfl b hb X,
    ← landed_eq_b c 4 _ inb_S512x1024_S512x128_0_512 rfl b hb X,
    ← landed_eq_b c 5 _ inb_S512x1024_S512x128_0_640 rfl b hb X,
    ← landed_eq_b c 6 _ inb_S512x1024_S512x128_0_768 rfl b hb X,
    ← landed_eq_b c 7 _ inb_S512x1024_S512x128_0_896 rfl b hb X]
/-- The same, the block's offsets under another name. -/
theorem landed_whole_a' (c : Dev nD) (b : ℕ) (hb : b < 72) (off : Fin 8 → Fin 3 → ℕ) (h : InbS off) (e : off = offB b) (X : BufM (F := F) c xsM) :
    iprop(((dstM xaM ![0, 0] inb_S512x1024_S512x128_0_0).view.loc (c : Thread nD τ) ↦[(dstM xaM ![0, 0] inb_S512x1024_S512x128_0_0).view.set]{fullShare} landed c xaM ![0, 0] inb_S512x1024_S512x128_0_0 (off 0) (h 0) X)
      ∗ ((dstM xaM ![0, 128] inb_S512x1024_S512x128_0_128).view.loc (c : Thread nD τ) ↦[(dstM xaM ![0, 128] inb_S512x1024_S512x128_0_128).view.set]{fullShare} landed c xaM ![0, 128] inb_S512x1024_S512x128_0_128 (off 1) (h 1) X)
      ∗ ((dstM xaM ![0, 256] inb_S512x1024_S512x128_0_256).view.loc (c : Thread nD τ) ↦[(dstM xaM ![0, 256] inb_S512x1024_S512x128_0_256).view.set]{fullShare} landed c xaM ![0, 256] inb_S512x1024_S512x128_0_256 (off 2) (h 2) X)
      ∗ ((dstM xaM ![0, 384] inb_S512x1024_S512x128_0_384).view.loc (c : Thread nD τ) ↦[(dstM xaM ![0, 384] inb_S512x1024_S512x128_0_384).view.set]{fullShare} landed c xaM ![0, 384] inb_S512x1024_S512x128_0_384 (off 3) (h 3) X)
      ∗ ((dstM xaM ![0, 512] inb_S512x1024_S512x128_0_512).view.loc (c : Thread nD τ) ↦[(dstM xaM ![0, 512] inb_S512x1024_S512x128_0_512).view.set]{fullShare} landed c xaM ![0, 512] inb_S512x1024_S512x128_0_512 (off 4) (h 4) X)
      ∗ ((dstM xaM ![0, 640] inb_S512x1024_S512x128_0_640).view.loc (c : Thread nD τ) ↦[(dstM xaM ![0, 640] inb_S512x1024_S512x128_0_640).view.set]{fullShare} landed c xaM ![0, 640] inb_S512x1024_S512x128_0_640 (off 5) (h 5) X)
      ∗ ((dstM xaM ![0, 768] inb_S512x1024_S512x128_0_768).view.loc (c : Thread nD τ) ↦[(dstM xaM ![0, 768] inb_S512x1024_S512x128_0_768).view.set]{fullShare} landed c xaM ![0, 768] inb_S512x1024_S512x128_0_768 (off 6) (h 6) X)
      ∗ ((dstM xaM ![0, 896] inb_S512x1024_S512x128_0_896).view.loc (c : Thread nD τ) ↦[(dstM xaM ![0, 896] inb_S512x1024_S512x128_0_896).view.set]{fullShare} landed c xaM ![0, 896] inb_S512x1024_S512x128_0_896 (off 7) (h 7) X))
      = (wholePt c xaM (blk b hb X : BufM (F := F) c xaM) : sProp 𝕄) := by
  subst e; exact landed_whole_a c b hb X
/-- The same, the block's offsets under another name. -/
theorem landed_whole_b' (c : Dev nD) (b : ℕ) (hb : b < 72) (off : Fin 8 → Fin 3 → ℕ) (h : InbS off) (e : off = offB b) (X : BufM (F := F) c xsM) :
    iprop(((dstM xbM ![0, 0] inb_S512x1024_S512x128_0_0).view.loc (c : Thread nD τ) ↦[(dstM xbM ![0, 0] inb_S512x1024_S512x128_0_0).view.set]{fullShare} landed c xbM ![0, 0] inb_S512x1024_S512x128_0_0 (off 0) (h 0) X)
      ∗ ((dstM xbM ![0, 128] inb_S512x1024_S512x128_0_128).view.loc (c : Thread nD τ) ↦[(dstM xbM ![0, 128] inb_S512x1024_S512x128_0_128).view.set]{fullShare} landed c xbM ![0, 128] inb_S512x1024_S512x128_0_128 (off 1) (h 1) X)
      ∗ ((dstM xbM ![0, 256] inb_S512x1024_S512x128_0_256).view.loc (c : Thread nD τ) ↦[(dstM xbM ![0, 256] inb_S512x1024_S512x128_0_256).view.set]{fullShare} landed c xbM ![0, 256] inb_S512x1024_S512x128_0_256 (off 2) (h 2) X)
      ∗ ((dstM xbM ![0, 384] inb_S512x1024_S512x128_0_384).view.loc (c : Thread nD τ) ↦[(dstM xbM ![0, 384] inb_S512x1024_S512x128_0_384).view.set]{fullShare} landed c xbM ![0, 384] inb_S512x1024_S512x128_0_384 (off 3) (h 3) X)
      ∗ ((dstM xbM ![0, 512] inb_S512x1024_S512x128_0_512).view.loc (c : Thread nD τ) ↦[(dstM xbM ![0, 512] inb_S512x1024_S512x128_0_512).view.set]{fullShare} landed c xbM ![0, 512] inb_S512x1024_S512x128_0_512 (off 4) (h 4) X)
      ∗ ((dstM xbM ![0, 640] inb_S512x1024_S512x128_0_640).view.loc (c : Thread nD τ) ↦[(dstM xbM ![0, 640] inb_S512x1024_S512x128_0_640).view.set]{fullShare} landed c xbM ![0, 640] inb_S512x1024_S512x128_0_640 (off 5) (h 5) X)
      ∗ ((dstM xbM ![0, 768] inb_S512x1024_S512x128_0_768).view.loc (c : Thread nD τ) ↦[(dstM xbM ![0, 768] inb_S512x1024_S512x128_0_768).view.set]{fullShare} landed c xbM ![0, 768] inb_S512x1024_S512x128_0_768 (off 6) (h 6) X)
      ∗ ((dstM xbM ![0, 896] inb_S512x1024_S512x128_0_896).view.loc (c : Thread nD τ) ↦[(dstM xbM ![0, 896] inb_S512x1024_S512x128_0_896).view.set]{fullShare} landed c xbM ![0, 896] inb_S512x1024_S512x128_0_896 (off 7) (h 7) X))
      = (wholePt c xbM (blk b hb X : BufM (F := F) c xbM) : sProp 𝕄) := by
  subst e; exact landed_whole_b c b hb X
end Cert.KernelIdeal.Hand

end
-- ==== Proof.Experts.Reads.lean ====
/-
  Hand-written, untrusted. WHAT THE BODY READS AND WRITES: a window of an expert's weights as a plain function of the weights,
  a scratch buffer read whole, a block written whole, and the block the body leaves in its output.
-/
module

public import proofs.«01_k».proof.Proof.Experts.Pieces
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- Columns `o …` of the first `n`-column window of an expert's input weights. -/
def inCols (n o : ℕ) (h : o + n ≤ 5632) (w : S1x1024x5632.Idx → Elt F .bf16) : (⟨2, ![1024, n]⟩ : Shape).Idx → Elt F .bf16 :=
  fun y => w (ValueIdx.ix3 (⟨0, Nat.one_pos⟩ : Fin 1) (y 0 : Fin 1024) (⟨o + (y 1 : Fin n).val, by have h1 : (y 1 : Fin n).val < n := (y 1 : Fin n).isLt; omega⟩ : Fin 5632))
/-- Rows `o …` of an expert's output weights. -/
def outRows (n o : ℕ) (h : o + n ≤ 2816) (w : S1x2816x1024.Idx → Elt F .bf16) : (⟨2, ![n, 1024]⟩ : Shape).Idx → Elt F .bf16 :=
  fun y => w (ValueIdx.ix3 (⟨0, Nat.one_pos⟩ : Fin 1) (⟨o + (y 0 : Fin n).val, by have h1 : (y 0 : Fin n).val < n := (y 0 : Fin n).isLt; omega⟩ : Fin 2816) (y 1 : Fin 1024))

theorem read_inCols (M : Memref sig .tc .vmem S1x1024x5632 .bf16) (n o : ℕ) (h : o + n ≤ 5632) (hs)
    (inb : ∀ a, (![0, o] : Fin 2 → ℕ) a + (![1024, n] : Fin 2 → ℕ) a ≤ S1024x5632.size a) (f : M.view.ty.Contents (Elt F)) :
    View.readAt (Elt F) ((M.slice (Rect.unit (s := S1x1024x5632) ![0, 0, 0] S1x1024x5632.size inb_S1x1024x5632_S1x1024x5632_0_0_0) hs).squeeze S1024x5632 squeezes_S1x1024x5632_S1024x5632).view
      (Rect.unit (s := S1024x5632) ![0, o] ![1024, n] inb).toLoadRect f = inCols n o h (M.view.read (Elt F) f) := by
  funext y
  have hy0 : (y 0).val < 1024 := (y 0).isLt
  have hy1 : (y 1).val < n := (y 1).isLt
  let z : S1024x5632.Idx := ValueIdx.ix2 (⟨(y 0).val, hy0⟩ : Fin 1024) (⟨o + (y 1).val, by omega⟩ : Fin 5632)
  have hz : (Rect.unit (s := S1024x5632) ![0, o] ![1024, n] inb).emb y = z := by
    funext a; apply Fin.ext; rw [ValueKit.rect_emb_unit_val]
    fin_cases a
    · show 0 + (y 0).val = (y 0).val; omega
    · rfl
  show M.view.read (Elt F) f ((Rect.unit (s := S1x1024x5632) ![0, 0, 0] S1x1024x5632.size inb_S1x1024x5632_S1x1024x5632_0_0_0).emb
    (Shape.reshapeEquiv squeezes_S1x1024x5632_S1024x5632.numel_eq ((Rect.unit (s := S1024x5632) ![0, o] ![1024, n] inb).emb y))) = _
  rw [hz, show Shape.reshapeEquiv squeezes_S1x1024x5632_S1024x5632.numel_eq z = _ from ValueIdx.reshapeEquiv_ix2_1ab _ _ _]
  refine congrArg (M.view.read (Elt F) f) ?_
  funext a; apply Fin.ext; rw [ValueKit.rect_emb_unit_val]
  fin_cases a
  · rfl
  · show 0 + (y 0).val = (y 0).val; omega
  · show 0 + (o + (y 1).val) = o + (y 1).val; omega

theorem read_outRows (M : Memref sig .tc .vmem S1x2816x1024 .bf16) (n o : ℕ) (h : o + n ≤ 2816) (hs)
    (inb : ∀ a, (![o, 0] : Fin 2 → ℕ) a + (![n, 1024] : Fin 2 → ℕ) a ≤ S2816x1024.size a) (f : M.view.ty.Contents (Elt F)) :
    View.readAt (Elt F) ((M.slice (Rect.unit (s := S1x2816x1024) ![0, 0, 0] S1x2816x1024.size inb_S1x2816x1024_S1x2816x1024_0_0_0) hs).squeeze S2816x1024 squeezes_S1x2816x1024_S2816x1024).view
      (Rect.unit (s := S2816x1024) ![o, 0] ![n, 1024] inb).toLoadRect f = outRows n o h (M.view.read (Elt F) f) := by
  funext y
  have hy0 : (y 0).val < n := (y 0).isLt
  have hy1 : (y 1).val < 1024 := (y 1).isLt
  let z : S2816x1024.Idx := ValueIdx.ix2 (⟨o + (y 0).val, by omega⟩ : Fin 2816) (⟨(y 1).val, hy1⟩ : Fin 1024)
  have hz : (Rect.unit (s := S2816x1024) ![o, 0] ![n, 1024] inb).emb y = z := by
    funext a; apply Fin.ext; rw [ValueKit.rect_emb_unit_val]
    fin_cases a
    · rfl
    · show 0 + (y 1).val = (y 1).val; omega
  show M.view.read (Elt F) f ((Rect.unit (s := S1x2816x1024) ![0, 0, 0] S1x2816x1024.size inb_S1x2816x1024_S1x2816x1024_0_0_0).emb
    (Shape.reshapeEquiv squeezes_S1x2816x1024_S2816x1024.numel_eq ((Rect.unit (s := S2816x1024) ![o, 0] ![n, 1024] inb).emb y))) = _
  rw [hz, show Shape.reshapeEquiv squeezes_S1x2816x1024_S2816x1024.numel_eq z = _ from ValueIdx.reshapeEquiv_ix2_1ab _ _ _]
  refine congrArg (M.view.read (Elt F) f) ?_
  funext a; apply Fin.ext; rw [ValueKit.rect_emb_unit_val]
  fin_cases a
  · rfl
  · show 0 + (o + (y 0).val) = o + (y 0).val; omega
  · show 0 + (y 1).val = (y 1).val; omega

theorem unit0_emb (y : S512x1024.Idx) : (Rect.unit (s := S512x1024) ![0, 0] S512x1024.size inb_S512x1024_S512x1024_0_0).emb y = y := by
  funext a; apply Fin.ext; rw [ValueKit.rect_emb_unit_val]
  fin_cases a
  · show 0 + (y 0).val = (y 0).val; omega
  · show 0 + (y 1).val = (y 1).val; omega

/-- A scratch buffer read whole. -/
theorem read_xa (f : VIdx → Elt F .f32) :
    View.readAt (Elt F) xaM.view (Rect.unit (s := S512x1024) ![0, 0] S512x1024.size inb_S512x1024_S512x1024_0_0).toLoadRect f = f := by
  funext y; show f ((Rect.unit (s := S512x1024) ![0, 0] S512x1024.size inb_S512x1024_S512x1024_0_0).emb y) = f y
  rw [unit0_emb]
theorem read_xb (f : VIdx → Elt F .f32) :
    View.readAt (Elt F) xbM.view (Rect.unit (s := S512x1024) ![0, 0] S512x1024.size inb_S512x1024_S512x1024_0_0).toLoadRect f = f := by
  funext y; show f ((Rect.unit (s := S512x1024) ![0, 0] S512x1024.size inb_S512x1024_S512x1024_0_0).emb y) = f y
  rw [unit0_emb]

/-- A block written whole reads as what was written. -/
theorem read_written (M : Memref sig .tc .vmem S512x1024 .f32) (f : M.view.ty.Contents (Elt F)) (w : S512x1024.Idx → Elt F .f32) (L : List (View.Piece (Elt F) S512x1024 .f32)) :
    M.view.read (Elt F) (M.view.writes (Elt F) f (⟨Rect.unit (s := S512x1024) ![0, 0] S512x1024.size inb_S512x1024_S512x1024_0_0, w⟩ :: L)) = w := by
  funext y
  have h := View.read_writes_cons_emb M.view f (Rect.unit (s := S512x1024) ![0, 0] S512x1024.size inb_S512x1024_S512x1024_0_0) w L y
  rw [unit0_emb] at h
  exact h

/-- The number of used blocks, as the body reads it off its table. -/
def nuOf (T : S1.Idx → Elt F .i32) : BitVec 32 := T (ValueIdx.ix1 (0 : Fin 1))

theorem read_nu (T : S1.Idx → Elt F .i32) :
    View.readAt (Elt F) tbM2.view (Rect.unit (s := S1) ![0] S1.size inb_S1_S1_0).toLoadRect T (Shape.Idx.first (by show 0 < S1.numel; rw [numel1_S1]; exact Nat.one_pos)) = nuOf T := by
  show T _ = T _
  refine congrArg T ?_
  funext a; fin_cases a; exact Subsingleton.elim (α := Fin 1) _ _

/-- The block the body leaves in its output at a point: the feed-forward of the slots by the expert's weights while blocks are
    used, zeros past them. -/
def outVal (i : grid0.Coords) (nu : BitVec 32) (x : VIdx → Elt F .f32) (w4 : S1x1024x5632.Idx → Elt F .bf16) (w5 : S1x2816x1024.Idx → Elt F .bf16) :
    VIdx → Elt F .f32 :=
  if k0_cond4 i nu = 1#1 then
    k0_pay1 (k0_pay5 x) (k0_pay6 x (inCols 1536 0 (by decide) w4) (inCols 1536 2816 (by decide) w4) (outRows 1536 0 (by decide) w5))
      (k0_pay7 x (inCols 1280 1536 (by decide) w4)) (inCols 1280 4352 (by decide) w4) (outRows 1280 1536 (by decide) w5)
  else k0_pay2

/-- The two branches of a step exclude each other and leave nothing out. -/
theorem cond5_iff (i : grid0.Coords) (nu : BitVec 32) : k0_cond5 i nu = 1#1 ↔ ¬ k0_cond4 i nu = 1#1 := by
  have key : ∀ b : BitVec 1, Scalar.cmpi .ne (Scalar.extui b : BitVec 32) 0#32 = 1#1 ↔ b = 1#1 := by decide
  refine (key _).trans (Iff.trans ?_ (not_congr (key _)).symm)
  show IntOp.cmpi .sge _ _ = 1#1 ↔ ¬ IntOp.cmpi .slt _ _ = 1#1
  rw [IntOp.cmpi_sge, IntOp.cmpi_slt]; omega

end Cert.KernelIdeal.Hand

end
-- ==== Proof.Experts.Run.lean ====
/-
  Hand-written, untrusted. THE BODY'S RUNS: a point's step over its buffers' names, one run per kind of point — the first (its
  own block's copies issued here too), an even one, an odd one, and the last (nothing to issue).
-/
module

public import proofs.«01_k».proof.Proof.Experts.Reads

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The offsets an even point issues its next block at, as printed. -/
def offEven (i : grid0.Coords) : Fin 8 → Fin 3 → ℕ
  | 0 => k0_off2 i
  | 1 => k0_off3 i
  | 2 => k0_off4 i
  | 3 => k0_off5 i
  | 4 => k0_off6 i
  | 5 => k0_off7 i
  | 6 => k0_off8 i
  | 7 => k0_off9 i
theorem offEven_inb (i : grid0.Coords) (h2 : k0_cond2 i = 1#1) (h3 : k0_cond3 i = 1#1) : InbS (offEven i) := fun k =>
  match k with
  | 0 => k0_off2_inb i h2 h3
  | 1 => k0_off3_inb i h2 h3
  | 2 => k0_off4_inb i h2 h3
  | 3 => k0_off5_inb i h2 h3
  | 4 => k0_off6_inb i h2 h3
  | 5 => k0_off7_inb i h2 h3
  | 6 => k0_off8_inb i h2 h3
  | 7 => k0_off9_inb i h2 h3
/-- The offsets an odd point issues its next block at, as printed. -/
def offOdd (i : grid0.Coords) : Fin 8 → Fin 3 → ℕ
  | 0 => k0_off18 i
  | 1 => k0_off19 i
  | 2 => k0_off20 i
  | 3 => k0_off21 i
  | 4 => k0_off22 i
  | 5 => k0_off23 i
  | 6 => k0_off24 i
  | 7 => k0_off25 i
theorem offOdd_inb (i : grid0.Coords) (h6 : k0_cond6 i = 1#1) (h7 : k0_cond7 i = 1#1) : InbS (offOdd i) := fun k =>
  match k with
  | 0 => k0_off18_inb i h6 h7
  | 1 => k0_off19_inb i h6 h7
  | 2 => k0_off20_inb i h6 h7
  | 3 => k0_off21_inb i h6 h7
  | 4 => k0_off22_inb i h6 h7
  | 5 => k0_off23_inb i h6 h7
  | 6 => k0_off24_inb i h6 h7
  | 7 => k0_off25_inb i h6 h7
/-- The first block's offsets, as printed. -/
def offZero : Fin 8 → Fin 3 → ℕ
  | 0 => ![0, 0, 0]
  | 1 => ![0, 1, 0]
  | 2 => ![0, 2, 0]
  | 3 => ![0, 3, 0]
  | 4 => ![0, 4, 0]
  | 5 => ![0, 5, 0]
  | 6 => ![0, 6, 0]
  | 7 => ![0, 7, 0]
theorem offZero_inb : InbS offZero := fun k =>
  match k with
  | 0 => inb_S36864x8x128_S512x1x128_0_0_0
  | 1 => inb_S36864x8x128_S512x1x128_0_1_0
  | 2 => inb_S36864x8x128_S512x1x128_0_2_0
  | 3 => inb_S36864x8x128_S512x1x128_0_3_0
  | 4 => inb_S36864x8x128_S512x1x128_0_4_0
  | 5 => inb_S36864x8x128_S512x1x128_0_5_0
  | 6 => inb_S36864x8x128_S512x1x128_0_6_0
  | 7 => inb_S36864x8x128_S512x1x128_0_7_0
theorem offZero_eq : offZero = offB 0 := by funext k; fin_cases k <;> rfl

/-- What every run is given besides its transfers: the tables, the two weight windows, the output block. -/
abbrev given (c : Dev nD) (arg4 : Memref sig .tc .vmem S1x1024x5632 .bf16) (arg5 : Memref sig .tc .vmem S1x2816x1024 .bf16)
    (arg6 : Memref sig .tc .vmem S512x1024 .f32) (T1 : BufM (F := F) c tbM1) (T2 : BufM (F := F) c tbM2)
    (w4 : S1x1024x5632.Idx → Elt F .bf16) (w5 : S1x2816x1024.Idx → Elt F .bf16) (d6 : S512x1024.Idx → Elt F .f32) : sProp 𝕄 :=
  iprop(halfPt c tbM1 T1 ∗ halfPt c tbM2 T2 ∗ owns (c : Thread nD τ) arg4 fullShare w4 ∗ owns (c : Thread nD τ) arg5 fullShare w5
    ∗ owns (c : Thread nD τ) arg6 fullShare d6)

set_option maxHeartbeats 4000000 in
/-- An odd point that has a next block. -/
theorem run_odd (c : Dev nD) (i : grid0.Coords) (b : ℕ) (hb : b < 72) (h1 : ¬ k0_cond1 i = 1#1) (h2 : ¬ k0_cond2 i = 1#1) (h6 : k0_cond6 i = 1#1) (h7 : k0_cond7 i = 1#1)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (fo : BufM (F := F) c xaM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(batch c 7 xbM (offB b) (inbB b hb) X 8
      ∗ slabs c (offOdd i) (offOdd_inb i h6 h7) X ∗ windows c xaM fo ∗ semVal ((c : Thread nD τ), SemLoc.dma 6) 0
      ∗ given c arg4 arg5 arg6 T1 T2 w4 w5 d6 ∗ owes (c : Thread nD τ) 0 W
      ∗ ((slabs c (offB b) (inbB b hb) X
          ∗ wholePt c xbM (blk b hb X : BufM (F := F) c xbM)
          ∗ semVal ((c : Thread nD τ), SemLoc.dma 7) 0
          ∗ batch c 6 xaM (offOdd i) (offOdd_inb i h6 h7) X 8
          ∗ given c arg4 arg5 arg6 T1 T2 w4 w5 (outVal i (nuOf T2) (blk b hb X) w4 w5)
          ∗ (∃ W, owes (c : Thread nD τ) 0 W)) -∗ K ⟨⟩))
    ⊢ wp frame (wpE (defs₀ (F := F)) Variants.none c none) Set.univ
        (cc0_moe_experts i tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  simp only [cc0_moe_experts_eq_skeleton]; unfold cc0_moe_experts_skel
  unfold given owns
  iintro ⟨HB, ⟨HS0, HS1, HS2, HS3, HS4, HS5, HS6, HS7⟩, ⟨HD0, HD1, HD2, HD3, HD4, HD5, HD6, HD7⟩, HC, ⟨HT1, HT2, ⟨%f4, %e4, H4⟩, ⟨%f5, %e5, H5⟩, ⟨%f6, %e6, H6⟩⟩, Howe, Hk⟩
  imod (Transfers.batch_alloc' (Lvl := ℕ) (countersEmb (U := Pipeline.UD sig nD τ)) (c : Thread nD τ) () 8192 (deliv c xaM (offOdd i) (offOdd_inb i h6 h7) X) (sm := SemLoc.dma 6) (E := Set.univ)) $$ HC with HA
  unfold batch deliv
  set_option sl_exec.stopBefore "k0_cond8" in sl_exec
  ihave Hb := (Entails.of_eq (landed_whole_b' c b hb (offB b) (inbB b hb) rfl X)) $$ [HB_dst0 HB_dst1 HB_dst2 HB_dst3 HB_dst4 HB_dst5 HB_dst6 HB_dst7]
  · iframe
  have hr : run_odd.sl.r c T2 = nuOf T2 := read_nu T2
  by_cases hC : k0_cond8 i (nuOf T2) = 1#1
  · have hC' : k0_cond8 i (run_odd.sl.r c T2) = 1#1 := hr ▸ hC
    have hN : ¬ k0_cond9 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact fun h => (cond5_iff i _).mp h hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitl [HA]; · iexact HA
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        subst e4 e5
        unfold outVal
        rw [if_pos (show k0_cond4 i (nuOf T2) = 1#1 from hC), ← read_inCols arg4 1536 0 (by decide) (fun _ => rfl) inb_S1024x5632_S1024x1536_0_0 f4,
          ← read_inCols arg4 1536 2816 (by decide) (fun _ => rfl) inb_S1024x5632_S1024x1536_0_2816 f4,
          ← read_inCols arg4 1280 1536 (by decide) (fun _ => rfl) inb_S1024x5632_S1024x1280_0_1536 f4,
          ← read_inCols arg4 1280 4352 (by decide) (fun _ => rfl) inb_S1024x5632_S1024x1280_0_4352 f4,
          ← read_outRows arg5 1536 0 (by decide) (fun _ => rfl) inb_S2816x1024_S1536x1024_0_0 f5,
          ← read_outRows arg5 1280 1536 (by decide) (fun _ => rfl) inb_S2816x1024_S1280x1024_1536_0 f5,
          ← read_xb (blk b hb X)]
        rfl
    · iexists _; iexact Howe
  · have hC' : ¬ k0_cond8 i (run_odd.sl.r c T2) = 1#1 := hr ▸ hC
    have hN : k0_cond9 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact (cond5_iff i _).mpr hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitl [HA]; · iexact HA
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        unfold outVal
        exact (if_neg (show ¬ k0_cond4 i (nuOf T2) = 1#1 from hC)).symm
    · iexists _; iexact Howe

set_option maxHeartbeats 4000000 in
/-- An even point after the first. -/
theorem run_even (c : Dev nD) (i : grid0.Coords) (b : ℕ) (hb : b < 72) (h1 : ¬ k0_cond1 i = 1#1) (h2 : k0_cond2 i = 1#1) (h6 : ¬ k0_cond6 i = 1#1) (h3 : k0_cond3 i = 1#1)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (fo : BufM (F := F) c xbM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(batch c 6 xaM (offB b) (inbB b hb) X 8
      ∗ slabs c (offEven i) (offEven_inb i h2 h3) X ∗ windows c xbM fo ∗ semVal ((c : Thread nD τ), SemLoc.dma 7) 0
      ∗ given c arg4 arg5 arg6 T1 T2 w4 w5 d6 ∗ owes (c : Thread nD τ) 0 W
      ∗ ((slabs c (offB b) (inbB b hb) X
          ∗ wholePt c xaM (blk b hb X : BufM (F := F) c xaM)
          ∗ semVal ((c : Thread nD τ), SemLoc.dma 6) 0
          ∗ batch c 7 xbM (offEven i) (offEven_inb i h2 h3) X 8
          ∗ given c arg4 arg5 arg6 T1 T2 w4 w5 (outVal i (nuOf T2) (blk b hb X) w4 w5)
          ∗ (∃ W, owes (c : Thread nD τ) 0 W)) -∗ K ⟨⟩))
    ⊢ wp frame (wpE (defs₀ (F := F)) Variants.none c none) Set.univ
        (cc0_moe_experts i tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  simp only [cc0_moe_experts_eq_skeleton]; unfold cc0_moe_experts_skel
  unfold given owns
  iintro ⟨HB, ⟨HS0, HS1, HS2, HS3, HS4, HS5, HS6, HS7⟩, ⟨HD0, HD1, HD2, HD3, HD4, HD5, HD6, HD7⟩, HC, ⟨HT1, HT2, ⟨%f4, %e4, H4⟩, ⟨%f5, %e5, H5⟩, ⟨%f6, %e6, H6⟩⟩, Howe, Hk⟩
  imod (Transfers.batch_alloc' (Lvl := ℕ) (countersEmb (U := Pipeline.UD sig nD τ)) (c : Thread nD τ) () 8192 (deliv c xbM (offEven i) (offEven_inb i h2 h3) X) (sm := SemLoc.dma 7) (E := Set.univ)) $$ HC with HA
  unfold batch deliv
  set_option sl_exec.stopBefore "k0_cond4" in sl_exec
  ihave Hb := (Entails.of_eq (landed_whole_a' c b hb (offB b) (inbB b hb) rfl X)) $$ [HB_dst0 HB_dst1 HB_dst2 HB_dst3 HB_dst4 HB_dst5 HB_dst6 HB_dst7]
  · iframe
  have hr : run_even.sl.r c T2 = nuOf T2 := read_nu T2
  by_cases hC : k0_cond4 i (nuOf T2) = 1#1
  · have hC' : k0_cond4 i (run_even.sl.r c T2) = 1#1 := hr ▸ hC
    have hN : ¬ k0_cond5 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact fun h => (cond5_iff i _).mp h hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitl [HA]; · iexact HA
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        subst e4 e5
        unfold outVal
        rw [if_pos (show k0_cond4 i (nuOf T2) = 1#1 from hC), ← read_inCols arg4 1536 0 (by decide) (fun _ => rfl) inb_S1024x5632_S1024x1536_0_0 f4,
          ← read_inCols arg4 1536 2816 (by decide) (fun _ => rfl) inb_S1024x5632_S1024x1536_0_2816 f4,
          ← read_inCols arg4 1280 1536 (by decide) (fun _ => rfl) inb_S1024x5632_S1024x1280_0_1536 f4,
          ← read_inCols arg4 1280 4352 (by decide) (fun _ => rfl) inb_S1024x5632_S1024x1280_0_4352 f4,
          ← read_outRows arg5 1536 0 (by decide) (fun _ => rfl) inb_S2816x1024_S1536x1024_0_0 f5,
          ← read_outRows arg5 1280 1536 (by decide) (fun _ => rfl) inb_S2816x1024_S1280x1024_1536_0 f5,
          ← read_xa (blk b hb X)]
        rfl
    · iexists _; iexact Howe
  · have hC' : ¬ k0_cond4 i (run_even.sl.r c T2) = 1#1 := hr ▸ hC
    have hN : k0_cond5 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact (cond5_iff i _).mpr hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitl [HA]; · iexact HA
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        unfold outVal
        exact (if_neg (show ¬ k0_cond4 i (nuOf T2) = 1#1 from hC)).symm
    · iexists _; iexact Howe

set_option maxHeartbeats 4000000 in
/-- The first point. -/
theorem run_first (c : Dev nD) (i : grid0.Coords) (h1 : k0_cond1 i = 1#1) (h2 : k0_cond2 i = 1#1) (h6 : ¬ k0_cond6 i = 1#1) (h3 : k0_cond3 i = 1#1)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (fc : BufM (F := F) c xaM) (fo : BufM (F := F) c xbM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(slabs c offZero offZero_inb X ∗ windows c xaM fc ∗ semVal ((c : Thread nD τ), SemLoc.dma 6) 0
      ∗ slabs c (offEven i) (offEven_inb i h2 h3) X ∗ windows c xbM fo ∗ semVal ((c : Thread nD τ), SemLoc.dma 7) 0
      ∗ given c arg4 arg5 arg6 T1 T2 w4 w5 d6 ∗ owes (c : Thread nD τ) 0 W
      ∗ ((slabs c offZero offZero_inb X
          ∗ wholePt c xaM (blk 0 (by decide) X : BufM (F := F) c xaM)
          ∗ semVal ((c : Thread nD τ), SemLoc.dma 6) 0
          ∗ batch c 7 xbM (offEven i) (offEven_inb i h2 h3) X 8
          ∗ given c arg4 arg5 arg6 T1 T2 w4 w5 (outVal i (nuOf T2) (blk 0 (by decide) X) w4 w5)
          ∗ (∃ W, owes (c : Thread nD τ) 0 W)) -∗ K ⟨⟩))
    ⊢ wp frame (wpE (defs₀ (F := F)) Variants.none c none) Set.univ
        (cc0_moe_experts i tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  simp only [cc0_moe_experts_eq_skeleton]; unfold cc0_moe_experts_skel
  unfold given owns
  iintro ⟨⟨HR0, HR1, HR2, HR3, HR4, HR5, HR6, HR7⟩, ⟨HE0, HE1, HE2, HE3, HE4, HE5, HE6, HE7⟩, HCc, ⟨HS0, HS1, HS2, HS3, HS4, HS5, HS6, HS7⟩, ⟨HD0, HD1, HD2, HD3, HD4, HD5, HD6, HD7⟩, HC, ⟨HT1, HT2, ⟨%f4, %e4, H4⟩, ⟨%f5, %e5, H5⟩, ⟨%f6, %e6, H6⟩⟩, Howe, Hk⟩
  imod (Transfers.batch_alloc' (Lvl := ℕ) (countersEmb (U := Pipeline.UD sig nD τ)) (c : Thread nD τ) () 8192 (deliv c xaM offZero offZero_inb X) (sm := SemLoc.dma 6) (E := Set.univ)) $$ HCc with HB
  imod (Transfers.batch_alloc' (Lvl := ℕ) (countersEmb (U := Pipeline.UD sig nD τ)) (c : Thread nD τ) () 8192 (deliv c xbM (offEven i) (offEven_inb i h2 h3) X) (sm := SemLoc.dma 7) (E := Set.univ)) $$ HC with HA
  unfold batch deliv
  set_option sl_exec.stopBefore "k0_cond4" in sl_exec
  ihave Hb := (Entails.of_eq (landed_whole_a' c 0 (by decide) offZero offZero_inb offZero_eq X)) $$ [HB_dst0 HB_dst1 HB_dst2 HB_dst3 HB_dst4 HB_dst5 HB_dst6 HB_dst7]
  · iframe
  have hr : run_first.sl.r c T2 = nuOf T2 := read_nu T2
  by_cases hC : k0_cond4 i (nuOf T2) = 1#1
  · have hC' : k0_cond4 i (run_first.sl.r c T2) = 1#1 := hr ▸ hC
    have hN : ¬ k0_cond5 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact fun h => (cond5_iff i _).mp h hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitl [HA]; · iexact HA
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        subst e4 e5
        unfold outVal
        rw [if_pos (show k0_cond4 i (nuOf T2) = 1#1 from hC), ← read_inCols arg4 1536 0 (by decide) (fun _ => rfl) inb_S1024x5632_S1024x1536_0_0 f4,
          ← read_inCols arg4 1536 2816 (by decide) (fun _ => rfl) inb_S1024x5632_S1024x1536_0_2816 f4,
          ← read_inCols arg4 1280 1536 (by decide) (fun _ => rfl) inb_S1024x5632_S1024x1280_0_1536 f4,
          ← read_inCols arg4 1280 4352 (by decide) (fun _ => rfl) inb_S1024x5632_S1024x1280_0_4352 f4,
          ← read_outRows arg5 1536 0 (by decide) (fun _ => rfl) inb_S2816x1024_S1536x1024_0_0 f5,
          ← read_outRows arg5 1280 1536 (by decide) (fun _ => rfl) inb_S2816x1024_S1280x1024_1536_0 f5,
          ← read_xa (blk 0 (by decide) X)]
        rfl
    · iexists _; iexact Howe
  · have hC' : ¬ k0_cond4 i (run_first.sl.r c T2) = 1#1 := hr ▸ hC
    have hN : k0_cond5 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact (cond5_iff i _).mpr hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitl [HA]; · iexact HA
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        unfold outVal
        exact (if_neg (show ¬ k0_cond4 i (nuOf T2) = 1#1 from hC)).symm
    · iexists _; iexact Howe

set_option maxHeartbeats 4000000 in
/-- The last point. -/
theorem run_last (c : Dev nD) (i : grid0.Coords) (b : ℕ) (hb : b < 72) (h1 : ¬ k0_cond1 i = 1#1) (h2 : ¬ k0_cond2 i = 1#1) (h6 : k0_cond6 i = 1#1) (h7 : ¬ k0_cond7 i = 1#1)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(batch c 7 xbM (offB b) (inbB b hb) X 8
      ∗ given c arg4 arg5 arg6 T1 T2 w4 w5 d6 ∗ owes (c : Thread nD τ) 0 W
      ∗ ((slabs c (offB b) (inbB b hb) X
          ∗ wholePt c xbM (blk b hb X : BufM (F := F) c xbM)
          ∗ semVal ((c : Thread nD τ), SemLoc.dma 7) 0
          ∗ given c arg4 arg5 arg6 T1 T2 w4 w5 (outVal i (nuOf T2) (blk b hb X) w4 w5)
          ∗ (∃ W, owes (c : Thread nD τ) 0 W)) -∗ K ⟨⟩))
    ⊢ wp frame (wpE (defs₀ (F := F)) Variants.none c none) Set.univ
        (cc0_moe_experts i tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  simp only [cc0_moe_experts_eq_skeleton]; unfold cc0_moe_experts_skel
  unfold given owns
  iintro ⟨HB, ⟨HT1, HT2, ⟨%f4, %e4, H4⟩, ⟨%f5, %e5, H5⟩, ⟨%f6, %e6, H6⟩⟩, Howe, Hk⟩
  unfold batch deliv
  set_option sl_exec.stopBefore "k0_cond8" in sl_exec
  ihave Hb := (Entails.of_eq (landed_whole_b' c b hb (offB b) (inbB b hb) rfl X)) $$ [HB_dst0 HB_dst1 HB_dst2 HB_dst3 HB_dst4 HB_dst5 HB_dst6 HB_dst7]
  · iframe
  have hr : run_last.sl.r c T2 = nuOf T2 := read_nu T2
  by_cases hC : k0_cond8 i (nuOf T2) = 1#1
  · have hC' : k0_cond8 i (run_last.sl.r c T2) = 1#1 := hr ▸ hC
    have hN : ¬ k0_cond9 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact fun h => (cond5_iff i _).mp h hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        subst e4 e5
        unfold outVal
        rw [if_pos (show k0_cond4 i (nuOf T2) = 1#1 from hC), ← read_inCols arg4 1536 0 (by decide) (fun _ => rfl) inb_S1024x5632_S1024x1536_0_0 f4,
          ← read_inCols arg4 1536 2816 (by decide) (fun _ => rfl) inb_S1024x5632_S1024x1536_0_2816 f4,
          ← read_inCols arg4 1280 1536 (by decide) (fun _ => rfl) inb_S1024x5632_S1024x1280_0_1536 f4,
          ← read_inCols arg4 1280 4352 (by decide) (fun _ => rfl) inb_S1024x5632_S1024x1280_0_4352 f4,
          ← read_outRows arg5 1536 0 (by decide) (fun _ => rfl) inb_S2816x1024_S1536x1024_0_0 f5,
          ← read_outRows arg5 1280 1536 (by decide) (fun _ => rfl) inb_S2816x1024_S1280x1024_1536_0 f5,
          ← read_xb (blk b hb X)]
        rfl
    · iexists _; iexact Howe
  · have hC' : ¬ k0_cond8 i (run_last.sl.r c T2) = 1#1 := hr ▸ hC
    have hN : k0_cond9 i (View.readAt (Elt F) tbM2.view (Rect.unit (s := S1) ![0] S1.size inb_S1_S1_0).toLoadRect T2 (Shape.Idx.first (by show 0 < S1.numel; rw [numel1_S1]; exact Nat.one_pos))) = 1#1 := by
      rw [read_nu]; exact (cond5_iff i _).mpr hC
    sl_exec
    sl_step; iapply Hk
    isplitl [HB_src0 HB_src1 HB_src2 HB_src3 HB_src4 HB_src5 HB_src6 HB_src7]
    · unfold slabs; iframe
    isplitl [Hb]; · iexact Hb
    isplitl [HB]; · iexact HB
    isplitr [Howe]
    · isplitl [HT1]; · iexact HT1
      isplitl [HT2]; · iexact HT2
      isplitl [H4]; · iexists f4; isplitl []; · ipureintro; exact e4
                      iexact H4
      isplitl [H5]; · iexists f5; isplitl []; · ipureintro; exact e5
                      iexact H5
      iexists _; isplitr [H6]
      rotate_left
      · iexact H6
      · ipureintro
        refine (read_written arg6 f6 _ _).trans ?_
        unfold outVal
        exact (if_neg (show ¬ k0_cond4 i (nuOf T2) = 1#1 from hC)).symm
    · iexists _; iexact Howe

end Cert.KernelIdeal.Hand

end
-- ==== Proof.Experts.Step.lean ====
/-
  Hand-written, untrusted. ONE POINT'S STEP: the copies in flight between two points, and the four runs put together as the step
  from a point's state to the next's.
-/
module

public import proofs.«01_k».proof.Proof.Experts.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-! ## The points' conditions and offsets -/

theorem c1_iff : ∀ t : Fin grid0.N, k0_cond1 (grid0.coords t) = 1#1 ↔ t.val = 0 := by decide +kernel
theorem c2_iff : ∀ t : Fin grid0.N, k0_cond2 (grid0.coords t) = 1#1 ↔ t.val % 2 = 0 := by decide +kernel
theorem c3_iff : ∀ t : Fin grid0.N, k0_cond3 (grid0.coords t) = 1#1 ↔ t.val + 1 < 72 := by decide +kernel
theorem c6_iff : ∀ t : Fin grid0.N, k0_cond6 (grid0.coords t) = 1#1 ↔ t.val % 2 = 1 := by decide +kernel
theorem c7_iff : ∀ t : Fin grid0.N, k0_cond7 (grid0.coords t) = 1#1 ↔ t.val + 1 < 72 := by decide +kernel
theorem offEven_eq (t : Fin grid0.N) (h : t.val + 1 < 72) : offEven (grid0.coords t) = offB (t.val + 1) := by
  funext k a; revert t k a; decide +kernel
theorem offOdd_eq (t : Fin grid0.N) (h : t.val + 1 < 72) : offOdd (grid0.coords t) = offB (t.val + 1) := by
  funext k a; revert t k a; decide +kernel

theorem batch_congr (c : Dev nD) (s : DmaSem sig) (M : Memref sig .tc .vmem S512x1024 .f32) {off off' : Fin 8 → Fin 3 → ℕ} (e : off = off') (h : InbS off) (h' : InbS off')
    (X : BufM (F := F) c xsM) : (batch c s M off h X 8 : sProp 𝕄) = batch c s M off' h' X 8 := by subst e; rfl
theorem slabs_congr (c : Dev nD) {off off' : Fin 8 → Fin 3 → ℕ} (e : off = off') (h : InbS off) (h' : InbS off')
    (X : BufM (F := F) c xsM) : (slabs c off h X : sProp 𝕄) = slabs c off' h' X := by subst e; rfl

/-! ## The array while a block is in flight -/

/-- The dispatched array without block `b`. -/
abbrev xsBut (c : Dev nD) (b : ℕ) (X : BufM (F := F) c xsM) : sProp 𝕄 :=
  xsM.view.loc (c : Thread nD τ) ↦[(Finset.univ : Finset XIdx) \ blkSet b]{fullShare} X

theorem blkSet_sub (b b' : ℕ) (h : b ≠ b') : blkSet b ⊆ (Finset.univ : Finset XIdx) \ blkSet b' := by
  intro y hy; rw [mem_blkSet] at hy
  rw [Finset.mem_sdiff, mem_blkSet]; exact ⟨Finset.mem_univ _, by omega⟩

theorem take_whole (c : Dev nD) (b : ℕ) (hb : b < 72) (X : BufM (F := F) c xsM) :
    (wholePt c xsM X : sProp 𝕄) ⊣⊢ iprop(slabs c (offB b) (inbB b hb) X ∗ xsBut c b X) :=
  cut_blk c Finset.univ b hb (Finset.subset_univ _) X
theorem take_but (c : Dev nD) (b b' : ℕ) (hb : b < 72) (h : b ≠ b') (X : BufM (F := F) c xsM) :
    (xsBut c b' X : sProp 𝕄) ⊣⊢ iprop(slabs c (offB b) (inbB b hb) X ∗ (xsM.view.loc (c : Thread nD τ) ↦[((Finset.univ : Finset XIdx) \ blkSet b') \ blkSet b]{fullShare} X)) :=
  cut_blk c _ b hb (blkSet_sub b b' h) X
theorem give_but (c : Dev nD) (b b' : ℕ) (hb : b < 72) (h : b ≠ b') (X : BufM (F := F) c xsM) :
    iprop(slabs c (offB b) (inbB b hb) X ∗ (xsM.view.loc (c : Thread nD τ) ↦[((Finset.univ : Finset XIdx) \ blkSet b) \ blkSet b']{fullShare} X)) ⊢ (xsBut c b' X : sProp 𝕄) := by
  rw [sdiff_right_comm]; exact (take_but c b b' hb h X).2

/-! ## The state between two points -/

/-- What stands between point `t - 1` and point `t`: block `t`'s copies in flight, or — before the first point and after the last — nothing. -/
def Flight (c : Dev nD) (X : BufM (F := F) c xsM) (t : ℕ) : sProp 𝕄 :=
  if h : 0 < t ∧ t < 72 then
    if t % 2 = 0 then iprop(batch c 6 xaM (offB t) (inbB t h.2) X 8 ∗ (∃ f, wholePt c xbM f) ∗ semVal ((c : Thread nD τ), SemLoc.dma 7) 0 ∗ xsBut c t X)
    else iprop(batch c 7 xbM (offB t) (inbB t h.2) X 8 ∗ (∃ f, wholePt c xaM f) ∗ semVal ((c : Thread nD τ), SemLoc.dma 6) 0 ∗ xsBut c t X)
  else iprop(((∃ f, wholePt c xaM f) ∗ (∃ f, wholePt c xbM f)) ∗ (semVal ((c : Thread nD τ), SemLoc.dma 6) 0 ∗ semVal ((c : Thread nD τ), SemLoc.dma 7) 0) ∗ wholePt c xsM X)

theorem flight_idle (c : Dev nD) (X : BufM (F := F) c xsM) (t : ℕ) (h : ¬ (0 < t ∧ t < 72)) :
    (Flight c X t : sProp 𝕄) = iprop(((∃ f, wholePt c xaM f) ∗ (∃ f, wholePt c xbM f)) ∗ (semVal ((c : Thread nD τ), SemLoc.dma 6) 0 ∗ semVal ((c : Thread nD τ), SemLoc.dma 7) 0) ∗ wholePt c xsM X) := dif_neg h
theorem flight_even (c : Dev nD) (X : BufM (F := F) c xsM) (t : ℕ) (h0 : 0 < t) (h1 : t < 72) (h2 : t % 2 = 0) :
    (Flight c X t : sProp 𝕄) = iprop(batch c 6 xaM (offB t) (inbB t h1) X 8 ∗ (∃ f, wholePt c xbM f) ∗ semVal ((c : Thread nD τ), SemLoc.dma 7) 0 ∗ xsBut c t X) :=
  (dif_pos ⟨h0, h1⟩).trans (if_pos h2)
theorem flight_odd (c : Dev nD) (X : BufM (F := F) c xsM) (t : ℕ) (h0 : 0 < t) (h1 : t < 72) (h2 : ¬ t % 2 = 0) :
    (Flight c X t : sProp 𝕄) = iprop(batch c 7 xbM (offB t) (inbB t h1) X 8 ∗ (∃ f, wholePt c xaM f) ∗ semVal ((c : Thread nD τ), SemLoc.dma 6) 0 ∗ xsBut c t X) :=
  (dif_pos ⟨h0, h1⟩).trans (if_neg h2)

/-- The first point. -/
theorem step_first (c : Dev nD) (t : Fin grid0.N) (ht : t.val < 72) (h0 : t.val = 0)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(Flight c X t.val ∗ given c arg4 arg5 arg6 T1 T2 w4 w5 d6 ∗ owes (c : Thread nD τ) 0 W
      ∗ ((Flight c X (t.val + 1) ∗ given c arg4 arg5 arg6 T1 T2 w4 w5 (outVal (grid0.coords t) (nuOf T2) (blk t.val ht X) w4 w5) ∗ (∃ W, owes (c : Thread nD τ) 0 W)) -∗ K ⟨⟩))
    ⊢ wp frame (wpE (defs₀ (F := F)) Variants.none c none) Set.univ
        (cc0_moe_experts (grid0.coords t) tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  obtain ⟨t, htN⟩ := t
  obtain rfl : t = 0 := h0
  have h1 := (c1_iff ⟨0, htN⟩).mpr rfl
  have h2 := (c2_iff ⟨0, htN⟩).mpr rfl
  have h3 := (c3_iff ⟨0, htN⟩).mpr (by show 0 + 1 < 72; omega)
  have h6 : ¬ k0_cond6 (grid0.coords ⟨0, htN⟩) = 1#1 := fun e => by have h := (c6_iff ⟨0, htN⟩).mp e; dsimp only at h; omega
  rw [flight_idle c X _ (by simp), flight_odd c X (0 + 1) (by decide) (by decide) (by decide)]
  iintro ⟨⟨⟨⟨%fc, Hc⟩, ⟨%fo, Ho⟩⟩, ⟨HC6, HC7⟩, HX⟩, Hg, Hw, Hk⟩
  ihave HX := (take_whole c 0 (by decide) X).1 $$ HX
  icases HX with ⟨HS0, HX⟩
  ihave HX := (take_but c 1 0 (by decide) (by decide) X).1 $$ HX
  icases HX with ⟨HS1, HX⟩
  ihave Hc := (Entails.of_eq (whole_windows_a c fc)) $$ Hc
  ihave Ho := (Entails.of_eq (whole_windows_b c fo)) $$ Ho
  ihave HS0 := (Entails.of_eq (slabs_congr c offZero_eq offZero_inb (inbB 0 (by decide)) X).symm) $$ HS0
  ihave HS1 := (Entails.of_eq (slabs_congr c (offEven_eq ⟨0, htN⟩ (by show 0 + 1 < 72; omega)) (offEven_inb _ h2 h3) (inbB 1 (by decide)) X).symm) $$ HS1
  iapply (run_first c (grid0.coords ⟨0, htN⟩) h1 h2 h6 h3 arg4 harg4 arg5 harg5 arg6 harg6 X fc fo T1 T2 w4 w5 d6 W K)
  isplitl [HS0]; · iexact HS0
  isplitl [Hc]; · iexact Hc
  isplitl [HC6]; · iexact HC6
  isplitl [HS1]; · iexact HS1
  isplitl [Ho]; · iexact Ho
  isplitl [HC7]; · iexact HC7
  isplitl [Hg]; · iexact Hg
  isplitl [Hw]; · iexact Hw
  iintro ⟨HS0, Hc, HC6, HB, Hg, Hw⟩
  ihave HS0 := (Entails.of_eq (slabs_congr c offZero_eq offZero_inb (inbB 0 (by decide)) X)) $$ HS0
  ihave HB := (Entails.of_eq (batch_congr c 7 xbM (offEven_eq ⟨0, htN⟩ (by show 0 + 1 < 72; omega)) (offEven_inb _ h2 h3) (inbB 1 (by decide)) X)) $$ HB
  ihave HX := (give_but c 0 1 (by decide) (by decide) X) $$ [HS0 HX]
  · isplitl [HS0]; · iexact HS0
    iexact HX
  iapply Hk
  isplitl [HB Hc HC6 HX]
  · isplitl [HB]; · iexact HB
    isplitl [Hc]; · iexists _; iexact Hc
    isplitl [HC6]; · iexact HC6
    iexact HX
  isplitl [Hg]; · iexact Hg
  iexact Hw

/-- An even point after the first. -/
theorem step_even (c : Dev nD) (t : Fin grid0.N) (ht : t.val < 72) (h0 : 0 < t.val) (hn : t.val + 1 < 72) (he : t.val % 2 = 0)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(Flight c X t.val ∗ given c arg4 arg5 arg6 T1 T2 w4 w5 d6 ∗ owes (c : Thread nD τ) 0 W
      ∗ ((Flight c X (t.val + 1) ∗ given c arg4 arg5 arg6 T1 T2 w4 w5 (outVal (grid0.coords t) (nuOf T2) (blk t.val ht X) w4 w5) ∗ (∃ W, owes (c : Thread nD τ) 0 W)) -∗ K ⟨⟩))
    ⊢ wp frame (wpE (defs₀ (F := F)) Variants.none c none) Set.univ
        (cc0_moe_experts (grid0.coords t) tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  have h1 : ¬ k0_cond1 (grid0.coords t) = 1#1 := fun e => by have := (c1_iff t).mp e; omega
  have h2 := (c2_iff t).mpr (by omega)
  have h6 : ¬ k0_cond6 (grid0.coords t) = 1#1 := fun e => by have := (c6_iff t).mp e; omega
  have h3 := (c3_iff t).mpr hn
  rw [flight_even c X _ (by omega) ht (by omega), flight_odd c X (t.val + 1) (by omega) hn (by omega)]
  iintro ⟨⟨HB, ⟨%fo, Ho⟩, HC, HX⟩, Hg, Hw, Hk⟩
  ihave HX := (take_but c (t.val + 1) t.val hn (by omega) X).1 $$ HX
  icases HX with ⟨HS, HX⟩
  ihave Ho := (Entails.of_eq (whole_windows_b c fo)) $$ Ho
  ihave HS := (Entails.of_eq (slabs_congr c (offEven_eq t hn) (offEven_inb _ h2 h3) (inbB (t.val + 1) hn) X).symm) $$ HS
  iapply (run_even c (grid0.coords t) t.val ht h1 h2 h6 h3 arg4 harg4 arg5 harg5 arg6 harg6 X fo T1 T2 w4 w5 d6 W K)
  isplitl [HB]; · iexact HB
  isplitl [HS]; · iexact HS
  isplitl [Ho]; · iexact Ho
  isplitl [HC]; · iexact HC
  isplitl [Hg]; · iexact Hg
  isplitl [Hw]; · iexact Hw
  iintro ⟨HS, Hc, HC, HB, Hg, Hw⟩
  ihave HB := (Entails.of_eq (batch_congr c 7 xbM (offEven_eq t hn) (offEven_inb _ h2 h3) (inbB (t.val + 1) hn) X)) $$ HB
  ihave HX := (give_but c t.val (t.val + 1) ht (by omega) X) $$ [HS HX]
  · isplitl [HS]; · iexact HS
    iexact HX
  iapply Hk
  isplitl [HB Hc HC HX]
  · isplitl [HB]; · iexact HB
    isplitl [Hc]; · iexists _; iexact Hc
    isplitl [HC]; · iexact HC
    iexact HX
  isplitl [Hg]; · iexact Hg
  iexact Hw

/-- An odd point before the last. -/
theorem step_odd (c : Dev nD) (t : Fin grid0.N) (ht : t.val < 72) (hn : t.val + 1 < 72) (he : t.val % 2 = 1)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(Flight c X t.val ∗ given c arg4 arg5 arg6 T1 T2 w4 w5 d6 ∗ owes (c : Thread nD τ) 0 W
      ∗ ((Flight c X (t.val + 1) ∗ given c arg4 arg5 arg6 T1 T2 w4 w5 (outVal (grid0.coords t) (nuOf T2) (blk t.val ht X) w4 w5) ∗ (∃ W, owes (c : Thread nD τ) 0 W)) -∗ K ⟨⟩))
    ⊢ wp frame (wpE (defs₀ (F := F)) Variants.none c none) Set.univ
        (cc0_moe_experts (grid0.coords t) tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  have h1 : ¬ k0_cond1 (grid0.coords t) = 1#1 := fun e => by have := (c1_iff t).mp e; omega
  have h2 : ¬ k0_cond2 (grid0.coords t) = 1#1 := fun e => by have := (c2_iff t).mp e; omega
  have h6 := (c6_iff t).mpr (by omega)
  have h7 := (c7_iff t).mpr hn
  rw [flight_odd c X _ (by omega) ht (by omega), flight_even c X (t.val + 1) (by omega) hn (by omega)]
  iintro ⟨⟨HB, ⟨%fo, Ho⟩, HC, HX⟩, Hg, Hw, Hk⟩
  ihave HX := (take_but c (t.val + 1) t.val hn (by omega) X).1 $$ HX
  icases HX with ⟨HS, HX⟩
  ihave Ho := (Entails.of_eq (whole_windows_a c fo)) $$ Ho
  ihave HS := (Entails.of_eq (slabs_congr c (offOdd_eq t hn) (offOdd_inb _ h6 h7) (inbB (t.val + 1) hn) X).symm) $$ HS
  iapply (run_odd c (grid0.coords t) t.val ht h1 h2 h6 h7 arg4 harg4 arg5 harg5 arg6 harg6 X fo T1 T2 w4 w5 d6 W K)
  isplitl [HB]; · iexact HB
  isplitl [HS]; · iexact HS
  isplitl [Ho]; · iexact Ho
  isplitl [HC]; · iexact HC
  isplitl [Hg]; · iexact Hg
  isplitl [Hw]; · iexact Hw
  iintro ⟨HS, Hc, HC, HB, Hg, Hw⟩
  ihave HB := (Entails.of_eq (batch_congr c 6 xaM (offOdd_eq t hn) (offOdd_inb _ h6 h7) (inbB (t.val + 1) hn) X)) $$ HB
  ihave HX := (give_but c t.val (t.val + 1) ht (by omega) X) $$ [HS HX]
  · isplitl [HS]; · iexact HS
    iexact HX
  iapply Hk
  isplitl [HB Hc HC HX]
  · isplitl [HB]; · iexact HB
    isplitl [Hc]; · iexists _; iexact Hc
    isplitl [HC]; · iexact HC
    iexact HX
  isplitl [Hg]; · iexact Hg
  iexact Hw

/-- The last point. -/
theorem step_last (c : Dev nD) (t : Fin grid0.N) (ht : t.val < 72) (hn : t.val + 1 = 72)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(Flight c X t.val ∗ given c arg4 arg5 arg6 T1 T2 w4 w5 d6 ∗ owes (c : Thread nD τ) 0 W
      ∗ ((Flight c X (t.val + 1) ∗ given c arg4 arg5 arg6 T1 T2 w4 w5 (outVal (grid0.coords t) (nuOf T2) (blk t.val ht X) w4 w5) ∗ (∃ W, owes (c : Thread nD τ) 0 W)) -∗ K ⟨⟩))
    ⊢ wp frame (wpE (defs₀ (F := F)) Variants.none c none) Set.univ
        (cc0_moe_experts (grid0.coords t) tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  have h1 : ¬ k0_cond1 (grid0.coords t) = 1#1 := fun e => by have := (c1_iff t).mp e; omega
  have h2 : ¬ k0_cond2 (grid0.coords t) = 1#1 := fun e => by have := (c2_iff t).mp e; omega
  have h6 := (c6_iff t).mpr (by omega)
  have h7 : ¬ k0_cond7 (grid0.coords t) = 1#1 := fun e => by have := (c7_iff t).mp e; omega
  rw [flight_odd c X _ (by omega) ht (by omega), flight_idle c X (t.val + 1) (by omega)]
  iintro ⟨⟨HB, ⟨%fo, Ho⟩, HC, HX⟩, Hg, Hw, Hk⟩
  iapply (run_last c (grid0.coords t) t.val ht h1 h2 h6 h7 arg4 harg4 arg5 harg5 arg6 harg6 X T1 T2 w4 w5 d6 W K)
  isplitl [HB]; · iexact HB
  isplitl [Hg]; · iexact Hg
  isplitl [Hw]; · iexact Hw
  iintro ⟨HS, Hc, HC7, Hg, Hw⟩
  ihave HX := (take_whole c t.val ht X).2 $$ [HS HX]
  · isplitl [HS]; · iexact HS
    iexact HX
  iapply Hk
  isplitl [Ho Hc HC HC7 HX]
  · isplitl [Ho Hc]
    · isplitl [Ho]; · iexists _; iexact Ho
      iexists _; iexact Hc
    isplitl [HC HC7]
    · isplitl [HC]; · iexact HC
      iexact HC7
    iexact HX
  isplitl [Hg]; · iexact Hg
  iexact Hw

/-- A point's step. -/
theorem step (c : Dev nD) (t : Fin grid0.N) (ht : t.val < 72)
    (arg4 : Memref sig .tc .vmem S1x1024x5632 .bf16) (harg4 : arg4.IsWhole) (arg5 : Memref sig .tc .vmem S1x2816x1024 .bf16) (harg5 : arg5.IsWhole)
    (arg6 : Memref sig .tc .vmem S512x1024 .f32) (harg6 : arg6.IsWhole)
    (X : BufM (F := F) c xsM) (T1 : BufM (F := F) c tbM1) (T2 : BufM (F := F) c tbM2)
    (w4 : S1x1024x5632.Idx → Elt F .bf16) (w5 : S1x2816x1024.Idx → Elt F .bf16) (d6 : S512x1024.Idx → Elt F .f32)
    (W : Waits sig Unit) (K : PUnit → sProp 𝕄) :
    iprop(Flight c X t.val ∗ given c arg4 arg5 arg6 T1 T2 w4 w5 d6 ∗ owes (c : Thread nD τ) 0 W
      ∗ ((Flight c X (t.val + 1) ∗ given c arg4 arg5 arg6 T1 T2 w4 w5 (outVal (grid0.coords t) (nuOf T2) (blk t.val ht X) w4 w5) ∗ (∃ W, owes (c : Thread nD τ) 0 W)) -∗ K ⟨⟩))
    ⊢ wp frame (wpE (defs₀ (F := F)) Variants.none c none) Set.univ
        (cc0_moe_experts (grid0.coords t) tbM1 (Memref.isWhole_whole _) tbM2 (Memref.isWhole_whole _) xsM (Memref.isWhole_whole _) arg4 harg4 arg5 harg5 arg6 harg6 xaM (Memref.isWhole_whole _) xbM (Memref.isWhole_whole _) cc0_scratch2) K := by
  by_cases h0 : t.val = 0
  · exact step_first c t ht h0 arg4 harg4 arg5 harg5 arg6 harg6 X T1 T2 w4 w5 d6 W K
  by_cases hn : t.val + 1 < 72
  · by_cases he : t.val % 2 = 0
    · exact step_even c t ht (by omega) hn he arg4 harg4 arg5 harg5 arg6 harg6 X T1 T2 w4 w5 d6 W K
    · exact step_odd c t ht hn (by omega) arg4 harg4 arg5 harg5 arg6 harg6 X T1 T2 w4 w5 d6 W K
  · exact step_last c t ht (by omega) arg4 harg4 arg5 harg5 arg6 harg6 X T1 T2 w4 w5 d6 W K

end Cert.KernelIdeal.Hand

end
-- ==== Proof.Experts.Frame.lean ====
/-
  Hand-written, untrusted. THE RUN OF THE EXPERTS CALL, over any float values: the proof data of its pipeline with the two
  tables read at launch, the body obligation off the point's step, and the launch.
-/
module

public import proofs.«01_k».proof.Proof.Experts.Step
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The launch memory and the tables -/

abbrev V (c : Dev nD) (b : Ref sig .tc) : Buf (Elt F) ((c : Thread nD τ).loc b) := m ((c : Thread nD τ).loc b)
/-- The tables' contents at launch. -/
def tbl : pre0.Contents (Elt F) := fun j => V m (0 : Dev nD) (pre0.ref j)
theorem V_pre (c : Dev nD) (j : Fin pre0.K) : V m c (pre0.ref j) = tbl m j := by obtain rfl : c = 0 := Subsingleton.elim _ _; rfl
/-- The region's side condition on them. -/
abbrev Ok : Prop := ok0 (F := F) (tbl m)
abbrev adm (hO : Ok m) : (p : Fin 1) → (pcfgs (F := F) p).Adm := fun _ => ⟨tbl m, hO⟩
abbrev cfgM (hO : Ok m) : Pipeline.Cfg sig Λ₀ := Pipeline.pin (pcfgs (F := F)) (adm m hO) 0

abbrev X0 (c : Dev nD) : BufM (F := F) c xsM := V m c main_arg0
abbrev T1 (c : Dev nD) : BufM (F := F) c tbM1 := V m c main_arg1
abbrev T2 (c : Dev nD) : BufM (F := F) c tbM2 := V m c main_arg2

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_region pcfgs 0 defs₀ 𝒱₀ m main fun c => (main_chain c).trans rfl

/-! ## The body's own cells and operands -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = wholePt c xsM (X0 m c) := by
  rw [BI.bigSep_eq_bigSepL_of_eq [main_arg0] (by decide) (by decide)]; try rfl

theorem PhiD0_eq (c : Dev nD) :
    (Pipeline.ΦD osem0 spec0 H0 (V m) c : sProp 𝕄)
      = iprop(iprop((∃ f, wholePt c xaM f) ∗ (∃ f, wholePt c xbM f)) ∗ (∃ r, prngReg c r)
          ∗ iprop(semVal ((c : Thread nD τ), SemLoc.dma 6) 0 ∗ semVal ((c : Thread nD τ), SemLoc.dma 7) 0) ∗ wholePt c xsM (X0 m c)) := by
  rw [Pipeline.ΦD_eq, scopedRest0_eq, ownSems00_eq, hbmPts0_eq]

theorem PhiT0_eq (c : Dev nD) :
    (Pipeline.ΦT pre0 (tbl m) c : sProp 𝕄) = iprop(halfPt c tbM1 (T1 m c) ∗ halfPt c tbM2 (T2 m c)) := by
  obtain rfl : c = 0 := Subsingleton.elim _ _
  unfold Pipeline.ΦT Pipeline.prefHeld
  rw [show (Finset.univ : Finset (Fin pre0.K)) = insert 0 {1} from by decide, bigSep_insert (by decide), bigSep_singleton]; rfl

/-! ## The proof data -/

theorem t72 (t : Fin grid0.N) : t.val < 72 := lt_of_lt_of_eq t.isLt N_0

/-- A weight window's block at a point. -/
def wblk (hO : Ok m) (c : Dev nD) (w : Fin 3) (t : Fin (cfgM m hO).N) :
    (((cfgM m hO).win w).xblock ((cfgM m hO).grid.coords t)).Idx → Elt F (((cfgM m hO).win w).elt) :=
  (((cfgM m hO).win w).blk t).view.read (Elt F) (V m c (Pipeline.arrRef spec0 w))

/-- What the body leaves in the result's buffer at a point. -/
def outsAt (hO : Ok m) (c : Dev nD) (t : Fin (cfgM m hO).N) : S512x1024.Idx → Elt F .f32 :=
  outVal (grid0.coords t) (nuOf (T2 m c)) (blk t.val (t72 t) (X0 m c)) (wblk m hO c 0 t) (wblk m hO c 1 t)

/-- The invariant between two points. -/
def Inv (c : Dev nD) (t : ℕ) : sProp 𝕄 :=
  iprop(iprop(halfPt c tbM1 (T1 m c) ∗ halfPt c tbM2 (T2 m c)) ∗ (∃ r, prngReg c r) ∗ Flight c (X0 m c) t)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => wblk m hO c 0 t
    | ⟨1, _⟩ => wblk m hO c 1 t
    | ⟨2, _⟩ => outsAt m hO c t
  Φ t := Inv m c t.val
  q _ := fullShare
  owed _ := 0

theorem A_eq (hO : Ok m) (c : Dev nD) (w : Fin 3) : (dats m hO 0 c).A w = V m c (Pipeline.arrRef spec0 w) := by dsimp only [dats]
theorem after_0 (hO : Ok m) (c : Dev nD) (t : Fin (cfgM m hO).N) : (dats m hO 0 c).after 0 t = wblk m hO c 0 t := rfl
theorem after_1 (hO : Ok m) (c : Dev nD) (t : Fin (cfgM m hO).N) : (dats m hO 0 c).after 1 t = wblk m hO c 1 t := rfl
theorem after_2 (hO : Ok m) (c : Dev nD) (t : Fin (cfgM m hO).N) : (dats m hO 0 c).after 2 t = outsAt m hO c t := rfl

theorem before_0 (hO : Ok m) (c : Dev nD) (t : Fin (cfgM m hO).N) (d) : (dats m hO 0 c).before 0 t d = wblk m hO c 0 t :=
  ((dats m hO 0 c).before_in_eq_fetched 0 rfl (fun _ => rfl) (fun _ _ _ => rfl) (fun _ => rfl) t d).trans rfl
theorem before_1 (hO : Ok m) (c : Dev nD) (t : Fin (cfgM m hO).N) (d) : (dats m hO 0 c).before 1 t d = wblk m hO c 1 t :=
  ((dats m hO 0 c).before_in_eq_fetched 1 rfl (fun _ => rfl) (fun _ _ _ => rfl) (fun _ => rfl) t d).trans rfl

/-- The body stores the result's block at every point. -/
theorem idle_2 (pf : pre0.Contents (Elt F)) (t : Fin grid0.N) : idle0 pf 2 (grid0.coords t) = false := by
  have key : ∀ a b c d e f : Bool, (a = true ∨ b = true) → (c = true ∨ d = true) → e = c → f = d →
      (!(a && c) && !(a && d) && !(b && e) && !(b && f)) = false := by decide
  refine key _ _ _ _ _ _ ?_ ?_ rfl rfl
  · by_cases h : t.val % 2 = 0
    · exact .inl (beq_iff_eq.mpr ((c2_iff t).mpr h))
    · exact .inr (beq_iff_eq.mpr ((c6_iff t).mpr (by omega)))
  · by_cases h : k0_cond4 (grid0.coords t) (pf.atD 1 ![0]) = 1#1
    · exact .inl (beq_iff_eq.mpr h)
    · exact .inr (beq_iff_eq.mpr ((cond5_iff _ _).mpr h))

/-! ## The body obligation -/

abbrev ms0 (hO : Ok m) (t : Fin (cfgM m hO).N) : Memref sig .tc .vmem S1x1024x5632 .bf16 := spec0_0.stage ((cfgM m hO).slots t 0)
abbrev ms1 (hO : Ok m) (t : Fin (cfgM m hO).N) : Memref sig .tc .vmem S1x2816x1024 .bf16 := spec0_1.stage ((cfgM m hO).slots t 1)
abbrev ms2 (hO : Ok m) (t : Fin (cfgM m hO).N) : Memref sig .tc .vmem S512x1024 .f32 := spec0_2.stage ((cfgM m hO).slots t 2)

def bodyAt (hO : Ok m) (t : Fin (cfgM m hO).N) : Prog (TpuEff nD τ sig (Elt F) Λ₀ .tc) PUnit :=
  cc0_moe_experts (grid0.coords t) tbM1 (Memref.isWhole_whole _) tbM2 (Memref.isWhole_whole _) xsM (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) xaM (Memref.isWhole_whole _) xbM (Memref.isWhole_whole _) cc0_scratch2

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1]
  rw [after_0, after_1, after_2]
  rw [show (dats m hO 0 c).Φ t.succ = Inv m c (t.val + 1) from rfl, show (dats m hO 0 c).Φ t.castSucc = Inv m c t.val from rfl]
  unfold Inv Dat.owesAt Pipeline.owesWithin
  rw [show (dats m hO 0 c).owed t.castSucc = 0 from rfl, show (dats m hO 0 c).owed t.succ = 0 from rfl]
  iintro ⟨⟨⟨HT1, HT2⟩, Hp, HF⟩, ⟨%W, -, HW⟩, ⟨%d0, H0⟩, ⟨%d1, H1⟩, ⟨%d2, H2⟩⟩
  iapply (step c t (t72 t) (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (X0 m c) (T1 m c) (T2 m c) (wblk m hO c 0 t) (wblk m hO c 1 t) ((dats m hO 0 c).before 2 t d2) W _)
  isplitl [HF]; · iexact HF
  isplitl [HT1 HT2 H0 H1 H2]
  · isplitl [HT1]; · iexact HT1
    isplitl [HT2]; · iexact HT2
    isplitl [H0]; · iexact H0
    isplitl [H1]; · iexact H1
    iexact H2
  isplitl [HW]; · iexact HW
  unfold given
  iintro ⟨HF, ⟨HT1, HT2, H0, H1, H2⟩, ⟨%W', HW'⟩⟩
  isplitl [HF HT1 HT2 Hp]
  · isplitl [HT1 HT2]
    · isplitl [HT1]; · iexact HT1
      iexact HT2
    isplitl [Hp]; · iexact Hp
    iexact HF
  isplitl [HW']
  · iexists W'; isplitr; · ipureintro; exact fun _ _ => Or.inl trivial
    iexact HW'
  isplitl [H0]; · iexact H0
  isplitl [H1]; · iexact H1
  iexact H2

theorem body_obligation (hO : Ok m) (c : Dev nD) : BodyObligation (dats (F := F) m hO 0 c) (defs₀ (F := F)) Variants.none () Set.univ := fun t => by
  rw [bigSep_W0, bigSep_W0, defs₀_row]
  have hi : (cfgM m hO).idle 2 ((cfgM m hO).grid.coords t) = false := idle_2 (tbl m) t
  refine triple_restated (sound_body m hO c t) rfl .rfl fun _ => ?_
  unfold bodyPost
  iintro ⟨HF, HW, H0, H1, H2⟩
  isplitl [HF]; · iexact HF
  isplitl [HW]; · iexact HW
  isplitl [H0]; · iexact H0
  isplitl [H1]; · iexact H1
  split
  · rename_i h; exact absurd h Bool.false_ne_true
  · split
    · rename_i h; exact absurd (hi.symm.trans h) Bool.false_ne_true
    · iexact H2

/-! ## The run -/

theorem hin (hO : Ok m) (c : Dev nD) :
    iprop(Pipeline.ΦD osem0 spec0 H0 (V m) c ∗ Pipeline.ΦT pre0 (tbl m) c) ⊢ ((dats m hO 0 c).Φ 0 : sProp 𝕄) := by
  rw [show (dats m hO 0 c).Φ 0 = Inv m c 0 from rfl, PhiD0_eq, PhiT0_eq]
  unfold Inv
  rw [flight_idle c _ 0 (by simp)]
  iintro ⟨⟨HS, Hp, HC, HX⟩, HT⟩
  isplitl [HT]; · iexact HT
  isplitl [Hp]; · iexact Hp
  isplitl [HS]; · iexact HS
  isplitl [HC]; · iexact HC
  iexact HX
theorem hout (hO : Ok m) (c : Dev nD) :
    ((dats m hO 0 c).Φ (Fin.last (cfgM m hO).N) : sProp 𝕄) ⊢ Pipeline.ΦD osem0 spec0 H0 (V m) c := by
  rw [show (dats m hO 0 c).Φ (Fin.last (cfgM m hO).N) = Inv m c 72 from congrArg (Inv m c) N_0, PhiD0_eq]
  unfold Inv
  rw [flight_idle c _ 72 (by simp)]
  iintro ⟨HT, Hp, HS, HC, HX⟩
  isplitl [HS]; · iexact HS
  isplitl [Hp]; · iexact Hp
  isplitl [HC]; · iexact HC
  iexact HX

set_option backward.isDefEq.respectTransparency.types false in
theorem run_main (hO : Ok m) : θ_run defs (onTc (τ := τ) (main (F := F))) (s₀ m ρ)
    (fun r => Pipeline.FramePost (Pipeline.pin (pcfgs (F := F)) (adm m hO)) (dats m hO) 0 (V m) r ∧ r.2.sem = fun _ => 0) :=
  Pipeline.θ_run_frameP_dma (Q' := _) pcfgs (adm m hO) (dats m hO) (0 : Fin 1) launch0 osem0 defs₀ Variants.none ownSemFacts0 H0 H0_sub m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments end as they began. -/
theorem frame_of (hO : Ok m) (r : PUnit × MemSt nD τ sig (Elt F)) (h : Pipeline.FramePost (Pipeline.pin (pcfgs (F := F)) (adm m hO)) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c).2 main_arg0 (show main_arg0 ∈ Pipeline.restRefs sig spec0 from Pipeline.mem_restRefs_of main_arg0 (by decide) (by decide)),
   (h c).2 main_arg1 (show main_arg1 ∈ Pipeline.restRefs sig spec0 from Pipeline.mem_restRefs_of main_arg1 (by decide) (by decide)),
   (h c).2 main_arg2 (show main_arg2 ∈ Pipeline.restRefs sig spec0 from Pipeline.mem_restRefs_of main_arg2 (by decide) (by decide)),
   ((h c).1 0).trans ((dats m hO 0 c).arrAt_in 0 rfl _),
   ((h c).1 1).trans ((dats m hO 0 c).arrAt_in 1 rfl _)⟩

end Cert.KernelIdeal.Hand

end
-- ==== Proof.Experts.Ok.lean ====
/-
  Hand-written, untrusted. THE EXPERT IDS: the precondition decoded, and the pipeline's side condition from it.
-/
module

public import proofs.«01_k».proof.Proof.Experts.Frame
public import proofs.«01_k».proof.Proof.Gen.Pre_expert_ids
public import Idealize.ShloMosaic.Lib.StableHlo.Predicate
public import Idealize.ShloMosaic.Lib.Affine

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

local instance : Cert.Pre_expert_ids.Facts := Cert.Pre_expert_ids.Gen.facts

/-- The predicate says that every id is one of the eight. -/
theorem id_lt (a0 : FVec F S36864x8x128 .f32) (a1 : IVec S72 32) (a2 : IVec S1 32) (a3 : FVec F S8x1024x5632 .bf16) (a4 : FVec F S8x2816x1024 .bf16)
    (h : Cert.Pre_expert_ids.fn (F := F) a0 a1 a2 a3 a4 = fun _ => 1#1) (j : S72.Idx) : (a1 j).toNat < 8 := by
  have e : IntOp.andi (IntOp.cmpi .sge (a1 j) 0#32) (IntOp.cmpi .slt (a1 j) 8#32) = 1#1 := congrFun h j
  rw [IntOp.andi_eq_one, IntOp.cmpi_sge, IntOp.cmpi_slt, show (0#32).toInt = 0 by decide, show (8#32).toInt = 8 by decide, BitVec.toInt_eq_toNat_cond] at e
  have := (a1 j).isLt
  split at e <;> omega

variable (m : (ℓ : Loc nD τ sig) → Buf (Elt F) ℓ)

/-- The expert of a point's block: the word its weight windows' index maps read. -/
abbrev beAt (i : grid0.Coords) : BitVec 32 :=
  (tbl m).at 0 (Rect.unit (s := S72) ![(Scalar.indexCast (BitVec.ofNat 32 (i 0).val) : Index).toNat] S1.size (k0_off1_inb i)) numel1_S1

theorem beAt_lt (h : ∀ j : S72.Idx, (T1 m 0 j : BitVec 32).toNat < 8) (i : grid0.Coords) : (beAt m i).toNat < 8 := h _

/-- It is the table's word at the point. -/
theorem beAt_eq (t : Fin grid0.N) : beAt m (grid0.coords t) = (T1 m 0 (ValueIdx.ix1 ⟨t.val, t72 t⟩) : BitVec 32) := by
  refine congrArg (T1 m 0) (funext fun a => ?_)
  fin_cases a
  apply Fin.ext
  have e : ∀ t : Fin grid0.N, (Scalar.indexCast (BitVec.ofNat 32 (grid0.coords t 0).val) : Index).toNat = t.val := by decide +kernel
  show (Scalar.indexCast (BitVec.ofNat 32 (grid0.coords t 0).val) : Index).toNat + 1 * 0 = t.val
  rw [e]; rfl

theorem words_1 : ∀ e : Fin 8, ∀ h, (Rect.block (s := S8x1024x5632) S1x1024x5632.size ![e.val, 0, 0] h).WholeWords (EltTy.packing .bf16) := by decide
theorem words_2 : ∀ e : Fin 8, ∀ h, (Rect.block (s := S8x2816x1024) S1x2816x1024.size ![e.val, 0, 0] h).WholeWords (EltTy.packing .bf16) := by decide
theorem inb_1 (e : Fin 8) : ∀ a, ((![e.val, 0, 0] : Fin 3 → ℕ) a + 1) * S1x1024x5632.size a ≤ S8x1024x5632.size a := by revert e; decide
theorem inb_2 (e : Fin 8) : ∀ a, ((![e.val, 0, 0] : Fin 3 → ℕ) a + 1) * S1x2816x1024.size a ≤ S8x2816x1024.size a := by revert e; decide

/-- Ids below eight give the side condition. -/
theorem ok_of_lt (h : ∀ j : S72.Idx, (T1 m 0 j : BitVec 32).toNat < 8) : Ok m := by
  exact ⟨fun i => ⟨inb_1 ⟨_, beAt_lt m h i⟩, .inr (words_1 ⟨_, beAt_lt m h i⟩ _)⟩, fun i => ⟨inb_2 ⟨_, beAt_lt m h i⟩, .inr (words_2 ⟨_, beAt_lt m h i⟩ _)⟩⟩

/-- Every run ends, with the arguments as they began and every counter at zero. -/
theorem frame_run (ρ : Dev nD → PrngReg) (hO : Ok m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hr => ⟨frame_of m hO r hr.1, hr.2⟩) (run_main m ρ hO)

end Cert.KernelIdeal.Hand

end
-- ==== Proof.Experts.Value.lean ====
/-
  Hand-written, untrusted. ONE EXPERT'S ROW, and what a point of the call stores, read at an index at the ideal values.
-/
module

public import proofs.«01_k».proof.Proof.Experts.Ok
public import Idealize.ShloMosaic.Lib.MatmulPlain
public import Idealize.ShloMosaic.Lib.StackMember
public import Idealize.ShloMosaic.Lib.IdealHost
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A row against one column of the input weights. -/
def proj (h : Fin 1024 → EReal) (w : Fin 1024 → Fin 5632 → EReal) (j : Fin 5632) : EReal := ∑ k : Fin 1024, h k * w k j
/-- One hidden unit: the swish of its gate column by its up column. -/
def hid (h : Fin 1024 → EReal) (w : Fin 1024 → Fin 5632 → EReal) (f : Fin 2816) : EReal :=
  proj h w ⟨f.val, by omega⟩ * Ideal.div 1 (1 + Ideal.exp (-(proj h w ⟨f.val, by omega⟩))) * proj h w ⟨2816 + f.val, by omega⟩
/-- An expert's output for the row `h`, at one column. -/
def expert (h : Fin 1024 → EReal) (w : Fin 1024 → Fin 5632 → EReal) (o : Fin 2816 → Fin 1024 → EReal) (c : Fin 1024) : EReal :=
  ∑ f : Fin 2816, hid h w f * o f c

theorem dot_a : dot_S512x1024_S1024x1536_S512x1536_1_0_0_1_n_n = DotDims.plain 512 1024 1536 := rfl
theorem dot_b : dot_S512x1024_S1024x1280_S512x1280_1_0_0_1_n_n = DotDims.plain 512 1024 1280 := rfl
theorem dot_c : dot_S512x1536_S1536x1024_S512x1024_1_0_0_1_n_n = DotDims.plain 512 1536 1024 := rfl
theorem dot_d : dot_S512x1280_S1280x1024_S512x1024_1_0_0_1_n_n = DotDims.plain 512 1280 1024 := rfl

/-- The swish, as the call writes it. -/
theorem swish_apply {s : Shape} (a b : FVec Ideal s .f32) (j : s.Idx) :
    mulf (mulf a (divf (broadcast s (Scalar.ofBits .f32 0x3F800000#32)) (addf (broadcast s (Scalar.ofBits .f32 0x3F800000#32)) (exp (subf (broadcast s (Scalar.ofBits .f32 0x00000000#32)) a))))) b j
      = a j * Ideal.div 1 (1 + Ideal.exp (-(a j))) * b j := by
  show a j * Ideal.div (Ideal.ofBits .f32 0x3F800000#32) (Ideal.ofBits .f32 0x3F800000#32 + Ideal.exp (Ideal.ofBits .f32 0x00000000#32 - a j)) * b j = _
  rw [Ideal.ofBits_one_f32, Ideal.ofBits_zero_f32, zero_sub]

theorem pay7_apply (x : VIdx → Elt Ideal .f32) (w : FVec Ideal S1024x1280 .bf16) (r : Fin 512) (f : Fin 1280) :
    k0_pay7 (F := Ideal) x w (ValueIdx.ix2 r f) = ∑ k : Fin 1024, x (ValueIdx.ix2 r k) * w (ValueIdx.ix2 k f) := by
  show FloatOps.matmul dot_S512x1024_S1024x1280_S512x1280_1_0_0_1_n_n none (k0_pay5 (F := Ideal) x) w (constant (F := Ideal) S512x1280 .f32 0x00000000#32) (ValueIdx.ix2 r f) = _
  rw [dot_b, Ideal.matmul_plain_apply]
  show Ideal.ofBits .f32 0x00000000#32 + _ = _
  rw [Ideal.ofBits_zero_f32, zero_add]; rfl

theorem pay6_apply (x : VIdx → Elt Ideal .f32) (w u : FVec Ideal S1024x1536 .bf16) (o : FVec Ideal S1536x1024 .bf16) (r : Fin 512) (c : Fin 1024) :
    k0_pay6 (F := Ideal) x w u o (ValueIdx.ix2 r c)
      = ∑ f : Fin 1536, ((∑ k : Fin 1024, x (ValueIdx.ix2 r k) * w (ValueIdx.ix2 k f)) * Ideal.div 1 (1 + Ideal.exp (-(∑ k : Fin 1024, x (ValueIdx.ix2 r k) * w (ValueIdx.ix2 k f))))
          * ∑ k : Fin 1024, x (ValueIdx.ix2 r k) * u (ValueIdx.ix2 k f)) * o (ValueIdx.ix2 f c) := by
  have prod : ∀ (v : FVec Ideal S1024x1536 .bf16) (f : Fin 1536),
      matmul (F := Ideal) dot_S512x1024_S1024x1536_S512x1536_1_0_0_1_n_n none (k0_pay5 (F := Ideal) x) v (constant S512x1536 .f32 0x00000000#32) (ValueIdx.ix2 r f)
        = ∑ k : Fin 1024, x (ValueIdx.ix2 r k) * v (ValueIdx.ix2 k f) := by
    intro v f
    show FloatOps.matmul dot_S512x1024_S1024x1536_S512x1536_1_0_0_1_n_n none (k0_pay5 (F := Ideal) x) v (constant (F := Ideal) S512x1536 .f32 0x00000000#32) (ValueIdx.ix2 r f) = _
    rw [dot_a, Ideal.matmul_plain_apply]
    show Ideal.ofBits .f32 0x00000000#32 + _ = _
    rw [Ideal.ofBits_zero_f32, zero_add]; rfl
  unfold k0_pay6
  show FloatOps.matmul dot_S512x1536_S1536x1024_S512x1024_1_0_0_1_n_n none _ o (constant (F := Ideal) S512x1024 .f32 0x00000000#32) (ValueIdx.ix2 r c) = _
  rw [dot_c, Ideal.matmul_plain_apply]
  show Ideal.ofBits .f32 0x00000000#32 + _ = _
  rw [Ideal.ofBits_zero_f32, zero_add]
  refine Finset.sum_congr rfl fun f _ => congrArg (· * o (ValueIdx.ix2 f c)) ?_
  refine (swish_apply _ _ (ValueIdx.ix2 r f)).trans ?_
  rw [prod w f, prod u f]

theorem pay1_apply (x : VIdx → Elt Ideal .f32) (a : FVec Ideal S512x1024 .f32) (g : FVec Ideal S512x1280 .f32) (u : FVec Ideal S1024x1280 .bf16) (o : FVec Ideal S1280x1024 .bf16)
    (r : Fin 512) (c : Fin 1024) :
    k0_pay1 (F := Ideal) (k0_pay5 x) a g u o (ValueIdx.ix2 r c)
      = a (ValueIdx.ix2 r c) + ∑ f : Fin 1280, (g (ValueIdx.ix2 r f) * Ideal.div 1 (1 + Ideal.exp (-(g (ValueIdx.ix2 r f)))) * ∑ k : Fin 1024, x (ValueIdx.ix2 r k) * u (ValueIdx.ix2 k f)) * o (ValueIdx.ix2 f c) := by
  unfold k0_pay1
  show a (ValueIdx.ix2 r c) + FloatOps.matmul dot_S512x1280_S1280x1024_S512x1024_1_0_0_1_n_n none _ o (constant (F := Ideal) S512x1024 .f32 0x00000000#32) (ValueIdx.ix2 r c) = _
  rw [dot_d, Ideal.matmul_plain_apply]
  show a (ValueIdx.ix2 r c) + (Ideal.ofBits .f32 0x00000000#32 + _) = _
  rw [Ideal.ofBits_zero_f32, zero_add]
  refine congrArg (a (ValueIdx.ix2 r c) + ·) (Finset.sum_congr rfl fun f _ => congrArg (· * o (ValueIdx.ix2 f c)) ?_)
  refine (swish_apply _ _ (ValueIdx.ix2 r f)).trans ?_
  exact congrArg (g (ValueIdx.ix2 r f) * Ideal.div 1 (1 + Ideal.exp (-(g (ValueIdx.ix2 r f)))) * ·) (pay7_apply x u r f)

/-- What a used block's point stores: the expert's output for each of its rows. -/
theorem outVal_used (i : grid0.Coords) (nu : BitVec 32) (x : VIdx → Elt Ideal .f32) (w4 : S1x1024x5632.Idx → Elt Ideal .bf16) (w5 : S1x2816x1024.Idx → Elt Ideal .bf16)
    (hc : k0_cond4 i nu = 1#1) (r : Fin 512) (c : Fin 1024) :
    outVal (F := Ideal) i nu x w4 w5 (ValueIdx.ix2 r c)
      = expert (fun k => x (ValueIdx.ix2 r k)) (fun k j => w4 (ValueIdx.ix3 (0 : Fin 1) k j)) (fun f j => w5 (ValueIdx.ix3 (0 : Fin 1) f j)) c := by
  unfold outVal
  rw [if_pos hc, pay1_apply, pay6_apply]
  unfold expert
  refine Eq.trans ?_ (Fin.sum_univ_add (a := 1536) (b := 1280) (fun f => hid (fun k => x (ValueIdx.ix2 r k)) (fun k j => w4 (ValueIdx.ix3 (0 : Fin 1) k j)) f * w5 (ValueIdx.ix3 (0 : Fin 1) f c))).symm
  refine congrArg₂ (· + ·) (Finset.sum_congr rfl fun f _ => ?_) (Finset.sum_congr rfl fun f _ => ?_)
  · refine congrArg₂ (· * ·) ?_ ?_
    · unfold hid proj
      have e1 : ∀ k : Fin 1024, inCols (F := Ideal) 1536 0 (by decide) w4 (ValueIdx.ix2 k f) = w4 (ValueIdx.ix3 (0 : Fin 1) k (⟨f.val, by omega⟩ : Fin 5632)) := fun k => by
        unfold inCols; refine congrArg w4 ?_; funext a; fin_cases a <;> first | rfl | (apply Fin.ext; exact Nat.zero_add _)
      have e2 : ∀ k : Fin 1024, inCols (F := Ideal) 1536 2816 (by decide) w4 (ValueIdx.ix2 k f) = w4 (ValueIdx.ix3 (0 : Fin 1) k (⟨2816 + f.val, by omega⟩ : Fin 5632)) := fun k => rfl
      simp only [e1, e2]; rfl
    · unfold outRows; refine congrArg w5 ?_; funext a; fin_cases a <;> first | rfl | (apply Fin.ext; exact Nat.zero_add _)
  · refine congrArg₂ (· * ·) ?_ rfl
    rw [pay7_apply]
    unfold hid proj
    have e2 : ∀ k : Fin 1024, inCols (F := Ideal) 1280 4352 (by decide) w4 (ValueIdx.ix2 k f) = w4 (ValueIdx.ix3 (0 : Fin 1) k (⟨2816 + (1536 + f.val), by omega⟩ : Fin 5632)) := fun k => by
      unfold inCols; refine congrArg w4 ?_; funext a; fin_cases a <;> first | rfl | (apply Fin.ext; show 4352 + f.val = 2816 + (1536 + f.val); omega)
    simp only [e2]; rfl

/-- An unused block's point stores zeros. -/
theorem outVal_unused (i : grid0.Coords) (nu : BitVec 32) (x : VIdx → Elt Ideal .f32) (w4 : S1x1024x5632.Idx → Elt Ideal .bf16) (w5 : S1x2816x1024.Idx → Elt Ideal .bf16)
    (hc : ¬ k0_cond4 i nu = 1#1) (y : VIdx) : outVal (F := Ideal) i nu x w4 w5 y = (0 : EReal) := by
  unfold outVal
  rw [if_neg hc]
  exact Ideal.ofBits_zero_f32

end Cert.KernelIdeal.Hand

end
-- ==== Proof.Experts.Final.lean ====
/-
  Hand-written, untrusted. THE RESULT ARRAY OF THE EXPERTS CALL at the ideal values: the blocks the points store, placed,
  and each of its rows the row's expert or zeros.
-/
module

public import proofs.«01_k».proof.Proof.Experts.Value
public import Idealize.ShloMosaic.Lib.Pipeline.Value
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The windows' index maps -/

theorem flush_2 (hO : Ok m) (t : Fin (cfgM m hO).N) : ((cfgM m hO).win 2).flush t = true := by
  have key : ∀ t : Fin grid0.N, Pipeline.Window.flushOf grid0 true (fun i => cc0_transform_3 i) t = true := by decide +kernel
  exact (Pipeline.Window.flush_eq_flushOf _ _).trans (key t)

theorem ix_2 : ∀ t : Fin grid0.N, cc0_transform_3 (grid0.coords t) 0 = t.val ∧ cc0_transform_3 (grid0.coords t) 1 = 0 := by decide +kernel

/-- The point that stores a row. -/
def tile (hO : Ok m) (r : Fin 36864) : Fin (cfgM m hO).N := ⟨r.val / 512, by
  have h : (cfgM m hO).N = 72 := N_0
  rw [h]; have := r.isLt; omega⟩

/-- What the result array is shown to hold. -/
def val (hO : Ok m) (c : Dev nD) : Buf (Elt Ideal) ((c.tc : Thread nD τ).loc main_v0) :=
  fun i => outsAt m hO c (tile m hO (i 0)) (ValueIdx.ix2 (⟨(i 0 : Fin 36864).val % 512, Nat.mod_lt _ (by decide)⟩ : Fin 512) (i 1 : Fin 1024))

/-- A block's index in the array. -/
abbrev place (hO : Ok m) (t : Fin (cfgM m hO).N) (y : S512x1024.Idx) : S36864x1024.Idx := (((cfgM m hO).win 2).rect t).emb y

theorem emb_2 (hO : Ok m) (t : Fin (cfgM m hO).N) (y : S512x1024.Idx) :
    (place m hO t y 0).val = t.val * 512 + (y 0).val ∧ (place m hO t y 1).val = (y 1).val := by
  constructor
  · show cc0_transform_3 (grid0.coords t) 0 * 512 + 1 * (y 0).val = _
    rw [(ix_2 t).1, Nat.one_mul]
  · show cc0_transform_3 (grid0.coords t) 1 * 1024 + 1 * (y 1).val = _
    rw [(ix_2 t).2]; omega

theorem flushed_eq (hO : Ok m) (c : Dev nD) (t : Fin (cfgM m hO).N) :
    (dats m hO 0 c).flushed 2 t = (((cfgM m hO).win 2).blk t).view.read (Elt Ideal) (val m hO c) := by
  show ((cfgM m hO).win 2).cut (grid0.coords t) ((dats m hO 0 c).after 2 t) = _
  rw [after_2]
  refine funext fun (y : S512x1024.Idx) => ?_
  have e := emb_2 m hO t y
  have hy0 : (y 0).val < 512 := (y 0).isLt
  show outsAt m hO c t y = val m hO c (place m hO t y)
  unfold val
  have e1 : tile m hO (place m hO t y 0) = t := by
    apply Fin.ext; unfold tile
    show (place m hO t y 0).val / 512 = t.val
    rw [e.1]; omega
  rw [e1]
  refine congrArg (outsAt m hO c t) ?_
  funext a; apply Fin.ext
  fin_cases a
  · show (y 0).val = (place m hO t y 0).val % 512
    rw [e.1]; omega
  · exact e.2.symm

theorem cover (hO : Ok m) (i : S36864x1024.Idx) :
    ∃ t : Fin (cfgM m hO).N, ((cfgM m hO).win 2).flush t = true ∧ i ∈ (((cfgM m hO).win 2).blk t).view.set := by
  refine ⟨tile m hO (i 0), flush_2 m hO _, ?_⟩
  show i ∈ ((View.whole main_v0).slice (((cfgM m hO).win 2).rect (tile m hO (i 0)))).set
  erw [View.set_slice_whole]
  refine (Pipeline.Window.mem_rect_iff ((cfgM m hO).win 2) (tile m hO (i 0)) i (by rfl)).mpr fun a => ?_
  have hx := ix_2 (tile m hO (i 0))
  have h0 : (i 0).val < 36864 := (i 0).isLt
  have h1 : (i 1).val < 1024 := (i 1).isLt
  fin_cases a
  · show cc0_transform_3 (grid0.coords (tile m hO (i 0))) 0 * 512 ≤ (i 0).val ∧ (i 0).val < cc0_transform_3 (grid0.coords (tile m hO (i 0))) 0 * 512 + 512
    rw [hx.1]
    show (i 0).val / 512 * 512 ≤ (i 0).val ∧ (i 0).val < (i 0).val / 512 * 512 + 512
    omega
  · show cc0_transform_3 (grid0.coords (tile m hO (i 0))) 1 * 1024 ≤ (i 1).val ∧ (i 1).val < cc0_transform_3 (grid0.coords (tile m hO (i 0))) 1 * 1024 + 1024
    rw [hx.2]
    omega

theorem final (hO : Ok m) (c : Dev nD) : (dats m hO 0 c).arrAt 2 (cfgM m hO).N = val m hO c :=
  (dats m hO 0 c).arrAt_eq_of_cover 2 (val m hO c) (fun t _ => flushed_eq m hO c t) (cover m hO)

/-! ## Its rows -/

/-- The expert of a row's block. -/
abbrev beOf (r : Fin 36864) : BitVec 32 := T1 m 0 (ValueIdx.ix1 (⟨r.val / 512, by have := r.isLt; omega⟩ : Fin 72))

theorem wblk_0 (hO : Ok m) (hlt : ∀ j : S72.Idx, (T1 m 0 j : BitVec 32).toNat < 8) (c : Dev nD) (r : Fin 36864) (k : Fin 1024) (j : Fin 5632) :
    wblk m hO c 0 (tile m hO r) (ValueIdx.ix3 (0 : Fin 1) k j) = V m c main_arg3 (ValueIdx.ix3 (⟨(beOf m r).toNat, hlt _⟩ : Fin 8) k j) := by
  refine congrArg (V m c main_arg3) (funext fun a => Fin.ext ?_)
  fin_cases a
  · show (beAt m (grid0.coords (tile m hO r))).toNat * 1 + 1 * 0 = (beOf m r).toNat
    rw [beAt_eq]; exact Nat.mul_one _
  · show 0 * 1024 + 1 * k.val = k.val
    omega
  · show 0 * 5632 + 1 * j.val = j.val
    omega

theorem wblk_1 (hO : Ok m) (hlt : ∀ j : S72.Idx, (T1 m 0 j : BitVec 32).toNat < 8) (c : Dev nD) (r : Fin 36864) (k : Fin 2816) (j : Fin 1024) :
    wblk m hO c 1 (tile m hO r) (ValueIdx.ix3 (0 : Fin 1) k j) = V m c main_arg4 (ValueIdx.ix3 (⟨(beOf m r).toNat, hlt _⟩ : Fin 8) k j) := by
  refine congrArg (V m c main_arg4) (funext fun a => Fin.ext ?_)
  fin_cases a
  · show (beAt m (grid0.coords (tile m hO r))).toNat * 1 + 1 * 0 = (beOf m r).toNat
    rw [beAt_eq]; exact Nat.mul_one _
  · show 0 * 2816 + 1 * k.val = k.val
    omega
  · show 0 * 1024 + 1 * j.val = j.val
    omega

/-- A row of the dispatched slots, its two trailing axes flattened. -/
def slotRow (c : Dev nD) (r : Fin 36864) (k : Fin 1024) : EReal :=
  X0 m c (ValueIdx.ix3 r (⟨k.val / 128, by have := k.isLt; omega⟩ : Fin 8) (⟨k.val % 128, Nat.mod_lt _ (by decide)⟩ : Fin 128))

theorem cond4_iff (t : Fin grid0.N) (nu : BitVec 32) : k0_cond4 (grid0.coords t) nu = 1#1 ↔ (t.val : ℤ) < nu.toInt := by
  have key : ∀ b : BitVec 1, Scalar.cmpi .ne (Scalar.extui b : BitVec 32) 0#32 = 1#1 ↔ b = 1#1 := by decide
  refine (key _).trans ?_
  show IntOp.cmpi .slt _ _ = 1#1 ↔ _
  rw [IntOp.cmpi_slt]
  have e : ∀ t : Fin grid0.N, (BitVec.ofNat 32 (grid0.coords t 0).val).toInt = (t.val : ℤ) := by decide +kernel
  rw [e]

theorem val_used (hO : Ok m) (hlt : ∀ j : S72.Idx, (T1 m 0 j : BitVec 32).toNat < 8) (c : Dev nD) (r : Fin 36864) (j : Fin 1024)
    (hu : ((r.val / 512 : ℕ) : ℤ) < (nuOf (F := Ideal) (T2 m c)).toInt) :
    val m hO c (ValueIdx.ix2 r j) = expert (slotRow m c r) (fun k f => V m c main_arg3 (ValueIdx.ix3 (⟨(beOf m r).toNat, hlt _⟩ : Fin 8) k f))
      (fun f k => V m c main_arg4 (ValueIdx.ix3 (⟨(beOf m r).toNat, hlt _⟩ : Fin 8) f k)) j := by
  unfold val outsAt
  refine (outVal_used _ _ _ _ _ ((cond4_iff (tile m hO r) _).mpr hu) _ _).trans ?_
  have ex : (fun k : Fin 1024 => blk (F := Ideal) (tile m hO r).val (t72 (tile m hO r)) (X0 m c) (ValueIdx.ix2 (⟨r.val % 512, Nat.mod_lt _ (by decide)⟩ : Fin 512) k)) = slotRow m c r := by
    funext k
    unfold slotRow
    refine congrArg (X0 m c) (funext fun a => Fin.ext ?_)
    fin_cases a
    · show 512 * (r.val / 512) + r.val % 512 = r.val
      omega
    · rfl
    · rfl
  refine Eq.trans ?_ (congrArg (fun h => expert h _ _ j) ex)
  refine congrArg₂ (fun w o => expert _ w o j) (funext fun k => funext fun f => ?_) (funext fun f => funext fun k => ?_)
  · exact wblk_0 m hO hlt c r k f
  · exact wblk_1 m hO hlt c r f k

theorem val_unused (hO : Ok m) (c : Dev nD) (r : Fin 36864) (j : Fin 1024)
    (hu : ¬ ((r.val / 512 : ℕ) : ℤ) < (nuOf (F := Ideal) (T2 m c)).toInt) :
    val m hO c (ValueIdx.ix2 r j) = (0 : EReal) := by
  unfold val outsAt
  exact outVal_unused _ _ _ _ _ (fun h => hu ((cond4_iff (tile m hO r) _).mp h)) _

/-- The run, read: the result at `val`, every argument as it began. -/
theorem run_val (ρ : Dev nD → PrngReg) (hO : Ok m) :
    θ_run (defs (F := Ideal)) (onTc (τ := τ) (main (F := Ideal))) ⟨m, fun _ => 0, ρ⟩ (fun r => ∀ c : Dev nD,
      r.2.mem ((c.tc : Thread nD τ).loc main_v0) = val m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => ⟨((hr.1 c).1 2).trans (final m hO c), frame_of m hO r hr.1 c⟩) (run_main m ρ hO)

end Cert.KernelIdeal.Hand

end
-- ==== Proof.Experts.RefValue.lean ====
/-
  Hand-written, untrusted. THE REFERENCE'S RESULT read at an index at the ideal values: each expert's output under its
  gate, and the eight of them summed.
-/
module

public import proofs.«01_k».proof.Proof.Experts.Value
public import proofs.«01_k».proof.Proof.Gen.ReferenceIdeal.Run

@[expose] public section

noncomputable section

namespace Cert.ReferenceIdeal.Hand

open Cert.ReferenceIdeal Cert.ReferenceIdeal.Gen Cert.ReferenceIdeal.Value
open Idealize.ShloMosaic Idealize.ShloMosaic.StableHlo
open Cert.KernelIdeal.Hand (proj hid expert)

theorem dot_in : dot_S36864x1024_S1024x5632_S36864x5632_1_0_0_1_n_n = DotDims.plain 36864 1024 5632 := rfl
theorem dot_out : dot_S36864x2816_S2816x1024_S36864x1024_1_0_0_1_n_n = DotDims.plain 36864 2816 1024 := rfl

/-- Row `r` of the slots, flattened. -/
def row (X : FVec Ideal S36864x1024 .f32) (r : Fin 36864) (k : Fin 1024) : EReal := X (ValueIdx.ix2 r k)
def wIn (W : FVec Ideal S8x1024x5632 .bf16) (e : Fin 8) (k : Fin 1024) (f : Fin 5632) : EReal := W (ValueIdx.ix3 e k f)
def wOut (W : FVec Ideal S8x2816x1024 .bf16) (e : Fin 8) (f : Fin 2816) (k : Fin 1024) : EReal := W (ValueIdx.ix3 e f k)

/-- An expert's input projection. -/
theorem proj_apply (X : FVec Ideal S36864x1024 .f32) (W : FVec Ideal S8x1024x5632 .bf16) (e : Fin 8)
    (h : S8x1024x5632.Slices ![e.val, 0, 0] S1x1024x5632) (hc : S1x1024x5632.ShapeCasts S1024x5632) (hb) (r : Fin 36864) (f : Fin 5632) :
    Host.dotGeneral dot_S36864x1024_S1024x5632_S36864x5632_1_0_0_1_n_n none X
      (extf .f32 (shapeCast S1024x5632 (extractStridedSlice S1x1024x5632 ![e.val, 0, 0] W h) hc) hb) (ValueIdx.ix2 r f) = proj (row X r) (wIn W e) f := by
  rw [dot_in, StackMember.dotGeneral_plain_apply]
  unfold proj row wIn
  refine Finset.sum_congr rfl fun k _ => congrArg (X (ValueIdx.ix2 r k) * ·) ?_
  show shapeCast S1024x5632 (extractStridedSlice S1x1024x5632 ![e.val, 0, 0] W h) hc (ValueIdx.ix2 k f) = _
  refine (ValueIdx.shapeCast_1ab_ab_apply _ hc k f).trans ?_
  refine extractStridedSlice_apply _ W h _ _ fun a => ?_
  fin_cases a
  · exact (Nat.add_zero _).symm
  · exact (Nat.zero_add _).symm
  · exact (Nat.zero_add _).symm

/-- An expert's output, over its two halves. -/
theorem expert_apply (P : FVec Ideal S36864x5632 .f32) (G : FVec Ideal S36864x2816 .f32) (X : FVec Ideal S36864x1024 .f32) (W : FVec Ideal S8x1024x5632 .bf16) (O : FVec Ideal S8x2816x1024 .bf16) (e : Fin 8)
    (hP : ∀ r f, P (ValueIdx.ix2 r f) = proj (row X r) (wIn W e) f)
    (h0 : S36864x5632.Slices ![0, 0] S36864x2816) (hG : G = extractStridedSlice S36864x2816 ![0, 0] P h0)
    (h1 : S36864x5632.Slices ![0, 2816] S36864x2816) (h : S8x2816x1024.Slices ![e.val, 0, 0] S1x2816x1024)
    (hc : S1x2816x1024.ShapeCasts S2816x1024) (hb) (hs) (r : Fin 36864) (c : Fin 1024) :
    Host.dotGeneral dot_S36864x2816_S2816x1024_S36864x1024_1_0_0_1_n_n none
      (mulf (mulf G (Host.divf (broadcastInDim S36864x2816 ![] hs (constant S_ .f32 0x3F800000#32))
        (addf (broadcastInDim S36864x2816 ![] hs (constant S_ .f32 0x3F800000#32)) (Host.exp (Host.negf G)))))
        (extractStridedSlice S36864x2816 ![0, 2816] P h1))
      (extf .f32 (shapeCast S2816x1024 (extractStridedSlice S1x2816x1024 ![e.val, 0, 0] O h) hc) hb) (ValueIdx.ix2 r c)
      = expert (row X r) (wIn W e) (wOut O e) c := by
  rw [dot_out, StackMember.dotGeneral_plain_apply]
  unfold expert
  refine Finset.sum_congr rfl fun f _ => congrArg₂ (· * ·) ?_ ?_
  · have hg : G (ValueIdx.ix2 r f) = proj (row X r) (wIn W e) ⟨f.val, by omega⟩ := by
      rw [hG, ← hP]
      refine extractStridedSlice_apply _ P h0 _ _ fun a => ?_
      fin_cases a
      · exact (Nat.zero_add _).symm
      · exact (Nat.zero_add _).symm
    have hu : extractStridedSlice S36864x2816 ![0, 2816] P h1 (ValueIdx.ix2 r f) = proj (row X r) (wIn W e) ⟨2816 + f.val, by omega⟩ := by
      rw [← hP]
      refine extractStridedSlice_apply _ P h1 _ _ fun a => ?_
      fin_cases a
      · exact (Nat.zero_add _).symm
      · rfl
    unfold hid
    rw [← hg, ← hu]
    show G (ValueIdx.ix2 r f) * Ideal.div (Ideal.ofBits .f32 0x3F800000#32) (Ideal.ofBits .f32 0x3F800000#32 + Ideal.exp (-(G (ValueIdx.ix2 r f)))) * _ = _
    rw [Ideal.ofBits_one_f32]
  · show shapeCast S2816x1024 (extractStridedSlice S1x2816x1024 ![e.val, 0, 0] O h) hc (ValueIdx.ix2 f c) = wOut O e f c
    unfold wOut
    refine (ValueIdx.shapeCast_1ab_ab_apply _ hc f c).trans ?_
    refine extractStridedSlice_apply _ O h _ _ fun a => ?_
    fin_cases a
    · exact (Nat.add_zero _).symm
    · exact (Nat.zero_add _).symm
    · exact (Nat.zero_add _).symm

/-! ## The gates -/

variable (V0 : Valuation τ sig (Elt Ideal))

abbrev ids : IVec S72 32 := V0 (Proc.devRef .tc main_arg1)
abbrev used : IVec S1 32 := V0 (Proc.devRef .tc main_arg2)

/-- The slots' two trailing axes flattened. -/
theorem row_apply (r : Fin 36864) (k : Fin 1024) :
    row (res_main_v0 (F := Ideal) V0) r k = (V0 (Proc.devRef .tc main_arg0) : FVec Ideal S36864x8x128 .f32)
      (ValueIdx.ix3 r (⟨k.val / 128, by have := k.isLt; omega⟩ : Fin 8) (⟨k.val % 128, Nat.mod_lt _ (by decide)⟩ : Fin 128)) := by
  have hk := k.isLt
  unfold row res_main_v0
  refine shapeCast_apply (s := S36864x8x128) (t := S36864x1024) _ _ _ _ ?_
  rw [Shape.rowMajor_val_three, Shape.rowMajor_val_two]
  show (r.val * 8 + k.val / 128) * 128 + k.val % 128 = r.val * 1024 + k.val
  omega

theorem gate_apply (r : Fin 36864) (e : Fin 8) :
    res_main_v17 (F := Ideal) V0 (ValueIdx.ix2 r e)
      = if ids V0 (ValueIdx.ix1 (⟨r.val / 512, by have := r.isLt; omega⟩ : Fin 72)) = BitVec.ofNat 32 e.val ∧ ((r.val / 512 : ℕ) : ℤ) < (used V0 (ValueIdx.ix1 (0 : Fin 1))).toInt
        then (1 : EReal) else 0 := by
  have hr := r.isLt
  unfold res_main_v17
  refine (shapeCast_apply _ _ (ValueIdx.ix2 r e) (ValueIdx.ix3 (⟨r.val / 512, by omega⟩ : Fin 72) (⟨r.val % 512, Nat.mod_lt _ (by decide)⟩ : Fin 512) e) ?_).trans ?_
  · rw [Shape.rowMajor_val_three, Shape.rowMajor_val_two]
    show ((r.val / 512) * 512 + r.val % 512) * 8 + e.val = r.val * 8 + e.val
    rw [Nat.div_add_mod' r.val 512]
  refine (broadcastInDim_apply _ _ _ _ (ValueIdx.ix3 (⟨r.val / 512, by omega⟩ : Fin 72) (0 : Fin 1) e) (fun a => by fin_cases a <;> rfl)).trans ?_
  refine (broadcastInDim_apply _ _ _ _ (ValueIdx.ix2 (⟨r.val / 512, by omega⟩ : Fin 72) e) (fun a => by fin_cases a <;> rfl)).trans ?_
  have hid : broadcastInDim S72x8 ![0, 1] bcast_S72x1_S72x8_0_1 (broadcastInDim S72x1 ![0] bcast_S72_S72x1_0 (ids V0)) (ValueIdx.ix2 (⟨r.val / 512, by omega⟩ : Fin 72) e)
      = ids V0 (ValueIdx.ix1 (⟨r.val / 512, by omega⟩ : Fin 72)) :=
    (broadcastInDim_apply _ _ _ _ (ValueIdx.ix2 (⟨r.val / 512, by omega⟩ : Fin 72) (0 : Fin 1)) (fun a => by fin_cases a <;> rfl)).trans
      (broadcastInDim_apply _ _ _ _ (ValueIdx.ix1 (⟨r.val / 512, by omega⟩ : Fin 72)) (fun a => by fin_cases a <;> rfl))
  have hio : broadcastInDim S72x8 ![0, 1] bcast_S1x8_S72x8_0_1 (broadcastInDim S1x8 ![1] bcast_S8_S1x8_1 (iotaInDim S8 32 0)) (ValueIdx.ix2 (⟨r.val / 512, by omega⟩ : Fin 72) e)
      = BitVec.ofNat 32 e.val :=
    (broadcastInDim_apply _ _ _ _ (ValueIdx.ix2 (0 : Fin 1) e) (fun a => by fin_cases a <;> rfl)).trans
      (broadcastInDim_apply _ _ _ _ (ValueIdx.ix1 e) (fun a => by fin_cases a <;> rfl))
  have hnu : broadcastInDim S72 ![] bcast_S_S72 (shapeCast S_ (used V0) shapeCasts_S1_S_) (ValueIdx.ix1 (⟨r.val / 512, by omega⟩ : Fin 72)) = used V0 (ValueIdx.ix1 (0 : Fin 1)) := by
    refine congrArg (used V0) ?_
    funext a; fin_cases a; exact Subsingleton.elim (α := Fin 1) _ _
  have hus : broadcastInDim S72x8 ![0, 1] bcast_S72x1_S72x8_0_1 (broadcastInDim S72x1 ![0] bcast_S72_S72x1_0
        (cmpi .slt (iotaInDim S72 32 0) (broadcastInDim S72 ![] bcast_S_S72 (shapeCast S_ (used V0) shapeCasts_S1_S_)))) (ValueIdx.ix2 (⟨r.val / 512, by omega⟩ : Fin 72) e)
      = IntOp.cmpi .slt (BitVec.ofNat 32 (r.val / 512)) (used V0 (ValueIdx.ix1 (0 : Fin 1))) := by
    refine (broadcastInDim_apply _ _ _ _ (ValueIdx.ix2 (⟨r.val / 512, by omega⟩ : Fin 72) (0 : Fin 1)) (fun a => by fin_cases a <;> rfl)).trans ?_
    refine (broadcastInDim_apply _ _ _ _ (ValueIdx.ix1 (⟨r.val / 512, by omega⟩ : Fin 72)) (fun a => by fin_cases a <;> rfl)).trans ?_
    exact congrArg (IntOp.cmpi .slt (BitVec.ofNat 32 (r.val / 512))) hnu
  have e3 := congrArg₂ (fun a b => IntOp.andi a b) (congrArg₂ (fun a b => IntOp.cmpi .eq a b) hid hio) hus
  refine (congrArg (fun b : BitVec 1 => Scalar.select b (Ideal.ofBits .f32 0x3F800000#32) (Ideal.ofBits .f32 0x00000000#32)) e3).trans ?_
  unfold Scalar.select
  rw [Ideal.ofBits_one_f32, Ideal.ofBits_zero_f32]
  refine if_congr ?_ rfl rfl
  show IntOp.andi _ _ = 1#1 ↔ _
  rw [IntOp.andi_eq_one, IntOp.cmpi_eq, IntOp.cmpi_slt]
  have ei : ∀ t : Fin 72, (BitVec.ofNat 32 t.val).toInt = (t.val : ℤ) := by decide
  rw [ei ⟨r.val / 512, by omega⟩]

/-! ## The result -/

/-- One expert's share of a result element. -/
theorem share_apply (G : FVec Ideal S36864x8 .f32) (D : FVec Ideal S36864x1024 .f32) (e : Fin 8) (hb : S36864x1.BroadcastsInDim S36864x1024 ![0, 1])
    (hs : S36864x8.Slices ![0, e.val] S36864x1) (r : Fin 36864) (c : Fin 1024) (g d : EReal) (hg : G (ValueIdx.ix2 r e) = g) (hd : D (ValueIdx.ix2 r c) = d) :
    mulf (broadcastInDim S36864x1024 ![0, 1] hb (extractStridedSlice S36864x1 ![0, e.val] G hs)) D (ValueIdx.ix2 r c) = g * d := by
  refine congrArg₂ (· * ·) ?_ hd
  refine (broadcastInDim_apply _ _ _ _ (ValueIdx.ix2 r (0 : Fin 1)) (fun a => by fin_cases a <;> rfl)).trans (Eq.trans ?_ hg)
  refine extractStridedSlice_apply _ G hs _ _ fun a => ?_
  fin_cases a
  · exact (Nat.zero_add _).symm
  · rfl

/-- Of eight gated terms the one of the row's expert is left, when the row is used. -/
theorem pick (b : Fin 8) (u : Prop) [Decidable u] (E : Fin 8 → EReal) :
    ((((((((0 + (if BitVec.ofNat 32 b.val = BitVec.ofNat 32 0 ∧ u then (1 : EReal) else 0) * E 0)
      + (if BitVec.ofNat 32 b.val = BitVec.ofNat 32 1 ∧ u then (1 : EReal) else 0) * E 1)
      + (if BitVec.ofNat 32 b.val = BitVec.ofNat 32 2 ∧ u then (1 : EReal) else 0) * E 2)
      + (if BitVec.ofNat 32 b.val = BitVec.ofNat 32 3 ∧ u then (1 : EReal) else 0) * E 3)
      + (if BitVec.ofNat 32 b.val = BitVec.ofNat 32 4 ∧ u then (1 : EReal) else 0) * E 4)
      + (if BitVec.ofNat 32 b.val = BitVec.ofNat 32 5 ∧ u then (1 : EReal) else 0) * E 5)
      + (if BitVec.ofNat 32 b.val = BitVec.ofNat 32 6 ∧ u then (1 : EReal) else 0) * E 6)
      + (if BitVec.ofNat 32 b.val = BitVec.ofNat 32 7 ∧ u then (1 : EReal) else 0) * E 7) = if u then E b else 0 := by
  by_cases hu : u
  · fin_cases b <;> simp [hu]
  · simp [hu]

theorem result_apply (r : Fin 36864) (c : Fin 1024) (hlt : (ids V0 (ValueIdx.ix1 (⟨r.val / 512, by have := r.isLt; omega⟩ : Fin 72))).toNat < 8) :
    val3 (F := Ideal) V0 (Proc.devRef .tc main_v146) (ValueIdx.ix2 r c)
      = if ((r.val / 512 : ℕ) : ℤ) < (used V0 (ValueIdx.ix1 (0 : Fin 1))).toInt
        then expert (row (res_main_v0 V0) r) (wIn (V0 (Proc.devRef .tc main_arg3)) ⟨_, hlt⟩) (wOut (V0 (Proc.devRef .tc main_arg4)) ⟨_, hlt⟩) c else (0 : EReal) := by
  rw [val3_main_v146]
  unfold res_main_v98
  have hb : ids V0 (ValueIdx.ix1 (⟨r.val / 512, by have := r.isLt; omega⟩ : Fin 72)) = BitVec.ofNat 32 (⟨_, hlt⟩ : Fin 8).val := by simp
  have hg := fun e : Fin 8 => (gate_apply V0 r e).trans (if_congr (and_congr_left' (by rw [← hb])) rfl rfl : _ = if BitVec.ofNat 32 (⟨_, hlt⟩ : Fin 8).val = BitVec.ofNat 32 e.val ∧ ((r.val / 512 : ℕ) : ℤ) < (used V0 (ValueIdx.ix1 (0 : Fin 1))).toInt then (1 : EReal) else 0)
  refine Eq.trans ?_ (pick ⟨_, hlt⟩ _ fun e => expert (row (res_main_v0 V0) r) (wIn (V0 (Proc.devRef .tc main_arg3)) e) (wOut (V0 (Proc.devRef .tc main_arg4)) e) c)
  refine congrArg₂ (· + ·) ?_ (share_apply _ _ 7 _ _ r c _ _ (hg 7) (expert_apply (res_main_v137 V0) (res_main_v138 V0) (res_main_v0 V0) (V0 (Proc.devRef .tc main_arg3)) _ 7
    (fun r f => proj_apply _ _ 7 _ _ _ r f) _ rfl _ _ _ _ _ r c))
  refine congrArg₂ (· + ·) ?_ (share_apply _ _ 6 _ _ r c _ _ (hg 6) (expert_apply (res_main_v121 V0) (res_main_v122 V0) (res_main_v0 V0) (V0 (Proc.devRef .tc main_arg3)) _ 6
    (fun r f => proj_apply _ _ 6 _ _ _ r f) _ rfl _ _ _ _ _ r c))
  refine congrArg₂ (· + ·) ?_ (share_apply _ _ 5 _ _ r c _ _ (hg 5) (expert_apply (res_main_v105 V0) (res_main_v106 V0) (res_main_v0 V0) (V0 (Proc.devRef .tc main_arg3)) _ 5
    (fun r f => proj_apply _ _ 5 _ _ _ r f) _ rfl _ _ _ _ _ r c))
  refine congrArg₂ (· + ·) ?_ (share_apply _ _ 4 _ _ r c _ _ (hg 4) (expert_apply (res_main_v89 V0) (res_main_v90 V0) (res_main_v0 V0) (V0 (Proc.devRef .tc main_arg3)) _ 4
    (fun r f => proj_apply _ _ 4 _ _ _ r f) _ rfl _ _ _ _ _ r c))
  refine congrArg₂ (· + ·) ?_ (share_apply _ _ 3 _ _ r c _ _ (hg 3) (expert_apply (res_main_v73 V0) (res_main_v74 V0) (res_main_v0 V0) (V0 (Proc.devRef .tc main_arg3)) _ 3
    (fun r f => proj_apply _ _ 3 _ _ _ r f) _ rfl _ _ _ _ _ r c))
  refine congrArg₂ (· + ·) ?_ (share_apply _ _ 2 _ _ r c _ _ (hg 2) (expert_apply (res_main_v57 V0) (res_main_v58 V0) (res_main_v0 V0) (V0 (Proc.devRef .tc main_arg3)) _ 2
    (fun r f => proj_apply _ _ 2 _ _ _ r f) _ rfl _ _ _ _ _ r c))
  refine congrArg₂ (· + ·) ?_ (share_apply _ _ 1 _ _ r c _ _ (hg 1) (expert_apply (res_main_v41 V0) (res_main_v42 V0) (res_main_v0 V0) (V0 (Proc.devRef .tc main_arg3)) _ 1
    (fun r f => proj_apply _ _ 1 _ _ _ r f) _ rfl _ _ _ _ _ r c))
  refine congrArg₂ (· + ·) ?_ (share_apply _ _ 0 _ _ r c _ _ (hg 0) (expert_apply (res_main_v25 V0) (res_main_v26 V0) (res_main_v0 V0) (V0 (Proc.devRef .tc main_arg3)) _ 0
    (fun r f => proj_apply _ _ 0 _ _ _ r f) _ rfl _ _ _ _ _ r c))
  exact Ideal.ofBits_zero_f32

end Cert.ReferenceIdeal.Hand

end
-- ==== Proof.Ffn.Value.lean ====
/-
  Hand-written, untrusted. WHAT ONE POINT OF THE OUTPUT PROJECTION AND FEED-FORWARD CALL STORES, read at an index at the
  ideal values.
-/
module

public import proofs.«01_k».proof.Proof.Experts.Value
public import proofs.«01_k».proof.Proof.Gen.Kernel2Ideal.Value
public import Idealize.ShloMosaic.Lib.Pointwise
public import Idealize.ShloMosaic.Lib.ValueLayout

@[expose] public section

noncomputable section

namespace Cert.Kernel2Ideal.Hand

open Cert.Kernel2Ideal Cert.Kernel2Ideal.Gen
open Idealize.ShloMosaic
open Cert.KernelIdeal.Hand (proj hid expert)

/-- The three mixers' outputs of one token, side by side. -/
def cat (a : Fin 384 → EReal) (b : Fin 256 → EReal) (c : Fin 384 → EReal) (k : Fin 1024) : EReal :=
  if h : k.val < 384 then a ⟨k.val, h⟩ else if h' : k.val - 384 < 256 then b ⟨k.val - 384, h'⟩ else c ⟨k.val - 384 - 256, by omega⟩

/-- A token after its gated mixers' projection is added. -/
def mixed (h g y : Fin 1024 → EReal) (w : Fin 1024 → Fin 1024 → EReal) (k : Fin 1024) : EReal := h k + g k * ∑ j : Fin 1024, y j * w j k

/-- A row times the reciprocal root of its mean square (the two words are the width and the small constant). -/
def scaled (x : Fin 1024 → EReal) (k : Fin 1024) : EReal :=
  x k * Ideal.rsqrt (Ideal.div (∑ j : Fin 1024, x j * x j) (Ideal.ofBits .f32 0x44800000#32) + Ideal.ofBits .f32 0x358637BD#32)

/-- The normed and modulated row. -/
def normed (x g sh sc : Fin 1024 → EReal) (k : Fin 1024) : EReal := scaled x k * g k * (1 + sc k) + sh k

/-- The row after the gated feed-forward is added. -/
def layerEnd (h1 g sh sc g2 : Fin 1024 → EReal) (wi : Fin 1024 → Fin 5632 → EReal) (wf : Fin 2816 → Fin 1024 → EReal) (c : Fin 1024) : EReal :=
  h1 c + g2 c * expert (normed h1 g sh sc) wi wf c

theorem dot_o : dot_S1024x1024_S1024x1024_S1024x1024_1_0_0_1_n_n = DotDims.plain 1024 1024 1024 := rfl
theorem dot_a : dot_S1024x1024_S1024x1536_S1024x1536_1_0_0_1_n_n = DotDims.plain 1024 1024 1536 := rfl
theorem dot_b : dot_S1024x1024_S1024x1280_S1024x1280_1_0_0_1_n_n = DotDims.plain 1024 1024 1280 := rfl
theorem dot_c : dot_S1024x1536_S1536x1024_S1024x1024_1_0_0_1_n_n = DotDims.plain 1024 1536 1024 := rfl
theorem dot_d : dot_S1024x1280_S1280x1024_S1024x1024_1_0_0_1_n_n = DotDims.plain 1024 1280 1024 := rfl

abbrev B := FVec Ideal S1024x1024 .f32
abbrev W := FVec Ideal S1024x1024 .bf16

/-- A product into a zero array, at an index. -/
theorem prod_apply (M K N : ℕ) (x : FVec Ideal ⟨2, ![M, K]⟩ .bf16) (w : FVec Ideal ⟨2, ![K, N]⟩ .bf16) (r : Fin M) (c : Fin N) :
    matmul (F := Ideal) (DotDims.plain M K N) none x w (constant (F := Ideal) ⟨2, ![M, N]⟩ .f32 0x00000000#32) (ValueIdx.ix2 r c)
      = ∑ k : Fin K, x (ValueIdx.ix2 r k) * w (ValueIdx.ix2 k c) := by
  show FloatOps.matmul (DotDims.plain M K N) none x w (constant (F := Ideal) ⟨2, ![M, N]⟩ .f32 0x00000000#32) (ValueIdx.ix2 r c) = _
  rw [Ideal.matmul_plain_apply]
  show Ideal.ofBits .f32 0x00000000#32 + _ = _
  rw [Ideal.ofBits_zero_f32, zero_add]

theorem cat_apply (a : FVec Ideal S1024x384 .bf16) (b : FVec Ideal S1024x256 .bf16) (c : FVec Ideal S1024x384 .bf16) (r k : Fin 1024) :
    concatenate S1024x1024 1 [⟨S1024x384, a⟩, ⟨S1024x256, b⟩, ⟨S1024x384, c⟩] concatenates_S1024x384_S1024x256_S1024x384_S1024x1024_d1 (ValueIdx.ix2 r k)
      = cat (fun j => a (ValueIdx.ix2 r j)) (fun j => b (ValueIdx.ix2 r j)) (fun j => c (ValueIdx.ix2 r j)) k := by
  unfold cat
  pointwise
  rfl

theorem pay2_apply (a : FVec Ideal S1024x384 .bf16) (b : FVec Ideal S1024x256 .bf16) (c : FVec Ideal S1024x384 .bf16) (h : B) (g : FVec Ideal S1x1x1024 .f32) (w : W) (r k : Fin 1024) :
    k0_pay2 (F := Ideal) a b c h g w (ValueIdx.ix2 r k)
      = mixed (fun j => h (ValueIdx.ix2 r j)) (fun j => g (ValueIdx.ix3 (0 : Fin 1) (0 : Fin 1) j))
          (cat (fun j => a (ValueIdx.ix2 r j)) (fun j => b (ValueIdx.ix2 r j)) (fun j => c (ValueIdx.ix2 r j))) (fun j k => w (ValueIdx.ix2 j k)) k := by
  unfold k0_pay2 mixed
  refine congrArg₂ (· + ·) rfl (congrArg₂ (· * ·) ?_ ?_)
  · pointwise
    rfl
  · rw [dot_o, prod_apply]
    refine Finset.sum_congr rfl fun j _ => congrArg₂ (· * ·) (cat_apply a b c r j) ?_
    pointwise

theorem pay4_apply (a : FVec Ideal S1024x384 .bf16) (b : FVec Ideal S1024x256 .bf16) (c : FVec Ideal S1024x384 .bf16) (h : B) (g : FVec Ideal S1x1x1024 .f32) (w : W)
    (n : FVec Ideal S1x1024 .f32) (r k : Fin 1024) :
    k0_pay4 (F := Ideal) a b c h g w n (ValueIdx.ix2 r k)
      = scaled (fun j => k0_pay2 (F := Ideal) a b c h g w (ValueIdx.ix2 r j)) k * n (ValueIdx.ix2 (0 : Fin 1) k) := by
  unfold k0_pay4 scaled
  generalize k0_pay2 (F := Ideal) a b c h g w = x
  pointwise
  rfl

theorem pay6_apply (sh : FVec Ideal S1x1x1024 .f32) (x : B) (sc : FVec Ideal S1x1x1024 .f32) (r k : Fin 1024) :
    k0_pay6 (F := Ideal) (k0_pay3 sh) x (k0_pay5 sc) (ValueIdx.ix2 r k)
      = x (ValueIdx.ix2 r k) * (1 + sc (ValueIdx.ix3 (0 : Fin 1) (0 : Fin 1) k)) + sh (ValueIdx.ix3 (0 : Fin 1) (0 : Fin 1) k) := by
  unfold k0_pay6 k0_pay3 k0_pay5
  pointwise
  rfl

theorem swish_apply {s : Shape} (a b : FVec Ideal s .f32) (j : s.Idx) :
    mulf (mulf a (divf (broadcast s (Scalar.ofBits .f32 0x3F800000#32)) (addf (broadcast s (Scalar.ofBits .f32 0x3F800000#32)) (exp (subf (broadcast s (Scalar.ofBits .f32 0x00000000#32)) a))))) b j
      = a j * Ideal.div 1 (1 + Ideal.exp (-(a j))) * b j :=
  Cert.KernelIdeal.Hand.swish_apply a b j

/-- The first chunk of hidden units, through the output weights. -/
theorem pay8_apply (sh : FVec Ideal S1x1024 .f32) (x : B) (sc : FVec Ideal S1x1024 .f32) (w u : FVec Ideal S1024x1536 .bf16) (o : FVec Ideal S1536x1024 .bf16) (r c : Fin 1024)
    (a : Fin 1024 → EReal) (ha : ∀ k, k0_pay6 (F := Ideal) sh x sc (ValueIdx.ix2 r k) = a k) :
    k0_pay8 (F := Ideal) sh x sc w u o (ValueIdx.ix2 r c)
      = ∑ f : Fin 1536, ((∑ k : Fin 1024, a k * w (ValueIdx.ix2 k f)) * Ideal.div 1 (1 + Ideal.exp (-(∑ k : Fin 1024, a k * w (ValueIdx.ix2 k f))))
          * ∑ k : Fin 1024, a k * u (ValueIdx.ix2 k f)) * o (ValueIdx.ix2 f c) := by
  obtain rfl := funext ha
  unfold k0_pay8
  refine (prod_apply 1024 1536 1024 _ o r c).trans (Finset.sum_congr rfl fun f _ => congrArg (· * o (ValueIdx.ix2 f c)) ?_)
  refine (swish_apply _ _ (ValueIdx.ix2 r f)).trans ?_
  have h := fun v : FVec Ideal S1024x1536 .bf16 => prod_apply 1024 1024 1536 (k0_pay6 (F := Ideal) sh x sc) v r f
  exact congrArg₂ (fun p q => p * Ideal.div 1 (1 + Ideal.exp (-p)) * q) (h w) (h u)

/-- The second chunk's hidden units. -/
theorem pay9_apply (sh : FVec Ideal S1x1024 .f32) (x : B) (sc : FVec Ideal S1x1024 .f32) (w u : FVec Ideal S1024x1280 .bf16) (r : Fin 1024) (f : Fin 1280)
    (a : Fin 1024 → EReal) (ha : ∀ k, k0_pay6 (F := Ideal) sh x sc (ValueIdx.ix2 r k) = a k) :
    k0_pay9 (F := Ideal) sh x sc w u (ValueIdx.ix2 r f)
      = (∑ k : Fin 1024, a k * w (ValueIdx.ix2 k f)) * Ideal.div 1 (1 + Ideal.exp (-(∑ k : Fin 1024, a k * w (ValueIdx.ix2 k f))))
          * ∑ k : Fin 1024, a k * u (ValueIdx.ix2 k f) := by
  obtain rfl := funext ha
  unfold k0_pay9
  refine (swish_apply _ _ (ValueIdx.ix2 r f)).trans ?_
  have h := fun v : FVec Ideal S1024x1280 .bf16 => prod_apply 1024 1024 1280 (k0_pay6 (F := Ideal) sh x sc) v r f
  exact congrArg₂ (fun p q => p * Ideal.div 1 (1 + Ideal.exp (-p)) * q) (h w) (h u)

theorem pay1_apply (h : B) (g : FVec Ideal S1x1x1024 .f32) (p : B) (q : FVec Ideal S1024x1280 .f32) (o : FVec Ideal S1280x1024 .bf16) (r c : Fin 1024) :
    k0_pay1 (F := Ideal) h (k0_pay7 g) p q o (ValueIdx.ix2 r c)
      = h (ValueIdx.ix2 r c) + g (ValueIdx.ix3 (0 : Fin 1) (0 : Fin 1) c) * (p (ValueIdx.ix2 r c) + ∑ f : Fin 1280, q (ValueIdx.ix2 r f) * o (ValueIdx.ix2 f c)) := by
  unfold k0_pay1 k0_pay7
  refine congrArg₂ (· + ·) rfl (congrArg₂ (· * ·) ?_ (congrArg₂ (· + ·) rfl ?_))
  · pointwise
    rfl
  · exact prod_apply 1024 1280 1024 (truncf .bf16 q bitsLt_bf16_f32) o r c

/-- A load of some rows and columns of a matrix, at an index. -/
theorem ld_apply2 {M N m n a b : ℕ} {e : EltTy} (X : (⟨2, ![M, N]⟩ : Shape).Idx → Elt Ideal e) (inb) (r : Fin m) (c : Fin n) (r' : Fin M) (c' : Fin N)
    (hr : r'.val = a + r.val) (hc : c'.val = b + c.val) :
    View.ld X (Rect.unit (s := ⟨2, ![M, N]⟩) ![a, b] ![m, n] inb) (ValueIdx.ix2 r c) = X (ValueIdx.ix2 r' c') := by
  refine View.ld_unit_apply_of X _ _ inb _ _ fun x => ?_
  fin_cases x
  · exact hr
  · exact hc

/-- A point's row: the layer's end on the point's blocks. -/
theorem out_apply (x0 : FVec Ideal S1024x384 .bf16) (x1 : FVec Ideal S1024x256 .bf16) (x2 : FVec Ideal S1024x384 .bf16) (x3 : B) (x4 : W) (x5 : FVec Ideal S1x1x1024 .f32)
    (x6 : FVec Ideal S1x1024 .f32) (x7 x8 : FVec Ideal S1x1x1024 .f32) (x9 : FVec Ideal S1024x5632 .bf16) (x10 : FVec Ideal S2816x1024 .bf16) (x11 : FVec Ideal S1x1x1024 .f32) (r c : Fin 1024) :
    out0_12 (F := Ideal) x0 x1 x2 x3 x4 x5 x6 x7 x8 x9 x10 x11 (ValueIdx.ix2 r c)
      = layerEnd
          (mixed (fun j => x3 (ValueIdx.ix2 r j)) (fun j => x5 (ValueIdx.ix3 (0 : Fin 1) (0 : Fin 1) j))
            (cat (fun j => x0 (ValueIdx.ix2 r j)) (fun j => x1 (ValueIdx.ix2 r j)) (fun j => x2 (ValueIdx.ix2 r j))) (fun j k => x4 (ValueIdx.ix2 j k)))
          (fun k => x6 (ValueIdx.ix2 (0 : Fin 1) k)) (fun k => x7 (ValueIdx.ix3 (0 : Fin 1) (0 : Fin 1) k)) (fun k => x8 (ValueIdx.ix3 (0 : Fin 1) (0 : Fin 1) k))
          (fun k => x11 (ValueIdx.ix3 (0 : Fin 1) (0 : Fin 1) k)) (fun k f => x9 (ValueIdx.ix2 k f)) (fun f k => x10 (ValueIdx.ix2 f k)) c := by
  unfold out0_12 k0_pay10 k0_pay11 k0_pay12
  have l0 : View.ld (Val := Elt Ideal) (e' := .bf16) x0 r0_0 = x0 := View.ld_unit_lit (S := S1024x384) (off := ![0, 0]) _ _ (by decide)
  have l1 : View.ld (Val := Elt Ideal) (e' := .bf16) x1 r0_1 = x1 := View.ld_unit_lit (S := S1024x256) (off := ![0, 0]) _ _ (by decide)
  have l2 : View.ld (Val := Elt Ideal) (e' := .bf16) x2 r0_0 = x2 := View.ld_unit_lit (S := S1024x384) (off := ![0, 0]) _ _ (by decide)
  have l3 : View.ld (Val := Elt Ideal) (e' := .f32) x3 r0_2 = x3 := View.ld_unit_lit (S := S1024x1024) (off := ![0, 0]) _ _ (by decide)
  have l4 : View.ld (Val := Elt Ideal) (e' := .bf16) x4 r0_2 = x4 := View.ld_unit_lit (S := S1024x1024) (off := ![0, 0]) _ _ (by decide)
  have l5 : ∀ x : FVec Ideal S1x1x1024 .f32, View.ld (Val := Elt Ideal) (e' := .f32) x r0_3 = x := fun x => View.ld_unit_lit (S := S1x1x1024) (off := ![0, 0, 0]) _ _ (by decide)
  have l6 : View.ld (Val := Elt Ideal) (e' := .f32) x6 r0_4 = x6 := View.ld_unit_lit (S := S1x1024) (off := ![0, 0]) _ _ (by decide)
  rw [View.canon_cons_unit_lit (S := S1024x1024) (off := ![0, 0]) _ _ _ (by decide), l0, l1, l2, l3, l4, l5 x5, l5 x7, l5 x8, l5 x11, l6]
  have hn : ∀ k, k0_pay6 (F := Ideal) (k0_pay3 x7) (k0_pay4 x0 x1 x2 x3 x5 x4 x6) (k0_pay5 x8) (ValueIdx.ix2 r k)
      = normed (mixed (fun j => x3 (ValueIdx.ix2 r j)) (fun j => x5 (ValueIdx.ix3 (0 : Fin 1) (0 : Fin 1) j))
            (cat (fun j => x0 (ValueIdx.ix2 r j)) (fun j => x1 (ValueIdx.ix2 r j)) (fun j => x2 (ValueIdx.ix2 r j))) (fun j k => x4 (ValueIdx.ix2 j k)))
          (fun k => x6 (ValueIdx.ix2 (0 : Fin 1) k)) (fun k => x7 (ValueIdx.ix3 (0 : Fin 1) (0 : Fin 1) k)) (fun k => x8 (ValueIdx.ix3 (0 : Fin 1) (0 : Fin 1) k)) k := fun k => by
    rw [pay6_apply, pay4_apply]
    simp only [pay2_apply]
    rfl
  rw [pay1_apply, pay2_apply, pay8_apply _ _ _ _ _ _ _ _ _ hn]
  simp only [pay9_apply _ _ _ _ _ _ _ _ hn]
  unfold layerEnd
  refine congrArg₂ (· + ·) rfl (congrArg₂ (· * ·) rfl ?_)
  unfold expert
  refine Eq.trans ?_ (Fin.sum_univ_add (a := 1536) (b := 1280) _).symm
  refine congrArg₂ (· + ·) (Finset.sum_congr rfl fun f _ => ?_) (Finset.sum_congr rfl fun f _ => ?_)
  · have e1 : ∀ k : Fin 1024, View.ld (Val := Elt Ideal) (e' := .bf16) x9 r0_5 (ValueIdx.ix2 k f) = x9 (ValueIdx.ix2 k (⟨f.val, by omega⟩ : Fin 5632)) := fun k =>
      ld_apply2 (e := .bf16) x9 _ k f k (⟨f.val, by omega⟩ : Fin 5632) (Nat.zero_add _).symm (Nat.zero_add _).symm
    have e2 : ∀ k : Fin 1024, View.ld (Val := Elt Ideal) (e' := .bf16) x9 r0_6 (ValueIdx.ix2 k f) = x9 (ValueIdx.ix2 k (⟨2816 + f.val, by omega⟩ : Fin 5632)) := fun k =>
      ld_apply2 (e := .bf16) x9 _ k f k (⟨2816 + f.val, by omega⟩ : Fin 5632) (Nat.zero_add _).symm rfl
    have e3 : View.ld (Val := Elt Ideal) (e' := .bf16) x10 r0_7 (ValueIdx.ix2 f c) = x10 (ValueIdx.ix2 (⟨f.val, by omega⟩ : Fin 2816) c) :=
      ld_apply2 (e := .bf16) x10 _ f c (⟨f.val, by omega⟩ : Fin 2816) c (Nat.zero_add _).symm (Nat.zero_add _).symm
    simp only [e1, e2, e3]
    rfl
  · have e1 : ∀ k : Fin 1024, View.ld (Val := Elt Ideal) (e' := .bf16) x9 r0_8 (ValueIdx.ix2 k f) = x9 (ValueIdx.ix2 k (⟨1536 + f.val, by omega⟩ : Fin 5632)) := fun k =>
      ld_apply2 (e := .bf16) x9 _ k f k (⟨1536 + f.val, by omega⟩ : Fin 5632) (Nat.zero_add _).symm rfl
    have e2 : ∀ k : Fin 1024, View.ld (Val := Elt Ideal) (e' := .bf16) x9 r0_9 (ValueIdx.ix2 k f) = x9 (ValueIdx.ix2 k (⟨2816 + (1536 + f.val), by omega⟩ : Fin 5632)) := fun k =>
      ld_apply2 (e := .bf16) x9 _ k f k (⟨2816 + (1536 + f.val), by omega⟩ : Fin 5632) (Nat.zero_add _).symm (by show 2816 + (1536 + f.val) = 4352 + f.val; omega)
    have e3 : View.ld (Val := Elt Ideal) (e' := .bf16) x10 r0_10 (ValueIdx.ix2 f c) = x10 (ValueIdx.ix2 (⟨1536 + f.val, by omega⟩ : Fin 2816) c) :=
      ld_apply2 (e := .bf16) x10 _ f c (⟨1536 + f.val, by omega⟩ : Fin 2816) c rfl (Nat.zero_add _).symm
    simp only [e1, e2, e3]
    rfl

end Cert.Kernel2Ideal.Hand

end
-- ==== Proof.Ffn.Final.lean ====
/-
  Hand-written, untrusted. THE RESULT ARRAY OF THE OUTPUT PROJECTION AND FEED-FORWARD CALL at the ideal values: each of its
  rows as a function of the arguments' rows.
-/
module

public import proofs.«01_k».proof.Proof.Ffn.Value
public import Idealize.ShloMosaic.Lib.StableHlo.Run

@[expose] public section

noncomputable section

namespace Cert.Kernel2Ideal.Hand

open Cert.Kernel2Ideal Cert.Kernel2Ideal.Gen
open Idealize.ShloMosaic Idealize.ShloMosaic.TcCoe Idealize.ShloMosaic.StableHlo Idealize.SL.Sem
open Idealize.ShloMosaic.Pipeline (Dat)

/-- The batch that a token belongs to. -/
def batch (r : Fin 16384) : Fin 4 := ⟨r.val / 4096, by have := r.isLt; omega⟩

/-- Token `r`'s row of the result, of the twelve arguments. -/
def tokenEnd (yr : FVec Ideal S16384x384 .bf16) (yc : FVec Ideal S16384x256 .bf16) (yn : FVec Ideal S16384x384 .bf16) (h : FVec Ideal S16384x1024 .f32)
    (w : FVec Ideal S1024x1024 .f32) (g1 : FVec Ideal S4x1x1024 .f32) (n2 : FVec Ideal S1024 .f32) (sh sc : FVec Ideal S4x1x1024 .f32)
    (wi : FVec Ideal S1024x5632 .bf16) (wf : FVec Ideal S2816x1024 .bf16) (g2 : FVec Ideal S4x1x1024 .f32) (r : Fin 16384) (j : Fin 1024) : EReal :=
  layerEnd
    (mixed (fun k => h (ValueIdx.ix2 r k)) (fun k => g1 (ValueIdx.ix3 (batch r) (0 : Fin 1) k))
      (cat (fun k => yr (ValueIdx.ix2 r k)) (fun k => yc (ValueIdx.ix2 r k)) (fun k => yn (ValueIdx.ix2 r k))) (fun i k => w (ValueIdx.ix2 i k)))
    (fun k => n2 (ValueIdx.ix1 k)) (fun k => sh (ValueIdx.ix3 (batch r) (0 : Fin 1) k)) (fun k => sc (ValueIdx.ix3 (batch r) (0 : Fin 1) k))
    (fun k => g2 (ValueIdx.ix3 (batch r) (0 : Fin 1) k)) (fun k f => wi (ValueIdx.ix2 k f)) (fun f k => wf (ValueIdx.ix2 f k)) j

variable (m : (ℓ : Loc nD τ sig) → Buf (Elt Ideal) ℓ)

/-- What the result array is shown to hold. -/
def val2 (c : Dev nD) (i : S16384x1024.Idx) : EReal :=
  tokenEnd (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11)) (i 0) (i 1)

/-! ## The arrays that the host prepares -/

theorem host_w (c : Dev nD) : V m c main_v0 = truncf (F := Ideal) .bf16 (m ((c.tc : Thread nD τ).loc main_arg4) : FVec Ideal S1024x1024 .f32) bitsLt_bf16_f32 := by
  show StableHlo.after hostOps0 (fun b => m (c, b)) (Proc.devRef .tc main_v0) = _
  unfold hostOps0
  after_results_simp

theorem host_n (c : Dev nD) : V m c main_v1 = shapeCast S1x1024 (m ((c.tc : Thread nD τ).loc main_arg6) : FVec Ideal S1024 .f32) shapeCasts_S1024_S1x1024 := by
  show StableHlo.after hostOps0 (fun b => m (c, b)) (Proc.devRef .tc main_v1) = _
  unfold hostOps0
  after_results_simp
  rfl

/-! ## The windows' index maps -/

theorem ix_row : ∀ t : Fin grid0.N, (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0)
    ∧ (cc0_transform_3 (grid0.coords t) 0 = t.val ∧ cc0_transform_3 (grid0.coords t) 1 = 0)
    ∧ (cc0_transform_12 (grid0.coords t) 0 = t.val ∧ cc0_transform_12 (grid0.coords t) 1 = 0) := by decide +kernel

theorem ix_mod : ∀ t : Fin grid0.N, (cc0_transform_5 (grid0.coords t) 0 = t.val / 4 ∧ cc0_transform_5 (grid0.coords t) 1 = 0 ∧ cc0_transform_5 (grid0.coords t) 2 = 0)
    ∧ (cc0_transform_7 (grid0.coords t) 0 = t.val / 4 ∧ cc0_transform_7 (grid0.coords t) 1 = 0 ∧ cc0_transform_7 (grid0.coords t) 2 = 0)
    ∧ (cc0_transform_8 (grid0.coords t) 0 = t.val / 4 ∧ cc0_transform_8 (grid0.coords t) 1 = 0 ∧ cc0_transform_8 (grid0.coords t) 2 = 0)
    ∧ (cc0_transform_11 (grid0.coords t) 0 = t.val / 4 ∧ cc0_transform_11 (grid0.coords t) 1 = 0 ∧ cc0_transform_11 (grid0.coords t) 2 = 0) := by decide +kernel

/-- The point that stores a row, and the row's place in its block. -/
def tile (r : Fin 16384) : Fin cfg0.N := ⟨r.val / 1024, by
  have h : cfg0.N = 16 := by decide
  rw [h]; have := r.isLt; omega⟩
def inTile (r : Fin 16384) : Fin 1024 := ⟨r.val % 1024, Nat.mod_lt _ (by decide)⟩

theorem tile_row (r : Fin 16384) (k : ℕ) (hk : k = (tile r).val) : k * 1024 + 1 * (inTile r).val = r.val := by
  subst hk
  show r.val / 1024 * 1024 + 1 * (r.val % 1024) = r.val
  omega

theorem tile_batch (r : Fin 16384) (k : ℕ) (hk : k = (tile r).val / 4) : k * 1 + 1 * 0 = (batch r).val := by
  subst hk
  show r.val / 1024 / 4 * 1 + 1 * 0 = r.val / 4096
  omega

theorem whole_ix (n k : ℕ) : 0 * n + 1 * k = k := by omega

theorem at0 (n k z : ℕ) (hz : z = 0) : z * n + 1 * k = k := by subst hz; exact whole_ix n k

/-! ## The windows' blocks at the point of a row -/

theorem rd0 (c : Dev nD) (r : Fin 16384) (k : Fin 384) :
    (iblk m c 0 (tile r) : FVec Ideal S1024x384 .bf16) (ValueIdx.ix2 (inTile r) k) = (m ((c.tc : Thread nD τ).loc main_arg0) : FVec Ideal S16384x384 .bf16) (ValueIdx.ix2 r k) := by
  refine Eq.trans (congrArg (V m c main_arg0) (funext fun a => Fin.ext ?_)) (congrFun (V_main_arg0 m c) _)
  have e := (ix_row (tile r)).1
  fin_cases a
  · exact tile_row r _ e.1
  · exact at0 384 k.val _ e.2

theorem rd1 (c : Dev nD) (r : Fin 16384) (k : Fin 256) :
    (iblk m c 1 (tile r) : FVec Ideal S1024x256 .bf16) (ValueIdx.ix2 (inTile r) k) = (m ((c.tc : Thread nD τ).loc main_arg1) : FVec Ideal S16384x256 .bf16) (ValueIdx.ix2 r k) := by
  refine Eq.trans (congrArg (V m c main_arg1) (funext fun a => Fin.ext ?_)) (congrFun (V_main_arg1 m c) _)
  have e := (ix_row (tile r)).2.1
  fin_cases a
  · exact tile_row r _ e.1
  · exact at0 256 k.val _ e.2

theorem rd2 (c : Dev nD) (r : Fin 16384) (k : Fin 384) :
    (iblk m c 2 (tile r) : FVec Ideal S1024x384 .bf16) (ValueIdx.ix2 (inTile r) k) = (m ((c.tc : Thread nD τ).loc main_arg2) : FVec Ideal S16384x384 .bf16) (ValueIdx.ix2 r k) := by
  refine Eq.trans (congrArg (V m c main_arg2) (funext fun a => Fin.ext ?_)) (congrFun (V_main_arg2 m c) _)
  have e := (ix_row (tile r)).2.2.1
  fin_cases a
  · exact tile_row r _ e.1
  · exact at0 384 k.val _ e.2

theorem rd3 (c : Dev nD) (r : Fin 16384) (k : Fin 1024) :
    (iblk m c 3 (tile r) : FVec Ideal S1024x1024 .f32) (ValueIdx.ix2 (inTile r) k) = (m ((c.tc : Thread nD τ).loc main_arg3) : FVec Ideal S16384x1024 .f32) (ValueIdx.ix2 r k) := by
  refine Eq.trans (congrArg (V m c main_arg3) (funext fun a => Fin.ext ?_)) (congrFun (V_main_arg3 m c) _)
  have e := (ix_row (tile r)).2.2.2.1
  fin_cases a
  · exact tile_row r _ e.1
  · exact at0 1024 k.val _ e.2

theorem rd4 (c : Dev nD) (r : Fin 16384) (i k : Fin 1024) :
    (iblk m c 4 (tile r) : FVec Ideal S1024x1024 .bf16) (ValueIdx.ix2 i k) = (m ((c.tc : Thread nD τ).loc main_arg4) : FVec Ideal S1024x1024 .f32) (ValueIdx.ix2 i k) := by
  refine Eq.trans (congrArg (V m c main_v0) (funext fun a => Fin.ext ?_)) (congrFun (host_w m c) (ValueIdx.ix2 i k))
  fin_cases a
  · exact whole_ix 1024 i.val
  · exact whole_ix 1024 k.val

theorem rd6 (c : Dev nD) (r : Fin 16384) (k : Fin 1024) :
    (iblk m c 6 (tile r) : FVec Ideal S1x1024 .f32) (ValueIdx.ix2 (0 : Fin 1) k) = (m ((c.tc : Thread nD τ).loc main_arg6) : FVec Ideal S1024 .f32) (ValueIdx.ix1 k) := by
  refine Eq.trans (congrArg (V m c main_v1) (funext fun a => Fin.ext ?_)) ((congrFun (host_n m c) (ValueIdx.ix2 (0 : Fin 1) k)).trans ?_)
  · fin_cases a
    · exact whole_ix 1 0
    · exact whole_ix 1024 k.val
  · refine shapeCast_apply (s := S1024) (t := S1x1024) _ _ _ _ ?_
    rw [Shape.rowMajor_val_one, Shape.rowMajor_val_two]
    show k.val = 0 * 1024 + k.val
    omega

theorem rd9 (c : Dev nD) (r : Fin 16384) (i : Fin 1024) (k : Fin 5632) :
    (iblk m c 9 (tile r) : FVec Ideal S1024x5632 .bf16) (ValueIdx.ix2 i k) = (m ((c.tc : Thread nD τ).loc main_arg9) : FVec Ideal S1024x5632 .bf16) (ValueIdx.ix2 i k) := by
  refine Eq.trans (congrArg (V m c main_arg9) (funext fun a => Fin.ext ?_)) (congrFun (V_main_arg9 m c) _)
  fin_cases a
  · exact whole_ix 1024 i.val
  · exact whole_ix 5632 k.val

theorem rd10 (c : Dev nD) (r : Fin 16384) (i : Fin 2816) (k : Fin 1024) :
    (iblk m c 10 (tile r) : FVec Ideal S2816x1024 .bf16) (ValueIdx.ix2 i k) = (m ((c.tc : Thread nD τ).loc main_arg10) : FVec Ideal S2816x1024 .bf16) (ValueIdx.ix2 i k) := by
  refine Eq.trans (congrArg (V m c main_arg10) (funext fun a => Fin.ext ?_)) (congrFun (V_main_arg10 m c) _)
  fin_cases a
  · exact whole_ix 2816 i.val
  · exact whole_ix 1024 k.val

theorem rd5 (c : Dev nD) (r : Fin 16384) (k : Fin 1024) :
    (iblk m c 5 (tile r) : FVec Ideal S1x1x1024 .f32) (ValueIdx.ix3 (0 : Fin 1) (0 : Fin 1) k) = (m ((c.tc : Thread nD τ).loc main_arg5) : FVec Ideal S4x1x1024 .f32) (ValueIdx.ix3 (batch r) (0 : Fin 1) k) := by
  refine Eq.trans (congrArg (V m c main_arg5) (funext fun a => Fin.ext ?_)) (congrFun (V_main_arg5 m c) _)
  have e := (ix_mod (tile r)).1
  fin_cases a
  · exact tile_batch r _ e.1
  · exact at0 1 0 _ e.2.1
  · exact at0 1024 k.val _ e.2.2

theorem rd7 (c : Dev nD) (r : Fin 16384) (k : Fin 1024) :
    (iblk m c 7 (tile r) : FVec Ideal S1x1x1024 .f32) (ValueIdx.ix3 (0 : Fin 1) (0 : Fin 1) k) = (m ((c.tc : Thread nD τ).loc main_arg7) : FVec Ideal S4x1x1024 .f32) (ValueIdx.ix3 (batch r) (0 : Fin 1) k) := by
  refine Eq.trans (congrArg (V m c main_arg7) (funext fun a => Fin.ext ?_)) (congrFun (V_main_arg7 m c) _)
  have e := (ix_mod (tile r)).2.1
  fin_cases a
  · exact tile_batch r _ e.1
  · exact at0 1 0 _ e.2.1
  · exact at0 1024 k.val _ e.2.2

theorem rd8 (c : Dev nD) (r : Fin 16384) (k : Fin 1024) :
    (iblk m c 8 (tile r) : FVec Ideal S1x1x1024 .f32) (ValueIdx.ix3 (0 : Fin 1) (0 : Fin 1) k) = (m ((c.tc : Thread nD τ).loc main_arg8) : FVec Ideal S4x1x1024 .f32) (ValueIdx.ix3 (batch r) (0 : Fin 1) k) := by
  refine Eq.trans (congrArg (V m c main_arg8) (funext fun a => Fin.ext ?_)) (congrFun (V_main_arg8 m c) _)
  have e := (ix_mod (tile r)).2.2.1
  fin_cases a
  · exact tile_batch r _ e.1
  · exact at0 1 0 _ e.2.1
  · exact at0 1024 k.val _ e.2.2

theorem rd11 (c : Dev nD) (r : Fin 16384) (k : Fin 1024) :
    (iblk m c 11 (tile r) : FVec Ideal S1x1x1024 .f32) (ValueIdx.ix3 (0 : Fin 1) (0 : Fin 1) k) = (m ((c.tc : Thread nD τ).loc main_arg11) : FVec Ideal S4x1x1024 .f32) (ValueIdx.ix3 (batch r) (0 : Fin 1) k) := by
  refine Eq.trans (congrArg (V m c main_arg11) (funext fun a => Fin.ext ?_)) (congrFun (V_main_arg11 m c) _)
  have e := (ix_mod (tile r)).2.2.2
  fin_cases a
  · exact tile_batch r _ e.1
  · exact at0 1 0 _ e.2.1
  · exact at0 1024 k.val _ e.2.2

/-! ## The result -/

/-- What the point of row `r` stores at that row. -/
theorem stored (c : Dev nD) (r : Fin 16384) (j : Fin 1024) :
    out0_12 (F := Ideal) (iblk m c 0 (tile r)) (iblk m c 1 (tile r)) (iblk m c 2 (tile r)) (iblk m c 3 (tile r)) (iblk m c 4 (tile r)) (iblk m c 5 (tile r)) (iblk m c 6 (tile r))
      (iblk m c 7 (tile r)) (iblk m c 8 (tile r)) (iblk m c 9 (tile r)) (iblk m c 10 (tile r)) (iblk m c 11 (tile r)) (ValueIdx.ix2 (inTile r) j) = val2 m c (ValueIdx.ix2 r j) := by
  refine (out_apply _ _ _ _ _ _ _ _ _ _ _ _ (inTile r) j).trans ?_
  have e0 := funext (rd0 m c r)
  have e1 := funext (rd1 m c r)
  have e2 := funext (rd2 m c r)
  have e3 := funext (rd3 m c r)
  have e4 := funext fun i => funext (rd4 m c r i)
  have e5 := funext (rd5 m c r)
  have e6 := funext (rd6 m c r)
  have e7 := funext (rd7 m c r)
  have e8 := funext (rd8 m c r)
  have e9 := funext fun i => funext (rd9 m c r i)
  have e10 := funext fun i => funext (rd10 m c r i)
  have e11 := funext (rd11 m c r)
  unfold val2 tokenEnd
  have em := congr (congr (congr (congrArg mixed e3) e5) (congr (congr (congrArg cat e0) e1) e2)) e4
  exact congrFun (congr (congr (congr (congr (congr (congr (congrArg layerEnd em) e6) e7) e8) e11) e9) e10) j

/-- The index of row `r`'s place in the array. -/
theorem place_eq (r : Fin 16384) (j : Fin 1024) :
    (((cfg0.win 12).rect (tile r)).emb (ValueIdx.ix2 (inTile r) j : S1024x1024.Idx) : S16384x1024.Idx) = ValueIdx.ix2 r j := by
  funext a
  apply Fin.ext
  have e := (ix_row (tile r)).2.2.2.2
  fin_cases a
  · exact tile_row r _ e.1
  · exact at0 1024 j.val _ e.2

theorem final (c : Dev nD) : (dats m 0 c).arrAt 12 cfg0.N = val2 m c := by
  refine funext fun (i : S16384x1024.Idx) => ?_
  obtain ⟨r, j, rfl⟩ : ∃ (r : Fin 16384) (j : Fin 1024), i = ValueIdx.ix2 r j := ⟨i 0, i 1, by funext a; fin_cases a <;> rfl⟩
  have e := congrFun ((Value.blocks12 m c (tile r) (flush0_12 (tile r))).trans (Value.flushed12 m c (tile r))) (ValueIdx.ix2 (inTile r) j : S1024x1024.Idx)
  refine (congrArg ((dats m 0 c).arrAt 12 cfg0.N) (place_eq r j)).symm.trans ?_
  exact e.trans (stored m c r j)

/-- The run, read: the result at `val2`, every argument as it began. -/
theorem run_val2 (ρ : Dev nD → PrngReg) : θ_run defs (onTc (τ := τ) (main (F := Ideal))) ⟨m, fun _ => 0, ρ⟩ fun r => ∀ c : Dev nD,
      r.2.mem ((c.tc : Thread nD τ).loc main_v2) = val2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r hr c => ⟨(hr c).1.trans (final m c), (hr c).2⟩) (Value.run_blocks m ρ)

end Cert.Kernel2Ideal.Hand

end
-- ==== Proof.Ffn.RefValue.lean ====
/-
  Hand-written, untrusted. THE SECOND REFERENCE'S RESULT read at an index at the ideal values: the mixers' projection added,
  the normed and modulated row, and the gated feed-forward.
-/
module

public import proofs.«01_k».proof.Proof.Ffn.Final
public import proofs.«01_k».proof.Proof.Gen.Reference2Ideal.Run
public import Idealize.ShloMosaic.Lib.Pointwise

@[expose] public section

noncomputable section

namespace Cert.Reference2Ideal.Hand

open Cert.Reference2Ideal Cert.Reference2Ideal.Gen Cert.Reference2Ideal.Value
open Idealize.ShloMosaic Idealize.ShloMosaic.StableHlo
open Cert.KernelIdeal.Hand (proj hid expert)
open Cert.Kernel2Ideal.Hand (cat mixed scaled normed layerEnd batch tokenEnd)

theorem dot_o : dot_S16384x1024_S1024x1024_S16384x1024_1_0_0_1_n_n = DotDims.plain 16384 1024 1024 := rfl
theorem dot_in : dot_S16384x1024_S1024x5632_S16384x5632_1_0_0_1_n_n = DotDims.plain 16384 1024 5632 := rfl
theorem dot_out : dot_S16384x2816_S2816x1024_S16384x1024_1_0_0_1_n_n = DotDims.plain 16384 2816 1024 := rfl

/-! ## The result's pieces -/

/-- A batch's vector, one copy a token. -/
def tokens (g : FVec Ideal S4x1x1024 .f32) : FVec Ideal S16384x1024 .f32 :=
  shapeCast _ (broadcastInDim S4x4096x1024 ![0, 1, 2] bcast_S4x1x1024_S4x4096x1024_0_1_2 g) shapeCasts_S4x4096x1024_S16384x1024

/-- The tokens after the mixers' projection is added. -/
def added (yr : FVec Ideal S16384x384 .bf16) (yc : FVec Ideal S16384x256 .bf16) (yn : FVec Ideal S16384x384 .bf16) (h : FVec Ideal S16384x1024 .f32)
    (w : FVec Ideal S1024x1024 .f32) (g1 : FVec Ideal S4x1x1024 .f32) : FVec Ideal S16384x1024 .f32 :=
  addf h (mulf (tokens g1) (Host.dotGeneral dot_S16384x1024_S1024x1024_S16384x1024_1_0_0_1_n_n none
    (concatenate S16384x1024 1 [⟨S16384x384, extf .f32 yr bitsLt_bf16_f32⟩, ⟨S16384x256, extf .f32 yc bitsLt_bf16_f32⟩, ⟨S16384x384, extf .f32 yn bitsLt_bf16_f32⟩]
      concatenates_S16384x384_S16384x256_S16384x384_S16384x1024_d1) w))

/-- The normed tokens, modulated. -/
def modulated (h1 : FVec Ideal S16384x1024 .f32) (n2 : FVec Ideal S1024 .f32) (sh sc : FVec Ideal S4x1x1024 .f32) : FVec Ideal S16384x1024 .f32 :=
  addf (mulf (mulf (mulf h1 (broadcastInDim S16384x1024 ![0, 1] bcast_S16384x1_S16384x1024_0_1 (Host.rsqrt (addf (Host.divf
      (broadcastInDim S16384x1 ![0] bcast_S16384_S16384x1_0 (Host.reduceAdd (mulf h1 h1) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 n2)))
    (addf (broadcastInDim S16384x1024 ![] bcast_S_S16384x1024 (constant S_ .f32 0x3F800000#32)) (tokens sc))) (tokens sh)

/-- The feed-forward's input product. -/
def opened (x : FVec Ideal S16384x1024 .f32) (wi : FVec Ideal S1024x5632 .bf16) : FVec Ideal S16384x5632 .f32 :=
  Host.dotGeneral dot_S16384x1024_S1024x5632_S16384x5632_1_0_0_1_n_n none x (extf .f32 wi bitsLt_bf16_f32)

/-- The feed-forward, of its input product. -/
def closed (p : FVec Ideal S16384x5632 .f32) (wf : FVec Ideal S2816x1024 .bf16) : FVec Ideal S16384x1024 .f32 :=
  Host.dotGeneral dot_S16384x2816_S2816x1024_S16384x1024_1_0_0_1_n_n none
    (mulf (mulf (extractStridedSlice S16384x2816 ![0, 0] p slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] p slices_S16384x5632_S16384x2816_0_0))))))
      (extractStridedSlice S16384x2816 ![0, 2816] p slices_S16384x5632_S16384x2816_0_2816)) (extf .f32 wf bitsLt_bf16_f32)

theorem result_eq (m : (ℓ : Loc nD τ sig) → Buf (Elt Ideal) ℓ) (c : Dev nD) (h1 : FVec Ideal S16384x1024 .f32)
    (e : h1 = added (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))) :
    res_main_v41 (F := Ideal) m c = addf h1 (mulf (tokens (m ((c.tc : Thread nD τ).loc main_arg11)))
      (closed (opened (modulated h1 (m ((c.tc : Thread nD τ).loc main_arg6)) (m ((c.tc : Thread nD τ).loc main_arg7)) (m ((c.tc : Thread nD τ).loc main_arg8)))
        (m ((c.tc : Thread nD τ).loc main_arg9))) (m ((c.tc : Thread nD τ).loc main_arg10)))) := by
  subst e
  rfl

/-! ## The pieces at an index -/

theorem tokens_apply (g : FVec Ideal S4x1x1024 .f32) (r : Fin 16384) (k : Fin 1024) : tokens g (ValueIdx.ix2 r k) = g (ValueIdx.ix3 (batch r) (0 : Fin 1) k) := by
  unfold tokens
  refine (shapeCast_apply (s := S4x4096x1024) (t := S16384x1024) _ _ (ValueIdx.ix2 r k) (ValueIdx.ix3 (batch r) (⟨r.val % 4096, Nat.mod_lt _ (by decide)⟩ : Fin 4096) k) ?_).trans ?_
  · rw [Shape.rowMajor_val_three, Shape.rowMajor_val_two]
    show (r.val / 4096 * 4096 + r.val % 4096) * 1024 + k.val = r.val * 1024 + k.val
    omega
  · exact broadcastInDim_apply _ _ _ _ (ValueIdx.ix3 (batch r) (0 : Fin 1) k) (fun a => by fin_cases a <;> rfl)

theorem cat_apply (a : FVec Ideal S16384x384 .f32) (b : FVec Ideal S16384x256 .f32) (c : FVec Ideal S16384x384 .f32) (r : Fin 16384) (k : Fin 1024) :
    concatenate S16384x1024 1 [⟨S16384x384, a⟩, ⟨S16384x256, b⟩, ⟨S16384x384, c⟩] concatenates_S16384x384_S16384x256_S16384x384_S16384x1024_d1 (ValueIdx.ix2 r k)
      = cat (fun j => a (ValueIdx.ix2 r j)) (fun j => b (ValueIdx.ix2 r j)) (fun j => c (ValueIdx.ix2 r j)) k := by
  unfold cat
  pointwise
  rfl

theorem added_apply (yr : FVec Ideal S16384x384 .bf16) (yc : FVec Ideal S16384x256 .bf16) (yn : FVec Ideal S16384x384 .bf16) (h : FVec Ideal S16384x1024 .f32)
    (w : FVec Ideal S1024x1024 .f32) (g1 : FVec Ideal S4x1x1024 .f32) (r : Fin 16384) (k : Fin 1024) :
    added yr yc yn h w g1 (ValueIdx.ix2 r k) = mixed (fun k => h (ValueIdx.ix2 r k)) (fun k => g1 (ValueIdx.ix3 (batch r) (0 : Fin 1) k))
      (cat (fun k => yr (ValueIdx.ix2 r k)) (fun k => yc (ValueIdx.ix2 r k)) (fun k => yn (ValueIdx.ix2 r k))) (fun i k => w (ValueIdx.ix2 i k)) k := by
  unfold added mixed
  refine congrArg (h (ValueIdx.ix2 r k) + ·) (congrArg₂ (· * ·) (tokens_apply g1 r k) ?_)
  rw [dot_o, StackMember.dotGeneral_plain_apply]
  exact Finset.sum_congr rfl fun i _ => congrArg (· * w (ValueIdx.ix2 i k)) (cat_apply _ _ _ r i)

theorem modulated_apply (x : FVec Ideal S16384x1024 .f32) (n2 : FVec Ideal S1024 .f32) (sh sc : FVec Ideal S4x1x1024 .f32) (r : Fin 16384) (k : Fin 1024) :
    modulated x n2 sh sc (ValueIdx.ix2 r k) = normed (fun k => x (ValueIdx.ix2 r k)) (fun k => n2 (ValueIdx.ix1 k)) (fun k => sh (ValueIdx.ix3 (batch r) (0 : Fin 1) k))
      (fun k => sc (ValueIdx.ix3 (batch r) (0 : Fin 1) k)) k := by
  unfold modulated normed scaled
  beta_reduce
  rw [← tokens_apply sh r k, ← tokens_apply sc r k]
  generalize tokens sh = a
  generalize tokens sc = b
  pointwise
  rfl

theorem opened_apply (x : FVec Ideal S16384x1024 .f32) (wi : FVec Ideal S1024x5632 .bf16) (r : Fin 16384) (f : Fin 5632) :
    opened x wi (ValueIdx.ix2 r f) = proj (fun k => x (ValueIdx.ix2 r k)) (fun k f => wi (ValueIdx.ix2 k f)) f := by
  unfold opened proj
  rw [dot_in, StackMember.dotGeneral_plain_apply]
  rfl

theorem closed_apply (p : FVec Ideal S16384x5632 .f32) (wf : FVec Ideal S2816x1024 .bf16) (x : Fin 1024 → EReal) (wi : Fin 1024 → Fin 5632 → EReal) (r : Fin 16384)
    (hp : ∀ f, p (ValueIdx.ix2 r f) = proj x wi f) (c : Fin 1024) :
    closed p wf (ValueIdx.ix2 r c) = expert x wi (fun f k => wf (ValueIdx.ix2 f k)) c := by
  unfold closed expert
  rw [dot_out, StackMember.dotGeneral_plain_apply]
  refine Finset.sum_congr rfl fun f _ => congrArg (· * wf (ValueIdx.ix2 f c)) ?_
  unfold hid
  rw [← hp, ← hp]
  pointwise
  rfl

/-- A row of the reference's result. -/
theorem result_apply (m : (ℓ : Loc nD τ sig) → Buf (Elt Ideal) ℓ) (c : Dev nD) (r : Fin 16384) (j : Fin 1024) :
    res_main_v41 (F := Ideal) m c (ValueIdx.ix2 r j)
      = tokenEnd (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) r j := by
  rw [result_eq m c _ rfl]
  unfold tokenEnd layerEnd
  have e1 := funext (added_apply (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) r)
  rw [← e1]
  refine congrArg₂ (· + ·) rfl (congrArg₂ (· * ·) (tokens_apply _ r j) ?_)
  refine closed_apply _ _ _ _ r (fun f => ?_) j
  refine (opened_apply _ _ r f).trans ?_
  exact congrArg (fun x => proj x _ f) (funext fun k => modulated_apply _ _ _ _ r k)

end Cert.Reference2Ideal.Hand

end
-- ==== Proof.Conv.Value.lean ====
/-
  Hand-written, untrusted. WHAT ONE POINT OF THE SHORT CONVOLUTION STORES, read at an index at the ideal values.
-/
module

public import proofs.«01_k».proof.Proof.Gen.Kernel3Ideal.Value
public import Idealize.ShloMosaic.Lib.Pointwise
public import Idealize.ShloMosaic.Lib.KernelVsHost
public import Idealize.ShloMosaic.Lib.ValueLayout
public import Idealize.ShloMosaic.Lib.Pipeline.ValueKit.Basic
public import Idealize.ShloMosaic.Lib.IdealHost
public import Idealize.ShloMosaic.Lib.Pipeline.ValueKit.Tiles

@[expose] public section

noncomputable section

namespace Cert.Kernel3Ideal.Hand

open Cert.Kernel3Ideal Cert.Kernel3Ideal.Gen
open Idealize.ShloMosaic

/-- A column moved down by one position, zero before its start. -/
def before (u : Fin 4096 → EReal) (r : Fin 4096) : EReal := if h : r.val = 0 then 0 else u ⟨r.val - 1, by omega⟩

/-- A column moved up by one position, zero after its end. -/
def after (u : Fin 4096 → EReal) (r : Fin 4096) : EReal := if h : r.val = 4095 then 0 else u ⟨r.val + 1, by omega⟩

/-- One channel of the gated convolution of width three. -/
def gated (b c x : Fin 4096 → EReal) (w : Fin 3 → EReal) (r : Fin 4096) : EReal :=
  b r * (w 0 * before (fun i => c i * x i) r + w 1 * (c r * x r) + w 2 * after (fun i => c i * x i) r)

theorem row_eq (r : Fin 4096) (n : ℕ) (hn : n < 4096) : (BitVec.ofNat 32 r.val = BitVec.ofNat 32 n) ↔ r.val = n := by
  have hr := r.isLt
  rw [← BitVec.toNat_inj, BitVec.toNat_ofNat, BitVec.toNat_ofNat, Nat.mod_eq_of_lt (by omega), Nat.mod_eq_of_lt (by omega)]

theorem down_apply (u : FVec Ideal S4096x128 .f32) (r : Fin 4096) (j : Fin 128) :
    dynamicRotate 0 1#32 none u rotates_S4096x128_d0 (ValueIdx.ix2 r j) = u (ValueIdx.ix2 (⟨(r.val + 4095) % 4096, Nat.mod_lt _ (by omega)⟩ : Fin 4096) j) := by
  refine dynamicRotate_apply (s := S4096x128) (0 : Fin 2) 1#32 u rotates_S4096x128_d0 _ _ fun b => ?_
  match b with
  | ⟨0, _⟩ => exact congrArg (· % 4096) (show r.val + 4095 = r.val + 4096 - 1 by omega)
  | ⟨1, _⟩ => rfl

theorem up_apply (u : FVec Ideal S4096x128 .f32) (r : Fin 4096) (j : Fin 128) :
    dynamicRotate 0 4095#32 none u rotates_S4096x128_d0 (ValueIdx.ix2 r j) = u (ValueIdx.ix2 (⟨(r.val + 1) % 4096, Nat.mod_lt _ (by omega)⟩ : Fin 4096) j) := by
  refine dynamicRotate_apply (s := S4096x128) (0 : Fin 2) 4095#32 u rotates_S4096x128_d0 _ _ fun b => ?_
  match b with
  | ⟨0, _⟩ => exact congrArg (· % 4096) (show r.val + 1 = r.val + 4096 - 4095 by omega)
  | ⟨1, _⟩ => rfl

/-- A row's mask, spread over the columns. -/
theorem mask_apply (n : ℕ) (hn : n < 4096) (r : Fin 4096) (j : Fin 128) :
    broadcastTo S4096x128 (shapeCast S4096x1 (cmpi .eq (iota .tc S4096x1 32 [0] iota_S4096x1_d0_w32) (broadcast S4096x1 (BitVec.ofNat 32 n))) shapeCasts_S4096x1_S4096x1)
      broadcasts_S4096x1_S4096x128 (ValueIdx.ix2 r j) = if r.val = n then 1#1 else 0#1 := by
  pointwise
  show (BitVec.ofBool (BitVec.ofNat 32 r.val == BitVec.ofNat 32 n)) = _
  by_cases h : r.val = n
  · rw [if_pos h, beq_iff_eq.mpr ((row_eq r n hn).mpr h)]; rfl
  · rw [if_neg h, beq_eq_false_iff_ne.mpr fun e => h ((row_eq r n hn).mp e)]; rfl

theorem before_apply (u : FVec Ideal S4096x128 .f32) (r : Fin 4096) (j : Fin 128) :
    select (broadcastTo S4096x128 (shapeCast S4096x1 (cmpi .eq (iota .tc S4096x1 32 [0] iota_S4096x1_d0_w32) (broadcast S4096x1 0#32)) shapeCasts_S4096x1_S4096x1)
      broadcasts_S4096x1_S4096x128) (broadcast S4096x128 (Scalar.ofBits (F := Ideal) .f32 0x00000000#32)) (dynamicRotate 0 1#32 none u rotates_S4096x128_d0) (ValueIdx.ix2 r j)
      = before (fun i => u (ValueIdx.ix2 i j)) r := by
  rw [ValueIdx.select_apply, mask_apply 0 (by omega) r j, down_apply]
  unfold before
  by_cases h : r.val = 0
  · rw [if_pos h, dif_pos h]
    exact Ideal.ofBits_zero_f32
  · rw [if_neg h, dif_neg h]
    refine congrArg (fun k => u (ValueIdx.ix2 k j)) (Fin.ext ?_)
    show (r.val + 4095) % 4096 = r.val - 1
    omega

theorem after_apply (u : FVec Ideal S4096x128 .f32) (r : Fin 4096) (j : Fin 128) :
    select (broadcastTo S4096x128 (shapeCast S4096x1 (cmpi .eq (iota .tc S4096x1 32 [0] iota_S4096x1_d0_w32) (broadcast S4096x1 4095#32)) shapeCasts_S4096x1_S4096x1)
      broadcasts_S4096x1_S4096x128) (broadcast S4096x128 (Scalar.ofBits (F := Ideal) .f32 0x00000000#32)) (dynamicRotate 0 4095#32 none u rotates_S4096x128_d0) (ValueIdx.ix2 r j)
      = after (fun i => u (ValueIdx.ix2 i j)) r := by
  rw [ValueIdx.select_apply, mask_apply 4095 (by omega) r j, up_apply]
  unfold after
  by_cases h : r.val = 4095
  · rw [if_pos h, dif_pos h]
    exact Ideal.ofBits_zero_f32
  · rw [if_neg h, dif_neg h]
    refine congrArg (fun k => u (ValueIdx.ix2 k j)) (Fin.ext ?_)
    show (r.val + 1) % 4096 = r.val + 1
    omega

/-- A block's column under its leading axis of one. -/
theorem column_apply (x : FVec Ideal S1x4096x128 .bf16) (r : Fin 4096) (j : Fin 128) :
    (extf .f32 (shapeCast S4096x128 x shapeCasts_S1x4096x128_S4096x128) bitsLt_bf16_f32 : FVec Ideal S4096x128 .f32) (ValueIdx.ix2 r j) = x (ValueIdx.ix3 (0 : Fin 1) r j) := by
  pointwise
  rfl

/-- One of the three weights, spread over the rows. -/
theorem weight_apply (w : FVec Ideal S1x128 .f32) (r : Fin 4096) (j : Fin 128) :
    broadcastTo S4096x128 w broadcasts_S1x128_S4096x128 (ValueIdx.ix2 r j) = w (ValueIdx.ix2 (0 : Fin 1) j) := by
  pointwise
  rfl

theorem pay2_apply (c x : FVec Ideal S1x4096x128 .bf16) (w0 w1 w2 : FVec Ideal S1x128 .f32) (b : FVec Ideal S1x4096x128 .bf16) (r : Fin 4096) (j : Fin 128) :
    k0_pay2 (F := Ideal) c x w0 w1 w2 b (ValueIdx.ix2 r j)
      = gated (fun i => b (ValueIdx.ix3 (0 : Fin 1) i j)) (fun i => c (ValueIdx.ix3 (0 : Fin 1) i j)) (fun i => x (ValueIdx.ix3 (0 : Fin 1) i j))
          ![w0 (ValueIdx.ix2 (0 : Fin 1) j), w1 (ValueIdx.ix2 (0 : Fin 1) j), w2 (ValueIdx.ix2 (0 : Fin 1) j)] r := by
  have hu : ∀ i, (mulf (extf .f32 (shapeCast S4096x128 c shapeCasts_S1x4096x128_S4096x128) bitsLt_bf16_f32) (extf .f32 (shapeCast S4096x128 x shapeCasts_S1x4096x128_S4096x128) bitsLt_bf16_f32)
      : FVec Ideal S4096x128 .f32) (ValueIdx.ix2 i j) = c (ValueIdx.ix3 (0 : Fin 1) i j) * x (ValueIdx.ix3 (0 : Fin 1) i j) :=
    fun i => congrArg₂ (· * ·) (column_apply c i j) (column_apply x i j)
  unfold k0_pay2 gated
  refine congrArg₂ (· * ·) (column_apply b r j) (congrArg₂ (· + ·) (congrArg₂ (· + ·) (congrArg₂ (· * ·) (weight_apply w0 r j) ?_)
    (congrArg₂ (· * ·) (weight_apply w1 r j) (hu r))) (congrArg₂ (· * ·) (weight_apply w2 r j) ?_))
  · exact (before_apply _ r j).trans (congrArg (fun u => before u r) (funext hu))
  · exact (after_apply _ r j).trans (congrArg (fun u => after u r) (funext hu))

/-- A point's column: the gated convolution of its blocks' columns. -/
theorem out_apply (x0 x1 x2 : FVec Ideal S1x4096x128 .bf16) (x3 : FVec Ideal S3x128 .f32) (r : Fin 4096) (j : Fin 128) :
    out0_4 (F := Ideal) x0 x1 x2 x3 (ValueIdx.ix3 (0 : Fin 1) r j)
      = gated (fun i => x0 (ValueIdx.ix3 (0 : Fin 1) i j)) (fun i => x1 (ValueIdx.ix3 (0 : Fin 1) i j)) (fun i => x2 (ValueIdx.ix3 (0 : Fin 1) i j)) (fun k => x3 (ValueIdx.ix2 k j)) r := by
  unfold out0_4
  have l0 : ∀ x : FVec Ideal S1x4096x128 .bf16, View.ld (Val := Elt Ideal) (e' := .bf16) x r0_0 = x := fun x => View.ld_unit_lit (S := S1x4096x128) (off := ![0, 0, 0]) _ _ (by decide)
  rw [View.canon_cons_unit_lit (S := S1x4096x128) (off := ![0, 0, 0]) _ _ _ (by decide), l0 x0, l0 x1, l0 x2]
  have hp : ∀ y : FVec Ideal S4096x128 .f32, k0_pay1 (F := Ideal) y (ValueIdx.ix3 (0 : Fin 1) r j) = y (ValueIdx.ix2 r j) := fun y => by
    unfold k0_pay1
    pointwise
    rfl
  refine (hp _).trans ((pay2_apply _ _ _ _ _ _ r j).trans (congrArg (fun w => gated _ _ _ w r) (funext fun k => ?_)))
  have e : ∀ (a : ℕ) (inb) (k : Fin 3) (hk : k.val = a), View.ld (Val := Elt Ideal) (e' := .f32) x3 (Rect.unit (s := S3x128) ![a, 0] S1x128.size inb) (ValueIdx.ix2 (0 : Fin 1) j) = x3 (ValueIdx.ix2 k j) := fun a inb k hk => by
    refine View.ld_unit_apply_of (Val := Elt Ideal) (e := .f32) x3 _ _ inb _ _ fun x => ?_
    match x with
    | ⟨0, _⟩ => exact hk
    | ⟨1, _⟩ => exact (Nat.zero_add _).symm
  match k with
  | ⟨0, _⟩ => exact e 0 _ 0 rfl
  | ⟨1, _⟩ => exact e 1 _ 1 rfl
  | ⟨2, _⟩ => exact e 2 _ 2 rfl

end Cert.Kernel3Ideal.Hand

end
-- ==== Proof.Conv.Final.lean ====
/-
  Hand-written, untrusted. THE RESULT ARRAY OF THE SHORT CONVOLUTION at the ideal values: each of its entries as a function of
  the arguments' columns.
-/
module

public import proofs.«01_k».proof.Proof.Conv.Value

@[expose] public section

noncomputable section

namespace Cert.Kernel3Ideal.Hand

open Cert.Kernel3Ideal Cert.Kernel3Ideal.Gen
open Idealize.ShloMosaic Idealize.ShloMosaic.TcCoe Idealize.ShloMosaic.StableHlo Idealize.SL.Sem
open Idealize.ShloMosaic.Pipeline (Dat)

/-- One entry of the gated convolution, of the three parts of the input projection's columns. -/
def entry (p : FVec Ideal S4x4096x3456 .bf16) (w : FVec Ideal S3x256 .f32) (b : Fin 4) (r : Fin 4096) (j : Fin 256) : EReal :=
  gated (fun i => p (ValueIdx.ix3 b i (⟨1536 + j.val, by omega⟩ : Fin 3456))) (fun i => p (ValueIdx.ix3 b i (⟨1792 + j.val, by omega⟩ : Fin 3456)))
    (fun i => p (ValueIdx.ix3 b i (⟨2048 + j.val, by omega⟩ : Fin 3456))) (fun k => w (ValueIdx.ix2 k j)) r

variable (m : (ℓ : Loc nD τ sig) → Buf (Elt Ideal) ℓ)

/-- What the result array is shown to hold. -/
def val3 (c : Dev nD) (i : S4x4096x256.Idx) : EReal :=
  entry (m ((c.tc : Thread nD τ).loc main_arg0)) (m ((c.tc : Thread nD τ).loc main_arg1)) (i 0) (i 1) (i 2)

theorem ix_cols : ∀ t : Fin grid0.N, (cc0_transform_0 (grid0.coords t) 0 = t.val / 2 ∧ cc0_transform_0 (grid0.coords t) 1 = 0 ∧ cc0_transform_0 (grid0.coords t) 2 = 12 + t.val % 2)
    ∧ (cc0_transform_1 (grid0.coords t) 0 = t.val / 2 ∧ cc0_transform_1 (grid0.coords t) 1 = 0 ∧ cc0_transform_1 (grid0.coords t) 2 = 14 + t.val % 2)
    ∧ (cc0_transform_2 (grid0.coords t) 0 = t.val / 2 ∧ cc0_transform_2 (grid0.coords t) 1 = 0 ∧ cc0_transform_2 (grid0.coords t) 2 = 16 + t.val % 2)
    ∧ (cc0_transform_3 (grid0.coords t) 0 = 0 ∧ cc0_transform_3 (grid0.coords t) 1 = t.val % 2)
    ∧ (cc0_transform_4 (grid0.coords t) 0 = t.val / 2 ∧ cc0_transform_4 (grid0.coords t) 1 = 0 ∧ cc0_transform_4 (grid0.coords t) 2 = t.val % 2) := by decide +kernel

/-- The point that stores a batch's channel, and the channel's place in its block. -/
def tile (b : Fin 4) (j : Fin 256) : Fin cfg0.N := ⟨2 * b.val + j.val / 128, by
  have h : cfg0.N = 8 := by decide
  rw [h]; have := b.isLt; have := j.isLt; omega⟩
def inTile (j : Fin 256) : Fin 128 := ⟨j.val % 128, Nat.mod_lt _ (by decide)⟩

theorem tile_batch (b : Fin 4) (j : Fin 256) (k : ℕ) (hk : k = (tile b j).val / 2) : k * 1 + 1 * 0 = b.val := by
  subst hk
  show (2 * b.val + j.val / 128) / 2 * 1 + 1 * 0 = b.val
  omega

theorem tile_col (b : Fin 4) (j : Fin 256) (n k : ℕ) (hk : k = n + (tile b j).val % 2) : k * 128 + 1 * (inTile j).val = n * 128 + j.val := by
  subst hk
  show (n + (2 * b.val + j.val / 128) % 2) * 128 + 1 * (j.val % 128) = n * 128 + j.val
  omega

theorem at0 (n k z : ℕ) (hz : z = 0) : z * n + 1 * k = k := by subst hz; omega

theorem rd0 (c : Dev nD) (b : Fin 4) (r : Fin 4096) (j : Fin 256) : (iblk m c 0 (tile b j) : FVec Ideal S1x4096x128 .bf16) (ValueIdx.ix3 (0 : Fin 1) r (inTile j))
    = (m ((c.tc : Thread nD τ).loc main_arg0) : FVec Ideal S4x4096x3456 .bf16) (ValueIdx.ix3 b r (⟨1536 + j.val, by omega⟩ : Fin 3456)) := by
  refine Eq.trans (congrArg (V m c main_arg0) (funext fun a => Fin.ext ?_)) (congrFun (V_main_arg0 m c) _)
  have e := (ix_cols (tile b j)).1
  match a with
  | ⟨0, _⟩ => exact tile_batch b j _ e.1
  | ⟨1, _⟩ => exact at0 4096 r.val _ e.2.1
  | ⟨2, _⟩ => exact tile_col b j 12 _ e.2.2

theorem rd1 (c : Dev nD) (b : Fin 4) (r : Fin 4096) (j : Fin 256) : (iblk m c 1 (tile b j) : FVec Ideal S1x4096x128 .bf16) (ValueIdx.ix3 (0 : Fin 1) r (inTile j))
    = (m ((c.tc : Thread nD τ).loc main_arg0) : FVec Ideal S4x4096x3456 .bf16) (ValueIdx.ix3 b r (⟨1792 + j.val, by omega⟩ : Fin 3456)) := by
  refine Eq.trans (congrArg (V m c main_arg0) (funext fun a => Fin.ext ?_)) (congrFun (V_main_arg0 m c) _)
  have e := (ix_cols (tile b j)).2.1
  match a with
  | ⟨0, _⟩ => exact tile_batch b j _ e.1
  | ⟨1, _⟩ => exact at0 4096 r.val _ e.2.1
  | ⟨2, _⟩ => exact tile_col b j 14 _ e.2.2

theorem rd2 (c : Dev nD) (b : Fin 4) (r : Fin 4096) (j : Fin 256) : (iblk m c 2 (tile b j) : FVec Ideal S1x4096x128 .bf16) (ValueIdx.ix3 (0 : Fin 1) r (inTile j))
    = (m ((c.tc : Thread nD τ).loc main_arg0) : FVec Ideal S4x4096x3456 .bf16) (ValueIdx.ix3 b r (⟨2048 + j.val, by omega⟩ : Fin 3456)) := by
  refine Eq.trans (congrArg (V m c main_arg0) (funext fun a => Fin.ext ?_)) (congrFun (V_main_arg0 m c) _)
  have e := (ix_cols (tile b j)).2.2.1
  match a with
  | ⟨0, _⟩ => exact tile_batch b j _ e.1
  | ⟨1, _⟩ => exact at0 4096 r.val _ e.2.1
  | ⟨2, _⟩ => exact tile_col b j 16 _ e.2.2

theorem rd3 (c : Dev nD) (b : Fin 4) (k : Fin 3) (j : Fin 256) : (iblk m c 3 (tile b j) : FVec Ideal S3x128 .f32) (ValueIdx.ix2 k (inTile j))
    = (m ((c.tc : Thread nD τ).loc main_arg1) : FVec Ideal S3x256 .f32) (ValueIdx.ix2 k j) := by
  refine Eq.trans (congrArg (V m c main_arg1) (funext fun a => Fin.ext ?_)) (congrFun (V_main_arg1 m c) _)
  have e := (ix_cols (tile b j)).2.2.2.1
  match a with
  | ⟨0, _⟩ => exact at0 3 k.val _ e.1
  | ⟨1, _⟩ => exact (tile_col b j 0 _ (e.2.trans (Nat.zero_add _).symm)).trans (by show 0 * 128 + j.val = j.val; omega)

theorem stored (c : Dev nD) (b : Fin 4) (r : Fin 4096) (j : Fin 256) :
    out0_4 (F := Ideal) (iblk m c 0 (tile b j)) (iblk m c 1 (tile b j)) (iblk m c 2 (tile b j)) (iblk m c 3 (tile b j)) (ValueIdx.ix3 (0 : Fin 1) r (inTile j)) = val3 m c (ValueIdx.ix3 b r j) := by
  refine (out_apply _ _ _ _ r (inTile j)).trans ?_
  unfold val3 entry
  have e0 := funext fun i => rd0 m c b i j
  have e1 := funext fun i => rd1 m c b i j
  have e2 := funext fun i => rd2 m c b i j
  have e3 := funext fun k => rd3 m c b k j
  exact congrFun (congr (congr (congr (congrArg gated e0) e1) e2) e3) r

/-- The index of an entry's place in the array. -/
theorem place_eq (b : Fin 4) (r : Fin 4096) (j : Fin 256) :
    (((cfg0.win 4).rect (tile b j)).emb (ValueIdx.ix3 (0 : Fin 1) r (inTile j) : S1x4096x128.Idx) : S4x4096x256.Idx) = ValueIdx.ix3 b r j := by
  funext a
  apply Fin.ext
  have e := (ix_cols (tile b j)).2.2.2.2
  match a with
  | ⟨0, _⟩ => exact tile_batch b j _ e.1
  | ⟨1, _⟩ => exact at0 4096 r.val _ e.2.1
  | ⟨2, _⟩ => exact (tile_col b j 0 _ (e.2.2.trans (Nat.zero_add _).symm)).trans (by show 0 * 128 + j.val = j.val; omega)

theorem final (c : Dev nD) : (dats m 0 c).arrAt 4 cfg0.N = val3 m c := by
  refine funext fun (i : S4x4096x256.Idx) => ?_
  obtain ⟨b, r, j, rfl⟩ : ∃ (b : Fin 4) (r : Fin 4096) (j : Fin 256), i = ValueIdx.ix3 b r j := ⟨i 0, i 1, i 2, by funext a; match a with | ⟨0, _⟩ => rfl | ⟨1, _⟩ => rfl | ⟨2, _⟩ => rfl⟩
  have e := congrFun ((Value.blocks4 m c (tile b j) (flush0_4 (tile b j))).trans (Value.flushed4 m c (tile b j))) (ValueIdx.ix3 (0 : Fin 1) r (inTile j) : S1x4096x128.Idx)
  refine (congrArg ((dats m 0 c).arrAt 4 cfg0.N) (place_eq b r j)).symm.trans ?_
  exact e.trans (stored m c b r j)

/-- The run, read: the result at `val3`, both arguments as they began. -/
theorem run_val3 (ρ : Dev nD → PrngReg) : θ_run defs (onTc (τ := τ) (main (F := Ideal))) ⟨m, fun _ => 0, ρ⟩ fun r => ∀ c : Dev nD,
      r.2.mem ((c.tc : Thread nD τ).loc main_v0) = val3 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => ⟨(hr c).1.trans (final m c), (hr c).2⟩) (Value.run_blocks m ρ)

end Cert.Kernel3Ideal.Hand

end
-- ==== Proof.Conv.RefValue.lean ====
/-
  Hand-written, untrusted. THE THIRD REFERENCE'S RESULT read at an index at the ideal values: the gated sum of three shifted
  products.
-/
module

public import proofs.«01_k».proof.Proof.Conv.Final
public import proofs.«01_k».proof.Proof.Gen.Reference3Ideal.Run
public import Idealize.ShloMosaic.Lib.Pointwise

@[expose] public section

noncomputable section

namespace Cert.Reference3Ideal.Hand

open Cert.Reference3Ideal Cert.Reference3Ideal.Gen Cert.Reference3Ideal.Value
open Idealize.ShloMosaic Idealize.ShloMosaic.StableHlo
open Cert.Kernel3Ideal.Hand (before gated entry)

/-- The product of the second and third parts, with a zero at each end. -/
def padded (u : FVec Ideal S4x4096x256 .f32) : FVec Ideal S4x4098x256 .f32 :=
  pad S4x4098x256 ![0, 1, 0] ![0, 1, 0] ![0, 0, 0] u (sitofp .f32 (constantI S_ 32 0#32)) pads_S4x4096x256_S4x4098x256_000_110_000 h_S_

/-- Inside the padding, the product; in it, zero. -/
theorem padded_apply (u : FVec Ideal S4x4096x256 .f32) (b : Fin 4) (r : Fin 4098) (j : Fin 256) :
    padded u (ValueIdx.ix3 b r j) = if h : 1 ≤ r.val ∧ r.val - 1 < 4096 then u (ValueIdx.ix3 b (⟨r.val - 1, h.2⟩ : Fin 4096) j) else 0 := by
  unfold padded
  by_cases h : 1 ≤ r.val ∧ r.val - 1 < 4096
  · rw [dif_pos h]
    refine pad_apply_of_inside (s := S4x4096x256) (t := S4x4098x256) _ _ _ u _ _ _ _ (ValueIdx.ix3 b (⟨r.val - 1, h.2⟩ : Fin 4096) j) fun a => ?_
    match a with
    | ⟨0, _⟩ => show b.val = 0 + b.val * (0 + 1); omega
    | ⟨1, _⟩ => show r.val = 1 + (r.val - 1) * (0 + 1); omega
    | ⟨2, _⟩ => show j.val = 0 + j.val * (0 + 1); omega
  · rw [dif_neg h]
    refine (pad_apply_of_not_inside (s := S4x4096x256) (t := S4x4098x256) _ _ _ u _ _ _ _ (1 : Fin 3) fun hin => h ⟨hin.1, ?_⟩).trans ?_
    · have e : (r.val - 1) / (0 + 1) < 4096 := hin.2.2
      omega
    · show ((((0#32 : BitVec 32).toInt : ℝ) : EReal)) = 0
      simp

/-- The three parts, the padded product and the three weights, put together. -/
def whole (p : FVec Ideal S4x4096x3456 .bf16) (w : FVec Ideal S3x256 .f32) : FVec Ideal S4x4096x256 .bf16 :=
  truncf .bf16 (mulf (extractStridedSlice S4x4096x256 ![0, 0, 1536] (extf .f32 p bitsLt_bf16_f32) slices_S4x4096x3456_S4x4096x256_0_0_1536)
    (addf (addf
      (mulf (broadcastInDim S4x4096x256 ![0, 1, 2] bcast_S1x1x256_S4x4096x256_0_1_2 (broadcastInDim S1x1x256 ![2] bcast_S256_S1x1x256_2
          (shapeCast _ (extractStridedSlice S1x256 ![0, 0] w slices_S3x256_S1x256_0_0) shapeCasts_S1x256_S256)))
        (extractStridedSlice S4x4096x256 ![0, 0, 0] (padded (mulf (extractStridedSlice S4x4096x256 ![0, 0, 1792] (extf .f32 p bitsLt_bf16_f32) slices_S4x4096x3456_S4x4096x256_0_0_1792)
          (extractStridedSlice S4x4096x256 ![0, 0, 2048] (extf .f32 p bitsLt_bf16_f32) slices_S4x4096x3456_S4x4096x256_0_0_2048))) slices_S4x4098x256_S4x4096x256_0_0_0))
      (mulf (broadcastInDim S4x4096x256 ![0, 1, 2] bcast_S1x1x256_S4x4096x256_0_1_2 (broadcastInDim S1x1x256 ![2] bcast_S256_S1x1x256_2
          (shapeCast _ (extractStridedSlice S1x256 ![1, 0] w slices_S3x256_S1x256_1_0) shapeCasts_S1x256_S256)))
        (extractStridedSlice S4x4096x256 ![0, 1, 0] (padded (mulf (extractStridedSlice S4x4096x256 ![0, 0, 1792] (extf .f32 p bitsLt_bf16_f32) slices_S4x4096x3456_S4x4096x256_0_0_1792)
          (extractStridedSlice S4x4096x256 ![0, 0, 2048] (extf .f32 p bitsLt_bf16_f32) slices_S4x4096x3456_S4x4096x256_0_0_2048))) slices_S4x4098x256_S4x4096x256_0_1_0)))
      (mulf (broadcastInDim S4x4096x256 ![0, 1, 2] bcast_S1x1x256_S4x4096x256_0_1_2 (broadcastInDim S1x1x256 ![2] bcast_S256_S1x1x256_2
          (shapeCast _ (extractStridedSlice S1x256 ![2, 0] w slices_S3x256_S1x256_2_0) shapeCasts_S1x256_S256)))
        (extractStridedSlice S4x4096x256 ![0, 2, 0] (padded (mulf (extractStridedSlice S4x4096x256 ![0, 0, 1792] (extf .f32 p bitsLt_bf16_f32) slices_S4x4096x3456_S4x4096x256_0_0_1792)
          (extractStridedSlice S4x4096x256 ![0, 0, 2048] (extf .f32 p bitsLt_bf16_f32) slices_S4x4096x3456_S4x4096x256_0_0_2048))) slices_S4x4098x256_S4x4096x256_0_2_0)))) bitsLt_bf16_f32

/-- The product's entry. -/
theorem prod_apply (p : FVec Ideal S4x4096x3456 .bf16) (b : Fin 4) (r : Fin 4096) (j : Fin 256) :
    (mulf (extractStridedSlice S4x4096x256 ![0, 0, 1792] (extf .f32 p bitsLt_bf16_f32) slices_S4x4096x3456_S4x4096x256_0_0_1792)
      (extractStridedSlice S4x4096x256 ![0, 0, 2048] (extf .f32 p bitsLt_bf16_f32) slices_S4x4096x3456_S4x4096x256_0_0_2048) : FVec Ideal S4x4096x256 .f32) (ValueIdx.ix3 b r j)
      = p (ValueIdx.ix3 b r (⟨1792 + j.val, by omega⟩ : Fin 3456)) * p (ValueIdx.ix3 b r (⟨2048 + j.val, by omega⟩ : Fin 3456)) := by
  refine congrArg₂ (· * ·) ?_ ?_
  · refine (extractStridedSlice_apply (s := S4x4096x3456) (t := S4x4096x256) ![0, 0, 1792] _ _ _ (ValueIdx.ix3 b r (⟨1792 + j.val, by omega⟩ : Fin 3456)) fun a => ?_).trans rfl
    match a with
    | ⟨0, _⟩ => exact (Nat.zero_add _).symm
    | ⟨1, _⟩ => exact (Nat.zero_add _).symm
    | ⟨2, _⟩ => rfl
  · refine (extractStridedSlice_apply (s := S4x4096x3456) (t := S4x4096x256) ![0, 0, 2048] _ _ _ (ValueIdx.ix3 b r (⟨2048 + j.val, by omega⟩ : Fin 3456)) fun a => ?_).trans rfl
    match a with
    | ⟨0, _⟩ => exact (Nat.zero_add _).symm
    | ⟨1, _⟩ => exact (Nat.zero_add _).symm
    | ⟨2, _⟩ => rfl

/-- A weight's entry, spread over the batches and the positions. -/
theorem weight_apply (w : FVec Ideal S3x256 .f32) (k : Fin 3) (h : S3x256.Slices ![k.val, 0] S1x256) (b : Fin 4) (r : Fin 4096) (j : Fin 256) :
    broadcastInDim S4x4096x256 ![0, 1, 2] bcast_S1x1x256_S4x4096x256_0_1_2 (broadcastInDim S1x1x256 ![2] bcast_S256_S1x1x256_2
      (shapeCast _ (extractStridedSlice S1x256 ![k.val, 0] w h) shapeCasts_S1x256_S256)) (ValueIdx.ix3 b r j) = w (ValueIdx.ix2 k j) := by
  refine (broadcastInDim_apply _ _ _ _ (ValueIdx.ix3 (0 : Fin 1) (0 : Fin 1) j) (fun a => by fin_cases a <;> rfl)).trans ?_
  refine (broadcastInDim_apply _ _ _ _ (ValueIdx.ix1 j) (fun a => by fin_cases a <;> rfl)).trans ?_
  refine (shapeCast_apply (s := S1x256) (t := S256) _ _ (ValueIdx.ix1 j) (ValueIdx.ix2 (0 : Fin 1) j) ?_).trans ?_
  · rw [Shape.rowMajor_val_one, Shape.rowMajor_val_two]
    show 0 * 256 + j.val = j.val
    omega
  · refine extractStridedSlice_apply (s := S3x256) (t := S1x256) _ _ _ _ (ValueIdx.ix2 k j) fun a => ?_
    match a with
    | ⟨0, _⟩ => rfl
    | ⟨1, _⟩ => exact (Nat.zero_add _).symm

/-- A window of the padded array. -/
theorem window_apply (x : FVec Ideal S4x4098x256 .f32) (k : ℕ) (hk : k < 3) (h : S4x4098x256.Slices ![0, k, 0] S4x4096x256) (b : Fin 4) (r : Fin 4096) (j : Fin 256) :
    extractStridedSlice S4x4096x256 ![0, k, 0] x h (ValueIdx.ix3 b r j) = x (ValueIdx.ix3 b (⟨k + r.val, by omega⟩ : Fin 4098) j) := by
  refine extractStridedSlice_apply (s := S4x4098x256) (t := S4x4096x256) _ _ _ _ (ValueIdx.ix3 b (⟨k + r.val, by omega⟩ : Fin 4098) j) fun a => ?_
  match a with
  | ⟨0, _⟩ => exact (Nat.zero_add _).symm
  | ⟨1, _⟩ => rfl
  | ⟨2, _⟩ => exact (Nat.zero_add _).symm

theorem whole_apply (p : FVec Ideal S4x4096x3456 .bf16) (w : FVec Ideal S3x256 .f32) (b : Fin 4) (r : Fin 4096) (j : Fin 256) :
    whole p w (ValueIdx.ix3 b r j) = entry p w b r j := by
  have hr := r.isLt
  unfold whole entry gated
  refine congrArg₂ (· * ·) ?_ (congrArg₂ (· + ·) (congrArg₂ (· + ·) (congrArg₂ (· * ·) (weight_apply w 0 _ b r j) ?_) (congrArg₂ (· * ·) (weight_apply w 1 _ b r j) ?_))
    (congrArg₂ (· * ·) (weight_apply w 2 _ b r j) ?_))
  · refine (extractStridedSlice_apply (s := S4x4096x3456) (t := S4x4096x256) ![0, 0, 1536] _ _ _ (ValueIdx.ix3 b r (⟨1536 + j.val, by omega⟩ : Fin 3456)) fun a => ?_).trans rfl
    match a with
    | ⟨0, _⟩ => exact (Nat.zero_add _).symm
    | ⟨1, _⟩ => exact (Nat.zero_add _).symm
    | ⟨2, _⟩ => rfl
  · rw [window_apply _ 0 (by omega), padded_apply]
    unfold before
    by_cases h : r.val = 0
    · rw [dif_neg (fun e => by have e1 : 1 ≤ 0 + r.val := e.1; omega), dif_pos h]
    · rw [dif_pos (show 1 ≤ 0 + r.val ∧ 0 + r.val - 1 < 4096 by omega), dif_neg h, prod_apply]
      have e : (⟨0 + r.val - 1, by omega⟩ : Fin 4096) = ⟨r.val - 1, by omega⟩ := Fin.ext (by show 0 + r.val - 1 = r.val - 1; omega)
      exact congrArg (fun k : Fin 4096 => p (ValueIdx.ix3 b k (⟨1792 + j.val, by omega⟩ : Fin 3456)) * p (ValueIdx.ix3 b k (⟨2048 + j.val, by omega⟩ : Fin 3456))) e
  · rw [window_apply _ 1 (by omega), padded_apply, dif_pos (show 1 ≤ 1 + r.val ∧ 1 + r.val - 1 < 4096 by omega), prod_apply]
    have e : (⟨1 + r.val - 1, by omega⟩ : Fin 4096) = r := Fin.ext (by show 1 + r.val - 1 = r.val; omega)
    exact congrArg (fun k : Fin 4096 => p (ValueIdx.ix3 b k (⟨1792 + j.val, by omega⟩ : Fin 3456)) * p (ValueIdx.ix3 b k (⟨2048 + j.val, by omega⟩ : Fin 3456))) e
  · rw [window_apply _ 2 (by omega), padded_apply]
    unfold Cert.Kernel3Ideal.Hand.after
    by_cases h : r.val = 4095
    · rw [dif_neg (fun e => by have e1 : 2 + r.val - 1 < 4096 := e.2; omega), dif_pos h]
    · rw [dif_pos (show 1 ≤ 2 + r.val ∧ 2 + r.val - 1 < 4096 by omega), dif_neg h, prod_apply]
      have e : (⟨2 + r.val - 1, by omega⟩ : Fin 4096) = ⟨r.val + 1, by omega⟩ := Fin.ext (by show 2 + r.val - 1 = r.val + 1; omega)
      exact congrArg (fun k : Fin 4096 => p (ValueIdx.ix3 b k (⟨1792 + j.val, by omega⟩ : Fin 3456)) * p (ValueIdx.ix3 b k (⟨2048 + j.val, by omega⟩ : Fin 3456))) e

end Cert.Reference3Ideal.Hand

end
-- ==== Proof.InProj.Value.lean ====
/-
  Hand-written, untrusted. WHAT ONE POINT OF THE INPUT PROJECTION STORES, read at an index at the ideal values.
-/
module

public import proofs.«01_k».proof.Proof.Ffn.Value
public import proofs.«01_k».proof.Proof.Gen.Kernel4Ideal.Value
public import Idealize.ShloMosaic.Lib.Pointwise
public import Idealize.ShloMosaic.Lib.KernelVsHost
public import Idealize.ShloMosaic.Lib.ValueLayout
public import Idealize.ShloMosaic.Lib.Pipeline.ReadBack

@[expose] public section

noncomputable section

namespace Cert.Kernel4Ideal.Hand

open Cert.Kernel4Ideal Cert.Kernel4Ideal.Gen
open Idealize.ShloMosaic
open Cert.Kernel2Ideal.Hand (prod_apply scaled normed ld_apply2)

/-- A column's place in its block of 128 columns. -/
def lane (j : Fin 3456) : Fin 128 := ⟨j.val % 128, Nat.mod_lt _ (by omega)⟩

/-- The column `s` places on in the same block, going round. -/
def moved (s : ℕ) (j : Fin 3456) : Fin 3456 := ⟨j.val / 128 * 128 + (j.val % 128 + s) % 128, by have := j.isLt; omega⟩

/-- A row of three tables times the row and the row's blocks turned by 16 lanes either way. -/
def turned (p : Fin 3456 → EReal) (cs sa sb : Fin 128 → EReal) (j : Fin 3456) : EReal :=
  p j * cs (lane j) + p (moved 112 j) * sa (lane j) + p (moved 16 j) * sb (lane j)

/-- A row of the projection as stored: its first two parts turned, the second of them and the eighth part scaled. -/
def stored (p : Fin 3456 → EReal) (cs sa sb : Fin 128 → EReal) (j : Fin 3456) : EReal :=
  if j.val < 384 then turned p cs sa sb j
  else if j.val < 768 then turned p cs sa sb j * Ideal.ofBits .f32 0x3E000000#32
  else if 2304 ≤ j.val ∧ j.val < 2688 then p j * Ideal.ofBits .f32 0x3E38AA3B#32
  else p j

section Pieces

variable (P : Fin 1024 → Fin 3456 → EReal) (CS SA SB : Fin 1024 → Fin 128 → EReal)

/-- The block of a point's results. -/
def block (i : S1024x3456.Idx) : EReal := stored (P (i 0)) (CS (i 0)) (SA (i 0)) (SB (i 0)) (i 1)

/-- `V` holds the rows from `o` and the columns from `B` of `P`. -/
def IsPart (o B : ℕ) {N : ℕ} (V : FVec Ideal ⟨2, ![512, N]⟩ .f32) : Prop :=
  ∀ (r : Fin 512) (c : Fin N) (R : Fin 1024) (J : Fin 3456), R.val = o + r.val → J.val = B + c.val → V (ValueIdx.ix2 r c) = P R J

/-- `T` is a load of the rows from `o` of a table. -/
def IsRows (o : ℕ) (T : FVec Ideal S512x128 .f32) (X : Fin 1024 → Fin 128 → EReal) : Prop :=
  ∀ (r : Fin 512) (c : Fin 128) (R : Fin 1024), R.val = o + r.val → T (ValueIdx.ix2 r c) = X R c

variable {P CS SA SB}

theorem part_apply (o B0 O B : ℕ) {N : ℕ} (A : FVec Ideal ⟨2, ![512, N]⟩ .f32) (hA : IsPart P o B0 A) (h) (hB : B = B0 + O) :
    IsPart P o B (extractStridedSlice S512x128 ![0, O] A h) := by
  intro r c R J hR hJ
  have hO : O + c.val < N := by
    have h1 := h.2 1
    have h2 : O + 128 ≤ N := h1
    have := c.isLt
    omega
  refine Eq.trans ?_ (hA r ⟨O + c.val, hO⟩ R J hR (by show J.val = B0 + (O + c.val); omega))
  refine extractStridedSlice_apply _ _ _ _ _ fun a => ?_
  match a with
  | ⟨0, _⟩ => exact (Nat.zero_add _).symm
  | ⟨1, _⟩ => rfl

/-- Where a block's entry lies in the point's block. -/
theorem block_at (o B : ℕ) (inb) (r : Fin 512) (c : Fin 128) (hR : o + r.val < 1024) (hJ : B + c.val < 3456) :
    block P CS SA SB ((Rect.unit (s := S1024x3456) ![o, B] S512x128.size inb).emb (ValueIdx.ix2 r c))
      = stored (P ⟨o + r.val, hR⟩) (CS ⟨o + r.val, hR⟩) (SA ⟨o + r.val, hR⟩) (SB ⟨o + r.val, hR⟩) ⟨B + c.val, hJ⟩ := by
  have e : (Rect.unit (s := S1024x3456) ![o, B] S512x128.size inb).emb (ValueIdx.ix2 r c) = ValueIdx.ix2 (⟨o + r.val, hR⟩ : Fin 1024) (⟨B + c.val, hJ⟩ : Fin 3456) := by
    funext a
    refine Fin.ext ?_
    match a with
    | ⟨0, _⟩ => exact congrArg (o + ·) (Nat.one_mul _)
    | ⟨1, _⟩ => exact congrArg (B + ·) (Nat.one_mul _)
  rw [e]
  rfl

theorem rows_lt (o B : ℕ) (inb : ∀ a, (![o, B] : Fin 2 → ℕ) a + S512x128.size a ≤ S1024x3456.size a) (r : Fin 512) (c : Fin 128) : o + r.val < 1024 ∧ B + c.val < 3456 := by
  have h0 : o + 512 ≤ 1024 := inb 0
  have h1 : B + 128 ≤ 3456 := inb 1
  have := r.isLt
  have := c.isLt
  omega

theorem plain_piece (o B : ℕ) (V : FVec Ideal S512x128 .f32) (hV : IsPart P o B V) (inb) (h1 : 768 ≤ B) (h2 : B + 128 ≤ 2304 ∨ 2688 ≤ B) (x : S512x128.Idx) :
    truncf (F := Ideal) .bf16 V bitsLt_bf16_f32 x = block P CS SA SB ((Rect.unit (s := S1024x3456) ![o, B] S512x128.size inb).emb x) := by
  obtain ⟨r, c, rfl⟩ : ∃ (r : Fin 512) (c : Fin 128), x = ValueIdx.ix2 r c := ⟨x 0, x 1, ValueIdx.eq_ix2 x⟩
  obtain ⟨hR, hJ⟩ := rows_lt o B inb r c
  have := c.isLt
  rw [block_at o B inb r c hR hJ]
  unfold stored
  rw [if_neg (show ¬ B + c.val < 384 by omega), if_neg (show ¬ B + c.val < 768 by omega), if_neg (show ¬ (2304 ≤ B + c.val ∧ B + c.val < 2688) by omega)]
  exact hV r c _ _ rfl rfl

theorem scaled_piece (o B : ℕ) (V : FVec Ideal S512x128 .f32) (hV : IsPart P o B V) (inb) (h1 : 2304 ≤ B) (h2 : B + 128 ≤ 2688) (x : S512x128.Idx) :
    truncf (F := Ideal) .bf16 (mulf V (broadcast S512x128 (Scalar.ofBits (F := Ideal) .f32 0x3E38AA3B#32))) bitsLt_bf16_f32 x
      = block P CS SA SB ((Rect.unit (s := S1024x3456) ![o, B] S512x128.size inb).emb x) := by
  obtain ⟨r, c, rfl⟩ : ∃ (r : Fin 512) (c : Fin 128), x = ValueIdx.ix2 r c := ⟨x 0, x 1, ValueIdx.eq_ix2 x⟩
  obtain ⟨hR, hJ⟩ := rows_lt o B inb r c
  have := c.isLt
  rw [block_at o B inb r c hR hJ]
  unfold stored
  rw [if_neg (show ¬ B + c.val < 384 by omega), if_neg (show ¬ B + c.val < 768 by omega), if_pos (show 2304 ≤ B + c.val ∧ B + c.val < 2688 by omega)]
  exact congrArg (· * Ideal.ofBits .f32 0x3E38AA3B#32) (hV r c _ _ rfl rfl)

theorem rot16_apply (V : FVec Ideal S512x128 .f32) (r : Fin 512) (c : Fin 128) :
    dynamicRotate 1 16#32 none V rotates_S512x128_d1 (ValueIdx.ix2 r c) = V (ValueIdx.ix2 r (⟨(c.val + 112) % 128, Nat.mod_lt _ (by omega)⟩ : Fin 128)) := by
  refine dynamicRotate_apply (s := S512x128) (1 : Fin 2) 16#32 V rotates_S512x128_d1 _ _ fun b => ?_
  match b with
  | ⟨0, _⟩ => rfl
  | ⟨1, _⟩ => exact congrArg (· % 128) (show c.val + 112 = c.val + 128 - 16 by omega)

theorem rot112_apply (V : FVec Ideal S512x128 .f32) (r : Fin 512) (c : Fin 128) :
    dynamicRotate 1 112#32 none V rotates_S512x128_d1 (ValueIdx.ix2 r c) = V (ValueIdx.ix2 r (⟨(c.val + 16) % 128, Nat.mod_lt _ (by omega)⟩ : Fin 128)) := by
  refine dynamicRotate_apply (s := S512x128) (1 : Fin 2) 112#32 V rotates_S512x128_d1 _ _ fun b => ?_
  match b with
  | ⟨0, _⟩ => rfl
  | ⟨1, _⟩ => exact congrArg (· % 128) (show c.val + 16 = c.val + 128 - 112 by omega)

/-- A block times the first table, and its two turns times the others. -/
abbrev turn (V C S T : FVec Ideal S512x128 .f32) : FVec Ideal S512x128 .f32 :=
  addf (addf (mulf V (shapeCast S512x128 C shapeCasts_S512x128_S512x128)) (mulf (dynamicRotate 1 16#32 none V rotates_S512x128_d1) (shapeCast S512x128 S shapeCasts_S512x128_S512x128)))
    (mulf (dynamicRotate 1 112#32 none V rotates_S512x128_d1) (shapeCast S512x128 T shapeCasts_S512x128_S512x128))

theorem turn_apply (o B : ℕ) (V : FVec Ideal S512x128 .f32) (hV : IsPart P o B V) (C S T : FVec Ideal S512x128 .f32) (hC : IsRows o C CS) (hS : IsRows o S SA) (hT : IsRows o T SB)
    (hB : B % 128 = 0) (r : Fin 512) (c : Fin 128) (hR : o + r.val < 1024) (hJ : B + c.val < 3456) :
    turn V C S T (ValueIdx.ix2 r c) = turned (P ⟨o + r.val, hR⟩) (CS ⟨o + r.val, hR⟩) (SA ⟨o + r.val, hR⟩) (SB ⟨o + r.val, hR⟩) ⟨B + c.val, hJ⟩ := by
  have hc := c.isLt
  have hm : (B + c.val) % 128 = c.val := by omega
  have hl : lane ⟨B + c.val, hJ⟩ = c := Fin.ext hm
  have hd : (B + c.val) / 128 * 128 = B := by omega
  have cast_id : ∀ D : FVec Ideal S512x128 .f32, shapeCast S512x128 D shapeCasts_S512x128_S512x128 (ValueIdx.ix2 r c) = D (ValueIdx.ix2 r c) := fun D => by
    pointwise
  unfold turned
  rw [hl]
  refine congrArg₂ (· + ·) (congrArg₂ (· + ·) (congrArg₂ (· * ·) (hV r c _ _ rfl rfl) ((cast_id C).trans (hC r c _ rfl)))
    (congrArg₂ (· * ·) ((rot16_apply V r c).trans (hV r _ _ _ rfl ?_)) ((cast_id S).trans (hS r c _ rfl))))
    (congrArg₂ (· * ·) ((rot112_apply V r c).trans (hV r _ _ _ rfl ?_)) ((cast_id T).trans (hT r c _ rfl)))
  · show (B + c.val) / 128 * 128 + ((B + c.val) % 128 + 112) % 128 = B + (c.val + 112) % 128
    rw [hd, hm]
  · show (B + c.val) / 128 * 128 + ((B + c.val) % 128 + 16) % 128 = B + (c.val + 16) % 128
    rw [hd, hm]

theorem turn_piece (o B : ℕ) (V : FVec Ideal S512x128 .f32) (hV : IsPart P o B V) (C S T : FVec Ideal S512x128 .f32) (hC : IsRows o C CS) (hS : IsRows o S SA) (hT : IsRows o T SB)
    (inb) (hB : B % 128 = 0) (h1 : B + 128 ≤ 384) (x : S512x128.Idx) :
    truncf (F := Ideal) .bf16 (turn V C S T) bitsLt_bf16_f32 x = block P CS SA SB ((Rect.unit (s := S1024x3456) ![o, B] S512x128.size inb).emb x) := by
  obtain ⟨r, c, rfl⟩ : ∃ (r : Fin 512) (c : Fin 128), x = ValueIdx.ix2 r c := ⟨x 0, x 1, ValueIdx.eq_ix2 x⟩
  obtain ⟨hR, hJ⟩ := rows_lt o B inb r c
  have := c.isLt
  rw [block_at o B inb r c hR hJ]
  unfold stored
  rw [if_pos (show B + c.val < 384 by omega)]
  exact turn_apply o B V hV C S T hC hS hT hB r c hR hJ

theorem turn_scaled_piece (o B : ℕ) (V : FVec Ideal S512x128 .f32) (hV : IsPart P o B V) (C S T : FVec Ideal S512x128 .f32) (hC : IsRows o C CS) (hS : IsRows o S SA) (hT : IsRows o T SB)
    (inb) (hB : B % 128 = 0) (h1 : 384 ≤ B) (h2 : B + 128 ≤ 768) (x : S512x128.Idx) :
    truncf (F := Ideal) .bf16 (mulf (turn V C S T) (broadcast S512x128 (Scalar.ofBits (F := Ideal) .f32 0x3E000000#32))) bitsLt_bf16_f32 x
      = block P CS SA SB ((Rect.unit (s := S1024x3456) ![o, B] S512x128.size inb).emb x) := by
  obtain ⟨r, c, rfl⟩ : ∃ (r : Fin 512) (c : Fin 128), x = ValueIdx.ix2 r c := ⟨x 0, x 1, ValueIdx.eq_ix2 x⟩
  obtain ⟨hR, hJ⟩ := rows_lt o B inb r c
  have := c.isLt
  rw [block_at o B inb r c hR hJ]
  unfold stored
  rw [if_neg (show ¬ B + c.val < 384 by omega), if_pos (show B + c.val < 768 by omega)]
  exact congrArg (· * Ideal.ofBits .f32 0x3E000000#32) (turn_apply o B V hV C S T hC hS hT hB r c hR hJ)

end Pieces

theorem normed_apply (v0 : FVec Ideal S512x1024 .f32) (v1 : FVec Ideal S1x1024 .f32) (v3 v5 : FVec Ideal S1x1x1024 .f32) (r : Fin 512) (k : Fin 1024) :
    k0_pay6 (F := Ideal) v0 v1 v3 v5 (ValueIdx.ix2 r k)
      = normed (fun k => v0 (ValueIdx.ix2 r k)) (fun k => v1 (ValueIdx.ix2 (0 : Fin 1) k)) (fun k => v3 (ValueIdx.ix3 (0 : Fin 1) (0 : Fin 1) k)) (fun k => v5 (ValueIdx.ix3 (0 : Fin 1) (0 : Fin 1) k)) k := by
  unfold k0_pay6 normed scaled
  pointwise
  rfl

theorem normed_eq : @k0_pay47 Ideal _ = @k0_pay6 Ideal _ := rfl

/-- The product of the normed rows and some columns of the weights. -/
abbrev prod (N : ℕ) (X : FVec Ideal S512x1024 .bf16) (w : FVec Ideal ⟨2, ![1024, N]⟩ .bf16) (h : (⟨2, ![1024, N]⟩ : Shape).ShapeCasts ⟨2, ![1024, N]⟩) : FVec Ideal ⟨2, ![512, N]⟩ .f32 :=
  matmul (F := Ideal) (DotDims.plain 512 1024 N) none X (shapeCast ⟨2, ![1024, N]⟩ w h) (constant (F := Ideal) ⟨2, ![512, N]⟩ .f32 0x00000000#32)

theorem ld_whole3 (v : FVec Ideal S1x1x1024 .f32) (k : Fin 1024) : View.ld (Val := Elt Ideal) (e' := .f32) v r0_2 (ValueIdx.ix3 (0 : Fin 1) (0 : Fin 1) k) = v (ValueIdx.ix3 (0 : Fin 1) (0 : Fin 1) k) := by
  refine View.ld_unit_apply_of (Val := Elt Ideal) (e := .f32) v _ _ _ _ _ fun x => ?_
  match x with
  | ⟨0, _⟩ => rfl
  | ⟨1, _⟩ => rfl
  | ⟨2, _⟩ => exact (Nat.zero_add _).symm

/-- Stores that are blocks of `G` leave `G` where one of them covers. -/
theorem canon_of (G : S1024x3456.Idx → EReal) (L : List (View.Piece (Elt Ideal) S1024x3456 .bf16)) (y : S1024x3456.Idx) (hc : ∃ p ∈ L, y ∈ p.1.set)
    (h : View.PiecesOf (Val := Elt Ideal) (e := .bf16) G L) : View.canon L y = G y :=
  (congrArg (fun L => View.canon L y) (List.append_nil L).symm).trans (View.canon_append_of_piecesOf (Val := Elt Ideal) (e := .bf16) G [] L h y hc)

section Point

variable (x0 : FVec Ideal S1024x1024 .f32) (x1 : FVec Ideal S1x1024 .f32) (x2 x3 : FVec Ideal S1x1x1024 .f32) (x4 : FVec Ideal S1024x3456 .bf16) (x5 x6 x7 : FVec Ideal S1024x128 .f32)

/-- Row `R` of the point's product. -/
def projRow (R : Fin 1024) (J : Fin 3456) : EReal :=
  ∑ k : Fin 1024, normed (fun k => x0 (ValueIdx.ix2 R k)) (fun k => x1 (ValueIdx.ix2 (0 : Fin 1) k)) (fun k => x2 (ValueIdx.ix3 (0 : Fin 1) (0 : Fin 1) k)) (fun k => x3 (ValueIdx.ix3 (0 : Fin 1) (0 : Fin 1) k)) k
    * x4 (ValueIdx.ix2 k J)

theorem rows_normed (o : ℕ) (inb) (ho : o + 512 ≤ 1024) (r : Fin 512) (k : Fin 1024) (R : Fin 1024) (hR : R.val = o + r.val) :
    k0_pay6 (F := Ideal) (View.ld (Val := Elt Ideal) (e' := .f32) x0 (Rect.unit (s := S1024x1024) ![o, 0] S512x1024.size inb)) (View.ld (Val := Elt Ideal) (e' := .f32) x1 r0_1)
        (View.ld (Val := Elt Ideal) (e' := .f32) x2 r0_2) (View.ld (Val := Elt Ideal) (e' := .f32) x3 r0_2) (ValueIdx.ix2 r k)
      = normed (fun k => x0 (ValueIdx.ix2 R k)) (fun k => x1 (ValueIdx.ix2 (0 : Fin 1) k)) (fun k => x2 (ValueIdx.ix3 (0 : Fin 1) (0 : Fin 1) k)) (fun k => x3 (ValueIdx.ix3 (0 : Fin 1) (0 : Fin 1) k)) k := by
  rw [normed_apply]
  have e0 : (fun k : Fin 1024 => View.ld (Val := Elt Ideal) (e' := .f32) x0 (Rect.unit (s := S1024x1024) ![o, 0] S512x1024.size inb) (ValueIdx.ix2 r k)) = fun k => x0 (ValueIdx.ix2 R k) :=
    funext fun k => ld_apply2 (e := .f32) x0 inb r k R k hR (Nat.zero_add _).symm
  have e1 : (fun k : Fin 1024 => View.ld (Val := Elt Ideal) (e' := .f32) x1 r0_1 (ValueIdx.ix2 (0 : Fin 1) k)) = fun k => x1 (ValueIdx.ix2 (0 : Fin 1) k) :=
    funext fun k => ld_apply2 (e := .f32) x1 _ (0 : Fin 1) k (0 : Fin 1) k rfl (Nat.zero_add _).symm
  have e2 := funext fun k => ld_whole3 x2 k
  have e3 := funext fun k => ld_whole3 x3 k
  exact congrFun (congr (congr (congr (congrArg normed e0) e1) e2) e3) k

/-- A product of some rows and some columns is that part of the point's product. -/
theorem prod_part (o B N : ℕ) (X : FVec Ideal S512x1024 .bf16)
    (hX : ∀ (r : Fin 512) (k : Fin 1024) (R : Fin 1024), R.val = o + r.val → X (ValueIdx.ix2 r k)
      = normed (fun k => x0 (ValueIdx.ix2 R k)) (fun k => x1 (ValueIdx.ix2 (0 : Fin 1) k)) (fun k => x2 (ValueIdx.ix3 (0 : Fin 1) (0 : Fin 1) k)) (fun k => x3 (ValueIdx.ix3 (0 : Fin 1) (0 : Fin 1) k)) k)
    (inb) (h) : IsPart (projRow x0 x1 x2 x3 x4) o B (prod N X (View.ld (Val := Elt Ideal) (e' := .bf16) x4 (Rect.unit (s := S1024x3456) ![0, B] ![1024, N] inb)) h) := by
  intro r c R J hR hJ
  refine (prod_apply 512 1024 N X _ r c).trans (Finset.sum_congr rfl fun k _ => congrArg₂ (· * ·) (hX r k R hR) ?_)
  rw [shapeCast_self]
  exact ld_apply2 (e := .bf16) x4 inb k c k J (Nat.zero_add _).symm hJ

theorem rows_ld (o : ℕ) (x : FVec Ideal S1024x128 .f32) (inb) :
    IsRows o (View.ld (Val := Elt Ideal) (e' := .f32) x (Rect.unit (s := S1024x128) ![o, 0] S512x128.size inb)) (fun R c => x (ValueIdx.ix2 R c)) :=
  fun r c R hR => ld_apply2 (e := .f32) x inb r c R c hR (Nat.zero_add _).symm

/-- A point's block of results. -/
abbrev result : S1024x3456.Idx → EReal :=
  block (projRow x0 x1 x2 x3 x4) (fun R c => x5 (ValueIdx.ix2 R c)) (fun R c => x6 (ValueIdx.ix2 R c)) (fun R c => x7 (ValueIdx.ix2 R c))

set_option maxHeartbeats 4000000 in
set_option maxRecDepth 8192 in
theorem out_apply (y : S1024x3456.Idx) : out0_8 (F := Ideal) x0 x1 x2 x3 x4 x5 x6 x7 y = result x0 x1 x2 x3 x4 x5 x6 x7 y := by
  have X0 := fun r k R hR => rows_normed x0 x1 x2 x3 0 inb_S1024x1024_S512x1024_0_0 (by decide) r k R hR
  have X1 := fun r k R hR => rows_normed x0 x1 x2 x3 512 inb_S1024x1024_S512x1024_512_0 (by decide) r k R hR
  have a0 := prod_part x0 x1 x2 x3 x4 0 0 768 _ X0 inb_S1024x3456_S1024x768_0_0 shapeCasts_S1024x768_S1024x768
  have a1 := prod_part x0 x1 x2 x3 x4 0 768 768 _ X0 inb_S1024x3456_S1024x768_0_768 shapeCasts_S1024x768_S1024x768
  have a2 := prod_part x0 x1 x2 x3 x4 0 1536 768 _ X0 inb_S1024x3456_S1024x768_0_1536 shapeCasts_S1024x768_S1024x768
  have a3 := prod_part x0 x1 x2 x3 x4 0 2304 768 _ X0 inb_S1024x3456_S1024x768_0_2304 shapeCasts_S1024x768_S1024x768
  have a4 := prod_part x0 x1 x2 x3 x4 0 3072 384 _ X0 inb_S1024x3456_S1024x384_0_3072 shapeCasts_S1024x384_S1024x384
  have b0 := prod_part x0 x1 x2 x3 x4 512 0 768 _ X1 inb_S1024x3456_S1024x768_0_0 shapeCasts_S1024x768_S1024x768
  have b1 := prod_part x0 x1 x2 x3 x4 512 768 768 _ X1 inb_S1024x3456_S1024x768_0_768 shapeCasts_S1024x768_S1024x768
  have b2 := prod_part x0 x1 x2 x3 x4 512 1536 768 _ X1 inb_S1024x3456_S1024x768_0_1536 shapeCasts_S1024x768_S1024x768
  have b3 := prod_part x0 x1 x2 x3 x4 512 2304 768 _ X1 inb_S1024x3456_S1024x768_0_2304 shapeCasts_S1024x768_S1024x768
  have b4 := prod_part x0 x1 x2 x3 x4 512 3072 384 _ X1 inb_S1024x3456_S1024x384_0_3072 shapeCasts_S1024x384_S1024x384
  have c0 := rows_ld 0 x5 inb_S1024x128_S512x128_0_0
  have s0 := rows_ld 0 x6 inb_S1024x128_S512x128_0_0
  have t0 := rows_ld 0 x7 inb_S1024x128_S512x128_0_0
  have c1 := rows_ld 512 x5 inb_S1024x128_S512x128_512_0
  have s1 := rows_ld 512 x6 inb_S1024x128_S512x128_512_0
  have t1 := rows_ld 512 x7 inb_S1024x128_S512x128_512_0
  unfold out0_8
  refine canon_of _ _ y ?_ ?_
  · exact cover0_8 ..
  refine ⟨plain_piece 512 3328 _ (part_apply 512 3072 256 3328 _ b4 slices_S512x384_o0_256_S512x128 rfl) inb_S1024x3456_S512x128_512_3328 (by decide) (by decide), ?_⟩
  refine ⟨plain_piece 512 3200 _ (part_apply 512 3072 128 3200 _ b4 slices_S512x384_o0_128_S512x128 rfl) inb_S1024x3456_S512x128_512_3200 (by decide) (by decide), ?_⟩
  refine ⟨plain_piece 512 3072 _ (part_apply 512 3072 0 3072 _ b4 slices_S512x384_o0_0_S512x128 rfl) inb_S1024x3456_S512x128_512_3072 (by decide) (by decide), ?_⟩
  refine ⟨plain_piece 512 2944 _ (part_apply 512 2304 640 2944 _ b3 slices_S512x768_o0_640_S512x128 rfl) inb_S1024x3456_S512x128_512_2944 (by decide) (by decide), ?_⟩
  refine ⟨plain_piece 512 2816 _ (part_apply 512 2304 512 2816 _ b3 slices_S512x768_o0_512_S512x128 rfl) inb_S1024x3456_S512x128_512_2816 (by decide) (by decide), ?_⟩
  refine ⟨plain_piece 512 2688 _ (part_apply 512 2304 384 2688 _ b3 slices_S512x768_o0_384_S512x128 rfl) inb_S1024x3456_S512x128_512_2688 (by decide) (by decide), ?_⟩
  refine ⟨scaled_piece 512 2560 _ (part_apply 512 2304 256 2560 _ b3 slices_S512x768_o0_256_S512x128 rfl) inb_S1024x3456_S512x128_512_2560 (by decide) (by decide), ?_⟩
  refine ⟨scaled_piece 512 2432 _ (part_apply 512 2304 128 2432 _ b3 slices_S512x768_o0_128_S512x128 rfl) inb_S1024x3456_S512x128_512_2432 (by decide) (by decide), ?_⟩
  refine ⟨scaled_piece 512 2304 _ (part_apply 512 2304 0 2304 _ b3 slices_S512x768_o0_0_S512x128 rfl) inb_S1024x3456_S512x128_512_2304 (by decide) (by decide), ?_⟩
  refine ⟨plain_piece 512 2176 _ (part_apply 512 1536 640 2176 _ b2 slices_S512x768_o0_640_S512x128 rfl) inb_S1024x3456_S512x128_512_2176 (by decide) (by decide), ?_⟩
  refine ⟨plain_piece 512 2048 _ (part_apply 512 1536 512 2048 _ b2 slices_S512x768_o0_512_S512x128 rfl) inb_S1024x3456_S512x128_512_2048 (by decide) (by decide), ?_⟩
  refine ⟨plain_piece 512 1920 _ (part_apply 512 1536 384 1920 _ b2 slices_S512x768_o0_384_S512x128 rfl) inb_S1024x3456_S512x128_512_1920 (by decide) (by decide), ?_⟩
  refine ⟨plain_piece 512 1792 _ (part_apply 512 1536 256 1792 _ b2 slices_S512x768_o0_256_S512x128 rfl) inb_S1024x3456_S512x128_512_1792 (by decide) (by decide), ?_⟩
  refine ⟨plain_piece 512 1664 _ (part_apply 512 1536 128 1664 _ b2 slices_S512x768_o0_128_S512x128 rfl) inb_S1024x3456_S512x128_512_1664 (by decide) (by decide), ?_⟩
  refine ⟨plain_piece 512 1536 _ (part_apply 512 1536 0 1536 _ b2 slices_S512x768_o0_0_S512x128 rfl) inb_S1024x3456_S512x128_512_1536 (by decide) (by decide), ?_⟩
  refine ⟨plain_piece 512 1408 _ (part_apply 512 768 640 1408 _ b1 slices_S512x768_o0_640_S512x128 rfl) inb_S1024x3456_S512x128_512_1408 (by decide) (by decide), ?_⟩
  refine ⟨plain_piece 512 1280 _ (part_apply 512 768 512 1280 _ b1 slices_S512x768_o0_512_S512x128 rfl) inb_S1024x3456_S512x128_512_1280 (by decide) (by decide), ?_⟩
  refine ⟨plain_piece 512 1152 _ (part_apply 512 768 384 1152 _ b1 slices_S512x768_o0_384_S512x128 rfl) inb_S1024x3456_S512x128_512_1152 (by decide) (by decide), ?_⟩
  refine ⟨plain_piece 512 1024 _ (part_apply 512 768 256 1024 _ b1 slices_S512x768_o0_256_S512x128 rfl) inb_S1024x3456_S512x128_512_1024 (by decide) (by decide), ?_⟩
  refine ⟨plain_piece 512 896 _ (part_apply 512 768 128 896 _ b1 slices_S512x768_o0_128_S512x128 rfl) inb_S1024x3456_S512x128_512_896 (by decide) (by decide), ?_⟩
  refine ⟨plain_piece 512 768 _ (part_apply 512 768 0 768 _ b1 slices_S512x768_o0_0_S512x128 rfl) inb_S1024x3456_S512x128_512_768 (by decide) (by decide), ?_⟩
  refine ⟨turn_scaled_piece 512 640 _ (part_apply 512 0 640 640 _ b0 slices_S512x768_o0_640_S512x128 rfl) _ _ _ c1 s1 t1 inb_S1024x3456_S512x128_512_640 (by decide) (by decide) (by decide), ?_⟩
  refine ⟨turn_scaled_piece 512 512 _ (part_apply 512 0 512 512 _ b0 slices_S512x768_o0_512_S512x128 rfl) _ _ _ c1 s1 t1 inb_S1024x3456_S512x128_512_512 (by decide) (by decide) (by decide), ?_⟩
  refine ⟨turn_scaled_piece 512 384 _ (part_apply 512 0 384 384 _ b0 slices_S512x768_o0_384_S512x128 rfl) _ _ _ c1 s1 t1 inb_S1024x3456_S512x128_512_384 (by decide) (by decide) (by decide), ?_⟩
  refine ⟨turn_piece 512 256 _ (part_apply 512 0 256 256 _ b0 slices_S512x768_o0_256_S512x128 rfl) _ _ _ c1 s1 t1 inb_S1024x3456_S512x128_512_256 (by decide) (by decide), ?_⟩
  refine ⟨turn_piece 512 128 _ (part_apply 512 0 128 128 _ b0 slices_S512x768_o0_128_S512x128 rfl) _ _ _ c1 s1 t1 inb_S1024x3456_S512x128_512_128 (by decide) (by decide), ?_⟩
  refine ⟨turn_piece 512 0 _ (part_apply 512 0 0 0 _ b0 slices_S512x768_o0_0_S512x128 rfl) _ _ _ c1 s1 t1 inb_S1024x3456_S512x128_512_0 (by decide) (by decide), ?_⟩
  refine ⟨plain_piece 0 3328 _ (part_apply 0 3072 256 3328 _ a4 slices_S512x384_o0_256_S512x128 rfl) inb_S1024x3456_S512x128_0_3328 (by decide) (by decide), ?_⟩
  refine ⟨plain_piece 0 3200 _ (part_apply 0 3072 128 3200 _ a4 slices_S512x384_o0_128_S512x128 rfl) inb_S1024x3456_S512x128_0_3200 (by decide) (by decide), ?_⟩
  refine ⟨plain_piece 0 3072 _ (part_apply 0 3072 0 3072 _ a4 slices_S512x384_o0_0_S512x128 rfl) inb_S1024x3456_S512x128_0_3072 (by decide) (by decide), ?_⟩
  refine ⟨plain_piece 0 2944 _ (part_apply 0 2304 640 2944 _ a3 slices_S512x768_o0_640_S512x128 rfl) inb_S1024x3456_S512x128_0_2944 (by decide) (by decide), ?_⟩
  refine ⟨plain_piece 0 2816 _ (part_apply 0 2304 512 2816 _ a3 slices_S512x768_o0_512_S512x128 rfl) inb_S1024x3456_S512x128_0_2816 (by decide) (by decide), ?_⟩
  refine ⟨plain_piece 0 2688 _ (part_apply 0 2304 384 2688 _ a3 slices_S512x768_o0_384_S512x128 rfl) inb_S1024x3456_S512x128_0_2688 (by decide) (by decide), ?_⟩
  refine ⟨scaled_piece 0 2560 _ (part_apply 0 2304 256 2560 _ a3 slices_S512x768_o0_256_S512x128 rfl) inb_S1024x3456_S512x128_0_2560 (by decide) (by decide), ?_⟩
  refine ⟨scaled_piece 0 2432 _ (part_apply 0 2304 128 2432 _ a3 slices_S512x768_o0_128_S512x128 rfl) inb_S1024x3456_S512x128_0_2432 (by decide) (by decide), ?_⟩
  refine ⟨scaled_piece 0 2304 _ (part_apply 0 2304 0 2304 _ a3 slices_S512x768_o0_0_S512x128 rfl) inb_S1024x3456_S512x128_0_2304 (by decide) (by decide), ?_⟩
  refine ⟨plain_piece 0 2176 _ (part_apply 0 1536 640 2176 _ a2 slices_S512x768_o0_640_S512x128 rfl) inb_S1024x3456_S512x128_0_2176 (by decide) (by decide), ?_⟩
  refine ⟨plain_piece 0 2048 _ (part_apply 0 1536 512 2048 _ a2 slices_S512x768_o0_512_S512x128 rfl) inb_S1024x3456_S512x128_0_2048 (by decide) (by decide), ?_⟩
  refine ⟨plain_piece 0 1920 _ (part_apply 0 1536 384 1920 _ a2 slices_S512x768_o0_384_S512x128 rfl) inb_S1024x3456_S512x128_0_1920 (by decide) (by decide), ?_⟩
  refine ⟨plain_piece 0 1792 _ (part_apply 0 1536 256 1792 _ a2 slices_S512x768_o0_256_S512x128 rfl) inb_S1024x3456_S512x128_0_1792 (by decide) (by decide), ?_⟩
  refine ⟨plain_piece 0 1664 _ (part_apply 0 1536 128 1664 _ a2 slices_S512x768_o0_128_S512x128 rfl) inb_S1024x3456_S512x128_0_1664 (by decide) (by decide), ?_⟩
  refine ⟨plain_piece 0 1536 _ (part_apply 0 1536 0 1536 _ a2 slices_S512x768_o0_0_S512x128 rfl) inb_S1024x3456_S512x128_0_1536 (by decide) (by decide), ?_⟩
  refine ⟨plain_piece 0 1408 _ (part_apply 0 768 640 1408 _ a1 slices_S512x768_o0_640_S512x128 rfl) inb_S1024x3456_S512x128_0_1408 (by decide) (by decide), ?_⟩
  refine ⟨plain_piece 0 1280 _ (part_apply 0 768 512 1280 _ a1 slices_S512x768_o0_512_S512x128 rfl) inb_S1024x3456_S512x128_0_1280 (by decide) (by decide), ?_⟩
  refine ⟨plain_piece 0 1152 _ (part_apply 0 768 384 1152 _ a1 slices_S512x768_o0_384_S512x128 rfl) inb_S1024x3456_S512x128_0_1152 (by decide) (by decide), ?_⟩
  refine ⟨plain_piece 0 1024 _ (part_apply 0 768 256 1024 _ a1 slices_S512x768_o0_256_S512x128 rfl) inb_S1024x3456_S512x128_0_1024 (by decide) (by decide), ?_⟩
  refine ⟨plain_piece 0 896 _ (part_apply 0 768 128 896 _ a1 slices_S512x768_o0_128_S512x128 rfl) inb_S1024x3456_S512x128_0_896 (by decide) (by decide), ?_⟩
  refine ⟨plain_piece 0 768 _ (part_apply 0 768 0 768 _ a1 slices_S512x768_o0_0_S512x128 rfl) inb_S1024x3456_S512x128_0_768 (by decide) (by decide), ?_⟩
  refine ⟨turn_scaled_piece 0 640 _ (part_apply 0 0 640 640 _ a0 slices_S512x768_o0_640_S512x128 rfl) _ _ _ c0 s0 t0 inb_S1024x3456_S512x128_0_640 (by decide) (by decide) (by decide), ?_⟩
  refine ⟨turn_scaled_piece 0 512 _ (part_apply 0 0 512 512 _ a0 slices_S512x768_o0_512_S512x128 rfl) _ _ _ c0 s0 t0 inb_S1024x3456_S512x128_0_512 (by decide) (by decide) (by decide), ?_⟩
  refine ⟨turn_scaled_piece 0 384 _ (part_apply 0 0 384 384 _ a0 slices_S512x768_o0_384_S512x128 rfl) _ _ _ c0 s0 t0 inb_S1024x3456_S512x128_0_384 (by decide) (by decide) (by decide), ?_⟩
  refine ⟨turn_piece 0 256 _ (part_apply 0 0 256 256 _ a0 slices_S512x768_o0_256_S512x128 rfl) _ _ _ c0 s0 t0 inb_S1024x3456_S512x128_0_256 (by decide) (by decide), ?_⟩
  refine ⟨turn_piece 0 128 _ (part_apply 0 0 128 128 _ a0 slices_S512x768_o0_128_S512x128 rfl) _ _ _ c0 s0 t0 inb_S1024x3456_S512x128_0_128 (by decide) (by decide), ?_⟩
  refine ⟨turn_piece 0 0 _ (part_apply 0 0 0 0 _ a0 slices_S512x768_o0_0_S512x128 rfl) _ _ _ c0 s0 t0 inb_S1024x3456_S512x128_0_0 (by decide) (by decide), ?_⟩
  trivial

end Point

end Cert.Kernel4Ideal.Hand

end
-- ==== Proof.InProj.Final.lean ====
/-
  Hand-written, untrusted. WHAT THE INPUT PROJECTION CALL RETURNS, at an index of the arguments: its tables' layout read, its
  windows' blocks read, its sixteen blocks of rows put together.
-/
module

public import proofs.«01_k».proof.Proof.InProj.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.StableHlo Idealize.SL.Sem
open Idealize.ShloMosaic.Pipeline (Dat)
open Cert.Kernel2Ideal.Hand (normed)

/-- The batch that a token belongs to, and its place in the grid. -/
def batch (r : Fin 16384) : Fin 4 := ⟨r.val / 4096, by have := r.isLt; omega⟩
def site (r : Fin 16384) : Fin 4096 := ⟨r.val % 4096, Nat.mod_lt _ (by omega)⟩

/-- A head's 64 lanes: 32 of the row's angles, then 32 of the column's, each 16 angles twice. -/
def angle (a b : Fin 16 → EReal) (l : Fin 128) : EReal :=
  if l.val % 64 < 32 then a ⟨l.val % 16, Nat.mod_lt _ (by omega)⟩ else b ⟨l.val % 16, Nat.mod_lt _ (by omega)⟩

/-- The sines where a lane is the second of its pair, and their negatives where it is the first. -/
def upper (s : Fin 128 → EReal) (l : Fin 128) : EReal := if l.val % 32 < 16 then 0 else s l
def lower (s : Fin 128 → EReal) (l : Fin 128) : EReal := if l.val % 32 < 16 then -(s l) else 0

/-- Token `r`'s row of the projection before the rotary positions. -/
def tokenProj (h : FVec Ideal S16384x1024 .f32) (g : FVec Ideal S1024 .f32) (sh sc : FVec Ideal S4x1x1024 .f32) (w : FVec Ideal S1024x3456 .f32) (r : Fin 16384) (J : Fin 3456) : EReal :=
  ∑ k : Fin 1024, normed (fun k => h (ValueIdx.ix2 r k)) (fun k => g (ValueIdx.ix1 k)) (fun k => sh (ValueIdx.ix3 (batch r) (0 : Fin 1) k)) (fun k => sc (ValueIdx.ix3 (batch r) (0 : Fin 1) k)) k
    * w (ValueIdx.ix2 k J)

/-- Token `r`'s row of the result, of the nine arguments. -/
def tokenIn (h : FVec Ideal S16384x1024 .f32) (g : FVec Ideal S1024 .f32) (sh sc : FVec Ideal S4x1x1024 .f32) (w : FVec Ideal S1024x3456 .f32) (cr sr cc sn : FVec Ideal S4096x16 .f32)
    (r : Fin 16384) (J : Fin 3456) : EReal :=
  stored (tokenProj h g sh sc w r) (angle (fun q => cr (ValueIdx.ix2 (site r) q)) (fun q => cc (ValueIdx.ix2 (site r) q)))
    (upper (angle (fun q => sr (ValueIdx.ix2 (site r) q)) (fun q => sn (ValueIdx.ix2 (site r) q)))) (lower (angle (fun q => sr (ValueIdx.ix2 (site r) q)) (fun q => sn (ValueIdx.ix2 (site r) q)))) J

variable (m : (ℓ : Loc nD τ sig) → Buf (Elt Ideal) ℓ)

/-- What the result array is shown to hold. -/
def val4 (c : Dev nD) (i : S16384x3456.Idx) : EReal :=
  tokenIn (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (i 0) (i 1)

/-! ## The arrays that the host prepares -/

abbrev Tab := FVec Ideal S4096x16 .f32

abbrev four (a b : Tab) : FVec Ideal S4096x64 .f32 :=
  concatenate S4096x64 1 [⟨S4096x16, a⟩, ⟨S4096x16, a⟩, ⟨S4096x16, b⟩, ⟨S4096x16, b⟩] concatenates_S4096x16_S4096x16_S4096x16_S4096x16_S4096x64_d1

abbrev twice (t : FVec Ideal S4096x64 .f32) : FVec Ideal S4096x128 .f32 :=
  concatenate S4096x128 1 [⟨S4096x64, t⟩, ⟨S4096x64, t⟩] concatenates_S4096x64_S4096x64_S4096x128_d1

abbrev mask (l : Fin 64 → BitVec 1) : S4096x64.Idx → BitVec 1 :=
  broadcastInDim S4096x64 ![0, 1] bcast_S1x64_S4096x64_0_1 (broadcastInDim S1x64 ![1] bcast_S64_S1x64_1 (fun i => l (S64.rowMajor i)))

abbrev zeros : FVec Ideal S4096x64 .f32 := broadcastInDim S4096x64 ![] bcast_S_S4096x64 (constant (F := Ideal) S_ .f32 0x00000000#32)

theorem host_w (c : Dev nD) : V m c main_v2 = truncf (F := Ideal) .bf16 (m ((c.tc : Thread nD τ).loc main_arg4) : FVec Ideal S1024x3456 .f32) bitsLt_bf16_f32 := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results_simp

theorem host_n (c : Dev nD) : V m c main_v11 = shapeCast S1x1024 (m ((c.tc : Thread nD τ).loc main_arg1) : FVec Ideal S1024 .f32) shapeCasts_S1024_S1x1024 := by
  show StableHlo.after (List.flatten [hostOps0, hostOps0_1, hostOps0_2, hostOps0_3, hostOps0_4]) (fun b => m (c, b)) (Proc.devRef .tc main_v11) = _
  simp only [hostOps0, hostOps0_1, hostOps0_2, hostOps0_3, hostOps0_4, List.flatten_cons, List.flatten_nil, List.append_nil, List.cons_append, List.nil_append]
  after_results_simp
  rfl

theorem host_cos (c : Dev nD) : V m c main_v8 = twice (four (m ((c.tc : Thread nD τ).loc main_arg5)) (m ((c.tc : Thread nD τ).loc main_arg7))) := by
  show StableHlo.after (List.flatten [hostOps0, hostOps0_1, hostOps0_2, hostOps0_3, hostOps0_4]) (fun b => m (c, b)) (Proc.devRef .tc main_v8) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

theorem host_upper (c : Dev nD) : V m c main_v9
    = twice (select (mask lit0) (four (m ((c.tc : Thread nD τ).loc main_arg6)) (m ((c.tc : Thread nD τ).loc main_arg8))) zeros) := by
  show StableHlo.after (List.flatten [hostOps0, hostOps0_1, hostOps0_2, hostOps0_3, hostOps0_4]) (fun b => m (c, b)) (Proc.devRef .tc main_v9) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

theorem host_lower (c : Dev nD) : V m c main_v10
    = twice (select (mask lit1) zeros (Host.negf (four (m ((c.tc : Thread nD τ).loc main_arg6)) (m ((c.tc : Thread nD τ).loc main_arg8))))) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

theorem twice_apply (t : FVec Ideal S4096x64 .f32) (s : Fin 4096) (l : Fin 128) : twice t (ValueIdx.ix2 s l) = t (ValueIdx.ix2 s (⟨l.val % 64, Nat.mod_lt _ (by omega)⟩ : Fin 64)) := by
  have hl := l.isLt
  have e : twice t (ValueIdx.ix2 s l) = if h : l.val < 64 then t (ValueIdx.ix2 s (⟨l.val, h⟩ : Fin 64)) else t (ValueIdx.ix2 s (⟨l.val - 64, by omega⟩ : Fin 64)) := by
    pointwise
    rfl
  rw [e]
  split
  · exact congrArg (fun q => t (ValueIdx.ix2 s q)) (Fin.ext (show l.val = l.val % 64 by omega))
  · exact congrArg (fun q => t (ValueIdx.ix2 s q)) (Fin.ext (show l.val - 64 = l.val % 64 by omega))

theorem four_apply (a b : Tab) (s : Fin 4096) (k : Fin 64) :
    four a b (ValueIdx.ix2 s k) = if k.val < 32 then a (ValueIdx.ix2 s (⟨k.val % 16, Nat.mod_lt _ (by omega)⟩ : Fin 16)) else b (ValueIdx.ix2 s (⟨k.val % 16, Nat.mod_lt _ (by omega)⟩ : Fin 16)) := by
  have hk := k.isLt
  have e : four a b (ValueIdx.ix2 s k) = if h : k.val < 16 then a (ValueIdx.ix2 s (⟨k.val, h⟩ : Fin 16))
      else if h1 : k.val - 16 < 16 then a (ValueIdx.ix2 s (⟨k.val - 16, h1⟩ : Fin 16))
      else if h2 : k.val - 16 - 16 < 16 then b (ValueIdx.ix2 s (⟨k.val - 16 - 16, h2⟩ : Fin 16))
      else b (ValueIdx.ix2 s (⟨k.val - 16 - 16 - 16, by omega⟩ : Fin 16)) := by
    pointwise
    rfl
  rw [e]
  split
  · rw [if_pos (show k.val < 32 by omega)]
    exact congrArg (fun q => a (ValueIdx.ix2 s q)) (Fin.ext (show k.val = k.val % 16 by omega))
  split
  · rw [if_pos (show k.val < 32 by omega)]
    exact congrArg (fun q => a (ValueIdx.ix2 s q)) (Fin.ext (show k.val - 16 = k.val % 16 by omega))
  split
  · rw [if_neg (show ¬ k.val < 32 by omega)]
    exact congrArg (fun q => b (ValueIdx.ix2 s q)) (Fin.ext (show k.val - 16 - 16 = k.val % 16 by omega))
  · rw [if_neg (show ¬ k.val < 32 by omega)]
    exact congrArg (fun q => b (ValueIdx.ix2 s q)) (Fin.ext (show k.val - 16 - 16 - 16 = k.val % 16 by omega))

theorem lit0_eq : ∀ k : Fin 64, lit0 k = if k.val % 32 < 16 then 0#1 else 1#1 := by decide
theorem lit1_eq : ∀ k : Fin 64, lit1 k = if k.val % 32 < 16 then 0#1 else 1#1 := by decide

theorem mask_apply (f : Fin 64 → BitVec 1) (s : Fin 4096) (k : Fin 64) : mask f (ValueIdx.ix2 s k) = f k := by
  have e : mask f (ValueIdx.ix2 s k) = f (S64.rowMajor (ValueIdx.ix1 k)) := by
    pointwise
    try rfl
  rw [e]
  exact congrArg f (Fin.ext (Shape.rowMajor_val_one _))

theorem zeros_apply (i : S4096x64.Idx) : zeros i = 0 := Ideal.ofBits_zero_f32

theorem angle_mod (a b : Fin 16 → EReal) (l : Fin 128) :
    (if l.val % 64 < 32 then a ⟨l.val % 64 % 16, Nat.mod_lt _ (by omega)⟩ else b ⟨l.val % 64 % 16, Nat.mod_lt _ (by omega)⟩) = angle a b l := by
  unfold angle
  have e : l.val % 64 % 16 = l.val % 16 := by omega
  simp only [e]

theorem cos_apply (a b : Tab) (s : Fin 4096) (l : Fin 128) :
    twice (four a b) (ValueIdx.ix2 s l) = angle (fun q => a (ValueIdx.ix2 s q)) (fun q => b (ValueIdx.ix2 s q)) l := by
  rw [twice_apply, four_apply]
  exact angle_mod (fun q => a (ValueIdx.ix2 s q)) (fun q => b (ValueIdx.ix2 s q)) l

theorem upper_apply (a b : Tab) (s : Fin 4096) (l : Fin 128) :
    twice (select (mask lit0) (four a b) zeros) (ValueIdx.ix2 s l) = upper (angle (fun q => a (ValueIdx.ix2 s q)) (fun q => b (ValueIdx.ix2 s q))) l := by
  have h32 : l.val % 64 % 32 = l.val % 32 := by omega
  rw [twice_apply]
  show Scalar.select (mask lit0 _) (four a b _) (zeros _) = _
  rw [mask_apply, lit0_eq, four_apply, zeros_apply]
  unfold upper
  show Scalar.select (if l.val % 64 % 32 < 16 then 0#1 else 1#1) _ _ = _
  rw [h32, ← angle_mod]
  split <;> rfl

theorem lower_apply (a b : Tab) (s : Fin 4096) (l : Fin 128) :
    twice (select (mask lit1) zeros (Host.negf (four a b))) (ValueIdx.ix2 s l) = lower (angle (fun q => a (ValueIdx.ix2 s q)) (fun q => b (ValueIdx.ix2 s q))) l := by
  have h32 : l.val % 64 % 32 = l.val % 32 := by omega
  rw [twice_apply]
  show Scalar.select (mask lit1 _) (zeros _) (-(four a b _)) = _
  rw [mask_apply, lit1_eq, four_apply, zeros_apply]
  unfold lower
  show Scalar.select (if l.val % 64 % 32 < 16 then 0#1 else 1#1) _ _ = _
  rw [h32, ← angle_mod]
  split <;> rfl

/-! ## The windows' index maps -/

theorem ix_row : ∀ t : Fin grid0.N, (cc0_transform_0 (grid0.coords t) 0 = t.val ∧ cc0_transform_0 (grid0.coords t) 1 = 0)
    ∧ (cc0_transform_8 (grid0.coords t) 0 = t.val ∧ cc0_transform_8 (grid0.coords t) 1 = 0) := by decide +kernel

theorem ix_mod : ∀ t : Fin grid0.N, (cc0_transform_2 (grid0.coords t) 0 = t.val / 4 ∧ cc0_transform_2 (grid0.coords t) 1 = 0 ∧ cc0_transform_2 (grid0.coords t) 2 = 0)
    ∧ (cc0_transform_3 (grid0.coords t) 0 = t.val / 4 ∧ cc0_transform_3 (grid0.coords t) 1 = 0 ∧ cc0_transform_3 (grid0.coords t) 2 = 0) := by decide +kernel

theorem ix_tab : ∀ t : Fin grid0.N, (cc0_transform_5 (grid0.coords t) 0 = t.val % 4 ∧ cc0_transform_5 (grid0.coords t) 1 = 0)
    ∧ (cc0_transform_6 (grid0.coords t) 0 = t.val % 4 ∧ cc0_transform_6 (grid0.coords t) 1 = 0)
    ∧ (cc0_transform_7 (grid0.coords t) 0 = t.val % 4 ∧ cc0_transform_7 (grid0.coords t) 1 = 0) := by decide +kernel

/-- The point that stores a row, and the row's place in its block. -/
def tile (r : Fin 16384) : Fin cfg0.N := ⟨r.val / 1024, by
  have h : cfg0.N = 16 := by decide
  rw [h]; have := r.isLt; omega⟩
def inTile (r : Fin 16384) : Fin 1024 := ⟨r.val % 1024, Nat.mod_lt _ (by decide)⟩

theorem tile_row (r : Fin 16384) (k : ℕ) (hk : k = (tile r).val) : k * 1024 + 1 * (inTile r).val = r.val := by
  subst hk
  show r.val / 1024 * 1024 + 1 * (r.val % 1024) = r.val
  omega

theorem tile_batch (r : Fin 16384) (k : ℕ) (hk : k = (tile r).val / 4) : k * 1 + 1 * 0 = (batch r).val := by
  subst hk
  show r.val / 1024 / 4 * 1 + 1 * 0 = r.val / 4096
  omega

theorem tile_site (r : Fin 16384) (k : ℕ) (hk : k = (tile r).val % 4) : k * 1024 + 1 * (inTile r).val = (site r).val := by
  subst hk
  show r.val / 1024 % 4 * 1024 + 1 * (r.val % 1024) = r.val % 4096
  omega

theorem at0 (n k z : ℕ) (hz : z = 0) : z * n + 1 * k = k := by subst hz; omega

/-! ## The windows' blocks at the point of a row -/

theorem rd0 (c : Dev nD) (r : Fin 16384) (k : Fin 1024) :
    (iblk m c 0 (tile r) : FVec Ideal S1024x1024 .f32) (ValueIdx.ix2 (inTile r) k) = (m ((c.tc : Thread nD τ).loc main_arg0) : FVec Ideal S16384x1024 .f32) (ValueIdx.ix2 r k) := by
  refine Eq.trans (congrArg (V m c main_arg0) (funext fun a => Fin.ext ?_)) (congrFun (V_main_arg0 m c) _)
  have e := (ix_row (tile r)).1
  match a with
  | ⟨0, _⟩ => exact tile_row r _ e.1
  | ⟨1, _⟩ => exact at0 1024 k.val _ e.2

theorem rd1 (c : Dev nD) (r : Fin 16384) (k : Fin 1024) :
    (iblk m c 1 (tile r) : FVec Ideal S1x1024 .f32) (ValueIdx.ix2 (0 : Fin 1) k) = (m ((c.tc : Thread nD τ).loc main_arg1) : FVec Ideal S1024 .f32) (ValueIdx.ix1 k) := by
  refine Eq.trans (congrArg (V m c main_v11) (funext fun a => Fin.ext ?_)) ((congrFun (host_n m c) (ValueIdx.ix2 (0 : Fin 1) k)).trans ?_)
  · match a with
    | ⟨0, _⟩ => exact at0 1 0 _ rfl
    | ⟨1, _⟩ => exact at0 1024 k.val _ rfl
  · pointwise
    try rfl

theorem rd2 (c : Dev nD) (r : Fin 16384) (k : Fin 1024) :
    (iblk m c 2 (tile r) : FVec Ideal S1x1x1024 .f32) (ValueIdx.ix3 (0 : Fin 1) (0 : Fin 1) k) = (m ((c.tc : Thread nD τ).loc main_arg2) : FVec Ideal S4x1x1024 .f32) (ValueIdx.ix3 (batch r) (0 : Fin 1) k) := by
  refine Eq.trans (congrArg (V m c main_arg2) (funext fun a => Fin.ext ?_)) (congrFun (V_main_arg2 m c) _)
  have e := (ix_mod (tile r)).1
  match a with
  | ⟨0, _⟩ => exact tile_batch r _ e.1
  | ⟨1, _⟩ => exact at0 1 0 _ e.2.1
  | ⟨2, _⟩ => exact at0 1024 k.val _ e.2.2

theorem rd3 (c : Dev nD) (r : Fin 16384) (k : Fin 1024) :
    (iblk m c 3 (tile r) : FVec Ideal S1x1x1024 .f32) (ValueIdx.ix3 (0 : Fin 1) (0 : Fin 1) k) = (m ((c.tc : Thread nD τ).loc main_arg3) : FVec Ideal S4x1x1024 .f32) (ValueIdx.ix3 (batch r) (0 : Fin 1) k) := by
  refine Eq.trans (congrArg (V m c main_arg3) (funext fun a => Fin.ext ?_)) (congrFun (V_main_arg3 m c) _)
  have e := (ix_mod (tile r)).2
  match a with
  | ⟨0, _⟩ => exact tile_batch r _ e.1
  | ⟨1, _⟩ => exact at0 1 0 _ e.2.1
  | ⟨2, _⟩ => exact at0 1024 k.val _ e.2.2

theorem rd4 (c : Dev nD) (r : Fin 16384) (i : Fin 1024) (k : Fin 3456) :
    (iblk m c 4 (tile r) : FVec Ideal S1024x3456 .bf16) (ValueIdx.ix2 i k) = (m ((c.tc : Thread nD τ).loc main_arg4) : FVec Ideal S1024x3456 .f32) (ValueIdx.ix2 i k) := by
  refine Eq.trans (congrArg (V m c main_v2) (funext fun a => Fin.ext ?_)) (congrFun (host_w m c) (ValueIdx.ix2 i k))
  match a with
  | ⟨0, _⟩ => exact at0 1024 i.val _ rfl
  | ⟨1, _⟩ => exact at0 3456 k.val _ rfl

theorem rd5 (c : Dev nD) (r : Fin 16384) (l : Fin 128) :
    (iblk m c 5 (tile r) : FVec Ideal S1024x128 .f32) (ValueIdx.ix2 (inTile r) l)
      = angle (fun q => (m ((c.tc : Thread nD τ).loc main_arg5) : Tab) (ValueIdx.ix2 (site r) q)) (fun q => (m ((c.tc : Thread nD τ).loc main_arg7) : Tab) (ValueIdx.ix2 (site r) q)) l := by
  refine Eq.trans (congrArg (V m c main_v8) (funext fun a => Fin.ext ?_)) ((congrFun (host_cos m c) (ValueIdx.ix2 (site r) l)).trans (cos_apply _ _ (site r) l))
  have e := (ix_tab (tile r)).1
  match a with
  | ⟨0, _⟩ => exact tile_site r _ e.1
  | ⟨1, _⟩ => exact at0 128 l.val _ e.2

theorem rd6 (c : Dev nD) (r : Fin 16384) (l : Fin 128) :
    (iblk m c 6 (tile r) : FVec Ideal S1024x128 .f32) (ValueIdx.ix2 (inTile r) l)
      = upper (angle (fun q => (m ((c.tc : Thread nD τ).loc main_arg6) : Tab) (ValueIdx.ix2 (site r) q)) (fun q => (m ((c.tc : Thread nD τ).loc main_arg8) : Tab) (ValueIdx.ix2 (site r) q))) l := by
  refine Eq.trans (congrArg (V m c main_v9) (funext fun a => Fin.ext ?_)) ((congrFun (host_upper m c) (ValueIdx.ix2 (site r) l)).trans (upper_apply _ _ (site r) l))
  have e := (ix_tab (tile r)).2.1
  match a with
  | ⟨0, _⟩ => exact tile_site r _ e.1
  | ⟨1, _⟩ => exact at0 128 l.val _ e.2

theorem rd7 (c : Dev nD) (r : Fin 16384) (l : Fin 128) :
    (iblk m c 7 (tile r) : FVec Ideal S1024x128 .f32) (ValueIdx.ix2 (inTile r) l)
      = lower (angle (fun q => (m ((c.tc : Thread nD τ).loc main_arg6) : Tab) (ValueIdx.ix2 (site r) q)) (fun q => (m ((c.tc : Thread nD τ).loc main_arg8) : Tab) (ValueIdx.ix2 (site r) q))) l := by
  refine Eq.trans (congrArg (V m c main_v10) (funext fun a => Fin.ext ?_)) ((congrFun (host_lower m c) (ValueIdx.ix2 (site r) l)).trans (lower_apply _ _ (site r) l))
  have e := (ix_tab (tile r)).2.2
  match a with
  | ⟨0, _⟩ => exact tile_site r _ e.1
  | ⟨1, _⟩ => exact at0 128 l.val _ e.2

/-! ## The result -/

/-- What the point of row `r` stores at that row. -/
theorem stored_at (c : Dev nD) (r : Fin 16384) (j : Fin 3456) :
    out0_8 (F := Ideal) (iblk m c 0 (tile r)) (iblk m c 1 (tile r)) (iblk m c 2 (tile r)) (iblk m c 3 (tile r)) (iblk m c 4 (tile r)) (iblk m c 5 (tile r)) (iblk m c 6 (tile r))
      (iblk m c 7 (tile r)) (ValueIdx.ix2 (inTile r) j) = val4 m c (ValueIdx.ix2 r j) := by
  refine (out_apply _ _ _ _ _ _ _ _ (ValueIdx.ix2 (inTile r) j)).trans ?_
  have e0 := funext (rd0 m c r)
  have e1 := funext (rd1 m c r)
  have e2 := funext (rd2 m c r)
  have e3 := funext (rd3 m c r)
  have en := congr (congr (congr (congrArg normed e0) e1) e2) e3
  have ep : projRow (iblk m c 0 (tile r)) (iblk m c 1 (tile r)) (iblk m c 2 (tile r)) (iblk m c 3 (tile r)) (iblk m c 4 (tile r)) (inTile r)
      = tokenProj (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) r :=
    funext fun J => Finset.sum_congr rfl fun k _ => congrArg₂ (· * ·) (congrFun en k) (rd4 m c r k J)
  have e5 := funext (rd5 m c r)
  have e6 := funext (rd6 m c r)
  have e7 := funext (rd7 m c r)
  exact congrFun (congr (congr (congr (congrArg stored ep) e5) e6) e7) j

/-- The index of row `r`'s place in the array. -/
theorem place_eq (r : Fin 16384) (j : Fin 3456) :
    (((cfg0.win 8).rect (tile r)).emb (ValueIdx.ix2 (inTile r) j : S1024x3456.Idx) : S16384x3456.Idx) = ValueIdx.ix2 r j := by
  funext a
  apply Fin.ext
  have e := (ix_row (tile r)).2
  match a with
  | ⟨0, _⟩ => exact tile_row r _ e.1
  | ⟨1, _⟩ => exact at0 3456 j.val _ e.2

theorem final (c : Dev nD) : (dats m 0 c).arrAt 8 cfg0.N = val4 m c := by
  refine funext fun (i : S16384x3456.Idx) => ?_
  obtain ⟨r, j, rfl⟩ : ∃ (r : Fin 16384) (j : Fin 3456), i = ValueIdx.ix2 r j := ⟨i 0, i 1, ValueIdx.eq_ix2 i⟩
  have e := congrFun ((Value.blocks8 m c (tile r) (flush0_8 (tile r))).trans (Value.flushed8 m c (tile r))) (ValueIdx.ix2 (inTile r) j : S1024x3456.Idx)
  refine (congrArg ((dats m 0 c).arrAt 8 cfg0.N) (place_eq r j)).symm.trans ?_
  exact e.trans (stored_at m c r j)

/-- The run, read: the result at `val4`, every argument as it began. -/
theorem run_val4 (ρ : Dev nD → PrngReg) : θ_run defs (onTc (τ := τ) (main (F := Ideal))) ⟨m, fun _ => 0, ρ⟩ fun r => ∀ c : Dev nD,
      r.2.mem ((c.tc : Thread nD τ).loc main_v12) = val4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r hr c => ⟨(hr c).1.trans (final m c), (hr c).2⟩) (Value.run_blocks m ρ)

end Cert.Kernel4Ideal.Hand

end
-- ==== Proof.InProj.RefValue.lean ====
/-
  Hand-written, untrusted. THE FOURTH REFERENCE'S RESULT read at an index at the ideal values: the normed and modulated rows
  through the weights, the rotary positions on the first two parts, the scales.
-/
module

public import proofs.«01_k».proof.Proof.InProj.Final
public import proofs.«01_k».proof.Proof.Gen.Reference4Ideal.Run
public import Idealize.ShloMosaic.Lib.Pointwise

@[expose] public section

noncomputable section

namespace Cert.Reference4Ideal.Hand

open Cert.Reference4Ideal Cert.Reference4Ideal.Gen Cert.Reference4Ideal.Value
open Idealize.ShloMosaic Idealize.ShloMosaic.StableHlo
open Cert.Kernel2Ideal.Hand (normed scaled)
open Cert.Kernel4Ideal.Hand (lane moved turned stored angle upper lower batch site tokenProj tokenIn)

abbrev Tab := FVec Ideal S4096x16 .f32

/-! ## The result's pieces -/

/-- The tokens, batch by batch. -/
def tokens (h : FVec Ideal S16384x1024 .f32) : FVec Ideal S4x4096x1024 .f32 := shapeCast _ h shapeCasts_S16384x1024_S4x4096x1024

/-- The normed tokens, modulated. -/
def modulated (x : FVec Ideal S4x4096x1024 .f32) (g : FVec Ideal S1024 .f32) (sh sc : FVec Ideal S4x1x1024 .f32) : FVec Ideal S4x4096x1024 .f32 :=
  addf (mulf (mulf (mulf x (broadcastInDim S4x4096x1024 ![0, 1, 2] bcast_S4x4096x1_S4x4096x1024_0_1_2 (Host.rsqrt (addf (Host.divf
      (broadcastInDim S4x4096x1 ![0, 1] bcast_S4x4096_S4x4096x1_0_1 (Host.reduceAdd (mulf x x) (constant S_ .f32 0x00000000#32) reducesTo_S4x4096x1024_S4x4096_d2 h_S_))
      (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2 (addf (broadcastInDim S4x1x1024 ![] bcast_S_S4x1x1024 (constant S_ .f32 0x3F800000#32)) sc)))
    (broadcastInDim S4x4096x1024 ![0, 1, 2] bcast_S4x1x1024_S4x4096x1024_0_1_2 sh)

/-- The product with the weights. -/
def opened (x : FVec Ideal S4x4096x1024 .f32) (w : FVec Ideal S1024x3456 .f32) : FVec Ideal S4x4096x3456 .f32 :=
  Host.dotGeneral dot_S4x4096x1024_S1024x3456_S4x4096x3456_2_0_01_1_n_n none x w

/-- A table of angles, spread over the batches and the heads. -/
def spread (a : Tab) : FVec Ideal S4x6x4096x16 .f32 :=
  broadcastInDim S4x6x4096x16 ![0, 1, 2, 3] bcast_S1x1x4096x16_S4x6x4096x16_0_1_2_3 (broadcastInDim S1x1x4096x16 ![2, 3] bcast_S4096x16_S1x1x4096x16_2_3 a)

/-- One axis's rotation. -/
def turnAxis (x : FVec Ideal S4x6x4096x32 .f32) (c s : Tab) : FVec Ideal S4x6x4096x32 .f32 :=
  concatenate S4x6x4096x32 3
    [⟨S4x6x4096x16, subf (mulf (extractStridedSlice S4x6x4096x16 ![0, 0, 0, 0] x slices_S4x6x4096x32_S4x6x4096x16_0_0_0_0) (spread c))
        (mulf (extractStridedSlice S4x6x4096x16 ![0, 0, 0, 16] x slices_S4x6x4096x32_S4x6x4096x16_0_0_0_16) (spread s))⟩,
      ⟨S4x6x4096x16, addf (mulf (extractStridedSlice S4x6x4096x16 ![0, 0, 0, 0] x slices_S4x6x4096x32_S4x6x4096x16_0_0_0_0) (spread s))
        (mulf (extractStridedSlice S4x6x4096x16 ![0, 0, 0, 16] x slices_S4x6x4096x32_S4x6x4096x16_0_0_0_16) (spread c))⟩]
    concatenates_S4x6x4096x16_S4x6x4096x16_S4x6x4096x32_d3

/-- Both axes' rotations. -/
def turnBoth (x : FVec Ideal S4x6x4096x64 .f32) (cr sr cc sn : Tab) : FVec Ideal S4x6x4096x64 .f32 :=
  concatenate S4x6x4096x64 3
    [⟨S4x6x4096x32, turnAxis (extractStridedSlice S4x6x4096x32 ![0, 0, 0, 0] x slices_S4x6x4096x64_S4x6x4096x32_0_0_0_0) cr sr⟩,
      ⟨S4x6x4096x32, turnAxis (extractStridedSlice S4x6x4096x32 ![0, 0, 0, 32] x slices_S4x6x4096x64_S4x6x4096x32_0_0_0_32) cc sn⟩]
    concatenates_S4x6x4096x32_S4x6x4096x32_S4x6x4096x64_d3

def heads (p : FVec Ideal S4x4096x384 .f32) : FVec Ideal S4x6x4096x64 .f32 :=
  transpose S4x6x4096x64 [0, 2, 1, 3] (shapeCast _ p shapeCasts_S4x4096x384_S4x4096x6x64) transposes_S4x4096x6x64_S4x6x4096x64_0_2_1_3

def joined (x : FVec Ideal S4x6x4096x64 .f32) : FVec Ideal S4x4096x384 .f32 :=
  shapeCast _ (transpose S4x4096x6x64 [0, 2, 1, 3] x transposes_S4x6x4096x64_S4x4096x6x64_0_2_1_3) shapeCasts_S4x4096x6x64_S4x4096x384

/-- Ten parts side by side. -/
def parts (x0 x1 x2 x3 : FVec Ideal S4x4096x384 .f32) (x4 x5 x6 : FVec Ideal S4x4096x256 .f32) (x7 x8 x9 : FVec Ideal S4x4096x384 .f32) : FVec Ideal S4x4096x3456 .f32 :=
  concatenate S4x4096x3456 2 [⟨S4x4096x384, x0⟩, ⟨S4x4096x384, x1⟩, ⟨S4x4096x384, x2⟩, ⟨S4x4096x384, x3⟩, ⟨S4x4096x256, x4⟩, ⟨S4x4096x256, x5⟩, ⟨S4x4096x256, x6⟩,
      ⟨S4x4096x384, x7⟩, ⟨S4x4096x384, x8⟩, ⟨S4x4096x384, x9⟩]
    concatenates_S4x4096x384_S4x4096x384_S4x4096x384_S4x4096x384_S4x4096x256_S4x4096x256_S4x4096x256_S4x4096x384_S4x4096x384_S4x4096x384_S4x4096x3456_d2

/-- The result before it is flattened, of the product. -/
def whole (p : FVec Ideal S4x4096x3456 .f32) (cr sr cc sn : Tab) : FVec Ideal S4x4096x3456 .f32 :=
  parts (joined (turnBoth (heads (extractStridedSlice S4x4096x384 ![0, 0, 0] p slices_S4x4096x3456_S4x4096x384_0_0_0)) cr sr cc sn))
    (joined (mulf (turnBoth (heads (extractStridedSlice S4x4096x384 ![0, 0, 384] p slices_S4x4096x3456_S4x4096x384_0_0_384)) cr sr cc sn)
      (broadcastInDim S4x6x4096x64 ![] bcast_S_S4x6x4096x64 (constant S_ .f32 0x3E000000#32))))
    (extractStridedSlice S4x4096x384 ![0, 0, 768] p slices_S4x4096x3456_S4x4096x384_0_0_768)
    (extractStridedSlice S4x4096x384 ![0, 0, 1152] p slices_S4x4096x3456_S4x4096x384_0_0_1152)
    (extractStridedSlice S4x4096x256 ![0, 0, 1536] p slices_S4x4096x3456_S4x4096x256_0_0_1536)
    (extractStridedSlice S4x4096x256 ![0, 0, 1792] p slices_S4x4096x3456_S4x4096x256_0_0_1792)
    (extractStridedSlice S4x4096x256 ![0, 0, 2048] p slices_S4x4096x3456_S4x4096x256_0_0_2048)
    (mulf (extractStridedSlice S4x4096x384 ![0, 0, 2304] p slices_S4x4096x3456_S4x4096x384_0_0_2304) (broadcastInDim S4x4096x384 ![] bcast_S_S4x4096x384 (constant S_ .f32 0x3E38AA3B#32)))
    (extractStridedSlice S4x4096x384 ![0, 0, 2688] p slices_S4x4096x3456_S4x4096x384_0_0_2688)
    (extractStridedSlice S4x4096x384 ![0, 0, 3072] p slices_S4x4096x3456_S4x4096x384_0_0_3072)

theorem result_eq (m : (ℓ : Loc nD τ sig) → Buf (Elt Ideal) ℓ) (c : Dev nD) (p : FVec Ideal S4x4096x3456 .f32)
    (e : p = opened (modulated (tokens (m ((c.tc : Thread nD τ).loc main_arg0))) (m ((c.tc : Thread nD τ).loc main_arg1)) (m ((c.tc : Thread nD τ).loc main_arg2)) (m ((c.tc : Thread nD τ).loc main_arg3)))
      (m ((c.tc : Thread nD τ).loc main_arg4))) :
    res_main_v119 (F := Ideal) m c = truncf (F := Ideal) .bf16 (shapeCast S16384x3456 (whole p (m ((c.tc : Thread nD τ).loc main_arg5)) (m ((c.tc : Thread nD τ).loc main_arg6))
      (m ((c.tc : Thread nD τ).loc main_arg7)) (m ((c.tc : Thread nD τ).loc main_arg8))) shapeCasts_S4x4096x3456_S16384x3456) bitsLt_bf16_f32 := by
  subst e
  rfl

/-! ## The pieces at an index -/

theorem tokens_apply (h : FVec Ideal S16384x1024 .f32) (r : Fin 16384) (k : Fin 1024) : tokens h (ValueIdx.ix3 (batch r) (site r) k) = h (ValueIdx.ix2 r k) := by
  unfold tokens
  refine shapeCast_apply (s := S16384x1024) (t := S4x4096x1024) _ _ (ValueIdx.ix3 (batch r) (site r) k) (ValueIdx.ix2 r k) ?_
  rw [Shape.rowMajor_val_three, Shape.rowMajor_val_two]
  show r.val * 1024 + k.val = (r.val / 4096 * 4096 + r.val % 4096) * 1024 + k.val
  omega

theorem modulated_apply (x : FVec Ideal S4x4096x1024 .f32) (g : FVec Ideal S1024 .f32) (sh sc : FVec Ideal S4x1x1024 .f32) (b : Fin 4) (i : Fin 4096) (k : Fin 1024) :
    modulated x g sh sc (ValueIdx.ix3 b i k) = normed (fun k => x (ValueIdx.ix3 b i k)) (fun k => g (ValueIdx.ix1 k)) (fun k => sh (ValueIdx.ix3 b (0 : Fin 1) k))
      (fun k => sc (ValueIdx.ix3 b (0 : Fin 1) k)) k := by
  unfold modulated normed scaled
  pointwise
  rfl

theorem opened_apply (x : FVec Ideal S4x4096x1024 .f32) (w : FVec Ideal S1024x3456 .f32) (b : Fin 4) (i : Fin 4096) (J : Fin 3456) :
    opened x w (ValueIdx.ix3 b i J) = ∑ k : Fin 1024, x (ValueIdx.ix3 b i k) * w (ValueIdx.ix2 k J) := by
  unfold opened
  pointwise
  try rfl

theorem spread_apply (a : Tab) (b : Fin 4) (h : Fin 6) (i : Fin 4096) (q : Fin 16) : spread a (ValueIdx.ix4 b h i q) = a (ValueIdx.ix2 i q) := by
  unfold spread
  pointwise
  try rfl

theorem slice4 {N n : ℕ} (x : FVec Ideal ⟨4, ![4, 6, 4096, N]⟩ .f32) (o : ℕ) (h) (b : Fin 4) (g : Fin 6) (i : Fin 4096) (u : Fin n) (u' : Fin N) (e : u'.val = o + u.val) :
    extractStridedSlice ⟨4, ![4, 6, 4096, n]⟩ ![0, 0, 0, o] x h (ValueIdx.ix4 b g i u) = x (ValueIdx.ix4 b g i u') := by
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
  | ⟨3, _⟩ => exact e

/-- A pair's rotation: its first half at `u < 16`, its second from there on. -/
def pairTurn (x : Fin 32 → EReal) (c s : Fin 16 → EReal) (u : Fin 32) : EReal :=
  if h : u.val < 16 then x u * c ⟨u.val, h⟩ - x ⟨u.val + 16, by omega⟩ * s ⟨u.val, h⟩
  else x ⟨u.val - 16, by omega⟩ * s ⟨u.val - 16, by omega⟩ + x u * c ⟨u.val - 16, by omega⟩

theorem turnAxis_apply (x : FVec Ideal S4x6x4096x32 .f32) (c s : Tab) (b : Fin 4) (g : Fin 6) (i : Fin 4096) (u : Fin 32) :
    turnAxis x c s (ValueIdx.ix4 b g i u) = pairTurn (fun u => x (ValueIdx.ix4 b g i u)) (fun q => c (ValueIdx.ix2 i q)) (fun q => s (ValueIdx.ix2 i q)) u := by
  have hu := u.isLt
  unfold turnAxis pairTurn
  by_cases h : u.val < 16
  · rw [dif_pos h]
    refine (concatenate_pair_apply_left (t := S4x6x4096x32) (s₁ := S4x6x4096x16) (s₂ := S4x6x4096x16) 3 _ _ _ _ rfl (ValueIdx.ix4 b g i (⟨u.val, h⟩ : Fin 16)) fun a => ?_).trans ?_
    · match a with
      | ⟨0, _⟩ => rfl
      | ⟨1, _⟩ => rfl
      | ⟨2, _⟩ => rfl
      | ⟨3, _⟩ => rfl
    · exact congrArg₂ (· - ·) (congrArg₂ (· * ·) (slice4 x 0 _ b g i _ u (Nat.zero_add _).symm) (spread_apply c b g i _))
        (congrArg₂ (· * ·) (slice4 x 16 _ b g i _ ⟨u.val + 16, by omega⟩ (Nat.add_comm _ _)) (spread_apply s b g i _))
  · rw [dif_neg h]
    refine (concatenate_pair_apply_right (t := S4x6x4096x32) (s₁ := S4x6x4096x16) (s₂ := S4x6x4096x16) 3 _ _ _ _ rfl rfl (ValueIdx.ix4 b g i (⟨u.val - 16, by omega⟩ : Fin 16)) (fun a ha => ?_) ?_).trans ?_
    · match a, ha with
      | ⟨0, _⟩, _ => rfl
      | ⟨1, _⟩, _ => rfl
      | ⟨2, _⟩, _ => rfl
      | ⟨3, _⟩, ha => exact absurd rfl ha
    · show u.val - 16 + 16 = u.val
      omega
    · exact congrArg₂ (· + ·) (congrArg₂ (· * ·) (slice4 x 0 _ b g i _ ⟨u.val - 16, by omega⟩ (Nat.zero_add _).symm) (spread_apply s b g i _))
        (congrArg₂ (· * ·) (slice4 x 16 _ b g i _ u (by show u.val = 16 + (u.val - 16); omega)) (spread_apply c b g i _))

theorem turnBoth_apply (x : FVec Ideal S4x6x4096x64 .f32) (cr sr cc sn : Tab) (b : Fin 4) (g : Fin 6) (i : Fin 4096) (d : Fin 64) :
    turnBoth x cr sr cc sn (ValueIdx.ix4 b g i d)
      = if h : d.val < 32 then pairTurn (fun u => x (ValueIdx.ix4 b g i (⟨u.val, by omega⟩ : Fin 64))) (fun q => cr (ValueIdx.ix2 i q)) (fun q => sr (ValueIdx.ix2 i q)) ⟨d.val, h⟩
        else pairTurn (fun u => x (ValueIdx.ix4 b g i (⟨32 + u.val, by omega⟩ : Fin 64))) (fun q => cc (ValueIdx.ix2 i q)) (fun q => sn (ValueIdx.ix2 i q)) ⟨d.val - 32, by omega⟩ := by
  have hd := d.isLt
  unfold turnBoth
  by_cases h : d.val < 32
  · rw [dif_pos h]
    refine (concatenate_pair_apply_left (t := S4x6x4096x64) (s₁ := S4x6x4096x32) (s₂ := S4x6x4096x32) 3 _ _ _ _ rfl (ValueIdx.ix4 b g i (⟨d.val, h⟩ : Fin 32)) fun a => ?_).trans ?_
    · match a with
      | ⟨0, _⟩ => rfl
      | ⟨1, _⟩ => rfl
      | ⟨2, _⟩ => rfl
      | ⟨3, _⟩ => rfl
    · refine (turnAxis_apply _ cr sr b g i _).trans (congrArg (fun f => pairTurn f _ _ _) (funext fun u => ?_))
      exact slice4 x 0 _ b g i u _ (Nat.zero_add _).symm
  · rw [dif_neg h]
    refine (concatenate_pair_apply_right (t := S4x6x4096x64) (s₁ := S4x6x4096x32) (s₂ := S4x6x4096x32) 3 _ _ _ _ rfl rfl (ValueIdx.ix4 b g i (⟨d.val - 32, by omega⟩ : Fin 32)) (fun a ha => ?_) ?_).trans ?_
    · match a, ha with
      | ⟨0, _⟩, _ => rfl
      | ⟨1, _⟩, _ => rfl
      | ⟨2, _⟩, _ => rfl
      | ⟨3, _⟩, ha => exact absurd rfl ha
    · show d.val - 32 + 32 = d.val
      omega
    · refine (turnAxis_apply _ cc sn b g i _).trans (congrArg (fun f => pairTurn f _ _ _) (funext fun u => ?_))
      exact slice4 x 32 _ b g i u _ rfl

theorem heads_apply (p : FVec Ideal S4x4096x384 .f32) (b : Fin 4) (g : Fin 6) (i : Fin 4096) (d : Fin 64) :
    heads p (ValueIdx.ix4 b g i d) = p (ValueIdx.ix3 b i (⟨g.val * 64 + d.val, by omega⟩ : Fin 384)) := by
  unfold heads
  refine (transpose_apply (s := S4x4096x6x64) (t := S4x6x4096x64) _ _ _ _ (ValueIdx.ix4 b i g d) fun a => ?_).trans ?_
  · match a with
    | ⟨0, _⟩ => rfl
    | ⟨1, _⟩ => rfl
    | ⟨2, _⟩ => rfl
    | ⟨3, _⟩ => rfl
  · refine shapeCast_apply (s := S4x4096x384) (t := S4x4096x6x64) _ _ (ValueIdx.ix4 b i g d) _ ?_
    rw [Shape.rowMajor_val_three, Shape.rowMajor_val_four]
    show (b.val * 4096 + i.val) * 384 + (g.val * 64 + d.val) = ((b.val * 4096 + i.val) * 6 + g.val) * 64 + d.val
    omega

theorem joined_apply (x : FVec Ideal S4x6x4096x64 .f32) (b : Fin 4) (i : Fin 4096) (j : Fin 384) :
    joined x (ValueIdx.ix3 b i j) = x (ValueIdx.ix4 b (⟨j.val / 64, by omega⟩ : Fin 6) i (⟨j.val % 64, Nat.mod_lt _ (by omega)⟩ : Fin 64)) := by
  unfold joined
  refine (shapeCast_apply (s := S4x4096x6x64) (t := S4x4096x384) _ _ (ValueIdx.ix3 b i j)
    (ValueIdx.ix4 b i (⟨j.val / 64, by omega⟩ : Fin 6) (⟨j.val % 64, Nat.mod_lt _ (by omega)⟩ : Fin 64)) ?_).trans ?_
  · rw [Shape.rowMajor_val_three, Shape.rowMajor_val_four]
    show ((b.val * 4096 + i.val) * 6 + j.val / 64) * 64 + j.val % 64 = (b.val * 4096 + i.val) * 384 + j.val
    omega
  · refine transpose_apply (s := S4x6x4096x64) (t := S4x4096x6x64) _ _ _ _ _ fun a => ?_
    match a with
    | ⟨0, _⟩ => rfl
    | ⟨1, _⟩ => rfl
    | ⟨2, _⟩ => rfl
    | ⟨3, _⟩ => rfl

/-- A part of the product turned, head by head, is the product's row turned, block by block. -/
theorem turned_apply (y : FVec Ideal S4x4096x384 .f32) (cr sr cc sn : Tab) (b : Fin 4) (i : Fin 4096) (p : Fin 3456 → EReal) (o : ℕ) (ho : o % 128 = 0) (ho' : o + 384 ≤ 3456)
    (hy : ∀ (j : Fin 384) (J : Fin 3456), J.val = o + j.val → y (ValueIdx.ix3 b i j) = p J) (j : Fin 384) (J : Fin 3456) (hJ : J.val = o + j.val) :
    joined (turnBoth (heads y) cr sr cc sn) (ValueIdx.ix3 b i j)
      = turned p (angle (fun q => cr (ValueIdx.ix2 i q)) (fun q => cc (ValueIdx.ix2 i q))) (upper (angle (fun q => sr (ValueIdx.ix2 i q)) (fun q => sn (ValueIdx.ix2 i q))))
          (lower (angle (fun q => sr (ValueIdx.ix2 i q)) (fun q => sn (ValueIdx.ix2 i q)))) J := by
  have hj := j.isLt
  have hl : (lane J).val = j.val % 128 := by show J.val % 128 = _; omega
  have h64 : (lane J).val % 64 = j.val % 64 := by omega
  have h16 : (lane J).val % 16 = j.val % 16 := by omega
  have h32 : (lane J).val % 32 = j.val % 32 := by omega
  have hy' : ∀ (g : Fin 6) (d : Fin 64) (K : Fin 3456), K.val = o + (g.val * 64 + d.val) → heads y (ValueIdx.ix4 b g i d) = p K := fun g d K hK =>
    (heads_apply y b g i d).trans (hy _ K hK)
  have up : ∀ (f : Fin 16 → EReal) (n n' : ℕ) (e : n = n') (h h'), f ⟨n, h⟩ = f ⟨n', h'⟩ := fun f n n' e h h' => congrArg f (Fin.ext e)
  rw [joined_apply, turnBoth_apply]
  unfold turned upper lower angle
  simp only [h64, h16, h32]
  by_cases hd : j.val % 64 < 32
  · rw [dif_pos (show ((⟨j.val % 64, Nat.mod_lt _ (by omega)⟩ : Fin 64).val) < 32 from hd), if_pos hd, if_pos hd]
    unfold pairTurn
    by_cases hu : j.val % 64 < 16
    · rw [dif_pos (show ((⟨j.val % 64, _⟩ : Fin 32).val) < 16 from hu), if_pos (show j.val % 32 < 16 by omega), if_pos (show j.val % 32 < 16 by omega), mul_zero, add_zero, mul_neg, sub_eq_add_neg]
      refine congrArg₂ (· + ·) (congrArg₂ (· * ·) (hy' _ _ J ?_) (up (fun q => cr (ValueIdx.ix2 i q)) _ _ ?_ _ _)) (congrArg Neg.neg (congrArg₂ (· * ·) (hy' _ _ (moved 16 J) ?_) (up (fun q => sr (ValueIdx.ix2 i q)) _ _ ?_ _ _)))
      · show J.val = o + (j.val / 64 * 64 + j.val % 64)
        omega
      · show j.val % 64 = j.val % 16
        omega
      · show J.val / 128 * 128 + (J.val % 128 + 16) % 128 = o + (j.val / 64 * 64 + (j.val % 64 + 16))
        omega
      · show j.val % 64 = j.val % 16
        omega
    · rw [dif_neg (show ¬ ((⟨j.val % 64, _⟩ : Fin 32).val) < 16 from hu), if_neg (show ¬ j.val % 32 < 16 by omega), if_neg (show ¬ j.val % 32 < 16 by omega), mul_zero, add_zero, add_comm]
      refine congrArg₂ (· + ·) (congrArg₂ (· * ·) (hy' _ _ J ?_) (up (fun q => cr (ValueIdx.ix2 i q)) _ _ ?_ _ _)) (congrArg₂ (· * ·) (hy' _ _ (moved 112 J) ?_) (up (fun q => sr (ValueIdx.ix2 i q)) _ _ ?_ _ _))
      · show J.val = o + (j.val / 64 * 64 + j.val % 64)
        omega
      · show j.val % 64 - 16 = j.val % 16
        omega
      · show J.val / 128 * 128 + (J.val % 128 + 112) % 128 = o + (j.val / 64 * 64 + (j.val % 64 - 16))
        omega
      · show j.val % 64 - 16 = j.val % 16
        omega
  · rw [dif_neg (show ¬ ((⟨j.val % 64, Nat.mod_lt _ (by omega)⟩ : Fin 64).val) < 32 from hd), if_neg hd, if_neg hd]
    unfold pairTurn
    by_cases hu : j.val % 64 - 32 < 16
    · rw [dif_pos (show ((⟨j.val % 64 - 32, _⟩ : Fin 32).val) < 16 from hu), if_pos (show j.val % 32 < 16 by omega), if_pos (show j.val % 32 < 16 by omega), mul_zero, add_zero, mul_neg, sub_eq_add_neg]
      refine congrArg₂ (· + ·) (congrArg₂ (· * ·) (hy' _ _ J ?_) (up (fun q => cc (ValueIdx.ix2 i q)) _ _ ?_ _ _)) (congrArg Neg.neg (congrArg₂ (· * ·) (hy' _ _ (moved 16 J) ?_) (up (fun q => sn (ValueIdx.ix2 i q)) _ _ ?_ _ _)))
      · show J.val = o + (j.val / 64 * 64 + (32 + (j.val % 64 - 32)))
        omega
      · show j.val % 64 - 32 = j.val % 16
        omega
      · show J.val / 128 * 128 + (J.val % 128 + 16) % 128 = o + (j.val / 64 * 64 + (32 + (j.val % 64 - 32 + 16)))
        omega
      · show j.val % 64 - 32 = j.val % 16
        omega
    · rw [dif_neg (show ¬ ((⟨j.val % 64 - 32, _⟩ : Fin 32).val) < 16 from hu), if_neg (show ¬ j.val % 32 < 16 by omega), if_neg (show ¬ j.val % 32 < 16 by omega), mul_zero, add_zero, add_comm]
      refine congrArg₂ (· + ·) (congrArg₂ (· * ·) (hy' _ _ J ?_) (up (fun q => cc (ValueIdx.ix2 i q)) _ _ ?_ _ _)) (congrArg₂ (· * ·) (hy' _ _ (moved 112 J) ?_) (up (fun q => sn (ValueIdx.ix2 i q)) _ _ ?_ _ _))
      · show J.val = o + (j.val / 64 * 64 + (32 + (j.val % 64 - 32)))
        omega
      · show j.val % 64 - 32 - 16 = j.val % 16
        omega
      · show J.val / 128 * 128 + (J.val % 128 + 112) % 128 = o + (j.val / 64 * 64 + (32 + (j.val % 64 - 32 - 16)))
        omega
      · show j.val % 64 - 32 - 16 = j.val % 16
        omega

theorem parts_apply (x0 x1 x2 x3 : FVec Ideal S4x4096x384 .f32) (x4 x5 x6 : FVec Ideal S4x4096x256 .f32) (x7 x8 x9 : FVec Ideal S4x4096x384 .f32) (b : Fin 4) (i : Fin 4096) (J : Fin 3456) :
    parts x0 x1 x2 x3 x4 x5 x6 x7 x8 x9 (ValueIdx.ix3 b i J)
      = if h : J.val < 384 then x0 (ValueIdx.ix3 b i (⟨J.val, h⟩ : Fin 384))
        else if h : J.val - 384 < 384 then x1 (ValueIdx.ix3 b i (⟨J.val - 384, h⟩ : Fin 384))
        else if h : J.val - 384 - 384 < 384 then x2 (ValueIdx.ix3 b i (⟨J.val - 384 - 384, h⟩ : Fin 384))
        else if h : J.val - 384 - 384 - 384 < 384 then x3 (ValueIdx.ix3 b i (⟨J.val - 384 - 384 - 384, h⟩ : Fin 384))
        else if h : J.val - 384 - 384 - 384 - 384 < 256 then x4 (ValueIdx.ix3 b i (⟨J.val - 384 - 384 - 384 - 384, h⟩ : Fin 256))
        else if h : J.val - 384 - 384 - 384 - 384 - 256 < 256 then x5 (ValueIdx.ix3 b i (⟨J.val - 384 - 384 - 384 - 384 - 256, h⟩ : Fin 256))
        else if h : J.val - 384 - 384 - 384 - 384 - 256 - 256 < 256 then x6 (ValueIdx.ix3 b i (⟨J.val - 384 - 384 - 384 - 384 - 256 - 256, h⟩ : Fin 256))
        else if h : J.val - 384 - 384 - 384 - 384 - 256 - 256 - 256 < 384 then x7 (ValueIdx.ix3 b i (⟨J.val - 384 - 384 - 384 - 384 - 256 - 256 - 256, h⟩ : Fin 384))
        else if h : J.val - 384 - 384 - 384 - 384 - 256 - 256 - 256 - 384 < 384 then x8 (ValueIdx.ix3 b i (⟨J.val - 384 - 384 - 384 - 384 - 256 - 256 - 256 - 384, h⟩ : Fin 384))
        else x9 (ValueIdx.ix3 b i (⟨J.val - 384 - 384 - 384 - 384 - 256 - 256 - 256 - 384 - 384, by omega⟩ : Fin 384)) := by
  unfold parts
  pointwise
  rfl

theorem slice3 {n : ℕ} (p : FVec Ideal S4x4096x3456 .f32) (o : ℕ) (h) (b : Fin 4) (i : Fin 4096) (j : Fin n) (J : Fin 3456) (e : J.val = o + j.val) :
    extractStridedSlice ⟨3, ![4, 4096, n]⟩ ![0, 0, o] p h (ValueIdx.ix3 b i j) = p (ValueIdx.ix3 b i J) := by
  refine extractStridedSlice_apply _ _ _ _ _ fun a => ?_
  match a with
  | ⟨0, _⟩ => exact (Nat.zero_add _).symm
  | ⟨1, _⟩ => exact (Nat.zero_add _).symm
  | ⟨2, _⟩ => exact e

theorem whole_apply (p : FVec Ideal S4x4096x3456 .f32) (cr sr cc sn : Tab) (b : Fin 4) (i : Fin 4096) (J : Fin 3456) :
    whole p cr sr cc sn (ValueIdx.ix3 b i J)
      = stored (fun J => p (ValueIdx.ix3 b i J)) (angle (fun q => cr (ValueIdx.ix2 i q)) (fun q => cc (ValueIdx.ix2 i q)))
          (upper (angle (fun q => sr (ValueIdx.ix2 i q)) (fun q => sn (ValueIdx.ix2 i q)))) (lower (angle (fun q => sr (ValueIdx.ix2 i q)) (fun q => sn (ValueIdx.ix2 i q)))) J := by
  have hJ := J.isLt
  unfold whole stored
  rw [parts_apply]
  by_cases h0 : J.val < 384
  · rw [dif_pos h0, if_pos h0]
    exact turned_apply _ cr sr cc sn b i (fun J => p (ValueIdx.ix3 b i J)) 0 rfl (by omega) (fun j J e => slice3 p 0 _ b i j J e) _ J (Nat.zero_add _).symm
  rw [dif_neg h0, if_neg h0]
  by_cases h1 : J.val - 384 < 384
  · rw [dif_pos h1, if_pos (show J.val < 768 by omega)]
    have e := turned_apply (extractStridedSlice S4x4096x384 ![0, 0, 384] p slices_S4x4096x3456_S4x4096x384_0_0_384) cr sr cc sn b i (fun J => p (ValueIdx.ix3 b i J)) 384 rfl (by omega)
      (fun j J e => slice3 p 384 _ b i j J e) ⟨J.val - 384, h1⟩ J (by show J.val = 384 + (J.val - 384); omega)
    rw [joined_apply] at e
    rw [joined_apply]
    exact congrArg (· * Ideal.ofBits .f32 0x3E000000#32) e
  rw [dif_neg h1, if_neg (show ¬ J.val < 768 by omega)]
  by_cases h2 : J.val - 384 - 384 < 384
  · rw [dif_pos h2, if_neg (by omega)]
    exact slice3 p 768 _ b i _ J (by show J.val = 768 + (J.val - 384 - 384); omega)
  rw [dif_neg h2]
  by_cases h3 : J.val - 384 - 384 - 384 < 384
  · rw [dif_pos h3, if_neg (by omega)]
    exact slice3 p 1152 _ b i _ J (by show J.val = 1152 + (J.val - 384 - 384 - 384); omega)
  rw [dif_neg h3]
  by_cases h4 : J.val - 384 - 384 - 384 - 384 < 256
  · rw [dif_pos h4, if_neg (by omega)]
    exact slice3 p 1536 _ b i _ J (by show J.val = 1536 + (J.val - 384 - 384 - 384 - 384); omega)
  rw [dif_neg h4]
  by_cases h5 : J.val - 384 - 384 - 384 - 384 - 256 < 256
  · rw [dif_pos h5, if_neg (by omega)]
    exact slice3 p 1792 _ b i _ J (by show J.val = 1792 + (J.val - 384 - 384 - 384 - 384 - 256); omega)
  rw [dif_neg h5]
  by_cases h6 : J.val - 384 - 384 - 384 - 384 - 256 - 256 < 256
  · rw [dif_pos h6, if_neg (by omega)]
    exact slice3 p 2048 _ b i _ J (by show J.val = 2048 + (J.val - 384 - 384 - 384 - 384 - 256 - 256); omega)
  rw [dif_neg h6]
  by_cases h7 : J.val - 384 - 384 - 384 - 384 - 256 - 256 - 256 < 384
  · rw [dif_pos h7, if_pos (by omega)]
    exact congrArg (· * Ideal.ofBits .f32 0x3E38AA3B#32)
      (slice3 p 2304 slices_S4x4096x3456_S4x4096x384_0_0_2304 b i (⟨J.val - 384 - 384 - 384 - 384 - 256 - 256 - 256, h7⟩ : Fin 384) J (by show J.val = 2304 + (J.val - 384 - 384 - 384 - 384 - 256 - 256 - 256); omega))
  rw [dif_neg h7, if_neg (by omega)]
  by_cases h8 : J.val - 384 - 384 - 384 - 384 - 256 - 256 - 256 - 384 < 384
  · rw [dif_pos h8]
    exact slice3 p 2688 _ b i _ J (by show J.val = 2688 + (J.val - 384 - 384 - 384 - 384 - 256 - 256 - 256 - 384); omega)
  rw [dif_neg h8]
  exact slice3 p 3072 _ b i _ J (by show J.val = 3072 + (J.val - 384 - 384 - 384 - 384 - 256 - 256 - 256 - 384 - 384); omega)

/-- A row of the reference's result. -/
theorem result_apply (m : (ℓ : Loc nD τ sig) → Buf (Elt Ideal) ℓ) (c : Dev nD) (r : Fin 16384) (J : Fin 3456) :
    res_main_v119 (F := Ideal) m c (ValueIdx.ix2 r J)
      = tokenIn (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) r J := by
  rw [result_eq m c _ rfl]
  unfold tokenIn
  show shapeCast S16384x3456 (whole _ _ _ _ _) _ (ValueIdx.ix2 r J) = _
  refine (shapeCast_apply (s := S4x4096x3456) (t := S16384x3456) _ _ (ValueIdx.ix2 r J) (ValueIdx.ix3 (batch r) (site r) J) ?_).trans ?_
  · rw [Shape.rowMajor_val_three, Shape.rowMajor_val_two]
    show (r.val / 4096 * 4096 + r.val % 4096) * 3456 + J.val = r.val * 3456 + J.val
    omega
  · refine (whole_apply _ _ _ _ _ (batch r) (site r) J).trans (congrArg (fun f => stored f _ _ _ J) (funext fun K => ?_))
    refine (opened_apply _ _ _ _ K).trans ?_
    unfold tokenProj
    refine Finset.sum_congr rfl fun k _ => congrArg₂ (· * ·) ((modulated_apply _ _ _ _ _ _ k).trans ?_) rfl
    exact congrArg (fun f => normed f _ _ _ k) (funext fun k => tokens_apply _ r k)

end Cert.Reference4Ideal.Hand

end
-- ==== Proof.CtxAttn.Soft.lean ====
/-
  Hand-written, untrusted. A ROW OF SOFTMAX ATTENTION over the extended reals: the sum divided once is the sum of the divided
  weights, for finite scores.
-/
module

public import Idealize.ShloMosaic.PureOps.Ideal
public import Idealize.ShloMosaic.PureOps.Ideal.Laws

@[expose] public section

noncomputable section

namespace Cert.Kernel5Ideal.Hand

open Idealize.ShloMosaic

/-- The greatest score of a row. -/
def top (s : Fin 256 → EReal) : EReal := (Finset.univ : Finset (Fin 256)).fold max ⊥ s

/-- A score's weight, not yet normalized. -/
def weight (s : Fin 256 → EReal) (k : Fin 256) : EReal := Ideal.exp (s k - top s)

/-- The sum of a row's weights. -/
def total (s : Fin 256 → EReal) : EReal := ∑ k, weight s k

/-- A row's weighted sum of values, normalized at the end. -/
def attend (s v : Fin 256 → EReal) : EReal := Ideal.div (∑ k, weight s k * v k) (total s)

theorem top_finite (s : Fin 256 → EReal) (hs : ∀ k, ⊥ < s k ∧ s k < ⊤) : ⊥ < top s ∧ top s < ⊤ := by
  unfold top
  refine ⟨(Finset.lt_fold_max _).mpr (Or.inr ⟨0, Finset.mem_univ _, (hs 0).1⟩), (Finset.fold_max_lt _).mpr ⟨bot_lt_top, fun k _ => (hs k).2⟩⟩

theorem weight_real (s : Fin 256 → EReal) (hs : ∀ k, ⊥ < s k ∧ s k < ⊤) (k : Fin 256) : ∃ w : ℝ, 0 < w ∧ weight s k = (w : EReal) := by
  unfold weight
  have ht := top_finite s hs
  lift top s to ℝ using ⟨ht.2.ne, ht.1.ne'⟩ with t
  have hk := hs k
  lift s k to ℝ using ⟨hk.2.ne, hk.1.ne'⟩ with a
  refine ⟨Real.exp (a - t), Real.exp_pos _, ?_⟩
  rw [← EReal.coe_sub, Ideal.exp_coe]

theorem total_real (s : Fin 256 → EReal) (hs : ∀ k, ⊥ < s k ∧ s k < ⊤) : ∃ t : ℝ, 0 < t ∧ total s = (t : EReal) := by
  choose w hw e using weight_real s hs
  refine ⟨∑ k, w k, Finset.sum_pos (fun k _ => hw k) ⟨0, Finset.mem_univ _⟩, ?_⟩
  unfold total
  rw [Finset.sum_congr rfl fun k _ => e k]
  exact (map_sum (⟨⟨Real.toEReal, EReal.coe_zero⟩, EReal.coe_add⟩ : ℝ →+ EReal) w Finset.univ).symm

theorem sum_mul_real (S : Finset (Fin 256)) (x : Fin 256 → EReal) (c : ℝ) (hc : 0 ≤ c) : (∑ k ∈ S, x k) * (c : EReal) = ∑ k ∈ S, x k * (c : EReal) := by
  induction S using Finset.induction_on with
  | empty => simp
  | insert a S ha ih => rw [Finset.sum_insert ha, Finset.sum_insert ha, ← ih, EReal.right_distrib_of_nonneg_of_ne_top (by exact_mod_cast hc) (EReal.coe_ne_top c)]

/-- For finite scores the values may be summed by the normalized weights. -/
theorem attend_eq (s v : Fin 256 → EReal) (hs : ∀ k, ⊥ < s k ∧ s k < ⊤) : attend s v = ∑ k, Ideal.div (weight s k) (total s) * v k := by
  obtain ⟨t, ht, e⟩ := total_real s hs
  unfold attend
  rw [e, Ideal.div_coe ht.ne', sum_mul_real _ _ _ (by positivity)]
  refine Finset.sum_congr rfl fun k _ => ?_
  rw [Ideal.div_coe ht.ne', mul_right_comm]

end Cert.Kernel5Ideal.Hand

end
-- ==== Proof.CtxAttn.Value.lean ====
/-
  Hand-written, untrusted. WHAT ONE POINT OF THE CONTEXT ATTENTION STORES, read at an index at the ideal values.
-/
module

public import proofs.«01_k».proof.Proof.CtxAttn.Soft
public import proofs.«01_k».proof.Proof.Gen.Kernel5Ideal.Value
public import Idealize.ShloMosaic.Lib.Pointwise
public import Idealize.ShloMosaic.Lib.KernelVsHost
public import Idealize.ShloMosaic.Lib.ValueLayout
public import Idealize.ShloMosaic.Lib.Pipeline.ValueKit.Basic
public import Idealize.ShloMosaic.Lib.IdealHost
public import Idealize.ShloMosaic.Lib.Pipeline.ValueKit.Tiles

@[expose] public section

noncomputable section

namespace Cert.Kernel5Ideal.Hand

open Cert.Kernel5Ideal Cert.Kernel5Ideal.Gen
open Idealize.ShloMosaic

abbrev Block := FVec Ideal S1x256x128 .bf16

/-! ## The payloads over a mask of lanes -/

/-- The scores of the lanes a mask keeps. -/
def scores (mk : IVec S1x128 1) (x0 x1 : Block) : FVec Ideal S256x256 .f32 :=
  matmul dot_S256x128_S256x128_S256x256_1_1_0_0_n_n none
    (mulf (k0_pay2 x0) (broadcastTo S256x128 (truncf .bf16 (sitofp .f32 (extui 32 mk natLt_1_32) : FVec Ideal S1x128 .f32) bitsLt_bf16_f32) broadcasts_S1x128_S256x128))
    (k0_pay3 x1) (constant S256x256 .f32 0x00000000#32)

/-- The exponentials of scores less their row's greatest. -/
def expd (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1) broadcasts_S256x1_S256x256))

/-- The rows' sums. -/
def rows (e : FVec Ideal S256x256 .f32) : FVec Ideal S256x1 .f32 :=
  shapeCast S256x1 (multiReduction .add [1] S256 e 0x00000000#32 reduces_S256x256_S256 (.inl rfl) rfl) shapeCasts_S256_S256x1

/-- The weighted values over the rows' sums. -/
def over (e : FVec Ideal S256x256 .f32) (v : FVec Ideal S256x128 .bf16) : FVec Ideal S256x128 .f32 :=
  divf (matmul dot_S256x256_S256x128_S256x128_1_0_0_1_n_n none (truncf .bf16 e bitsLt_bf16_f32) v (constant S256x128 .f32 0x00000000#32))
    (broadcastTo S256x128 (rows e) broadcasts_S256x1_S256x128)

/-- The lanes of the second head. -/
def rest : IVec S1x128 1 := xori k0_pay5 (constantI S1x128 1 1#1)

theorem pay6_eq (x0 x1 x2 : Block) : k0_pay6 (F := Ideal) x0 x1 x2 = over (expd (scores k0_pay5 x0 x1)) (k0_pay4 x2) := rfl
theorem pay7_eq (x0 x1 : Block) : k0_pay7 (F := Ideal) x0 x1 = expd (scores rest x0 x1) := rfl
theorem pay8_eq (x0 x1 : Block) : k0_pay8 (F := Ideal) x0 x1 = rows (expd (scores rest x0 x1)) := rfl
theorem pay1_eq (v : FVec Ideal S256x128 .bf16) (b : IVec S1x128 1) (y : FVec Ideal S256x128 .f32) (e : FVec Ideal S256x256 .f32) :
    k0_pay1 (F := Ideal) v b y e (rows e)
      = shapeCast S1x256x128 (truncf .bf16 (select (broadcastTo S256x128 (shapeCast S1x128 b shapeCasts_S1x128_S1x128) broadcasts_S1x128_S256x128) y (over e v)) bitsLt_bf16_f32 : FVec Ideal S256x128 .bf16)
          shapeCasts_S256x128_S1x256x128 := rfl

/-! ## At an index -/

theorem pay5_apply (l : Fin 128) : k0_pay5 (ValueIdx.ix2 (0 : Fin 1) l) = if l.val < 64 then 1#1 else 0#1 := by
  revert l
  decide +kernel

theorem rest_apply (l : Fin 128) : rest (ValueIdx.ix2 (0 : Fin 1) l) = if l.val < 64 then 0#1 else 1#1 := by
  show IntOp.xori (k0_pay5 (ValueIdx.ix2 (0 : Fin 1) l)) 1#1 = _
  rw [pay5_apply]
  split <;> rfl

/-- A bit as a number. -/
def bit (b : BitVec 1) : EReal := (((b.setWidth 32).toInt : ℝ) : EReal)

theorem bit_one : bit 1#1 = 1 := by unfold bit; norm_num
theorem bit_zero : bit 0#1 = 0 := by unfold bit; norm_num

theorem scores_apply (mk : IVec S1x128 1) (x0 x1 : Block) (r c : Fin 256) :
    scores mk x0 x1 (ValueIdx.ix2 r c) = ∑ l : Fin 128, x0 (ValueIdx.ix3 (0 : Fin 1) r l) * bit (mk (ValueIdx.ix2 (0 : Fin 1) l)) * x1 (ValueIdx.ix3 (0 : Fin 1) c l) := by
  unfold scores k0_pay2 k0_pay3
  pointwise
  rfl

theorem lift_row (r k : Fin 256) : (reduces_S256x256_S256.lift (ValueIdx.ix1 r) k : S256x256.Idx) = ValueIdx.ix2 r k := by
  funext a
  match a with
  | ⟨0, _⟩ => rfl
  | ⟨1, _⟩ => rfl

theorem neg_inf : Ideal.ofBits .f32 0xFF800000#32 = ⊥ := by simp [Ideal.ofBits, Ideal.ieee]

theorem greatest_apply (s : FVec Ideal S256x256 .f32) (r : Fin 256) :
    multiReduction .maximumf [1] S256 s 0xFF800000#32 reduces_S256x256_S256 (.inl rfl) rfl (ValueIdx.ix1 r) = top (fun k => s (ValueIdx.ix2 r k)) := by
  refine (Ideal.multiReduction_maximumf_single s 0xFF800000#32 reduces_S256x256_S256 (.inl rfl) rfl (ValueIdx.ix1 r)).trans ?_
  unfold top
  rw [show (FloatOps.ofBits (F := Ideal) .f32 0xFF800000#32 : EReal) = ⊥ from neg_inf]
  exact congrArg (fun f => Finset.fold max ⊥ f Finset.univ) (funext fun k => congrArg s (lift_row r k))

theorem column (v : FVec Ideal S256 .f32) (r : Fin 256) : shapeCast S256x1 v shapeCasts_S256_S256x1 (ValueIdx.ix2 r (0 : Fin 1)) = v (ValueIdx.ix1 r) := by
  pointwise
  rfl

theorem expd_apply (s : FVec Ideal S256x256 .f32) (r c : Fin 256) : expd s (ValueIdx.ix2 r c) = weight (fun k => s (ValueIdx.ix2 r k)) c := by
  unfold expd weight
  rw [← greatest_apply]
  refine congrArg (fun t => Ideal.exp (s (ValueIdx.ix2 r c) - t)) ?_
  refine Eq.trans ?_ (column _ r)
  pointwise

theorem rows_apply (e : FVec Ideal S256x256 .f32) (r : Fin 256) : rows e (ValueIdx.ix2 r (0 : Fin 1)) = ∑ k : Fin 256, e (ValueIdx.ix2 r k) := by
  unfold rows
  refine (column _ r).trans ?_
  refine (Ideal.multiReduction_add_single e _ reduces_S256x256_S256 (.inl rfl) rfl (ValueIdx.ix1 r)).trans ?_
  exact Finset.sum_congr rfl fun k _ => congrArg e (lift_row r k)

theorem over_apply (s : FVec Ideal S256x256 .f32) (x2 : Block) (r : Fin 256) (j : Fin 128) :
    over (expd s) (k0_pay4 x2) (ValueIdx.ix2 r j) = attend (fun k => s (ValueIdx.ix2 r k)) (fun k => x2 (ValueIdx.ix3 (0 : Fin 1) k j)) := by
  have hr : broadcastTo S256x128 (rows (expd s)) broadcasts_S256x1_S256x128 (ValueIdx.ix2 r j) = total (fun k => s (ValueIdx.ix2 r k)) := by
    refine Eq.trans ?_ ((rows_apply (expd s) r).trans (Finset.sum_congr rfl fun k _ => expd_apply s r k))
    pointwise
    rfl
  have hm : matmul dot_S256x256_S256x128_S256x128_1_0_0_1_n_n none (truncf .bf16 (expd s) bitsLt_bf16_f32 : FVec Ideal S256x256 .bf16) (k0_pay4 x2) (constant S256x128 .f32 0x00000000#32) (ValueIdx.ix2 r j)
      = ∑ k : Fin 256, weight (fun k => s (ValueIdx.ix2 r k)) k * x2 (ValueIdx.ix3 (0 : Fin 1) k j) := by
    refine Eq.trans ?_ (Finset.sum_congr rfl fun k _ => congrArg (· * x2 (ValueIdx.ix3 (0 : Fin 1) k j)) (expd_apply s r k))
    unfold k0_pay4
    pointwise
    rfl
  unfold over attend
  exact congrArg₂ Ideal.div hm hr

/-! ## The scores of the two heads -/

/-- A score of a block's head: over the head's lanes only. -/
def headScore (x0 x1 : Block) (h : ℕ) (hh : h < 2) (r c : Fin 256) : EReal :=
  ∑ d : Fin 64, x0 (ValueIdx.ix3 (0 : Fin 1) r (⟨h * 64 + d.val, by omega⟩ : Fin 128)) * x1 (ValueIdx.ix3 (0 : Fin 1) c (⟨h * 64 + d.val, by omega⟩ : Fin 128))

theorem split (f : Fin 128 → EReal) : ∑ l : Fin 128, f l = ∑ d : Fin 64, f ⟨d.val, by omega⟩ + ∑ d : Fin 64, f ⟨64 + d.val, by omega⟩ :=
  Fin.sum_univ_add (a := 64) (b := 64) f

theorem first_scores (x0 x1 : Block) (r c : Fin 256) : scores k0_pay5 x0 x1 (ValueIdx.ix2 r c) = headScore x0 x1 0 (by omega) r c := by
  rw [scores_apply, split]
  unfold headScore
  have z : ∀ d : Fin 64, x0 (ValueIdx.ix3 (0 : Fin 1) r (⟨64 + d.val, by omega⟩ : Fin 128)) * bit (k0_pay5 (ValueIdx.ix2 (0 : Fin 1) (⟨64 + d.val, by omega⟩ : Fin 128)))
      * x1 (ValueIdx.ix3 (0 : Fin 1) c (⟨64 + d.val, by omega⟩ : Fin 128)) = 0 := fun d => by
    rw [pay5_apply, if_neg (by show ¬ 64 + d.val < 64; omega), bit_zero, mul_zero, zero_mul]
  rw [Finset.sum_congr rfl fun d _ => z d, Finset.sum_const_zero, add_zero]
  refine Finset.sum_congr rfl fun d _ => ?_
  rw [pay5_apply, if_pos d.isLt, bit_one, mul_one]
  have e : (⟨0 * 64 + d.val, by omega⟩ : Fin 128) = ⟨d.val, by omega⟩ := Fin.ext (by show 0 * 64 + d.val = d.val; omega)
  rw [e]

theorem second_scores (x0 x1 : Block) (r c : Fin 256) : scores rest x0 x1 (ValueIdx.ix2 r c) = headScore x0 x1 1 (by omega) r c := by
  rw [scores_apply, split]
  unfold headScore
  have z : ∀ d : Fin 64, x0 (ValueIdx.ix3 (0 : Fin 1) r (⟨d.val, by omega⟩ : Fin 128)) * bit (rest (ValueIdx.ix2 (0 : Fin 1) (⟨d.val, by omega⟩ : Fin 128)))
      * x1 (ValueIdx.ix3 (0 : Fin 1) c (⟨d.val, by omega⟩ : Fin 128)) = 0 := fun d => by
    rw [rest_apply, if_pos d.isLt, bit_zero, mul_zero, zero_mul]
  rw [Finset.sum_congr rfl fun d _ => z d, Finset.sum_const_zero, zero_add]
  refine Finset.sum_congr rfl fun d _ => ?_
  rw [rest_apply, if_neg (by show ¬ 64 + d.val < 64; omega), bit_one, mul_one]

/-! ## The block -/

/-- A point's entry: the attention of its lane's head. -/
theorem out_apply (x0 x1 x2 : Block) (r : Fin 256) (j : Fin 128) (h : ℕ) (hh : h < 2) (hj : j.val / 64 = h) :
    out0_3 (F := Ideal) x0 x1 x2 (ValueIdx.ix3 (0 : Fin 1) r j) = attend (headScore x0 x1 h hh r) (fun k => x2 (ValueIdx.ix3 (0 : Fin 1) k j)) := by
  unfold out0_3
  have l0 : ∀ x : Block, View.ld (Val := Elt Ideal) (e' := .bf16) x r0_0 = x := fun x => View.ld_unit_lit (S := S1x256x128) (off := ![0, 0, 0]) _ _ (by decide)
  rw [View.canon_cons_unit_lit (S := S1x256x128) (off := ![0, 0, 0]) _ _ _ (by decide), l0 x0, l0 x1, l0 x2, pay6_eq, pay7_eq, pay8_eq, pay1_eq]
  have hp : ∀ y : FVec Ideal S256x128 .bf16, shapeCast S1x256x128 y shapeCasts_S256x128_S1x256x128 (ValueIdx.ix3 (0 : Fin 1) r j) = y (ValueIdx.ix2 r j) := fun y => by
    pointwise
    rfl
  refine (hp _).trans ?_
  have hb : broadcastTo S256x128 (shapeCast S1x128 k0_pay5 shapeCasts_S1x128_S1x128) broadcasts_S1x128_S256x128 (ValueIdx.ix2 r j) = if j.val < 64 then 1#1 else 0#1 := by
    rw [← pay5_apply]
    pointwise
    rfl
  show select (broadcastTo S256x128 (shapeCast S1x128 k0_pay5 shapeCasts_S1x128_S1x128) broadcasts_S1x128_S256x128) (over (expd (scores k0_pay5 x0 x1)) (k0_pay4 x2))
    (over (expd (scores rest x0 x1)) (k0_pay4 x2)) (ValueIdx.ix2 r j) = _
  rw [ValueIdx.select_apply, hb]
  by_cases hlt : j.val < 64
  · obtain rfl : h = 0 := by omega
    rw [if_pos hlt, ValueIdx.select_one, over_apply]
    exact congrArg (fun s => attend s _) (funext fun k => first_scores x0 x1 r k)
  · obtain rfl : h = 1 := by omega
    rw [if_neg hlt, ValueIdx.select_zero, over_apply]
    exact congrArg (fun s => attend s _) (funext fun k => second_scores x0 x1 r k)

end Cert.Kernel5Ideal.Hand

end
-- ==== Proof.CtxAttn.Final.lean ====
/-
  Hand-written, untrusted. THE RESULT ARRAY OF THE CONTEXT ATTENTION at the ideal values: each of its entries as a function of
  the argument's columns.
-/
module

public import proofs.«01_k».proof.Proof.CtxAttn.Value

@[expose] public section

noncomputable section

namespace Cert.Kernel5Ideal.Hand

open Cert.Kernel5Ideal Cert.Kernel5Ideal.Gen
open Idealize.ShloMosaic Idealize.ShloMosaic.TcCoe Idealize.ShloMosaic.StableHlo Idealize.SL.Sem
open Idealize.ShloMosaic.Pipeline (Dat)

/-- The score of a token against another, of a head. -/
def tokenScore (p : FVec Ideal S4x256x3456 .bf16) (b : Fin 4) (g : Fin 6) (r k : Fin 256) : EReal :=
  ∑ d : Fin 64, p (ValueIdx.ix3 b r (⟨2304 + (g.val * 64 + d.val), by omega⟩ : Fin 3456)) * p (ValueIdx.ix3 b k (⟨2688 + (g.val * 64 + d.val), by omega⟩ : Fin 3456))

/-- A channel's head. -/
def headOf (j : Fin 384) : Fin 6 := ⟨j.val / 64, by omega⟩

/-- One entry of the attention, of the three parts of the input projection's columns. -/
def entry (p : FVec Ideal S4x256x3456 .bf16) (b : Fin 4) (r : Fin 256) (j : Fin 384) : EReal :=
  attend (tokenScore p b (headOf j) r) (fun k => p (ValueIdx.ix3 b k (⟨3072 + j.val, by omega⟩ : Fin 3456)))

variable (m : (ℓ : Loc nD τ sig) → Buf (Elt Ideal) ℓ)

/-- What the result array is shown to hold. -/
def val3 (c : Dev nD) (i : S4x256x384.Idx) : EReal := entry (m ((c.tc : Thread nD τ).loc main_arg0)) (i 0) (i 1) (i 2)

theorem ix_cols : ∀ t : Fin grid0.N, (cc0_transform_0 (grid0.coords t) 0 = t.val / 3 ∧ cc0_transform_0 (grid0.coords t) 1 = 0 ∧ cc0_transform_0 (grid0.coords t) 2 = 18 + t.val % 3)
    ∧ (cc0_transform_1 (grid0.coords t) 0 = t.val / 3 ∧ cc0_transform_1 (grid0.coords t) 1 = 0 ∧ cc0_transform_1 (grid0.coords t) 2 = 21 + t.val % 3)
    ∧ (cc0_transform_2 (grid0.coords t) 0 = t.val / 3 ∧ cc0_transform_2 (grid0.coords t) 1 = 0 ∧ cc0_transform_2 (grid0.coords t) 2 = 24 + t.val % 3)
    ∧ (cc0_transform_3 (grid0.coords t) 0 = t.val / 3 ∧ cc0_transform_3 (grid0.coords t) 1 = 0 ∧ cc0_transform_3 (grid0.coords t) 2 = t.val % 3) := by decide +kernel

/-- The point that stores a batch's channel, and the channel's place in its block. -/
def tile (b : Fin 4) (j : Fin 384) : Fin cfg0.N := ⟨3 * b.val + j.val / 128, by
  have h : cfg0.N = 12 := by decide
  rw [h]; have := b.isLt; have := j.isLt; omega⟩
def inTile (j : Fin 384) : Fin 128 := ⟨j.val % 128, Nat.mod_lt _ (by decide)⟩

theorem tile_batch (b : Fin 4) (j : Fin 384) (k : ℕ) (hk : k = (tile b j).val / 3) : k * 1 + 1 * 0 = b.val := by
  subst hk
  show (3 * b.val + j.val / 128) / 3 * 1 + 1 * 0 = b.val
  omega

theorem tile_col (b : Fin 4) (j : Fin 384) (l : Fin 128) (n k : ℕ) (hk : k = n + (tile b j).val % 3) : k * 128 + 1 * l.val = n * 128 + (j.val / 128 * 128 + l.val) := by
  subst hk
  show (n + (3 * b.val + j.val / 128) % 3) * 128 + 1 * l.val = n * 128 + (j.val / 128 * 128 + l.val)
  omega

theorem at0 (n k z : ℕ) (hz : z = 0) : z * n + 1 * k = k := by subst hz; omega

theorem rd0 (c : Dev nD) (b : Fin 4) (r : Fin 256) (j : Fin 384) (l : Fin 128) (J : Fin 3456) (hJ : J.val = 2304 + (j.val / 128 * 128 + l.val)) :
    (iblk m c 0 (tile b j) : FVec Ideal S1x256x128 .bf16) (ValueIdx.ix3 (0 : Fin 1) r l) = (m ((c.tc : Thread nD τ).loc main_arg0) : FVec Ideal S4x256x3456 .bf16) (ValueIdx.ix3 b r J) := by
  refine Eq.trans (congrArg (V m c main_arg0) (funext fun a => Fin.ext ?_)) (congrFun (V_main_arg0 m c) _)
  have e := (ix_cols (tile b j)).1
  match a with
  | ⟨0, _⟩ => exact tile_batch b j _ e.1
  | ⟨1, _⟩ => exact at0 256 r.val _ e.2.1
  | ⟨2, _⟩ => exact (tile_col b j l 18 _ e.2.2).trans hJ.symm

theorem rd1 (c : Dev nD) (b : Fin 4) (r : Fin 256) (j : Fin 384) (l : Fin 128) (J : Fin 3456) (hJ : J.val = 2688 + (j.val / 128 * 128 + l.val)) :
    (iblk m c 1 (tile b j) : FVec Ideal S1x256x128 .bf16) (ValueIdx.ix3 (0 : Fin 1) r l) = (m ((c.tc : Thread nD τ).loc main_arg0) : FVec Ideal S4x256x3456 .bf16) (ValueIdx.ix3 b r J) := by
  refine Eq.trans (congrArg (V m c main_arg0) (funext fun a => Fin.ext ?_)) (congrFun (V_main_arg0 m c) _)
  have e := (ix_cols (tile b j)).2.1
  match a with
  | ⟨0, _⟩ => exact tile_batch b j _ e.1
  | ⟨1, _⟩ => exact at0 256 r.val _ e.2.1
  | ⟨2, _⟩ => exact (tile_col b j l 21 _ e.2.2).trans hJ.symm

theorem rd2 (c : Dev nD) (b : Fin 4) (r : Fin 256) (j : Fin 384) (l : Fin 128) (J : Fin 3456) (hJ : J.val = 3072 + (j.val / 128 * 128 + l.val)) :
    (iblk m c 2 (tile b j) : FVec Ideal S1x256x128 .bf16) (ValueIdx.ix3 (0 : Fin 1) r l) = (m ((c.tc : Thread nD τ).loc main_arg0) : FVec Ideal S4x256x3456 .bf16) (ValueIdx.ix3 b r J) := by
  refine Eq.trans (congrArg (V m c main_arg0) (funext fun a => Fin.ext ?_)) (congrFun (V_main_arg0 m c) _)
  have e := (ix_cols (tile b j)).2.2.1
  match a with
  | ⟨0, _⟩ => exact tile_batch b j _ e.1
  | ⟨1, _⟩ => exact at0 256 r.val _ e.2.1
  | ⟨2, _⟩ => exact (tile_col b j l 24 _ e.2.2).trans hJ.symm

theorem stored (c : Dev nD) (b : Fin 4) (r : Fin 256) (j : Fin 384) :
    out0_3 (F := Ideal) (iblk m c 0 (tile b j)) (iblk m c 1 (tile b j)) (iblk m c 2 (tile b j)) (ValueIdx.ix3 (0 : Fin 1) r (inTile j)) = val3 m c (ValueIdx.ix3 b r j) := by
  have hj := j.isLt
  refine (out_apply _ _ _ r (inTile j) (j.val % 128 / 64) (by omega) rfl).trans ?_
  unfold val3 entry
  refine congrArg₂ attend (funext fun k => ?_) (funext fun k => rd2 m c b k j (inTile j) _ ?_)
  · unfold headScore tokenScore
    refine Finset.sum_congr rfl fun d _ => congrArg₂ (· * ·) (rd0 m c b r j _ _ ?_) (rd1 m c b k j _ _ ?_)
    · show 2304 + (j.val / 64 * 64 + d.val) = 2304 + (j.val / 128 * 128 + (j.val % 128 / 64 * 64 + d.val))
      omega
    · show 2688 + (j.val / 64 * 64 + d.val) = 2688 + (j.val / 128 * 128 + (j.val % 128 / 64 * 64 + d.val))
      omega
  · show 3072 + j.val = 3072 + (j.val / 128 * 128 + j.val % 128)
    omega

/-- The index of an entry's place in the array. -/
theorem place_eq (b : Fin 4) (r : Fin 256) (j : Fin 384) :
    (((cfg0.win 3).rect (tile b j)).emb (ValueIdx.ix3 (0 : Fin 1) r (inTile j) : S1x256x128.Idx) : S4x256x384.Idx) = ValueIdx.ix3 b r j := by
  funext a
  apply Fin.ext
  have e := (ix_cols (tile b j)).2.2.2
  match a with
  | ⟨0, _⟩ => exact tile_batch b j _ e.1
  | ⟨1, _⟩ => exact at0 256 r.val _ e.2.1
  | ⟨2, _⟩ => exact (tile_col b j (inTile j) 0 _ (e.2.2.trans (Nat.zero_add _).symm)).trans (by show 0 * 128 + (j.val / 128 * 128 + j.val % 128) = j.val; omega)

theorem final (c : Dev nD) : (dats m 0 c).arrAt 3 cfg0.N = val3 m c := by
  refine funext fun (i : S4x256x384.Idx) => ?_
  obtain ⟨b, r, j, rfl⟩ : ∃ (b : Fin 4) (r : Fin 256) (j : Fin 384), i = ValueIdx.ix3 b r j := ⟨i 0, i 1, i 2, by funext a; match a with | ⟨0, _⟩ => rfl | ⟨1, _⟩ => rfl | ⟨2, _⟩ => rfl⟩
  have e := congrFun ((Value.blocks3 m c (tile b j) (flush0_3 (tile b j))).trans (Value.flushed3 m c (tile b j))) (ValueIdx.ix3 (0 : Fin 1) r (inTile j) : S1x256x128.Idx)
  refine (congrArg ((dats m 0 c).arrAt 3 cfg0.N) (place_eq b r j)).symm.trans ?_
  exact e.trans (stored m c b r j)

/-- The run, read: the result at `val3`, the argument as it began. -/
theorem run_val3 (ρ : Dev nD → PrngReg) : θ_run defs (onTc (τ := τ) (main (F := Ideal))) ⟨m, fun _ => 0, ρ⟩ fun r => ∀ c : Dev nD,
      r.2.mem ((c.tc : Thread nD τ).loc main_v0) = val3 m c
      ∧ r.2.mem ((c.tc : Thread nD τ).loc main_arg0) = m ((c.tc : Thread nD τ).loc main_arg0) :=
  (θ_run defs _ _).mono (fun r hr c => ⟨(hr c).1.trans (final m c), (hr c).2⟩) (Value.run_blocks m ρ)

end Cert.Kernel5Ideal.Hand

end
-- ==== Proof.CtxAttn.RefValue.lean ====
/-
  Hand-written, untrusted. THE FIFTH REFERENCE'S RESULT read at an index at the ideal values: the softmax of the scores of a head,
  then the values by its weights; and the precondition, which makes the scores finite.
-/
module

public import proofs.«01_k».proof.Proof.CtxAttn.Final
public import proofs.«01_k».proof.Proof.Gen.Reference5Ideal.Run
public import proofs.«01_k».proof.Proof.Gen.Pre_finite_qk
public import Idealize.ShloMosaic.Lib.Pointwise
public import Idealize.ShloMosaic.Lib.Affine

@[expose] public section

noncomputable section

namespace Cert.Reference5Ideal.Hand

open Cert.Reference5Ideal Cert.Reference5Ideal.Gen Cert.Reference5Ideal.Value
open Idealize.ShloMosaic Idealize.ShloMosaic.StableHlo
open Cert.Kernel5Ideal.Hand (top weight total attend attend_eq tokenScore headOf entry)

abbrev Grid := FVec Ideal S4x6x256x256 .f32
abbrev Heads := FVec Ideal S4x6x256x64 .f32

/-! ## The result's pieces -/

def heads (p : FVec Ideal S4x256x384 .f32) : Heads :=
  transpose S4x6x256x64 [0, 2, 1, 3] (shapeCast _ p shapeCasts_S4x256x384_S4x256x6x64) transposes_S4x256x6x64_S4x6x256x64_0_2_1_3

def joined (x : Heads) : FVec Ideal S4x256x384 .f32 :=
  shapeCast _ (transpose S4x256x6x64 [0, 2, 1, 3] x transposes_S4x6x256x64_S4x256x6x64_0_2_1_3) shapeCasts_S4x256x6x64_S4x256x384

def scores (q k : Heads) : Grid := Host.dotGeneral dot_S4x6x256x64_S4x6x256x64_S4x6x256x256_3_3_2_2_01_01 none q k

/-- One number for each row, spread over the row. -/
def spread (t : FVec Ideal S4x6x256 .f32) : Grid :=
  broadcastInDim S4x6x256x256 ![0, 1, 2, 3] bcast_S4x6x256x1_S4x6x256x256_0_1_2_3 (broadcastInDim S4x6x256x1 ![0, 1, 2] bcast_S4x6x256_S4x6x256x1_0_1_2 t)

def tops (s : Grid) : FVec Ideal S4x6x256 .f32 :=
  maximumf (broadcastInDim S4x6x256 ![] bcast_S_S4x6x256 (constant S_ .f32 0xFF800000#32)) (Host.reduce FloatOps.maximumf s (constant S_ .f32 0xFF800000#32) reducesTo_S4x6x256x256_S4x6x256_d3 h_S_)

def expd (s : Grid) : Grid := Host.exp (subf s (spread (tops s)))

def totals (e : Grid) : FVec Ideal S4x6x256 .f32 := Host.reduceAdd e (constant S_ .f32 0x00000000#32) reducesTo_S4x6x256x256_S4x6x256_d3 h_S_

def mixed (e : Grid) (v : Heads) : Heads := Host.dotGeneral dot_S4x6x256x256_S4x6x256x64_S4x6x256x64_3_2_2_3_01_01 none (Host.divf e (spread (totals e))) v

def whole (x : FVec Ideal S4x256x3456 .f32) : FVec Ideal S4x256x384 .f32 :=
  joined (mixed (expd (scores (heads (extractStridedSlice S4x256x384 ![0, 0, 2304] x slices_S4x256x3456_S4x256x384_0_0_2304))
      (heads (extractStridedSlice S4x256x384 ![0, 0, 2688] x slices_S4x256x3456_S4x256x384_0_0_2688))))
    (heads (extractStridedSlice S4x256x384 ![0, 0, 3072] x slices_S4x256x3456_S4x256x384_0_0_3072)))

theorem result_eq (m : (ℓ : Loc nD τ sig) → Buf (Elt Ideal) ℓ) (c : Dev nD) :
    res_main_v32 (F := Ideal) m c = truncf (F := Ideal) .bf16 (whole (extf .f32 (m ((c.tc : Thread nD τ).loc main_arg0)) bitsLt_bf16_f32)) bitsLt_bf16_f32 := rfl

/-! ## The pieces at an index -/

theorem heads_apply (p : FVec Ideal S4x256x384 .f32) (b : Fin 4) (g : Fin 6) (i : Fin 256) (d : Fin 64) :
    heads p (ValueIdx.ix4 b g i d) = p (ValueIdx.ix3 b i (⟨g.val * 64 + d.val, by omega⟩ : Fin 384)) := by
  unfold heads
  refine (transpose_apply (s := S4x256x6x64) (t := S4x6x256x64) _ _ _ _ (ValueIdx.ix4 b i g d) fun a => ?_).trans ?_
  · match a with
    | ⟨0, _⟩ => rfl
    | ⟨1, _⟩ => rfl
    | ⟨2, _⟩ => rfl
    | ⟨3, _⟩ => rfl
  · refine shapeCast_apply (s := S4x256x384) (t := S4x256x6x64) _ _ (ValueIdx.ix4 b i g d) _ ?_
    rw [Shape.rowMajor_val_three, Shape.rowMajor_val_four]
    show (b.val * 256 + i.val) * 384 + (g.val * 64 + d.val) = ((b.val * 256 + i.val) * 6 + g.val) * 64 + d.val
    omega

theorem joined_apply (x : Heads) (b : Fin 4) (i : Fin 256) (j : Fin 384) :
    joined x (ValueIdx.ix3 b i j) = x (ValueIdx.ix4 b (headOf j) i (⟨j.val % 64, Nat.mod_lt _ (by omega)⟩ : Fin 64)) := by
  unfold joined
  refine (shapeCast_apply (s := S4x256x6x64) (t := S4x256x384) _ _ (ValueIdx.ix3 b i j)
    (ValueIdx.ix4 b i (headOf j) (⟨j.val % 64, Nat.mod_lt _ (by omega)⟩ : Fin 64)) ?_).trans ?_
  · rw [Shape.rowMajor_val_three, Shape.rowMajor_val_four]
    show ((b.val * 256 + i.val) * 6 + j.val / 64) * 64 + j.val % 64 = (b.val * 256 + i.val) * 384 + j.val
    omega
  · refine transpose_apply (s := S4x6x256x64) (t := S4x256x6x64) _ _ _ _ _ fun a => ?_
    match a with
    | ⟨0, _⟩ => rfl
    | ⟨1, _⟩ => rfl
    | ⟨2, _⟩ => rfl
    | ⟨3, _⟩ => rfl

theorem slice3 (p : FVec Ideal S4x256x3456 .f32) (o : ℕ) (h) (b : Fin 4) (i : Fin 256) (j : Fin 384) (J : Fin 3456) (e : J.val = o + j.val) :
    extractStridedSlice S4x256x384 ![0, 0, o] p h (ValueIdx.ix3 b i j) = p (ValueIdx.ix3 b i J) := by
  refine extractStridedSlice_apply _ _ _ _ _ fun a => ?_
  match a with
  | ⟨0, _⟩ => exact (Nat.zero_add _).symm
  | ⟨1, _⟩ => exact (Nat.zero_add _).symm
  | ⟨2, _⟩ => exact e

theorem scores_apply (q k : Heads) (b : Fin 4) (g : Fin 6) (i c : Fin 256) :
    scores q k (ValueIdx.ix4 b g i c) = ∑ d : Fin 64, q (ValueIdx.ix4 b g i d) * k (ValueIdx.ix4 b g c d) := by
  unfold scores
  pointwise
  try rfl

theorem spread_apply (t : FVec Ideal S4x6x256 .f32) (b : Fin 4) (g : Fin 6) (i c : Fin 256) : spread t (ValueIdx.ix4 b g i c) = t (ValueIdx.ix3 b g i) := by
  unfold spread
  pointwise
  try rfl

theorem one_axis : S4x6x256x256.Reduces [3] S4x6x256 := by decide

theorem lift_row (b : Fin 4) (g : Fin 6) (i k : Fin 256) : (one_axis.lift (ValueIdx.ix3 b g i) k : S4x6x256x256.Idx) = ValueIdx.ix4 b g i k := by
  funext a
  match a with
  | ⟨0, _⟩ => rfl
  | ⟨1, _⟩ => rfl
  | ⟨2, _⟩ => rfl
  | ⟨3, _⟩ => rfl

theorem tops_apply (s : Grid) (b : Fin 4) (g : Fin 6) (i : Fin 256) : tops s (ValueIdx.ix3 b g i) = top (fun k => s (ValueIdx.ix4 b g i k)) := by
  unfold tops
  have e : Host.reduce FloatOps.maximumf s (constant S_ .f32 0xFF800000#32) reducesTo_S4x6x256x256_S4x6x256_d3 h_S_ (ValueIdx.ix3 b g i) = top (fun k => s (ValueIdx.ix4 b g i k)) := by
    refine (Host.reduce_eq_fold_single (FloatOps.maximumf (F := Ideal) (φ := .f32)) s _ _ one_axis h_S_ (ValueIdx.ix3 b g i)).trans ?_
    unfold top
    show Finset.fold max (Ideal.ofBits .f32 0xFF800000#32) (s ∘ one_axis.lift (ValueIdx.ix3 b g i)) Finset.univ = _
    rw [Cert.Kernel5Ideal.Hand.neg_inf]
    exact congrArg (fun f => Finset.fold max ⊥ f Finset.univ) (funext fun k => congrArg s (lift_row b g i k))
  show max (Ideal.ofBits .f32 0xFF800000#32) (Host.reduce FloatOps.maximumf s (constant S_ .f32 0xFF800000#32) reducesTo_S4x6x256x256_S4x6x256_d3 h_S_ (ValueIdx.ix3 b g i)) = _
  rw [e, Cert.Kernel5Ideal.Hand.neg_inf]
  exact max_eq_right bot_le

theorem expd_apply (s : Grid) (b : Fin 4) (g : Fin 6) (i k : Fin 256) : expd s (ValueIdx.ix4 b g i k) = weight (fun k => s (ValueIdx.ix4 b g i k)) k := by
  unfold expd weight
  exact congrArg (fun t => Ideal.exp (s (ValueIdx.ix4 b g i k) - t)) ((spread_apply _ b g i k).trans (tops_apply s b g i))

theorem totals_apply (e : Grid) (b : Fin 4) (g : Fin 6) (i : Fin 256) : totals e (ValueIdx.ix3 b g i) = ∑ k : Fin 256, e (ValueIdx.ix4 b g i k) := by
  unfold totals
  refine (Ideal.hostReduceAdd_single reducesTo_S4x6x256x256_S4x6x256_d3 one_axis e _ (ValueIdx.ix3 b g i)).trans ?_
  refine (congrArg (· + _) (show _ = (0 : EReal) from Ideal.ofBits_zero_f32)).trans ((zero_add _).trans ?_)
  exact Finset.sum_congr rfl fun k _ => congrArg e (lift_row b g i k)

theorem mixed_apply (e : Grid) (v : Heads) (b : Fin 4) (g : Fin 6) (i : Fin 256) (d : Fin 64) :
    mixed e v (ValueIdx.ix4 b g i d) = ∑ k : Fin 256, Ideal.div (e (ValueIdx.ix4 b g i k)) (totals e (ValueIdx.ix3 b g i)) * v (ValueIdx.ix4 b g k d) := by
  unfold mixed
  refine Eq.trans ?_ (Finset.sum_congr rfl fun k _ => congrArg (fun t => Ideal.div (e (ValueIdx.ix4 b g i k)) t * v (ValueIdx.ix4 b g k d)) (spread_apply (totals e) b g i k))
  generalize spread (totals e) = t
  pointwise
  rfl

/-! ## The precondition -/

local instance : Cert.Pre_finite_qk.Facts := Cert.Pre_finite_qk.Gen.facts

theorem pos_inf : Ideal.ofBits .f32 0x7F800000#32 = ⊤ := by simp [Ideal.ofBits, Ideal.ieee]

theorem ofBool_one (b : Bool) : BitVec.ofBool b = 1#1 ↔ b = true := by cases b <;> decide

/-- The predicate says that every entry of the queries and the keys is finite. -/
theorem finite_of (p : FVec Ideal S4x256x3456 .bf16) (h : Cert.Pre_finite_qk.fn (F := Ideal) p = fun _ => 1#1) (b : Fin 4) (r : Fin 256) (J : Fin 3456) (l : 2304 ≤ J.val) (u : J.val < 3072) :
    ⊥ < p (ValueIdx.ix3 b r J) ∧ p (ValueIdx.ix3 b r J) < ⊤ := by
  have hx : extractStridedSlice Cert.Pre_finite_qk.S4x256x768 ![0, 0, 2304] p Cert.Pre_finite_qk.Facts.slices_S4x256x3456_S4x256x768_0_0_2304 (ValueIdx.ix3 b r (⟨J.val - 2304, by omega⟩ : Fin 768))
      = p (ValueIdx.ix3 b r J) := by
    refine extractStridedSlice_apply _ _ _ _ _ fun a => ?_
    match a with
    | ⟨0, _⟩ => exact (Nat.zero_add _).symm
    | ⟨1, _⟩ => exact (Nat.zero_add _).symm
    | ⟨2, _⟩ => show J.val = 2304 + (J.val - 2304); omega
  have e : IntOp.andi (Ideal.cmp .ogt (extractStridedSlice Cert.Pre_finite_qk.S4x256x768 ![0, 0, 2304] p Cert.Pre_finite_qk.Facts.slices_S4x256x3456_S4x256x768_0_0_2304 (ValueIdx.ix3 b r (⟨J.val - 2304, by omega⟩ : Fin 768)))
        (Ideal.ofBits .f32 0xFF800000#32))
      (Ideal.cmp .olt (extractStridedSlice Cert.Pre_finite_qk.S4x256x768 ![0, 0, 2304] p Cert.Pre_finite_qk.Facts.slices_S4x256x3456_S4x256x768_0_0_2304 (ValueIdx.ix3 b r (⟨J.val - 2304, by omega⟩ : Fin 768)))
        (Ideal.ofBits .f32 0x7F800000#32)) = 1#1 := congrFun h (ValueIdx.ix3 b r (⟨J.val - 2304, by omega⟩ : Fin 768))
  rw [hx, Cert.Kernel5Ideal.Hand.neg_inf, pos_inf, IntOp.andi_eq_one] at e
  simpa [Ideal.cmp, ofBool_one] using e

/-- A sum of products of finite numbers is finite. -/
theorem sum_finite (x y : Fin 64 → EReal) (hx : ∀ d, ⊥ < x d ∧ x d < ⊤) (hy : ∀ d, ⊥ < y d ∧ y d < ⊤) : ⊥ < ∑ d, x d * y d ∧ ∑ d, x d * y d < ⊤ := by
  have ex : ∀ d, ∃ a : ℝ, x d = (a : EReal) := fun d => ⟨(x d).toReal, (EReal.coe_toReal (hx d).2.ne (hx d).1.ne').symm⟩
  have ey : ∀ d, ∃ a : ℝ, y d = (a : EReal) := fun d => ⟨(y d).toReal, (EReal.coe_toReal (hy d).2.ne (hy d).1.ne').symm⟩
  choose a ha using ex
  choose c hc using ey
  have e : ∑ d, x d * y d = ((∑ d, a d * c d : ℝ) : EReal) := by
    rw [Finset.sum_congr rfl fun d _ => (congrArg₂ (· * ·) (ha d) (hc d)).trans (EReal.coe_mul (a d) (c d)).symm]
    exact (map_sum (⟨⟨Real.toEReal, EReal.coe_zero⟩, EReal.coe_add⟩ : ℝ →+ EReal) (fun d => a d * c d) Finset.univ).symm
  rw [e]
  exact ⟨EReal.bot_lt_coe _, EReal.coe_lt_top _⟩

theorem score_finite (p : FVec Ideal S4x256x3456 .bf16) (h : Cert.Pre_finite_qk.fn (F := Ideal) p = fun _ => 1#1) (b : Fin 4) (g : Fin 6) (r k : Fin 256) :
    ⊥ < tokenScore p b g r k ∧ tokenScore p b g r k < ⊤ := by
  unfold tokenScore
  exact sum_finite _ _ (fun d => finite_of p h b r _ (by show 2304 ≤ 2304 + _; omega) (by show 2304 + (g.val * 64 + d.val) < 3072; omega))
    (fun d => finite_of p h b k _ (by show 2304 ≤ 2688 + _; omega) (by show 2688 + (g.val * 64 + d.val) < 3072; omega))

/-! ## The result -/

/-- An entry of the reference's result. -/
theorem result_apply (m : (ℓ : Loc nD τ sig) → Buf (Elt Ideal) ℓ) (c : Dev nD) (p : FVec Ideal S4x256x3456 .bf16) (hp : p = m ((c.tc : Thread nD τ).loc main_arg0))
    (h : Cert.Pre_finite_qk.fn (F := Ideal) p = fun _ => 1#1) (b : Fin 4) (r : Fin 256) (j : Fin 384) :
    res_main_v32 (F := Ideal) m c (ValueIdx.ix3 b r j) = entry p b r j := by
  rw [result_eq, ← hp]
  show whole p (ValueIdx.ix3 b r j) = _
  unfold whole entry
  have hv : ∀ k : Fin 256, heads (extractStridedSlice S4x256x384 ![0, 0, 3072] (p : FVec Ideal S4x256x3456 .f32) slices_S4x256x3456_S4x256x384_0_0_3072)
      (ValueIdx.ix4 b (headOf j) k (⟨j.val % 64, Nat.mod_lt _ (by omega)⟩ : Fin 64)) = p (ValueIdx.ix3 b k (⟨3072 + j.val, by omega⟩ : Fin 3456)) := fun k =>
    (heads_apply _ b (headOf j) k _).trans (slice3 p 3072 _ b k _ _ (by show 3072 + j.val = 3072 + (j.val / 64 * 64 + j.val % 64); omega))
  have hs : (fun k => scores (heads (extractStridedSlice S4x256x384 ![0, 0, 2304] (p : FVec Ideal S4x256x3456 .f32) slices_S4x256x3456_S4x256x384_0_0_2304))
      (heads (extractStridedSlice S4x256x384 ![0, 0, 2688] (p : FVec Ideal S4x256x3456 .f32) slices_S4x256x3456_S4x256x384_0_0_2688)) (ValueIdx.ix4 b (headOf j) r k))
      = tokenScore p b (headOf j) r := funext fun k => by
    refine (scores_apply _ _ b (headOf j) r k).trans ?_
    unfold tokenScore
    exact Finset.sum_congr rfl fun d _ => congrArg₂ (· * ·) ((heads_apply _ b _ r d).trans (slice3 p 2304 _ b r _ _ rfl)) ((heads_apply _ b _ k d).trans (slice3 p 2688 _ b k _ _ rfl))
  rw [joined_apply, mixed_apply, attend_eq _ _ (score_finite p h b (headOf j) r)]
  refine Finset.sum_congr rfl fun k _ => congrArg₂ (· * ·) (congrArg₂ Ideal.div ?_ ?_) (hv k)
  · exact (expd_apply _ b (headOf j) r k).trans (congrArg (fun s => weight s k) hs)
  · refine (totals_apply _ b (headOf j) r).trans ?_
    unfold total
    exact Finset.sum_congr rfl fun k _ => (expd_apply _ b (headOf j) r k).trans (congrArg (fun s => weight s k) hs)

end Cert.Reference5Ideal.Hand

end
-- ==== Proof.InProjCtx.Value.lean ====
/-
  Hand-written, untrusted. WHAT ONE POINT OF THE CONTEXT TOKENS' INPUT PROJECTION STORES, read at an index at the ideal values.
-/
module

public import proofs.«01_k».proof.Proof.Ffn.Value
public import proofs.«01_k».proof.Proof.Gen.Kernel6Ideal.Value
public import Idealize.ShloMosaic.Lib.Pointwise
public import Idealize.ShloMosaic.Lib.KernelVsHost
public import Idealize.ShloMosaic.Lib.ValueLayout
public import Idealize.ShloMosaic.Lib.Pipeline.ReadBack

@[expose] public section

noncomputable section

namespace Cert.Kernel6Ideal.Hand

open Cert.Kernel6Ideal Cert.Kernel6Ideal.Gen
open Idealize.ShloMosaic
open Cert.Kernel2Ideal.Hand (prod_apply scaled normed ld_apply2)

/-- A row of the projection as stored: its second and its eighth part scaled. -/
def stored (p : Fin 3456 → EReal) (j : Fin 3456) : EReal :=
  if (384 ≤ j.val ∧ j.val < 768) ∨ (2304 ≤ j.val ∧ j.val < 2688) then p j * Ideal.ofBits .f32 0x3E000000#32 else p j

section Pieces

variable (P : Fin 256 → Fin 3456 → EReal)

/-- The block of a point's results. -/
def block (i : S256x3456.Idx) : EReal := stored (P (i 0)) (i 1)

/-- `V` holds the columns from `B` of `P`. -/
def IsPart (B : ℕ) {N : ℕ} (V : FVec Ideal ⟨2, ![256, N]⟩ .f32) : Prop :=
  ∀ (r : Fin 256) (c : Fin N) (J : Fin 3456), J.val = B + c.val → V (ValueIdx.ix2 r c) = P r J

variable {P}

theorem part_apply (B0 O B : ℕ) {N : ℕ} (A : FVec Ideal ⟨2, ![256, N]⟩ .f32) (hA : IsPart P B0 A) (h) (hB : B = B0 + O) :
    IsPart P B (extractStridedSlice S256x128 ![0, O] A h) := by
  intro r c J hJ
  have hO : O + c.val < N := by
    have h1 := h.2 1
    have h2 : O + 128 ≤ N := h1
    have := c.isLt
    omega
  refine Eq.trans ?_ (hA r ⟨O + c.val, hO⟩ J (by show J.val = B0 + (O + c.val); omega))
  refine extractStridedSlice_apply _ _ _ _ _ fun a => ?_
  match a with
  | ⟨0, _⟩ => exact (Nat.zero_add _).symm
  | ⟨1, _⟩ => rfl

/-- Where a block's entry lies in the point's block. -/
theorem block_at (B : ℕ) (inb) (r : Fin 256) (c : Fin 128) (hJ : B + c.val < 3456) :
    block P ((Rect.unit (s := S256x3456) ![0, B] S256x128.size inb).emb (ValueIdx.ix2 r c)) = stored (P r) ⟨B + c.val, hJ⟩ := by
  have e : (Rect.unit (s := S256x3456) ![0, B] S256x128.size inb).emb (ValueIdx.ix2 r c) = ValueIdx.ix2 r (⟨B + c.val, hJ⟩ : Fin 3456) := by
    funext a
    refine Fin.ext ?_
    match a with
    | ⟨0, _⟩ => exact (Nat.zero_add _).trans (Nat.one_mul _)
    | ⟨1, _⟩ => exact congrArg (B + ·) (Nat.one_mul _)
  rw [e]
  rfl

theorem cols_lt (B : ℕ) (inb : ∀ a, (![0, B] : Fin 2 → ℕ) a + S256x128.size a ≤ S256x3456.size a) (c : Fin 128) : B + c.val < 3456 := by
  have h1 : B + 128 ≤ 3456 := inb 1
  have := c.isLt
  omega

theorem plain_piece (B : ℕ) (V : FVec Ideal S256x128 .f32) (hV : IsPart P B V) (inb) (h1 : B + 128 ≤ 384 ∨ 768 ≤ B) (h2 : B + 128 ≤ 2304 ∨ 2688 ≤ B) (x : S256x128.Idx) :
    truncf (F := Ideal) .bf16 V bitsLt_bf16_f32 x = block P ((Rect.unit (s := S256x3456) ![0, B] S256x128.size inb).emb x) := by
  obtain ⟨r, c, rfl⟩ : ∃ (r : Fin 256) (c : Fin 128), x = ValueIdx.ix2 r c := ⟨x 0, x 1, ValueIdx.eq_ix2 x⟩
  have hJ := cols_lt B inb c
  have := c.isLt
  rw [block_at B inb r c hJ]
  unfold stored
  rw [if_neg (show ¬ ((384 ≤ B + c.val ∧ B + c.val < 768) ∨ (2304 ≤ B + c.val ∧ B + c.val < 2688)) by omega)]
  exact hV r c _ rfl

theorem scaled_piece (B : ℕ) (V : FVec Ideal S256x128 .f32) (hV : IsPart P B V) (inb) (h : (384 ≤ B ∧ B + 128 ≤ 768) ∨ (2304 ≤ B ∧ B + 128 ≤ 2688)) (x : S256x128.Idx) :
    truncf (F := Ideal) .bf16 (mulf V (broadcast S256x128 (Scalar.ofBits (F := Ideal) .f32 0x3E000000#32))) bitsLt_bf16_f32 x
      = block P ((Rect.unit (s := S256x3456) ![0, B] S256x128.size inb).emb x) := by
  obtain ⟨r, c, rfl⟩ : ∃ (r : Fin 256) (c : Fin 128), x = ValueIdx.ix2 r c := ⟨x 0, x 1, ValueIdx.eq_ix2 x⟩
  have hJ := cols_lt B inb c
  have := c.isLt
  rw [block_at B inb r c hJ]
  unfold stored
  rw [if_pos (show (384 ≤ B + c.val ∧ B + c.val < 768) ∨ (2304 ≤ B + c.val ∧ B + c.val < 2688) by omega)]
  exact congrArg (· * Ideal.ofBits .f32 0x3E000000#32) (hV r c _ rfl)

end Pieces

theorem normed_apply (v0 : FVec Ideal S256x1024 .f32) (v1 : FVec Ideal S1x1024 .f32) (v3 v5 : FVec Ideal S1x1x1024 .f32) (r : Fin 256) (k : Fin 1024) :
    k0_pay3 (F := Ideal) v0 v1 v3 v5 (ValueIdx.ix2 r k)
      = normed (fun k => v0 (ValueIdx.ix2 r k)) (fun k => v1 (ValueIdx.ix2 (0 : Fin 1) k)) (fun k => v3 (ValueIdx.ix3 (0 : Fin 1) (0 : Fin 1) k)) (fun k => v5 (ValueIdx.ix3 (0 : Fin 1) (0 : Fin 1) k)) k := by
  unfold k0_pay3 normed scaled
  pointwise
  rfl

/-- The product of the normed rows and some columns of the weights. -/
abbrev prod (N : ℕ) (X : FVec Ideal S256x1024 .bf16) (w : FVec Ideal ⟨2, ![1024, N]⟩ .bf16) (h : (⟨2, ![1024, N]⟩ : Shape).ShapeCasts ⟨2, ![1024, N]⟩) : FVec Ideal ⟨2, ![256, N]⟩ .f32 :=
  matmul (F := Ideal) (DotDims.plain 256 1024 N) none X (shapeCast ⟨2, ![1024, N]⟩ w h) (constant (F := Ideal) ⟨2, ![256, N]⟩ .f32 0x00000000#32)

theorem ld_whole3 (v : FVec Ideal S1x1x1024 .f32) (k : Fin 1024) : View.ld (Val := Elt Ideal) (e' := .f32) v r0_2 (ValueIdx.ix3 (0 : Fin 1) (0 : Fin 1) k) = v (ValueIdx.ix3 (0 : Fin 1) (0 : Fin 1) k) := by
  refine View.ld_unit_apply_of (Val := Elt Ideal) (e := .f32) v _ _ _ _ _ fun x => ?_
  match x with
  | ⟨0, _⟩ => rfl
  | ⟨1, _⟩ => rfl
  | ⟨2, _⟩ => exact (Nat.zero_add _).symm

/-- Stores that are blocks of `G` leave `G` where one of them covers. -/
theorem canon_of (G : S256x3456.Idx → EReal) (L : List (View.Piece (Elt Ideal) S256x3456 .bf16)) (y : S256x3456.Idx) (hc : ∃ p ∈ L, y ∈ p.1.set)
    (h : View.PiecesOf (Val := Elt Ideal) (e := .bf16) G L) : View.canon L y = G y :=
  (congrArg (fun L => View.canon L y) (List.append_nil L).symm).trans (View.canon_append_of_piecesOf (Val := Elt Ideal) (e := .bf16) G [] L h y hc)

section Point

variable (x0 : FVec Ideal S256x1024 .f32) (x1 : FVec Ideal S1x1024 .f32) (x2 x3 : FVec Ideal S1x1x1024 .f32) (x4 : FVec Ideal S1024x3456 .bf16)

/-- Row `R` of the point's product. -/
def projRow (R : Fin 256) (J : Fin 3456) : EReal :=
  ∑ k : Fin 1024, normed (fun k => x0 (ValueIdx.ix2 R k)) (fun k => x1 (ValueIdx.ix2 (0 : Fin 1) k)) (fun k => x2 (ValueIdx.ix3 (0 : Fin 1) (0 : Fin 1) k)) (fun k => x3 (ValueIdx.ix3 (0 : Fin 1) (0 : Fin 1) k)) k
    * x4 (ValueIdx.ix2 k J)

theorem rows_normed (r : Fin 256) (k : Fin 1024) :
    k0_pay3 (F := Ideal) (View.ld (Val := Elt Ideal) (e' := .f32) x0 r0_0) (View.ld (Val := Elt Ideal) (e' := .f32) x1 r0_1)
        (View.ld (Val := Elt Ideal) (e' := .f32) x2 r0_2) (View.ld (Val := Elt Ideal) (e' := .f32) x3 r0_2) (ValueIdx.ix2 r k)
      = normed (fun k => x0 (ValueIdx.ix2 r k)) (fun k => x1 (ValueIdx.ix2 (0 : Fin 1) k)) (fun k => x2 (ValueIdx.ix3 (0 : Fin 1) (0 : Fin 1) k)) (fun k => x3 (ValueIdx.ix3 (0 : Fin 1) (0 : Fin 1) k)) k := by
  rw [normed_apply]
  have e0 : (fun k : Fin 1024 => View.ld (Val := Elt Ideal) (e' := .f32) x0 r0_0 (ValueIdx.ix2 r k)) = fun k => x0 (ValueIdx.ix2 r k) :=
    funext fun k => ld_apply2 (e := .f32) x0 _ r k r k (Nat.zero_add _).symm (Nat.zero_add _).symm
  have e1 : (fun k : Fin 1024 => View.ld (Val := Elt Ideal) (e' := .f32) x1 r0_1 (ValueIdx.ix2 (0 : Fin 1) k)) = fun k => x1 (ValueIdx.ix2 (0 : Fin 1) k) :=
    funext fun k => ld_apply2 (e := .f32) x1 _ (0 : Fin 1) k (0 : Fin 1) k rfl (Nat.zero_add _).symm
  have e2 := funext fun k => ld_whole3 x2 k
  have e3 := funext fun k => ld_whole3 x3 k
  exact congrFun (congr (congr (congr (congrArg normed e0) e1) e2) e3) k

/-- A product of the rows and some columns is that part of the point's product. -/
theorem prod_part (B N : ℕ) (X : FVec Ideal S256x1024 .bf16)
    (hX : ∀ (r : Fin 256) (k : Fin 1024), X (ValueIdx.ix2 r k)
      = normed (fun k => x0 (ValueIdx.ix2 r k)) (fun k => x1 (ValueIdx.ix2 (0 : Fin 1) k)) (fun k => x2 (ValueIdx.ix3 (0 : Fin 1) (0 : Fin 1) k)) (fun k => x3 (ValueIdx.ix3 (0 : Fin 1) (0 : Fin 1) k)) k)
    (inb) (h) : IsPart (projRow x0 x1 x2 x3 x4) B (prod N X (View.ld (Val := Elt Ideal) (e' := .bf16) x4 (Rect.unit (s := S1024x3456) ![0, B] ![1024, N] inb)) h) := by
  intro r c J hJ
  refine (prod_apply 256 1024 N X _ r c).trans (Finset.sum_congr rfl fun k _ => congrArg₂ (· * ·) (hX r k) ?_)
  rw [shapeCast_self]
  exact ld_apply2 (e := .bf16) x4 inb k c k J (Nat.zero_add _).symm hJ

/-- A point's block of results. -/
abbrev result : S256x3456.Idx → EReal := block (projRow x0 x1 x2 x3 x4)

set_option maxHeartbeats 4000000 in
set_option maxRecDepth 8192 in
theorem out_apply (y : S256x3456.Idx) : out0_5 (F := Ideal) x0 x1 x2 x3 x4 y = result x0 x1 x2 x3 x4 y := by
  have X0 := rows_normed x0 x1 x2 x3
  have a0 := prod_part x0 x1 x2 x3 x4 0 768 _ X0 inb_S1024x3456_S1024x768_0_0 shapeCasts_S1024x768_S1024x768
  have a1 := prod_part x0 x1 x2 x3 x4 768 768 _ X0 inb_S1024x3456_S1024x768_0_768 shapeCasts_S1024x768_S1024x768
  have a2 := prod_part x0 x1 x2 x3 x4 1536 768 _ X0 inb_S1024x3456_S1024x768_0_1536 shapeCasts_S1024x768_S1024x768
  have a3 := prod_part x0 x1 x2 x3 x4 2304 768 _ X0 inb_S1024x3456_S1024x768_0_2304 shapeCasts_S1024x768_S1024x768
  have a4 := prod_part x0 x1 x2 x3 x4 3072 384 _ X0 inb_S1024x3456_S1024x384_0_3072 shapeCasts_S1024x384_S1024x384
  unfold out0_5
  refine canon_of _ _ y ?_ ?_
  · exact cover0_5 ..
  refine ⟨plain_piece 3328 _ (part_apply 3072 256 3328 _ a4 slices_S256x384_o0_256_S256x128 rfl) inb_S256x3456_S256x128_0_3328 (by decide) (by decide), ?_⟩
  refine ⟨plain_piece 3200 _ (part_apply 3072 128 3200 _ a4 slices_S256x384_o0_128_S256x128 rfl) inb_S256x3456_S256x128_0_3200 (by decide) (by decide), ?_⟩
  refine ⟨plain_piece 3072 _ (part_apply 3072 0 3072 _ a4 slices_S256x384_o0_0_S256x128 rfl) inb_S256x3456_S256x128_0_3072 (by decide) (by decide), ?_⟩
  refine ⟨plain_piece 2944 _ (part_apply 2304 640 2944 _ a3 slices_S256x768_o0_640_S256x128 rfl) inb_S256x3456_S256x128_0_2944 (by decide) (by decide), ?_⟩
  refine ⟨plain_piece 2816 _ (part_apply 2304 512 2816 _ a3 slices_S256x768_o0_512_S256x128 rfl) inb_S256x3456_S256x128_0_2816 (by decide) (by decide), ?_⟩
  refine ⟨plain_piece 2688 _ (part_apply 2304 384 2688 _ a3 slices_S256x768_o0_384_S256x128 rfl) inb_S256x3456_S256x128_0_2688 (by decide) (by decide), ?_⟩
  refine ⟨scaled_piece 2560 _ (part_apply 2304 256 2560 _ a3 slices_S256x768_o0_256_S256x128 rfl) inb_S256x3456_S256x128_0_2560 (by decide), ?_⟩
  refine ⟨scaled_piece 2432 _ (part_apply 2304 128 2432 _ a3 slices_S256x768_o0_128_S256x128 rfl) inb_S256x3456_S256x128_0_2432 (by decide), ?_⟩
  refine ⟨scaled_piece 2304 _ (part_apply 2304 0 2304 _ a3 slices_S256x768_o0_0_S256x128 rfl) inb_S256x3456_S256x128_0_2304 (by decide), ?_⟩
  refine ⟨plain_piece 2176 _ (part_apply 1536 640 2176 _ a2 slices_S256x768_o0_640_S256x128 rfl) inb_S256x3456_S256x128_0_2176 (by decide) (by decide), ?_⟩
  refine ⟨plain_piece 2048 _ (part_apply 1536 512 2048 _ a2 slices_S256x768_o0_512_S256x128 rfl) inb_S256x3456_S256x128_0_2048 (by decide) (by decide), ?_⟩
  refine ⟨plain_piece 1920 _ (part_apply 1536 384 1920 _ a2 slices_S256x768_o0_384_S256x128 rfl) inb_S256x3456_S256x128_0_1920 (by decide) (by decide), ?_⟩
  refine ⟨plain_piece 1792 _ (part_apply 1536 256 1792 _ a2 slices_S256x768_o0_256_S256x128 rfl) inb_S256x3456_S256x128_0_1792 (by decide) (by decide), ?_⟩
  refine ⟨plain_piece 1664 _ (part_apply 1536 128 1664 _ a2 slices_S256x768_o0_128_S256x128 rfl) inb_S256x3456_S256x128_0_1664 (by decide) (by decide), ?_⟩
  refine ⟨plain_piece 1536 _ (part_apply 1536 0 1536 _ a2 slices_S256x768_o0_0_S256x128 rfl) inb_S256x3456_S256x128_0_1536 (by decide) (by decide), ?_⟩
  refine ⟨plain_piece 1408 _ (part_apply 768 640 1408 _ a1 slices_S256x768_o0_640_S256x128 rfl) inb_S256x3456_S256x128_0_1408 (by decide) (by decide), ?_⟩
  refine ⟨plain_piece 1280 _ (part_apply 768 512 1280 _ a1 slices_S256x768_o0_512_S256x128 rfl) inb_S256x3456_S256x128_0_1280 (by decide) (by decide), ?_⟩
  refine ⟨plain_piece 1152 _ (part_apply 768 384 1152 _ a1 slices_S256x768_o0_384_S256x128 rfl) inb_S256x3456_S256x128_0_1152 (by decide) (by decide), ?_⟩
  refine ⟨plain_piece 1024 _ (part_apply 768 256 1024 _ a1 slices_S256x768_o0_256_S256x128 rfl) inb_S256x3456_S256x128_0_1024 (by decide) (by decide), ?_⟩
  refine ⟨plain_piece 896 _ (part_apply 768 128 896 _ a1 slices_S256x768_o0_128_S256x128 rfl) inb_S256x3456_S256x128_0_896 (by decide) (by decide), ?_⟩
  refine ⟨plain_piece 768 _ (part_apply 768 0 768 _ a1 slices_S256x768_o0_0_S256x128 rfl) inb_S256x3456_S256x128_0_768 (by decide) (by decide), ?_⟩
  refine ⟨scaled_piece 640 _ (part_apply 0 640 640 _ a0 slices_S256x768_o0_640_S256x128 rfl) inb_S256x3456_S256x128_0_640 (by decide), ?_⟩
  refine ⟨scaled_piece 512 _ (part_apply 0 512 512 _ a0 slices_S256x768_o0_512_S256x128 rfl) inb_S256x3456_S256x128_0_512 (by decide), ?_⟩
  refine ⟨scaled_piece 384 _ (part_apply 0 384 384 _ a0 slices_S256x768_o0_384_S256x128 rfl) inb_S256x3456_S256x128_0_384 (by decide), ?_⟩
  refine ⟨plain_piece 256 _ (part_apply 0 256 256 _ a0 slices_S256x768_o0_256_S256x128 rfl) inb_S256x3456_S256x128_0_256 (by decide) (by decide), ?_⟩
  refine ⟨plain_piece 128 _ (part_apply 0 128 128 _ a0 slices_S256x768_o0_128_S256x128 rfl) inb_S256x3456_S256x128_0_128 (by decide) (by decide), ?_⟩
  refine ⟨plain_piece 0 _ (part_apply 0 0 0 _ a0 slices_S256x768_o0_0_S256x128 rfl) inb_S256x3456_S256x128_0_0 (by decide) (by decide), ?_⟩
  trivial

end Point

end Cert.Kernel6Ideal.Hand

end
-- ==== Proof.InProjCtx.Final.lean ====
/-
  Hand-written, untrusted. WHAT THE CONTEXT TOKENS' INPUT PROJECTION CALL RETURNS, at an index of the arguments: its
  windows' blocks read, its four blocks of rows put together.
-/
module

public import proofs.«01_k».proof.Proof.InProjCtx.Value

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.StableHlo Idealize.SL.Sem
open Idealize.ShloMosaic.Pipeline (Dat)
open Cert.Kernel2Ideal.Hand (normed)

/-- The batch that a token belongs to, and its place in it. -/
def batch (r : Fin 1024) : Fin 4 := ⟨r.val / 256, by have := r.isLt; omega⟩
def site (r : Fin 1024) : Fin 256 := ⟨r.val % 256, Nat.mod_lt _ (by omega)⟩

/-- Token `r`'s row of the projection before the scales. -/
def tokenProj (h : FVec Ideal S1024x1024 .f32) (g sh sc : FVec Ideal S1024 .f32) (w : FVec Ideal S1024x3456 .f32) (r : Fin 1024) (J : Fin 3456) : EReal :=
  ∑ k : Fin 1024, normed (fun k => h (ValueIdx.ix2 r k)) (fun k => g (ValueIdx.ix1 k)) (fun k => sh (ValueIdx.ix1 k)) (fun k => sc (ValueIdx.ix1 k)) k * w (ValueIdx.ix2 k J)

/-- Token `r`'s row of the result, of the five arguments. -/
def tokenIn (h : FVec Ideal S1024x1024 .f32) (g sh sc : FVec Ideal S1024 .f32) (w : FVec Ideal S1024x3456 .f32) (r : Fin 1024) (J : Fin 3456) : EReal :=
  stored (tokenProj h g sh sc w r) J

variable (m : (ℓ : Loc nD τ sig) → Buf (Elt Ideal) ℓ)

/-- What the result array is shown to hold. -/
def val6 (c : Dev nD) (i : S1024x3456.Idx) : EReal :=
  tokenIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1)

/-! ## The arrays that the host prepares -/

/-- A vector given to every batch. -/
abbrev given (v : FVec Ideal S1024 .f32) : FVec Ideal S4x1x1024 .f32 :=
  broadcastInDim S4x1x1024 ![0, 1, 2] bcast_S1x1x1024_S4x1x1024_0_1_2 (shapeCast S1x1x1024 v shapeCasts_S1024_S1x1x1024)

theorem host_sh (c : Dev nD) : V m c main_v1 = given (m ((c.tc : Thread nD τ).loc main_arg2)) := by
  show StableHlo.after hostOps0 (fun b => m (c, b)) (Proc.devRef .tc main_v1) = _
  simp only [hostOps0]
  after_results_simp
  rfl

theorem host_sc (c : Dev nD) : V m c main_v3 = given (m ((c.tc : Thread nD τ).loc main_arg3)) := by
  show StableHlo.after hostOps0 (fun b => m (c, b)) (Proc.devRef .tc main_v3) = _
  simp only [hostOps0]
  after_results_simp
  rfl

theorem host_w (c : Dev nD) : V m c main_v4 = truncf (F := Ideal) .bf16 (m ((c.tc : Thread nD τ).loc main_arg4) : FVec Ideal S1024x3456 .f32) bitsLt_bf16_f32 := by
  show StableHlo.after hostOps0 (fun b => m (c, b)) (Proc.devRef .tc main_v4) = _
  simp only [hostOps0]
  after_results_simp

theorem host_n (c : Dev nD) : V m c main_v5 = shapeCast S1x1024 (m ((c.tc : Thread nD τ).loc main_arg1) : FVec Ideal S1024 .f32) shapeCasts_S1024_S1x1024 := by
  show StableHlo.after hostOps0 (fun b => m (c, b)) (Proc.devRef .tc main_v5) = _
  simp only [hostOps0]
  after_results_simp
  rfl

theorem given_apply (v : FVec Ideal S1024 .f32) (b : Fin 4) (k : Fin 1024) : given v (ValueIdx.ix3 b (0 : Fin 1) k) = v (ValueIdx.ix1 k) := by
  pointwise
  try rfl

/-! ## The windows' index maps -/

theorem ix_row : ∀ t : Fin grid0.N, (cc0_transform_0 (grid0.coords t) 0 = t.val ∧ cc0_transform_0 (grid0.coords t) 1 = 0)
    ∧ (cc0_transform_5 (grid0.coords t) 0 = t.val ∧ cc0_transform_5 (grid0.coords t) 1 = 0) := by decide +kernel

theorem ix_mod : ∀ t : Fin grid0.N, (cc0_transform_2 (grid0.coords t) 0 = t.val ∧ cc0_transform_2 (grid0.coords t) 1 = 0 ∧ cc0_transform_2 (grid0.coords t) 2 = 0)
    ∧ (cc0_transform_3 (grid0.coords t) 0 = t.val ∧ cc0_transform_3 (grid0.coords t) 1 = 0 ∧ cc0_transform_3 (grid0.coords t) 2 = 0) := by decide +kernel

/-- The point that stores a row, and the row's place in its block. -/
def tile (r : Fin 1024) : Fin cfg0.N := ⟨r.val / 256, by
  have h : cfg0.N = 4 := by decide
  rw [h]; have := r.isLt; omega⟩

theorem tile_row (r : Fin 1024) (k : ℕ) (hk : k = (tile r).val) : k * 256 + 1 * (site r).val = r.val := by
  subst hk
  show r.val / 256 * 256 + 1 * (r.val % 256) = r.val
  omega

theorem tile_batch (r : Fin 1024) (k : ℕ) (hk : k = (tile r).val) : k * 1 + 1 * 0 = (batch r).val := by
  subst hk
  show r.val / 256 * 1 + 1 * 0 = r.val / 256
  omega

theorem at0 (n k z : ℕ) (hz : z = 0) : z * n + 1 * k = k := by subst hz; omega

/-! ## The windows' blocks at the point of a row -/

theorem rd0 (c : Dev nD) (r : Fin 1024) (k : Fin 1024) :
    (iblk m c 0 (tile r) : FVec Ideal S256x1024 .f32) (ValueIdx.ix2 (site r) k) = (m ((c.tc : Thread nD τ).loc main_arg0) : FVec Ideal S1024x1024 .f32) (ValueIdx.ix2 r k) := by
  refine Eq.trans (congrArg (V m c main_arg0) (funext fun a => Fin.ext ?_)) (congrFun (V_main_arg0 m c) _)
  have e := (ix_row (tile r)).1
  match a with
  | ⟨0, _⟩ => exact tile_row r _ e.1
  | ⟨1, _⟩ => exact at0 1024 k.val _ e.2

theorem rd1 (c : Dev nD) (r : Fin 1024) (k : Fin 1024) :
    (iblk m c 1 (tile r) : FVec Ideal S1x1024 .f32) (ValueIdx.ix2 (0 : Fin 1) k) = (m ((c.tc : Thread nD τ).loc main_arg1) : FVec Ideal S1024 .f32) (ValueIdx.ix1 k) := by
  refine Eq.trans (congrArg (V m c main_v5) (funext fun a => Fin.ext ?_)) ((congrFun (host_n m c) (ValueIdx.ix2 (0 : Fin 1) k)).trans ?_)
  · match a with
    | ⟨0, _⟩ => exact at0 1 0 _ rfl
    | ⟨1, _⟩ => exact at0 1024 k.val _ rfl
  · pointwise
    try rfl

theorem rd2 (c : Dev nD) (r : Fin 1024) (k : Fin 1024) :
    (iblk m c 2 (tile r) : FVec Ideal S1x1x1024 .f32) (ValueIdx.ix3 (0 : Fin 1) (0 : Fin 1) k) = (m ((c.tc : Thread nD τ).loc main_arg2) : FVec Ideal S1024 .f32) (ValueIdx.ix1 k) := by
  refine Eq.trans (congrArg (V m c main_v1) (funext fun a => Fin.ext ?_)) ((congrFun (host_sh m c) (ValueIdx.ix3 (batch r) (0 : Fin 1) k)).trans (given_apply _ _ k))
  have e := (ix_mod (tile r)).1
  match a with
  | ⟨0, _⟩ => exact tile_batch r _ e.1
  | ⟨1, _⟩ => exact at0 1 0 _ e.2.1
  | ⟨2, _⟩ => exact at0 1024 k.val _ e.2.2

theorem rd3 (c : Dev nD) (r : Fin 1024) (k : Fin 1024) :
    (iblk m c 3 (tile r) : FVec Ideal S1x1x1024 .f32) (ValueIdx.ix3 (0 : Fin 1) (0 : Fin 1) k) = (m ((c.tc : Thread nD τ).loc main_arg3) : FVec Ideal S1024 .f32) (ValueIdx.ix1 k) := by
  refine Eq.trans (congrArg (V m c main_v3) (funext fun a => Fin.ext ?_)) ((congrFun (host_sc m c) (ValueIdx.ix3 (batch r) (0 : Fin 1) k)).trans (given_apply _ _ k))
  have e := (ix_mod (tile r)).2
  match a with
  | ⟨0, _⟩ => exact tile_batch r _ e.1
  | ⟨1, _⟩ => exact at0 1 0 _ e.2.1
  | ⟨2, _⟩ => exact at0 1024 k.val _ e.2.2

theorem rd4 (c : Dev nD) (r : Fin 1024) (i : Fin 1024) (k : Fin 3456) :
    (iblk m c 4 (tile r) : FVec Ideal S1024x3456 .bf16) (ValueIdx.ix2 i k) = (m ((c.tc : Thread nD τ).loc main_arg4) : FVec Ideal S1024x3456 .f32) (ValueIdx.ix2 i k) := by
  refine Eq.trans (congrArg (V m c main_v4) (funext fun a => Fin.ext ?_)) (congrFun (host_w m c) (ValueIdx.ix2 i k))
  match a with
  | ⟨0, _⟩ => exact at0 1024 i.val _ rfl
  | ⟨1, _⟩ => exact at0 3456 k.val _ rfl

/-! ## The result -/

/-- What the point of row `r` stores at that row. -/
theorem stored_at (c : Dev nD) (r : Fin 1024) (j : Fin 3456) :
    out0_5 (F := Ideal) (iblk m c 0 (tile r)) (iblk m c 1 (tile r)) (iblk m c 2 (tile r)) (iblk m c 3 (tile r)) (iblk m c 4 (tile r)) (ValueIdx.ix2 (site r) j) = val6 m c (ValueIdx.ix2 r j) := by
  refine (out_apply _ _ _ _ _ (ValueIdx.ix2 (site r) j)).trans ?_
  have e0 := funext (rd0 m c r)
  have e1 := funext (rd1 m c r)
  have e2 := funext (rd2 m c r)
  have e3 := funext (rd3 m c r)
  have en := congr (congr (congr (congrArg normed e0) e1) e2) e3
  have ep : projRow (iblk m c 0 (tile r)) (iblk m c 1 (tile r)) (iblk m c 2 (tile r)) (iblk m c 3 (tile r)) (iblk m c 4 (tile r)) (site r)
      = tokenProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r :=
    funext fun J => Finset.sum_congr rfl fun k _ => congrArg₂ (· * ·) (congrFun en k) (rd4 m c r k J)
  exact congrFun (congrArg stored ep) j

/-- The index of row `r`'s place in the array. -/
theorem place_eq (r : Fin 1024) (j : Fin 3456) :
    (((cfg0.win 5).rect (tile r)).emb (ValueIdx.ix2 (site r) j : S256x3456.Idx) : S1024x3456.Idx) = ValueIdx.ix2 r j := by
  funext a
  apply Fin.ext
  have e := (ix_row (tile r)).2
  match a with
  | ⟨0, _⟩ => exact tile_row r _ e.1
  | ⟨1, _⟩ => exact at0 3456 j.val _ e.2

theorem final (c : Dev nD) : (dats m 0 c).arrAt 5 cfg0.N = val6 m c := by
  refine funext fun (i : S1024x3456.Idx) => ?_
  obtain ⟨r, j, rfl⟩ : ∃ (r : Fin 1024) (j : Fin 3456), i = ValueIdx.ix2 r j := ⟨i 0, i 1, ValueIdx.eq_ix2 i⟩
  have e := congrFun ((Value.blocks5 m c (tile r) (flush0_5 (tile r))).trans (Value.flushed5 m c (tile r))) (ValueIdx.ix2 (site r) j : S256x3456.Idx)
  refine (congrArg ((dats m 0 c).arrAt 5 cfg0.N) (place_eq r j)).symm.trans ?_
  exact e.trans (stored_at m c r j)

/-- The run, read: the result at `val6`, every argument as it began. -/
theorem run_val6 (ρ : Dev nD → PrngReg) : θ_run defs (onTc (τ := τ) (main (F := Ideal))) ⟨m, fun _ => 0, ρ⟩ fun r => ∀ c : Dev nD,
      r.2.mem ((c.tc : Thread nD τ).loc main_v6) = val6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨(hr c).1.trans (final m c), (hr c).2⟩) (Value.run_blocks m ρ)

end Cert.Kernel6Ideal.Hand

end
-- ==== Proof.InProjCtx.RefValue.lean ====
/-
  Hand-written, untrusted. THE SIXTH REFERENCE'S RESULT read at an index at the ideal values: the context tokens' normed and
  modulated rows through the weights, and the scales.
-/
module

public import proofs.«01_k».proof.Proof.InProjCtx.Final
public import proofs.«01_k».proof.Proof.Gen.Reference6Ideal.Run
public import Idealize.ShloMosaic.Lib.Pointwise

@[expose] public section

noncomputable section

namespace Cert.Reference6Ideal.Hand

open Cert.Reference6Ideal Cert.Reference6Ideal.Gen Cert.Reference6Ideal.Value
open Idealize.ShloMosaic Idealize.ShloMosaic.StableHlo
open Cert.Kernel2Ideal.Hand (normed scaled)
open Cert.Kernel6Ideal.Hand (stored batch site tokenProj tokenIn)

/-! ## The result's pieces -/

/-- The tokens, batch by batch. -/
def tokens (h : FVec Ideal S1024x1024 .f32) : FVec Ideal S4x256x1024 .f32 := shapeCast _ h shapeCasts_S1024x1024_S4x256x1024

/-- A vector given to every token. -/
def row (v : FVec Ideal S1024 .f32) : FVec Ideal S4x256x1024 .f32 :=
  broadcastInDim S4x256x1024 ![0, 1, 2] bcast_S1x1x1024_S4x256x1024_0_1_2 (broadcastInDim S1x1x1024 ![2] bcast_S1024_S1x1x1024_2 v)

/-- The normed tokens, modulated. -/
def modulated (x : FVec Ideal S4x256x1024 .f32) (g sh sc : FVec Ideal S1024 .f32) : FVec Ideal S4x256x1024 .f32 :=
  addf (mulf (mulf (mulf x (broadcastInDim S4x256x1024 ![0, 1, 2] bcast_S4x256x1_S4x256x1024_0_1_2 (Host.rsqrt (addf (Host.divf
      (broadcastInDim S4x256x1 ![0, 1] bcast_S4x256_S4x256x1_0_1 (Host.reduceAdd (mulf x x) (constant S_ .f32 0x00000000#32) reducesTo_S4x256x1024_S4x256_d2 h_S_))
      (broadcastInDim S4x256x1 ![] bcast_S_S4x256x1 (constant S_ .f32 0x44800000#32))) (broadcastInDim S4x256x1 ![] bcast_S_S4x256x1 (constant S_ .f32 0x358637BD#32))))))
    (row g)) (row (addf (broadcastInDim S1024 ![] bcast_S_S1024 (constant S_ .f32 0x3F800000#32)) sc))) (row sh)

/-- The product with the weights. -/
def opened (x : FVec Ideal S4x256x1024 .f32) (w : FVec Ideal S1024x3456 .f32) : FVec Ideal S4x256x3456 .f32 :=
  Host.dotGeneral dot_S4x256x1024_S1024x3456_S4x256x3456_2_0_01_1_n_n none x w

/-- Ten parts side by side. -/
def parts (x0 x1 x2 x3 : FVec Ideal S4x256x384 .f32) (x4 x5 x6 : FVec Ideal S4x256x256 .f32) (x7 x8 x9 : FVec Ideal S4x256x384 .f32) : FVec Ideal S4x256x3456 .f32 :=
  concatenate S4x256x3456 2 [⟨S4x256x384, x0⟩, ⟨S4x256x384, x1⟩, ⟨S4x256x384, x2⟩, ⟨S4x256x384, x3⟩, ⟨S4x256x256, x4⟩, ⟨S4x256x256, x5⟩, ⟨S4x256x256, x6⟩,
      ⟨S4x256x384, x7⟩, ⟨S4x256x384, x8⟩, ⟨S4x256x384, x9⟩]
    concatenates_S4x256x384_S4x256x384_S4x256x384_S4x256x384_S4x256x256_S4x256x256_S4x256x256_S4x256x384_S4x256x384_S4x256x384_S4x256x3456_d2

/-- The result before it is flattened, of the product. -/
def whole (p : FVec Ideal S4x256x3456 .f32) : FVec Ideal S4x256x3456 .f32 :=
  parts (extractStridedSlice S4x256x384 ![0, 0, 0] p slices_S4x256x3456_S4x256x384_0_0_0) (mulf (extractStridedSlice S4x256x384 ![0, 0, 384] p slices_S4x256x3456_S4x256x384_0_0_384) (broadcastInDim S4x256x384 ![] bcast_S_S4x256x384 (constant S_ .f32 0x3E000000#32)))
    (extractStridedSlice S4x256x384 ![0, 0, 768] p slices_S4x256x3456_S4x256x384_0_0_768) (extractStridedSlice S4x256x384 ![0, 0, 1152] p slices_S4x256x3456_S4x256x384_0_0_1152)
    (extractStridedSlice S4x256x256 ![0, 0, 1536] p slices_S4x256x3456_S4x256x256_0_0_1536) (extractStridedSlice S4x256x256 ![0, 0, 1792] p slices_S4x256x3456_S4x256x256_0_0_1792) (extractStridedSlice S4x256x256 ![0, 0, 2048] p slices_S4x256x3456_S4x256x256_0_0_2048)
    (mulf (extractStridedSlice S4x256x384 ![0, 0, 2304] p slices_S4x256x3456_S4x256x384_0_0_2304) (broadcastInDim S4x256x384 ![] bcast_S_S4x256x384 (constant S_ .f32 0x3E000000#32)))
    (extractStridedSlice S4x256x384 ![0, 0, 2688] p slices_S4x256x3456_S4x256x384_0_0_2688) (extractStridedSlice S4x256x384 ![0, 0, 3072] p slices_S4x256x3456_S4x256x384_0_0_3072)

theorem result_eq (m : (ℓ : Loc nD τ sig) → Buf (Elt Ideal) ℓ) (c : Dev nD) (p : FVec Ideal S4x256x3456 .f32)
    (e : p = opened (modulated (tokens (m ((c.tc : Thread nD τ).loc main_arg0))) (m ((c.tc : Thread nD τ).loc main_arg1)) (m ((c.tc : Thread nD τ).loc main_arg2)) (m ((c.tc : Thread nD τ).loc main_arg3))) (m ((c.tc : Thread nD τ).loc main_arg4))) :
    res_main_v39 (F := Ideal) m c = truncf (F := Ideal) .bf16 (shapeCast S1024x3456 (whole p) shapeCasts_S4x256x3456_S1024x3456) bitsLt_bf16_f32 := by
  subst e
  rfl

/-! ## The pieces at an index -/

theorem tokens_apply (h : FVec Ideal S1024x1024 .f32) (r : Fin 1024) (k : Fin 1024) : tokens h (ValueIdx.ix3 (batch r) (site r) k) = h (ValueIdx.ix2 r k) := by
  unfold tokens
  refine shapeCast_apply (s := S1024x1024) (t := S4x256x1024) _ _ (ValueIdx.ix3 (batch r) (site r) k) (ValueIdx.ix2 r k) ?_
  rw [Shape.rowMajor_val_three, Shape.rowMajor_val_two]
  show r.val * 1024 + k.val = (r.val / 256 * 256 + r.val % 256) * 1024 + k.val
  omega

theorem modulated_apply (x : FVec Ideal S4x256x1024 .f32) (g sh sc : FVec Ideal S1024 .f32) (b : Fin 4) (i : Fin 256) (k : Fin 1024) :
    modulated x g sh sc (ValueIdx.ix3 b i k) = normed (fun k => x (ValueIdx.ix3 b i k)) (fun k => g (ValueIdx.ix1 k)) (fun k => sh (ValueIdx.ix1 k)) (fun k => sc (ValueIdx.ix1 k)) k := by
  unfold modulated normed scaled row
  pointwise
  rfl

theorem opened_apply (x : FVec Ideal S4x256x1024 .f32) (w : FVec Ideal S1024x3456 .f32) (b : Fin 4) (i : Fin 256) (J : Fin 3456) :
    opened x w (ValueIdx.ix3 b i J) = ∑ k : Fin 1024, x (ValueIdx.ix3 b i k) * w (ValueIdx.ix2 k J) := by
  unfold opened
  pointwise
  try rfl

theorem parts_apply (x0 x1 x2 x3 : FVec Ideal S4x256x384 .f32) (x4 x5 x6 : FVec Ideal S4x256x256 .f32) (x7 x8 x9 : FVec Ideal S4x256x384 .f32) (b : Fin 4) (i : Fin 256) (J : Fin 3456) :
    parts x0 x1 x2 x3 x4 x5 x6 x7 x8 x9 (ValueIdx.ix3 b i J)
      = if h : J.val < 384 then x0 (ValueIdx.ix3 b i (⟨J.val, h⟩ : Fin 384))
        else if h : J.val - 384 < 384 then x1 (ValueIdx.ix3 b i (⟨J.val - 384, h⟩ : Fin 384))
        else if h : J.val - 384 - 384 < 384 then x2 (ValueIdx.ix3 b i (⟨J.val - 384 - 384, h⟩ : Fin 384))
        else if h : J.val - 384 - 384 - 384 < 384 then x3 (ValueIdx.ix3 b i (⟨J.val - 384 - 384 - 384, h⟩ : Fin 384))
        else if h : J.val - 384 - 384 - 384 - 384 < 256 then x4 (ValueIdx.ix3 b i (⟨J.val - 384 - 384 - 384 - 384, h⟩ : Fin 256))
        else if h : J.val - 384 - 384 - 384 - 384 - 256 < 256 then x5 (ValueIdx.ix3 b i (⟨J.val - 384 - 384 - 384 - 384 - 256, h⟩ : Fin 256))
        else if h : J.val - 384 - 384 - 384 - 384 - 256 - 256 < 256 then x6 (ValueIdx.ix3 b i (⟨J.val - 384 - 384 - 384 - 384 - 256 - 256, h⟩ : Fin 256))
        else if h : J.val - 384 - 384 - 384 - 384 - 256 - 256 - 256 < 384 then x7 (ValueIdx.ix3 b i (⟨J.val - 384 - 384 - 384 - 384 - 256 - 256 - 256, h⟩ : Fin 384))
        else if h : J.val - 384 - 384 - 384 - 384 - 256 - 256 - 256 - 384 < 384 then x8 (ValueIdx.ix3 b i (⟨J.val - 384 - 384 - 384 - 384 - 256 - 256 - 256 - 384, h⟩ : Fin 384))
        else x9 (ValueIdx.ix3 b i (⟨J.val - 384 - 384 - 384 - 384 - 256 - 256 - 256 - 384 - 384, by omega⟩ : Fin 384)) := by
  unfold parts
  pointwise
  rfl

theorem slice3 {n : ℕ} (p : FVec Ideal S4x256x3456 .f32) (o : ℕ) (h) (b : Fin 4) (i : Fin 256) (j : Fin n) (J : Fin 3456) (e : J.val = o + j.val) :
    extractStridedSlice ⟨3, ![4, 256, n]⟩ ![0, 0, o] p h (ValueIdx.ix3 b i j) = p (ValueIdx.ix3 b i J) := by
  refine extractStridedSlice_apply _ _ _ _ _ fun a => ?_
  match a with
  | ⟨0, _⟩ => exact (Nat.zero_add _).symm
  | ⟨1, _⟩ => exact (Nat.zero_add _).symm
  | ⟨2, _⟩ => exact e

theorem whole_apply (p : FVec Ideal S4x256x3456 .f32) (b : Fin 4) (i : Fin 256) (J : Fin 3456) : whole p (ValueIdx.ix3 b i J) = stored (fun J => p (ValueIdx.ix3 b i J)) J := by
  have hJ := J.isLt
  unfold whole stored
  rw [parts_apply]
  by_cases h0 : J.val < 384
  · rw [dif_pos h0, if_neg (by omega)]
    exact slice3 p 0 _ b i _ J (Nat.zero_add _).symm
  rw [dif_neg h0]
  by_cases h1 : J.val - 384 < 384
  · rw [dif_pos h1, if_pos (by omega)]
    exact congrArg (· * Ideal.ofBits .f32 0x3E000000#32)
      (slice3 p 384 slices_S4x256x3456_S4x256x384_0_0_384 b i (⟨J.val - 384, h1⟩ : Fin 384) J (by show J.val = 384 + (J.val - 384); omega))
  rw [dif_neg h1]
  by_cases h2 : J.val - 384 - 384 < 384
  · rw [dif_pos h2, if_neg (by omega)]
    exact slice3 p 768 _ b i _ J (by show J.val = 768 + (J.val - 384 - 384); omega)
  rw [dif_neg h2]
  by_cases h3 : J.val - 384 - 384 - 384 < 384
  · rw [dif_pos h3, if_neg (by omega)]
    exact slice3 p 1152 _ b i _ J (by show J.val = 1152 + (J.val - 384 - 384 - 384); omega)
  rw [dif_neg h3]
  by_cases h4 : J.val - 384 - 384 - 384 - 384 < 256
  · rw [dif_pos h4, if_neg (by omega)]
    exact slice3 p 1536 _ b i _ J (by show J.val = 1536 + (J.val - 384 - 384 - 384 - 384); omega)
  rw [dif_neg h4]
  by_cases h5 : J.val - 384 - 384 - 384 - 384 - 256 < 256
  · rw [dif_pos h5, if_neg (by omega)]
    exact slice3 p 1792 _ b i _ J (by show J.val = 1792 + (J.val - 384 - 384 - 384 - 384 - 256); omega)
  rw [dif_neg h5]
  by_cases h6 : J.val - 384 - 384 - 384 - 384 - 256 - 256 < 256
  · rw [dif_pos h6, if_neg (by omega)]
    exact slice3 p 2048 _ b i _ J (by show J.val = 2048 + (J.val - 384 - 384 - 384 - 384 - 256 - 256); omega)
  rw [dif_neg h6]
  by_cases h7 : J.val - 384 - 384 - 384 - 384 - 256 - 256 - 256 < 384
  · rw [dif_pos h7, if_pos (by omega)]
    exact congrArg (· * Ideal.ofBits .f32 0x3E000000#32)
      (slice3 p 2304 slices_S4x256x3456_S4x256x384_0_0_2304 b i (⟨J.val - 384 - 384 - 384 - 384 - 256 - 256 - 256, h7⟩ : Fin 384) J (by show J.val = 2304 + (J.val - 384 - 384 - 384 - 384 - 256 - 256 - 256); omega))
  rw [dif_neg h7]
  by_cases h8 : J.val - 384 - 384 - 384 - 384 - 256 - 256 - 256 - 384 < 384
  · rw [dif_pos h8, if_neg (by omega)]
    exact slice3 p 2688 _ b i _ J (by show J.val = 2688 + (J.val - 384 - 384 - 384 - 384 - 256 - 256 - 256 - 384); omega)
  rw [dif_neg h8]
  rw [if_neg (by omega)]
  exact slice3 p 3072 _ b i _ J (by show J.val = 3072 + (J.val - 384 - 384 - 384 - 384 - 256 - 256 - 256 - 384 - 384); omega)

/-- A row of the reference's result. -/
theorem result_apply (m : (ℓ : Loc nD τ sig) → Buf (Elt Ideal) ℓ) (c : Dev nD) (r : Fin 1024) (J : Fin 3456) :
    res_main_v39 (F := Ideal) m c (ValueIdx.ix2 r J) = tokenIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r J := by
  rw [result_eq m c _ rfl]
  unfold tokenIn
  show shapeCast S1024x3456 (whole _) _ (ValueIdx.ix2 r J) = _
  refine (shapeCast_apply (s := S4x256x3456) (t := S1024x3456) _ _ (ValueIdx.ix2 r J) (ValueIdx.ix3 (batch r) (site r) J) ?_).trans ?_
  · rw [Shape.rowMajor_val_three, Shape.rowMajor_val_two]
    show (r.val / 256 * 256 + r.val % 256) * 3456 + J.val = r.val * 3456 + J.val
    omega
  · refine (whole_apply _ (batch r) (site r) J).trans (congrArg (fun f => stored f J) (funext fun K => ?_))
    refine (opened_apply _ _ _ _ K).trans ?_
    unfold tokenProj
    refine Finset.sum_congr rfl fun k _ => congrArg₂ (· * ·) ((modulated_apply _ _ _ _ _ _ k).trans ?_) rfl
    exact congrArg (fun f => normed f _ _ _ k) (funext fun k => tokens_apply _ r k)

end Cert.Reference6Ideal.Hand

end
-- ==== Proof.FfnCtx.Value.lean ====
/-
  Hand-written, untrusted. WHAT ONE POINT OF THE CONTEXT TOKENS' OUTPUT PROJECTION AND FEED-FORWARD CALL STORES, read at an
  index at the ideal values.
-/
module

public import proofs.«01_k».proof.Proof.Ffn.Value
public import proofs.«01_k».proof.Proof.Gen.Kernel7Ideal.Value
public import Idealize.ShloMosaic.Lib.Pointwise
public import Idealize.ShloMosaic.Lib.ValueLayout

@[expose] public section

noncomputable section

namespace Cert.Kernel7Ideal.Hand

open Cert.Kernel7Ideal Cert.Kernel7Ideal.Gen
open Idealize.ShloMosaic
open Cert.KernelIdeal.Hand (proj hid expert swish_apply)
open Cert.Kernel2Ideal.Hand (cat mixed scaled normed layerEnd prod_apply ld_apply2)

theorem dot_o : dot_S256x1024_S1024x1024_S256x1024_1_0_0_1_n_n = DotDims.plain 256 1024 1024 := rfl

abbrev B := FVec Ideal S256x1024 .f32
abbrev W := FVec Ideal S1024x1024 .bf16

theorem cat_apply (a : FVec Ideal S256x384 .bf16) (b : FVec Ideal S256x256 .bf16) (c : FVec Ideal S256x384 .bf16) (r : Fin 256) (k : Fin 1024) :
    concatenate S256x1024 1 [⟨S256x384, a⟩, ⟨S256x256, b⟩, ⟨S256x384, c⟩] concatenates_S256x384_S256x256_S256x384_S256x1024_d1 (ValueIdx.ix2 r k)
      = cat (fun j => a (ValueIdx.ix2 r j)) (fun j => b (ValueIdx.ix2 r j)) (fun j => c (ValueIdx.ix2 r j)) k := by
  unfold cat
  pointwise
  rfl

theorem pay2_apply (a : FVec Ideal S256x384 .bf16) (b : FVec Ideal S256x256 .bf16) (c : FVec Ideal S256x384 .bf16) (h : B) (g : FVec Ideal S1x1x1024 .f32) (w : W) (r : Fin 256) (k : Fin 1024) :
    k0_pay2 (F := Ideal) a b c h g w (ValueIdx.ix2 r k)
      = mixed (fun j => h (ValueIdx.ix2 r j)) (fun j => g (ValueIdx.ix3 (0 : Fin 1) (0 : Fin 1) j))
          (cat (fun j => a (ValueIdx.ix2 r j)) (fun j => b (ValueIdx.ix2 r j)) (fun j => c (ValueIdx.ix2 r j))) (fun j k => w (ValueIdx.ix2 j k)) k := by
  unfold k0_pay2 mixed
  refine congrArg₂ (· + ·) rfl (congrArg₂ (· * ·) ?_ ?_)
  · pointwise
    rfl
  · rw [dot_o, prod_apply]
    refine Finset.sum_congr rfl fun j _ => congrArg₂ (· * ·) (cat_apply a b c r j) ?_
    pointwise

theorem pay4_apply (a : FVec Ideal S256x384 .bf16) (b : FVec Ideal S256x256 .bf16) (c : FVec Ideal S256x384 .bf16) (h : B) (g : FVec Ideal S1x1x1024 .f32) (w : W)
    (n : FVec Ideal S1x1024 .f32) (r : Fin 256) (k : Fin 1024) :
    k0_pay4 (F := Ideal) a b c h g w n (ValueIdx.ix2 r k)
      = scaled (fun j => k0_pay2 (F := Ideal) a b c h g w (ValueIdx.ix2 r j)) k * n (ValueIdx.ix2 (0 : Fin 1) k) := by
  unfold k0_pay4 scaled
  generalize k0_pay2 (F := Ideal) a b c h g w = x
  pointwise
  rfl

theorem pay6_apply (sh : FVec Ideal S1x1x1024 .f32) (x : B) (sc : FVec Ideal S1x1x1024 .f32) (r : Fin 256) (k : Fin 1024) :
    k0_pay6 (F := Ideal) (k0_pay3 sh) x (k0_pay5 sc) (ValueIdx.ix2 r k)
      = x (ValueIdx.ix2 r k) * (1 + sc (ValueIdx.ix3 (0 : Fin 1) (0 : Fin 1) k)) + sh (ValueIdx.ix3 (0 : Fin 1) (0 : Fin 1) k) := by
  unfold k0_pay6 k0_pay3 k0_pay5
  pointwise
  rfl

/-- The first chunk of hidden units, through the output weights. -/
theorem pay8_apply (sh : FVec Ideal S1x1024 .f32) (x : B) (sc : FVec Ideal S1x1024 .f32) (w u : FVec Ideal S1024x1536 .bf16) (o : FVec Ideal S1536x1024 .bf16) (r : Fin 256) (c : Fin 1024)
    (a : Fin 1024 → EReal) (ha : ∀ k, k0_pay6 (F := Ideal) sh x sc (ValueIdx.ix2 r k) = a k) :
    k0_pay8 (F := Ideal) sh x sc w u o (ValueIdx.ix2 r c)
      = ∑ f : Fin 1536, ((∑ k : Fin 1024, a k * w (ValueIdx.ix2 k f)) * Ideal.div 1 (1 + Ideal.exp (-(∑ k : Fin 1024, a k * w (ValueIdx.ix2 k f))))
          * ∑ k : Fin 1024, a k * u (ValueIdx.ix2 k f)) * o (ValueIdx.ix2 f c) := by
  obtain rfl := funext ha
  unfold k0_pay8
  refine (prod_apply 256 1536 1024 _ o r c).trans (Finset.sum_congr rfl fun f _ => congrArg (· * o (ValueIdx.ix2 f c)) ?_)
  refine (swish_apply _ _ (ValueIdx.ix2 r f)).trans ?_
  have h := fun v : FVec Ideal S1024x1536 .bf16 => prod_apply 256 1024 1536 (k0_pay6 (F := Ideal) sh x sc) v r f
  exact congrArg₂ (fun p q => p * Ideal.div 1 (1 + Ideal.exp (-p)) * q) (h w) (h u)

/-- The second chunk's hidden units. -/
theorem pay9_apply (sh : FVec Ideal S1x1024 .f32) (x : B) (sc : FVec Ideal S1x1024 .f32) (w u : FVec Ideal S1024x1280 .bf16) (r : Fin 256) (f : Fin 1280)
    (a : Fin 1024 → EReal) (ha : ∀ k, k0_pay6 (F := Ideal) sh x sc (ValueIdx.ix2 r k) = a k) :
    k0_pay9 (F := Ideal) sh x sc w u (ValueIdx.ix2 r f)
      = (∑ k : Fin 1024, a k * w (ValueIdx.ix2 k f)) * Ideal.div 1 (1 + Ideal.exp (-(∑ k : Fin 1024, a k * w (ValueIdx.ix2 k f))))
          * ∑ k : Fin 1024, a k * u (ValueIdx.ix2 k f) := by
  obtain rfl := funext ha
  unfold k0_pay9
  refine (swish_apply _ _ (ValueIdx.ix2 r f)).trans ?_
  have h := fun v : FVec Ideal S1024x1280 .bf16 => prod_apply 256 1024 1280 (k0_pay6 (F := Ideal) sh x sc) v r f
  exact congrArg₂ (fun p q => p * Ideal.div 1 (1 + Ideal.exp (-p)) * q) (h w) (h u)

theorem pay1_apply (h : B) (g : FVec Ideal S1x1x1024 .f32) (p : B) (q : FVec Ideal S256x1280 .f32) (o : FVec Ideal S1280x1024 .bf16) (r : Fin 256) (c : Fin 1024) :
    k0_pay1 (F := Ideal) h (k0_pay7 g) p q o (ValueIdx.ix2 r c)
      = h (ValueIdx.ix2 r c) + g (ValueIdx.ix3 (0 : Fin 1) (0 : Fin 1) c) * (p (ValueIdx.ix2 r c) + ∑ f : Fin 1280, q (ValueIdx.ix2 r f) * o (ValueIdx.ix2 f c)) := by
  unfold k0_pay1 k0_pay7
  refine congrArg₂ (· + ·) rfl (congrArg₂ (· * ·) ?_ (congrArg₂ (· + ·) rfl ?_))
  · pointwise
    rfl
  · exact prod_apply 256 1280 1024 (truncf .bf16 q bitsLt_bf16_f32) o r c

/-- A point's row: the layer's end on the point's blocks. -/
theorem out_apply (x0 : FVec Ideal S256x384 .bf16) (x1 : FVec Ideal S256x256 .bf16) (x2 : FVec Ideal S256x384 .bf16) (x3 : B) (x4 : W) (x5 : FVec Ideal S1x1x1024 .f32)
    (x6 : FVec Ideal S1x1024 .f32) (x7 x8 : FVec Ideal S1x1x1024 .f32) (x9 : FVec Ideal S1024x5632 .bf16) (x10 : FVec Ideal S2816x1024 .bf16) (x11 : FVec Ideal S1x1x1024 .f32) (r : Fin 256) (c : Fin 1024) :
    out0_12 (F := Ideal) x0 x1 x2 x3 x4 x5 x6 x7 x8 x9 x10 x11 (ValueIdx.ix2 r c)
      = layerEnd
          (mixed (fun j => x3 (ValueIdx.ix2 r j)) (fun j => x5 (ValueIdx.ix3 (0 : Fin 1) (0 : Fin 1) j))
            (cat (fun j => x0 (ValueIdx.ix2 r j)) (fun j => x1 (ValueIdx.ix2 r j)) (fun j => x2 (ValueIdx.ix2 r j))) (fun j k => x4 (ValueIdx.ix2 j k)))
          (fun k => x6 (ValueIdx.ix2 (0 : Fin 1) k)) (fun k => x7 (ValueIdx.ix3 (0 : Fin 1) (0 : Fin 1) k)) (fun k => x8 (ValueIdx.ix3 (0 : Fin 1) (0 : Fin 1) k))
          (fun k => x11 (ValueIdx.ix3 (0 : Fin 1) (0 : Fin 1) k)) (fun k f => x9 (ValueIdx.ix2 k f)) (fun f k => x10 (ValueIdx.ix2 f k)) c := by
  unfold out0_12 k0_pay10 k0_pay11 k0_pay12
  have l0 : View.ld (Val := Elt Ideal) (e' := .bf16) x0 r0_0 = x0 := View.ld_unit_lit (S := S256x384) (off := ![0, 0]) _ _ (by decide)
  have l1 : View.ld (Val := Elt Ideal) (e' := .bf16) x1 r0_1 = x1 := View.ld_unit_lit (S := S256x256) (off := ![0, 0]) _ _ (by decide)
  have l2 : View.ld (Val := Elt Ideal) (e' := .bf16) x2 r0_0 = x2 := View.ld_unit_lit (S := S256x384) (off := ![0, 0]) _ _ (by decide)
  have l3 : View.ld (Val := Elt Ideal) (e' := .f32) x3 r0_2 = x3 := View.ld_unit_lit (S := S256x1024) (off := ![0, 0]) _ _ (by decide)
  have l4 : View.ld (Val := Elt Ideal) (e' := .bf16) x4 r0_4 = x4 := View.ld_unit_lit (S := S1024x1024) (off := ![0, 0]) _ _ (by decide)
  have l5 : ∀ x : FVec Ideal S1x1x1024 .f32, View.ld (Val := Elt Ideal) (e' := .f32) x r0_3 = x := fun x => View.ld_unit_lit (S := S1x1x1024) (off := ![0, 0, 0]) _ _ (by decide)
  have l6 : View.ld (Val := Elt Ideal) (e' := .f32) x6 r0_5 = x6 := View.ld_unit_lit (S := S1x1024) (off := ![0, 0]) _ _ (by decide)
  rw [View.canon_cons_unit_lit (S := S256x1024) (off := ![0, 0]) _ _ _ (by decide), l0, l1, l2, l3, l4, l5 x5, l5 x7, l5 x8, l5 x11, l6]
  have hn : ∀ k, k0_pay6 (F := Ideal) (k0_pay3 x7) (k0_pay4 x0 x1 x2 x3 x5 x4 x6) (k0_pay5 x8) (ValueIdx.ix2 r k)
      = normed (mixed (fun j => x3 (ValueIdx.ix2 r j)) (fun j => x5 (ValueIdx.ix3 (0 : Fin 1) (0 : Fin 1) j))
            (cat (fun j => x0 (ValueIdx.ix2 r j)) (fun j => x1 (ValueIdx.ix2 r j)) (fun j => x2 (ValueIdx.ix2 r j))) (fun j k => x4 (ValueIdx.ix2 j k)))
          (fun k => x6 (ValueIdx.ix2 (0 : Fin 1) k)) (fun k => x7 (ValueIdx.ix3 (0 : Fin 1) (0 : Fin 1) k)) (fun k => x8 (ValueIdx.ix3 (0 : Fin 1) (0 : Fin 1) k)) k := fun k => by
    rw [pay6_apply, pay4_apply]
    simp only [pay2_apply]
    rfl
  rw [pay1_apply, pay2_apply, pay8_apply _ _ _ _ _ _ _ _ _ hn]
  simp only [pay9_apply _ _ _ _ _ _ _ _ hn]
  unfold layerEnd
  refine congrArg₂ (· + ·) rfl (congrArg₂ (· * ·) rfl ?_)
  unfold expert
  refine Eq.trans ?_ (Fin.sum_univ_add (a := 1536) (b := 1280) _).symm
  refine congrArg₂ (· + ·) (Finset.sum_congr rfl fun f _ => ?_) (Finset.sum_congr rfl fun f _ => ?_)
  · have e1 : ∀ k : Fin 1024, View.ld (Val := Elt Ideal) (e' := .bf16) x9 r0_6 (ValueIdx.ix2 k f) = x9 (ValueIdx.ix2 k (⟨f.val, by omega⟩ : Fin 5632)) := fun k =>
      ld_apply2 (e := .bf16) x9 _ k f k (⟨f.val, by omega⟩ : Fin 5632) (Nat.zero_add _).symm (Nat.zero_add _).symm
    have e2 : ∀ k : Fin 1024, View.ld (Val := Elt Ideal) (e' := .bf16) x9 r0_7 (ValueIdx.ix2 k f) = x9 (ValueIdx.ix2 k (⟨2816 + f.val, by omega⟩ : Fin 5632)) := fun k =>
      ld_apply2 (e := .bf16) x9 _ k f k (⟨2816 + f.val, by omega⟩ : Fin 5632) (Nat.zero_add _).symm rfl
    have e3 : View.ld (Val := Elt Ideal) (e' := .bf16) x10 r0_8 (ValueIdx.ix2 f c) = x10 (ValueIdx.ix2 (⟨f.val, by omega⟩ : Fin 2816) c) :=
      ld_apply2 (e := .bf16) x10 _ f c (⟨f.val, by omega⟩ : Fin 2816) c (Nat.zero_add _).symm (Nat.zero_add _).symm
    simp only [e1, e2, e3]
    rfl
  · have e1 : ∀ k : Fin 1024, View.ld (Val := Elt Ideal) (e' := .bf16) x9 r0_9 (ValueIdx.ix2 k f) = x9 (ValueIdx.ix2 k (⟨1536 + f.val, by omega⟩ : Fin 5632)) := fun k =>
      ld_apply2 (e := .bf16) x9 _ k f k (⟨1536 + f.val, by omega⟩ : Fin 5632) (Nat.zero_add _).symm rfl
    have e2 : ∀ k : Fin 1024, View.ld (Val := Elt Ideal) (e' := .bf16) x9 r0_10 (ValueIdx.ix2 k f) = x9 (ValueIdx.ix2 k (⟨2816 + (1536 + f.val), by omega⟩ : Fin 5632)) := fun k =>
      ld_apply2 (e := .bf16) x9 _ k f k (⟨2816 + (1536 + f.val), by omega⟩ : Fin 5632) (Nat.zero_add _).symm (by show 2816 + (1536 + f.val) = 4352 + f.val; omega)
    have e3 : View.ld (Val := Elt Ideal) (e' := .bf16) x10 r0_11 (ValueIdx.ix2 f c) = x10 (ValueIdx.ix2 (⟨1536 + f.val, by omega⟩ : Fin 2816) c) :=
      ld_apply2 (e := .bf16) x10 _ f c (⟨1536 + f.val, by omega⟩ : Fin 2816) c rfl (Nat.zero_add _).symm
    simp only [e1, e2, e3]
    rfl

end Cert.Kernel7Ideal.Hand

end
-- ==== Proof.FfnCtx.Final.lean ====
/-
  Hand-written, untrusted. THE RESULT ARRAY OF THE CONTEXT TOKENS' OUTPUT PROJECTION AND FEED-FORWARD CALL at the ideal
  values: each of its rows as a function of the arguments' rows.
-/
module

public import proofs.«01_k».proof.Proof.FfnCtx.Value
public import Idealize.ShloMosaic.Lib.StableHlo.Run

@[expose] public section

noncomputable section

namespace Cert.Kernel7Ideal.Hand

open Cert.Kernel7Ideal Cert.Kernel7Ideal.Gen
open Idealize.ShloMosaic Idealize.ShloMosaic.TcCoe Idealize.ShloMosaic.StableHlo Idealize.SL.Sem
open Idealize.ShloMosaic.Pipeline (Dat)

open Cert.Kernel2Ideal.Hand (cat mixed scaled normed layerEnd)

/-- The batch that a token belongs to. -/
def batch (r : Fin 1024) : Fin 4 := ⟨r.val / 256, by have := r.isLt; omega⟩

/-- Token `r`'s row of the result, of the twelve arguments. -/
def tokenEnd (yr : FVec Ideal S1024x384 .bf16) (yc : FVec Ideal S1024x256 .bf16) (yn : FVec Ideal S1024x384 .bf16) (h : FVec Ideal S1024x1024 .f32)
    (w : FVec Ideal S1024x1024 .f32) (g1 n2 sh sc : FVec Ideal S1024 .f32)
    (wi : FVec Ideal S1024x5632 .bf16) (wf : FVec Ideal S2816x1024 .bf16) (g2 : FVec Ideal S1024 .f32) (r : Fin 1024) (j : Fin 1024) : EReal :=
  layerEnd
    (mixed (fun k => h (ValueIdx.ix2 r k)) (fun k => g1 (ValueIdx.ix1 k))
      (cat (fun k => yr (ValueIdx.ix2 r k)) (fun k => yc (ValueIdx.ix2 r k)) (fun k => yn (ValueIdx.ix2 r k))) (fun i k => w (ValueIdx.ix2 i k)))
    (fun k => n2 (ValueIdx.ix1 k)) (fun k => sh (ValueIdx.ix1 k)) (fun k => sc (ValueIdx.ix1 k))
    (fun k => g2 (ValueIdx.ix1 k)) (fun k f => wi (ValueIdx.ix2 k f)) (fun f k => wf (ValueIdx.ix2 f k)) j

variable (m : (ℓ : Loc nD τ sig) → Buf (Elt Ideal) ℓ)

/-- What the result array is shown to hold. -/
def val7 (c : Dev nD) (i : S1024x1024.Idx) : EReal :=
  tokenEnd (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11)) (i 0) (i 1)

/-! ## The arrays that the host prepares -/

/-- A vector given to every batch. -/
abbrev given (v : FVec Ideal S1024 .f32) : FVec Ideal S4x1x1024 .f32 :=
  broadcastInDim S4x1x1024 ![0, 1, 2] bcast_S1x1x1024_S4x1x1024_0_1_2 (shapeCast S1x1x1024 v shapeCasts_S1024_S1x1x1024)

theorem given_apply (v : FVec Ideal S1024 .f32) (b : Fin 4) (k : Fin 1024) : given v (ValueIdx.ix3 b (0 : Fin 1) k) = v (ValueIdx.ix1 k) := by
  pointwise
  try rfl

theorem host_g1 (c : Dev nD) : V m c main_v1 = given (m ((c.tc : Thread nD τ).loc main_arg5)) := by
  show StableHlo.after hostOps0 (fun b => m (c, b)) (Proc.devRef .tc main_v1) = _
  simp only [hostOps0]
  after_results_simp
  rfl

theorem host_sh (c : Dev nD) : V m c main_v3 = given (m ((c.tc : Thread nD τ).loc main_arg7)) := by
  show StableHlo.after hostOps0 (fun b => m (c, b)) (Proc.devRef .tc main_v3) = _
  simp only [hostOps0]
  after_results_simp
  rfl

theorem host_sc (c : Dev nD) : V m c main_v5 = given (m ((c.tc : Thread nD τ).loc main_arg8)) := by
  show StableHlo.after hostOps0 (fun b => m (c, b)) (Proc.devRef .tc main_v5) = _
  simp only [hostOps0]
  after_results_simp
  rfl

theorem host_g2 (c : Dev nD) : V m c main_v7 = given (m ((c.tc : Thread nD τ).loc main_arg11)) := by
  show StableHlo.after hostOps0 (fun b => m (c, b)) (Proc.devRef .tc main_v7) = _
  simp only [hostOps0]
  after_results_simp
  rfl

theorem host_w (c : Dev nD) : V m c main_v8 = truncf (F := Ideal) .bf16 (m ((c.tc : Thread nD τ).loc main_arg4) : FVec Ideal S1024x1024 .f32) bitsLt_bf16_f32 := by
  show StableHlo.after hostOps0 (fun b => m (c, b)) (Proc.devRef .tc main_v8) = _
  unfold hostOps0
  after_results_simp

theorem host_n (c : Dev nD) : V m c main_v9 = shapeCast S1x1024 (m ((c.tc : Thread nD τ).loc main_arg6) : FVec Ideal S1024 .f32) shapeCasts_S1024_S1x1024 := by
  show StableHlo.after hostOps0 (fun b => m (c, b)) (Proc.devRef .tc main_v9) = _
  unfold hostOps0
  after_results_simp
  rfl

/-! ## The windows' index maps -/

theorem ix_row : ∀ t : Fin grid0.N, (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0)
    ∧ (cc0_transform_3 (grid0.coords t) 0 = t.val ∧ cc0_transform_3 (grid0.coords t) 1 = 0)
    ∧ (cc0_transform_12 (grid0.coords t) 0 = t.val ∧ cc0_transform_12 (grid0.coords t) 1 = 0) := by decide +kernel

theorem ix_mod : ∀ t : Fin grid0.N, (cc0_transform_5 (grid0.coords t) 0 = t.val ∧ cc0_transform_5 (grid0.coords t) 1 = 0 ∧ cc0_transform_5 (grid0.coords t) 2 = 0)
    ∧ (cc0_transform_7 (grid0.coords t) 0 = t.val ∧ cc0_transform_7 (grid0.coords t) 1 = 0 ∧ cc0_transform_7 (grid0.coords t) 2 = 0)
    ∧ (cc0_transform_8 (grid0.coords t) 0 = t.val ∧ cc0_transform_8 (grid0.coords t) 1 = 0 ∧ cc0_transform_8 (grid0.coords t) 2 = 0)
    ∧ (cc0_transform_11 (grid0.coords t) 0 = t.val ∧ cc0_transform_11 (grid0.coords t) 1 = 0 ∧ cc0_transform_11 (grid0.coords t) 2 = 0) := by decide +kernel

/-- The point that stores a row, and the row's place in its block. -/
def tile (r : Fin 1024) : Fin cfg0.N := ⟨r.val / 256, by
  have h : cfg0.N = 4 := by decide
  rw [h]; have := r.isLt; omega⟩
def inTile (r : Fin 1024) : Fin 256 := ⟨r.val % 256, Nat.mod_lt _ (by decide)⟩

theorem tile_row (r : Fin 1024) (k : ℕ) (hk : k = (tile r).val) : k * 256 + 1 * (inTile r).val = r.val := by
  subst hk
  show r.val / 256 * 256 + 1 * (r.val % 256) = r.val
  omega

theorem tile_batch (r : Fin 1024) (k : ℕ) (hk : k = (tile r).val) : k * 1 + 1 * 0 = (batch r).val := by
  subst hk
  show r.val / 256 * 1 + 1 * 0 = r.val / 256
  omega

theorem whole_ix (n k : ℕ) : 0 * n + 1 * k = k := by omega

theorem at0 (n k z : ℕ) (hz : z = 0) : z * n + 1 * k = k := by subst hz; exact whole_ix n k

/-! ## The windows' blocks at the point of a row -/

theorem rd0 (c : Dev nD) (r : Fin 1024) (k : Fin 384) :
    (iblk m c 0 (tile r) : FVec Ideal S256x384 .bf16) (ValueIdx.ix2 (inTile r) k) = (m ((c.tc : Thread nD τ).loc main_arg0) : FVec Ideal S1024x384 .bf16) (ValueIdx.ix2 r k) := by
  refine Eq.trans (congrArg (V m c main_arg0) (funext fun a => Fin.ext ?_)) (congrFun (V_main_arg0 m c) _)
  have e := (ix_row (tile r)).1
  fin_cases a
  · exact tile_row r _ e.1
  · exact at0 384 k.val _ e.2

theorem rd1 (c : Dev nD) (r : Fin 1024) (k : Fin 256) :
    (iblk m c 1 (tile r) : FVec Ideal S256x256 .bf16) (ValueIdx.ix2 (inTile r) k) = (m ((c.tc : Thread nD τ).loc main_arg1) : FVec Ideal S1024x256 .bf16) (ValueIdx.ix2 r k) := by
  refine Eq.trans (congrArg (V m c main_arg1) (funext fun a => Fin.ext ?_)) (congrFun (V_main_arg1 m c) _)
  have e := (ix_row (tile r)).2.1
  fin_cases a
  · exact tile_row r _ e.1
  · exact at0 256 k.val _ e.2

theorem rd2 (c : Dev nD) (r : Fin 1024) (k : Fin 384) :
    (iblk m c 2 (tile r) : FVec Ideal S256x384 .bf16) (ValueIdx.ix2 (inTile r) k) = (m ((c.tc : Thread nD τ).loc main_arg2) : FVec Ideal S1024x384 .bf16) (ValueIdx.ix2 r k) := by
  refine Eq.trans (congrArg (V m c main_arg2) (funext fun a => Fin.ext ?_)) (congrFun (V_main_arg2 m c) _)
  have e := (ix_row (tile r)).2.2.1
  fin_cases a
  · exact tile_row r _ e.1
  · exact at0 384 k.val _ e.2

theorem rd3 (c : Dev nD) (r : Fin 1024) (k : Fin 1024) :
    (iblk m c 3 (tile r) : FVec Ideal S256x1024 .f32) (ValueIdx.ix2 (inTile r) k) = (m ((c.tc : Thread nD τ).loc main_arg3) : FVec Ideal S1024x1024 .f32) (ValueIdx.ix2 r k) := by
  refine Eq.trans (congrArg (V m c main_arg3) (funext fun a => Fin.ext ?_)) (congrFun (V_main_arg3 m c) _)
  have e := (ix_row (tile r)).2.2.2.1
  fin_cases a
  · exact tile_row r _ e.1
  · exact at0 1024 k.val _ e.2

theorem rd4 (c : Dev nD) (r : Fin 1024) (i k : Fin 1024) :
    (iblk m c 4 (tile r) : FVec Ideal S1024x1024 .bf16) (ValueIdx.ix2 i k) = (m ((c.tc : Thread nD τ).loc main_arg4) : FVec Ideal S1024x1024 .f32) (ValueIdx.ix2 i k) := by
  refine Eq.trans (congrArg (V m c main_v8) (funext fun a => Fin.ext ?_)) (congrFun (host_w m c) (ValueIdx.ix2 i k))
  fin_cases a
  · exact whole_ix 1024 i.val
  · exact whole_ix 1024 k.val

theorem rd6 (c : Dev nD) (r : Fin 1024) (k : Fin 1024) :
    (iblk m c 6 (tile r) : FVec Ideal S1x1024 .f32) (ValueIdx.ix2 (0 : Fin 1) k) = (m ((c.tc : Thread nD τ).loc main_arg6) : FVec Ideal S1024 .f32) (ValueIdx.ix1 k) := by
  refine Eq.trans (congrArg (V m c main_v9) (funext fun a => Fin.ext ?_)) ((congrFun (host_n m c) (ValueIdx.ix2 (0 : Fin 1) k)).trans ?_)
  · fin_cases a
    · exact whole_ix 1 0
    · exact whole_ix 1024 k.val
  · refine shapeCast_apply (s := S1024) (t := S1x1024) _ _ _ _ ?_
    rw [Shape.rowMajor_val_one, Shape.rowMajor_val_two]
    show k.val = 0 * 1024 + k.val
    omega

theorem rd9 (c : Dev nD) (r : Fin 1024) (i : Fin 1024) (k : Fin 5632) :
    (iblk m c 9 (tile r) : FVec Ideal S1024x5632 .bf16) (ValueIdx.ix2 i k) = (m ((c.tc : Thread nD τ).loc main_arg9) : FVec Ideal S1024x5632 .bf16) (ValueIdx.ix2 i k) := by
  refine Eq.trans (congrArg (V m c main_arg9) (funext fun a => Fin.ext ?_)) (congrFun (V_main_arg9 m c) _)
  fin_cases a
  · exact whole_ix 1024 i.val
  · exact whole_ix 5632 k.val

theorem rd10 (c : Dev nD) (r : Fin 1024) (i : Fin 2816) (k : Fin 1024) :
    (iblk m c 10 (tile r) : FVec Ideal S2816x1024 .bf16) (ValueIdx.ix2 i k) = (m ((c.tc : Thread nD τ).loc main_arg10) : FVec Ideal S2816x1024 .bf16) (ValueIdx.ix2 i k) := by
  refine Eq.trans (congrArg (V m c main_arg10) (funext fun a => Fin.ext ?_)) (congrFun (V_main_arg10 m c) _)
  fin_cases a
  · exact whole_ix 2816 i.val
  · exact whole_ix 1024 k.val

theorem rd5 (c : Dev nD) (r : Fin 1024) (k : Fin 1024) :
    (iblk m c 5 (tile r) : FVec Ideal S1x1x1024 .f32) (ValueIdx.ix3 (0 : Fin 1) (0 : Fin 1) k) = (m ((c.tc : Thread nD τ).loc main_arg5) : FVec Ideal S1024 .f32) (ValueIdx.ix1 k) := by
  refine Eq.trans (congrArg (V m c main_v1) (funext fun a => Fin.ext ?_)) ((congrFun (host_g1 m c) (ValueIdx.ix3 (batch r) (0 : Fin 1) k)).trans (given_apply _ _ k))
  have e := (ix_mod (tile r)).1
  fin_cases a
  · exact tile_batch r _ e.1
  · exact at0 1 0 _ e.2.1
  · exact at0 1024 k.val _ e.2.2

theorem rd7 (c : Dev nD) (r : Fin 1024) (k : Fin 1024) :
    (iblk m c 7 (tile r) : FVec Ideal S1x1x1024 .f32) (ValueIdx.ix3 (0 : Fin 1) (0 : Fin 1) k) = (m ((c.tc : Thread nD τ).loc main_arg7) : FVec Ideal S1024 .f32) (ValueIdx.ix1 k) := by
  refine Eq.trans (congrArg (V m c main_v3) (funext fun a => Fin.ext ?_)) ((congrFun (host_sh m c) (ValueIdx.ix3 (batch r) (0 : Fin 1) k)).trans (given_apply _ _ k))
  have e := (ix_mod (tile r)).2.1
  fin_cases a
  · exact tile_batch r _ e.1
  · exact at0 1 0 _ e.2.1
  · exact at0 1024 k.val _ e.2.2

theorem rd8 (c : Dev nD) (r : Fin 1024) (k : Fin 1024) :
    (iblk m c 8 (tile r) : FVec Ideal S1x1x1024 .f32) (ValueIdx.ix3 (0 : Fin 1) (0 : Fin 1) k) = (m ((c.tc : Thread nD τ).loc main_arg8) : FVec Ideal S1024 .f32) (ValueIdx.ix1 k) := by
  refine Eq.trans (congrArg (V m c main_v5) (funext fun a => Fin.ext ?_)) ((congrFun (host_sc m c) (ValueIdx.ix3 (batch r) (0 : Fin 1) k)).trans (given_apply _ _ k))
  have e := (ix_mod (tile r)).2.2.1
  fin_cases a
  · exact tile_batch r _ e.1
  · exact at0 1 0 _ e.2.1
  · exact at0 1024 k.val _ e.2.2

theorem rd11 (c : Dev nD) (r : Fin 1024) (k : Fin 1024) :
    (iblk m c 11 (tile r) : FVec Ideal S1x1x1024 .f32) (ValueIdx.ix3 (0 : Fin 1) (0 : Fin 1) k) = (m ((c.tc : Thread nD τ).loc main_arg11) : FVec Ideal S1024 .f32) (ValueIdx.ix1 k) := by
  refine Eq.trans (congrArg (V m c main_v7) (funext fun a => Fin.ext ?_)) ((congrFun (host_g2 m c) (ValueIdx.ix3 (batch r) (0 : Fin 1) k)).trans (given_apply _ _ k))
  have e := (ix_mod (tile r)).2.2.2
  fin_cases a
  · exact tile_batch r _ e.1
  · exact at0 1 0 _ e.2.1
  · exact at0 1024 k.val _ e.2.2

/-! ## The result -/

/-- What the point of row `r` stores at that row. -/
theorem stored (c : Dev nD) (r : Fin 1024) (j : Fin 1024) :
    out0_12 (F := Ideal) (iblk m c 0 (tile r)) (iblk m c 1 (tile r)) (iblk m c 2 (tile r)) (iblk m c 3 (tile r)) (iblk m c 4 (tile r)) (iblk m c 5 (tile r)) (iblk m c 6 (tile r))
      (iblk m c 7 (tile r)) (iblk m c 8 (tile r)) (iblk m c 9 (tile r)) (iblk m c 10 (tile r)) (iblk m c 11 (tile r)) (ValueIdx.ix2 (inTile r) j) = val7 m c (ValueIdx.ix2 r j) := by
  refine (out_apply _ _ _ _ _ _ _ _ _ _ _ _ (inTile r) j).trans ?_
  have e0 := funext (rd0 m c r)
  have e1 := funext (rd1 m c r)
  have e2 := funext (rd2 m c r)
  have e3 := funext (rd3 m c r)
  have e4 := funext fun i => funext (rd4 m c r i)
  have e5 := funext (rd5 m c r)
  have e6 := funext (rd6 m c r)
  have e7 := funext (rd7 m c r)
  have e8 := funext (rd8 m c r)
  have e9 := funext fun i => funext (rd9 m c r i)
  have e10 := funext fun i => funext (rd10 m c r i)
  have e11 := funext (rd11 m c r)
  unfold val7 tokenEnd
  have em := congr (congr (congr (congrArg mixed e3) e5) (congr (congr (congrArg cat e0) e1) e2)) e4
  exact congrFun (congr (congr (congr (congr (congr (congr (congrArg layerEnd em) e6) e7) e8) e11) e9) e10) j

/-- The index of row `r`'s place in the array. -/
theorem place_eq (r : Fin 1024) (j : Fin 1024) :
    (((cfg0.win 12).rect (tile r)).emb (ValueIdx.ix2 (inTile r) j : S256x1024.Idx) : S1024x1024.Idx) = ValueIdx.ix2 r j := by
  funext a
  apply Fin.ext
  have e := (ix_row (tile r)).2.2.2.2
  fin_cases a
  · exact tile_row r _ e.1
  · exact at0 1024 j.val _ e.2

theorem final (c : Dev nD) : (dats m 0 c).arrAt 12 cfg0.N = val7 m c := by
  refine funext fun (i : S1024x1024.Idx) => ?_
  obtain ⟨r, j, rfl⟩ : ∃ (r : Fin 1024) (j : Fin 1024), i = ValueIdx.ix2 r j := ⟨i 0, i 1, by funext a; fin_cases a <;> rfl⟩
  have e := congrFun ((Value.blocks12 m c (tile r) (flush0_12 (tile r))).trans (Value.flushed12 m c (tile r))) (ValueIdx.ix2 (inTile r) j : S256x1024.Idx)
  refine (congrArg ((dats m 0 c).arrAt 12 cfg0.N) (place_eq r j)).symm.trans ?_
  exact e.trans (stored m c r j)

/-- The run, read: the result at `val7`, every argument as it began. -/
theorem run_val7 (ρ : Dev nD → PrngReg) : θ_run defs (onTc (τ := τ) (main (F := Ideal))) ⟨m, fun _ => 0, ρ⟩ fun r => ∀ c : Dev nD,
      r.2.mem ((c.tc : Thread nD τ).loc main_v10) = val7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r hr c => ⟨(hr c).1.trans (final m c), (hr c).2⟩) (Value.run_blocks m ρ)

end Cert.Kernel7Ideal.Hand

end
-- ==== Proof.FfnCtx.RefValue.lean ====
/-
  Hand-written, untrusted. THE SEVENTH REFERENCE'S RESULT read at an index at the ideal values: the mixers' projection added,
  the normed and modulated row, and the gated feed-forward.
-/
module

public import proofs.«01_k».proof.Proof.FfnCtx.Final
public import proofs.«01_k».proof.Proof.Gen.Reference7Ideal.Run
public import Idealize.ShloMosaic.Lib.Pointwise

@[expose] public section

noncomputable section

namespace Cert.Reference7Ideal.Hand

open Cert.Reference7Ideal Cert.Reference7Ideal.Gen Cert.Reference7Ideal.Value
open Idealize.ShloMosaic Idealize.ShloMosaic.StableHlo
open Cert.KernelIdeal.Hand (proj hid expert)
open Cert.Kernel2Ideal.Hand (cat mixed scaled normed layerEnd)
open Cert.Kernel7Ideal.Hand (tokenEnd)

theorem dot_o : dot_S1024x1024_S1024x1024_S1024x1024_1_0_0_1_n_n = DotDims.plain 1024 1024 1024 := rfl
theorem dot_in : dot_S1024x1024_S1024x5632_S1024x5632_1_0_0_1_n_n = DotDims.plain 1024 1024 5632 := rfl
theorem dot_out : dot_S1024x2816_S2816x1024_S1024x1024_1_0_0_1_n_n = DotDims.plain 1024 2816 1024 := rfl

/-! ## The result's pieces -/

/-- A vector, one copy a token. -/
def tokens (g : FVec Ideal S1024 .f32) : FVec Ideal S1024x1024 .f32 :=
  broadcastInDim S1024x1024 ![0, 1] bcast_S1x1024_S1024x1024_0_1 (broadcastInDim S1x1024 ![1] bcast_S1024_S1x1024_1 g)

/-- The tokens after the mixers' projection is added. -/
def added (yr : FVec Ideal S1024x384 .bf16) (yc : FVec Ideal S1024x256 .bf16) (yn : FVec Ideal S1024x384 .bf16) (h : FVec Ideal S1024x1024 .f32)
    (w : FVec Ideal S1024x1024 .f32) (g1 : FVec Ideal S1024 .f32) : FVec Ideal S1024x1024 .f32 :=
  addf h (mulf (tokens g1) (Host.dotGeneral dot_S1024x1024_S1024x1024_S1024x1024_1_0_0_1_n_n none
    (concatenate S1024x1024 1 [⟨S1024x384, extf .f32 yr bitsLt_bf16_f32⟩, ⟨S1024x256, extf .f32 yc bitsLt_bf16_f32⟩, ⟨S1024x384, extf .f32 yn bitsLt_bf16_f32⟩]
      concatenates_S1024x384_S1024x256_S1024x384_S1024x1024_d1) w))

/-- The normed tokens, modulated. -/
def modulated (h1 : FVec Ideal S1024x1024 .f32) (n2 : FVec Ideal S1024 .f32) (sh sc : FVec Ideal S1024 .f32) : FVec Ideal S1024x1024 .f32 :=
  addf (mulf (mulf (mulf h1 (broadcastInDim S1024x1024 ![0, 1] bcast_S1024x1_S1024x1024_0_1 (Host.rsqrt (addf (Host.divf
      (broadcastInDim S1024x1 ![0] bcast_S1024_S1024x1_0 (Host.reduceAdd (mulf h1 h1) (constant S_ .f32 0x00000000#32) reducesTo_S1024x1024_S1024_d1 h_S_))
      (broadcastInDim S1024x1 ![] bcast_S_S1024x1 (constant S_ .f32 0x44800000#32))) (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 n2)))
    (tokens (addf (broadcastInDim S1024 ![] bcast_S_S1024 (constant S_ .f32 0x3F800000#32)) sc))) (tokens sh)

/-- The feed-forward's input product. -/
def opened (x : FVec Ideal S1024x1024 .f32) (wi : FVec Ideal S1024x5632 .bf16) : FVec Ideal S1024x5632 .f32 :=
  Host.dotGeneral dot_S1024x1024_S1024x5632_S1024x5632_1_0_0_1_n_n none x (extf .f32 wi bitsLt_bf16_f32)

/-- The feed-forward, of its input product. -/
def closed (p : FVec Ideal S1024x5632 .f32) (wf : FVec Ideal S2816x1024 .bf16) : FVec Ideal S1024x1024 .f32 :=
  Host.dotGeneral dot_S1024x2816_S2816x1024_S1024x1024_1_0_0_1_n_n none
    (mulf (mulf (extractStridedSlice S1024x2816 ![0, 0] p slices_S1024x5632_S1024x2816_0_0)
      (Host.divf (broadcastInDim S1024x2816 ![] bcast_S_S1024x2816 (constant S_ .f32 0x3F800000#32))
        (addf (broadcastInDim S1024x2816 ![] bcast_S_S1024x2816 (constant S_ .f32 0x3F800000#32))
          (Host.exp (Host.negf (extractStridedSlice S1024x2816 ![0, 0] p slices_S1024x5632_S1024x2816_0_0))))))
      (extractStridedSlice S1024x2816 ![0, 2816] p slices_S1024x5632_S1024x2816_0_2816)) (extf .f32 wf bitsLt_bf16_f32)

theorem result_eq (m : (ℓ : Loc nD τ sig) → Buf (Elt Ideal) ℓ) (c : Dev nD) (h1 : FVec Ideal S1024x1024 .f32)
    (e : h1 = added (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5))) :
    res_main_v41 (F := Ideal) m c = addf h1 (mulf (tokens (m ((c.tc : Thread nD τ).loc main_arg11)))
      (closed (opened (modulated h1 (m ((c.tc : Thread nD τ).loc main_arg6)) (m ((c.tc : Thread nD τ).loc main_arg7)) (m ((c.tc : Thread nD τ).loc main_arg8)))
        (m ((c.tc : Thread nD τ).loc main_arg9))) (m ((c.tc : Thread nD τ).loc main_arg10)))) := by
  subst e
  rfl

/-! ## The pieces at an index -/

theorem tokens_apply (g : FVec Ideal S1024 .f32) (r k : Fin 1024) : tokens g (ValueIdx.ix2 r k) = g (ValueIdx.ix1 k) := by
  unfold tokens
  pointwise
  try rfl

theorem cat_apply (a : FVec Ideal S1024x384 .f32) (b : FVec Ideal S1024x256 .f32) (c : FVec Ideal S1024x384 .f32) (r : Fin 1024) (k : Fin 1024) :
    concatenate S1024x1024 1 [⟨S1024x384, a⟩, ⟨S1024x256, b⟩, ⟨S1024x384, c⟩] concatenates_S1024x384_S1024x256_S1024x384_S1024x1024_d1 (ValueIdx.ix2 r k)
      = cat (fun j => a (ValueIdx.ix2 r j)) (fun j => b (ValueIdx.ix2 r j)) (fun j => c (ValueIdx.ix2 r j)) k := by
  unfold cat
  pointwise
  rfl

theorem added_apply (yr : FVec Ideal S1024x384 .bf16) (yc : FVec Ideal S1024x256 .bf16) (yn : FVec Ideal S1024x384 .bf16) (h : FVec Ideal S1024x1024 .f32)
    (w : FVec Ideal S1024x1024 .f32) (g1 : FVec Ideal S1024 .f32) (r : Fin 1024) (k : Fin 1024) :
    added yr yc yn h w g1 (ValueIdx.ix2 r k) = mixed (fun k => h (ValueIdx.ix2 r k)) (fun k => g1 (ValueIdx.ix1 k))
      (cat (fun k => yr (ValueIdx.ix2 r k)) (fun k => yc (ValueIdx.ix2 r k)) (fun k => yn (ValueIdx.ix2 r k))) (fun i k => w (ValueIdx.ix2 i k)) k := by
  unfold added mixed
  refine congrArg (h (ValueIdx.ix2 r k) + ·) (congrArg₂ (· * ·) (tokens_apply g1 r k) ?_)
  rw [dot_o, StackMember.dotGeneral_plain_apply]
  exact Finset.sum_congr rfl fun i _ => congrArg (· * w (ValueIdx.ix2 i k)) (cat_apply _ _ _ r i)

theorem modulated_apply (x : FVec Ideal S1024x1024 .f32) (n2 : FVec Ideal S1024 .f32) (sh sc : FVec Ideal S1024 .f32) (r : Fin 1024) (k : Fin 1024) :
    modulated x n2 sh sc (ValueIdx.ix2 r k) = normed (fun k => x (ValueIdx.ix2 r k)) (fun k => n2 (ValueIdx.ix1 k)) (fun k => sh (ValueIdx.ix1 k))
      (fun k => sc (ValueIdx.ix1 k)) k := by
  unfold modulated normed scaled
  refine congrArg₂ (· + ·) (congrArg₂ (· * ·) ?_ ?_) (tokens_apply sh r k)
  · pointwise
    rfl
  · refine (tokens_apply _ r k).trans ?_
    pointwise

theorem opened_apply (x : FVec Ideal S1024x1024 .f32) (wi : FVec Ideal S1024x5632 .bf16) (r : Fin 1024) (f : Fin 5632) :
    opened x wi (ValueIdx.ix2 r f) = proj (fun k => x (ValueIdx.ix2 r k)) (fun k f => wi (ValueIdx.ix2 k f)) f := by
  unfold opened proj
  rw [dot_in, StackMember.dotGeneral_plain_apply]
  rfl

theorem closed_apply (p : FVec Ideal S1024x5632 .f32) (wf : FVec Ideal S2816x1024 .bf16) (x : Fin 1024 → EReal) (wi : Fin 1024 → Fin 5632 → EReal) (r : Fin 1024)
    (hp : ∀ f, p (ValueIdx.ix2 r f) = proj x wi f) (c : Fin 1024) :
    closed p wf (ValueIdx.ix2 r c) = expert x wi (fun f k => wf (ValueIdx.ix2 f k)) c := by
  unfold closed expert
  rw [dot_out, StackMember.dotGeneral_plain_apply]
  refine Finset.sum_congr rfl fun f _ => congrArg (· * wf (ValueIdx.ix2 f c)) ?_
  unfold hid
  rw [← hp, ← hp]
  pointwise
  rfl

/-- A row of the reference's result. -/
theorem result_apply (m : (ℓ : Loc nD τ sig) → Buf (Elt Ideal) ℓ) (c : Dev nD) (r : Fin 1024) (j : Fin 1024) :
    res_main_v41 (F := Ideal) m c (ValueIdx.ix2 r j)
      = tokenEnd (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) r j := by
  rw [result_eq m c _ rfl]
  unfold tokenEnd layerEnd
  have e1 := funext (added_apply (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) r)
  rw [← e1]
  refine congrArg₂ (· + ·) rfl (congrArg₂ (· * ·) (tokens_apply _ r j) ?_)
  refine closed_apply _ _ _ _ r (fun f => ?_) j
  refine (opened_apply _ _ r f).trans ?_
  exact congrArg (fun x => proj x _ f) (funext fun k => modulated_apply _ _ _ _ r k)

end Cert.Reference7Ideal.Hand

end
-- ==== Proof.ConvCtx.Value.lean ====
/-
  Hand-written, untrusted. WHAT ONE POINT OF THE CONTEXT TOKENS' SHORT CONVOLUTION STORES, read at an index at the ideal
  values.
-/
module

public import proofs.«01_k».proof.Proof.Gen.Kernel8Ideal.Value
public import Idealize.ShloMosaic.Lib.Pointwise
public import Idealize.ShloMosaic.Lib.KernelVsHost
public import Idealize.ShloMosaic.Lib.ValueLayout
public import Idealize.ShloMosaic.Lib.Pipeline.ValueKit.Basic
public import Idealize.ShloMosaic.Lib.IdealHost
public import Idealize.ShloMosaic.Lib.Pipeline.ValueKit.Tiles

@[expose] public section

noncomputable section

namespace Cert.Kernel8Ideal.Hand

open Cert.Kernel8Ideal Cert.Kernel8Ideal.Gen
open Idealize.ShloMosaic

/-- A column moved down by one position, zero before its start. -/
def before (u : Fin 256 → EReal) (r : Fin 256) : EReal := if h : r.val = 0 then 0 else u ⟨r.val - 1, by omega⟩

/-- A column moved up by one position, zero after its end. -/
def after (u : Fin 256 → EReal) (r : Fin 256) : EReal := if h : r.val = 255 then 0 else u ⟨r.val + 1, by omega⟩

/-- One channel of the gated convolution of width three. -/
def gated (b c x : Fin 256 → EReal) (w : Fin 3 → EReal) (r : Fin 256) : EReal :=
  b r * (w 0 * before (fun i => c i * x i) r + w 1 * (c r * x r) + w 2 * after (fun i => c i * x i) r)

theorem row_eq (r : Fin 256) (n : ℕ) (hn : n < 256) : (BitVec.ofNat 32 r.val = BitVec.ofNat 32 n) ↔ r.val = n := by
  have hr := r.isLt
  rw [← BitVec.toNat_inj, BitVec.toNat_ofNat, BitVec.toNat_ofNat, Nat.mod_eq_of_lt (by omega), Nat.mod_eq_of_lt (by omega)]

theorem down_apply (u : FVec Ideal S256x128 .f32) (r : Fin 256) (j : Fin 128) :
    dynamicRotate 0 1#32 none u rotates_S256x128_d0 (ValueIdx.ix2 r j) = u (ValueIdx.ix2 (⟨(r.val + 255) % 256, Nat.mod_lt _ (by omega)⟩ : Fin 256) j) := by
  refine dynamicRotate_apply (s := S256x128) (0 : Fin 2) 1#32 u rotates_S256x128_d0 _ _ fun b => ?_
  match b with
  | ⟨0, _⟩ => exact congrArg (· % 256) (show r.val + 255 = r.val + 256 - 1 by omega)
  | ⟨1, _⟩ => rfl

theorem up_apply (u : FVec Ideal S256x128 .f32) (r : Fin 256) (j : Fin 128) :
    dynamicRotate 0 255#32 none u rotates_S256x128_d0 (ValueIdx.ix2 r j) = u (ValueIdx.ix2 (⟨(r.val + 1) % 256, Nat.mod_lt _ (by omega)⟩ : Fin 256) j) := by
  refine dynamicRotate_apply (s := S256x128) (0 : Fin 2) 255#32 u rotates_S256x128_d0 _ _ fun b => ?_
  match b with
  | ⟨0, _⟩ => exact congrArg (· % 256) (show r.val + 1 = r.val + 256 - 255 by omega)
  | ⟨1, _⟩ => rfl

/-- A row's mask, spread over the columns. -/
theorem mask_apply (n : ℕ) (hn : n < 256) (r : Fin 256) (j : Fin 128) :
    broadcastTo S256x128 (shapeCast S256x1 (cmpi .eq (iota .tc S256x1 32 [0] iota_S256x1_d0_w32) (broadcast S256x1 (BitVec.ofNat 32 n))) shapeCasts_S256x1_S256x1)
      broadcasts_S256x1_S256x128 (ValueIdx.ix2 r j) = if r.val = n then 1#1 else 0#1 := by
  pointwise
  show (BitVec.ofBool (BitVec.ofNat 32 r.val == BitVec.ofNat 32 n)) = _
  by_cases h : r.val = n
  · rw [if_pos h, beq_iff_eq.mpr ((row_eq r n hn).mpr h)]; rfl
  · rw [if_neg h, beq_eq_false_iff_ne.mpr fun e => h ((row_eq r n hn).mp e)]; rfl

theorem before_apply (u : FVec Ideal S256x128 .f32) (r : Fin 256) (j : Fin 128) :
    select (broadcastTo S256x128 (shapeCast S256x1 (cmpi .eq (iota .tc S256x1 32 [0] iota_S256x1_d0_w32) (broadcast S256x1 0#32)) shapeCasts_S256x1_S256x1)
      broadcasts_S256x1_S256x128) (broadcast S256x128 (Scalar.ofBits (F := Ideal) .f32 0x00000000#32)) (dynamicRotate 0 1#32 none u rotates_S256x128_d0) (ValueIdx.ix2 r j)
      = before (fun i => u (ValueIdx.ix2 i j)) r := by
  rw [ValueIdx.select_apply, mask_apply 0 (by omega) r j, down_apply]
  unfold before
  by_cases h : r.val = 0
  · rw [if_pos h, dif_pos h]
    exact Ideal.ofBits_zero_f32
  · rw [if_neg h, dif_neg h]
    refine congrArg (fun k => u (ValueIdx.ix2 k j)) (Fin.ext ?_)
    show (r.val + 255) % 256 = r.val - 1
    omega

theorem after_apply (u : FVec Ideal S256x128 .f32) (r : Fin 256) (j : Fin 128) :
    select (broadcastTo S256x128 (shapeCast S256x1 (cmpi .eq (iota .tc S256x1 32 [0] iota_S256x1_d0_w32) (broadcast S256x1 255#32)) shapeCasts_S256x1_S256x1)
      broadcasts_S256x1_S256x128) (broadcast S256x128 (Scalar.ofBits (F := Ideal) .f32 0x00000000#32)) (dynamicRotate 0 255#32 none u rotates_S256x128_d0) (ValueIdx.ix2 r j)
      = after (fun i => u (ValueIdx.ix2 i j)) r := by
  rw [ValueIdx.select_apply, mask_apply 255 (by omega) r j, up_apply]
  unfold after
  by_cases h : r.val = 255
  · rw [if_pos h, dif_pos h]
    exact Ideal.ofBits_zero_f32
  · rw [if_neg h, dif_neg h]
    refine congrArg (fun k => u (ValueIdx.ix2 k j)) (Fin.ext ?_)
    show (r.val + 1) % 256 = r.val + 1
    omega

/-- A block's column under its leading axis of one. -/
theorem column_apply (x : FVec Ideal S1x256x128 .bf16) (r : Fin 256) (j : Fin 128) :
    (extf .f32 (shapeCast S256x128 x shapeCasts_S1x256x128_S256x128) bitsLt_bf16_f32 : FVec Ideal S256x128 .f32) (ValueIdx.ix2 r j) = x (ValueIdx.ix3 (0 : Fin 1) r j) := by
  pointwise
  rfl

/-- One of the three weights, spread over the rows. -/
theorem weight_apply (w : FVec Ideal S1x128 .f32) (r : Fin 256) (j : Fin 128) :
    broadcastTo S256x128 w broadcasts_S1x128_S256x128 (ValueIdx.ix2 r j) = w (ValueIdx.ix2 (0 : Fin 1) j) := by
  pointwise
  rfl

theorem pay2_apply (c x : FVec Ideal S1x256x128 .bf16) (w0 w1 w2 : FVec Ideal S1x128 .f32) (b : FVec Ideal S1x256x128 .bf16) (r : Fin 256) (j : Fin 128) :
    k0_pay2 (F := Ideal) c x w0 w1 w2 b (ValueIdx.ix2 r j)
      = gated (fun i => b (ValueIdx.ix3 (0 : Fin 1) i j)) (fun i => c (ValueIdx.ix3 (0 : Fin 1) i j)) (fun i => x (ValueIdx.ix3 (0 : Fin 1) i j))
          ![w0 (ValueIdx.ix2 (0 : Fin 1) j), w1 (ValueIdx.ix2 (0 : Fin 1) j), w2 (ValueIdx.ix2 (0 : Fin 1) j)] r := by
  have hu : ∀ i, (mulf (extf .f32 (shapeCast S256x128 c shapeCasts_S1x256x128_S256x128) bitsLt_bf16_f32) (extf .f32 (shapeCast S256x128 x shapeCasts_S1x256x128_S256x128) bitsLt_bf16_f32)
      : FVec Ideal S256x128 .f32) (ValueIdx.ix2 i j) = c (ValueIdx.ix3 (0 : Fin 1) i j) * x (ValueIdx.ix3 (0 : Fin 1) i j) :=
    fun i => congrArg₂ (· * ·) (column_apply c i j) (column_apply x i j)
  unfold k0_pay2 gated
  refine congrArg₂ (· * ·) (column_apply b r j) (congrArg₂ (· + ·) (congrArg₂ (· + ·) (congrArg₂ (· * ·) (weight_apply w0 r j) ?_)
    (congrArg₂ (· * ·) (weight_apply w1 r j) (hu r))) (congrArg₂ (· * ·) (weight_apply w2 r j) ?_))
  · exact (before_apply _ r j).trans (congrArg (fun u => before u r) (funext hu))
  · exact (after_apply _ r j).trans (congrArg (fun u => after u r) (funext hu))

/-- A point's column: the gated convolution of its blocks' columns. -/
theorem out_apply (x0 x1 x2 : FVec Ideal S1x256x128 .bf16) (x3 : FVec Ideal S3x128 .f32) (r : Fin 256) (j : Fin 128) :
    out0_4 (F := Ideal) x0 x1 x2 x3 (ValueIdx.ix3 (0 : Fin 1) r j)
      = gated (fun i => x0 (ValueIdx.ix3 (0 : Fin 1) i j)) (fun i => x1 (ValueIdx.ix3 (0 : Fin 1) i j)) (fun i => x2 (ValueIdx.ix3 (0 : Fin 1) i j)) (fun k => x3 (ValueIdx.ix2 k j)) r := by
  unfold out0_4
  have l0 : ∀ x : FVec Ideal S1x256x128 .bf16, View.ld (Val := Elt Ideal) (e' := .bf16) x r0_0 = x := fun x => View.ld_unit_lit (S := S1x256x128) (off := ![0, 0, 0]) _ _ (by decide)
  rw [View.canon_cons_unit_lit (S := S1x256x128) (off := ![0, 0, 0]) _ _ _ (by decide), l0 x0, l0 x1, l0 x2]
  have hp : ∀ y : FVec Ideal S256x128 .f32, k0_pay1 (F := Ideal) y (ValueIdx.ix3 (0 : Fin 1) r j) = y (ValueIdx.ix2 r j) := fun y => by
    unfold k0_pay1
    pointwise
    rfl
  refine (hp _).trans ((pay2_apply _ _ _ _ _ _ r j).trans (congrArg (fun w => gated _ _ _ w r) (funext fun k => ?_)))
  have e : ∀ (a : ℕ) (inb) (k : Fin 3) (hk : k.val = a), View.ld (Val := Elt Ideal) (e' := .f32) x3 (Rect.unit (s := S3x128) ![a, 0] S1x128.size inb) (ValueIdx.ix2 (0 : Fin 1) j) = x3 (ValueIdx.ix2 k j) := fun a inb k hk => by
    refine View.ld_unit_apply_of (Val := Elt Ideal) (e := .f32) x3 _ _ inb _ _ fun x => ?_
    match x with
    | ⟨0, _⟩ => exact hk
    | ⟨1, _⟩ => exact (Nat.zero_add _).symm
  match k with
  | ⟨0, _⟩ => exact e 0 _ 0 rfl
  | ⟨1, _⟩ => exact e 1 _ 1 rfl
  | ⟨2, _⟩ => exact e 2 _ 2 rfl

end Cert.Kernel8Ideal.Hand

end
-- ==== Proof.ConvCtx.Final.lean ====
/-
  Hand-written, untrusted. THE RESULT ARRAY OF THE CONTEXT TOKENS' SHORT CONVOLUTION at the ideal values: each of its entries
  as a function of the arguments' columns.
-/
module

public import proofs.«01_k».proof.Proof.ConvCtx.Value

@[expose] public section

noncomputable section

namespace Cert.Kernel8Ideal.Hand

open Cert.Kernel8Ideal Cert.Kernel8Ideal.Gen
open Idealize.ShloMosaic Idealize.ShloMosaic.TcCoe Idealize.ShloMosaic.StableHlo Idealize.SL.Sem
open Idealize.ShloMosaic.Pipeline (Dat)

/-- One entry of the gated convolution, of the three parts of the input projection's columns. -/
def entry (p : FVec Ideal S4x256x3456 .bf16) (w : FVec Ideal S3x256 .f32) (b : Fin 4) (r : Fin 256) (j : Fin 256) : EReal :=
  gated (fun i => p (ValueIdx.ix3 b i (⟨1536 + j.val, by omega⟩ : Fin 3456))) (fun i => p (ValueIdx.ix3 b i (⟨1792 + j.val, by omega⟩ : Fin 3456)))
    (fun i => p (ValueIdx.ix3 b i (⟨2048 + j.val, by omega⟩ : Fin 3456))) (fun k => w (ValueIdx.ix2 k j)) r

variable (m : (ℓ : Loc nD τ sig) → Buf (Elt Ideal) ℓ)

/-- What the result array is shown to hold. -/
def val8 (c : Dev nD) (i : S4x256x256.Idx) : EReal :=
  entry (m ((c.tc : Thread nD τ).loc main_arg0)) (m ((c.tc : Thread nD τ).loc main_arg1)) (i 0) (i 1) (i 2)

theorem ix_cols : ∀ t : Fin grid0.N, (cc0_transform_0 (grid0.coords t) 0 = t.val / 2 ∧ cc0_transform_0 (grid0.coords t) 1 = 0 ∧ cc0_transform_0 (grid0.coords t) 2 = 12 + t.val % 2)
    ∧ (cc0_transform_1 (grid0.coords t) 0 = t.val / 2 ∧ cc0_transform_1 (grid0.coords t) 1 = 0 ∧ cc0_transform_1 (grid0.coords t) 2 = 14 + t.val % 2)
    ∧ (cc0_transform_2 (grid0.coords t) 0 = t.val / 2 ∧ cc0_transform_2 (grid0.coords t) 1 = 0 ∧ cc0_transform_2 (grid0.coords t) 2 = 16 + t.val % 2)
    ∧ (cc0_transform_3 (grid0.coords t) 0 = 0 ∧ cc0_transform_3 (grid0.coords t) 1 = t.val % 2)
    ∧ (cc0_transform_4 (grid0.coords t) 0 = t.val / 2 ∧ cc0_transform_4 (grid0.coords t) 1 = 0 ∧ cc0_transform_4 (grid0.coords t) 2 = t.val % 2) := by decide +kernel

/-- The point that stores a batch's channel, and the channel's place in its block. -/
def tile (b : Fin 4) (j : Fin 256) : Fin cfg0.N := ⟨2 * b.val + j.val / 128, by
  have h : cfg0.N = 8 := by decide
  rw [h]; have := b.isLt; have := j.isLt; omega⟩
def inTile (j : Fin 256) : Fin 128 := ⟨j.val % 128, Nat.mod_lt _ (by decide)⟩

theorem tile_batch (b : Fin 4) (j : Fin 256) (k : ℕ) (hk : k = (tile b j).val / 2) : k * 1 + 1 * 0 = b.val := by
  subst hk
  show (2 * b.val + j.val / 128) / 2 * 1 + 1 * 0 = b.val
  omega

theorem tile_col (b : Fin 4) (j : Fin 256) (n k : ℕ) (hk : k = n + (tile b j).val % 2) : k * 128 + 1 * (inTile j).val = n * 128 + j.val := by
  subst hk
  show (n + (2 * b.val + j.val / 128) % 2) * 128 + 1 * (j.val % 128) = n * 128 + j.val
  omega

theorem at0 (n k z : ℕ) (hz : z = 0) : z * n + 1 * k = k := by subst hz; omega

theorem rd0 (c : Dev nD) (b : Fin 4) (r : Fin 256) (j : Fin 256) : (iblk m c 0 (tile b j) : FVec Ideal S1x256x128 .bf16) (ValueIdx.ix3 (0 : Fin 1) r (inTile j))
    = (m ((c.tc : Thread nD τ).loc main_arg0) : FVec Ideal S4x256x3456 .bf16) (ValueIdx.ix3 b r (⟨1536 + j.val, by omega⟩ : Fin 3456)) := by
  refine Eq.trans (congrArg (V m c main_arg0) (funext fun a => Fin.ext ?_)) (congrFun (V_main_arg0 m c) _)
  have e := (ix_cols (tile b j)).1
  match a with
  | ⟨0, _⟩ => exact tile_batch b j _ e.1
  | ⟨1, _⟩ => exact at0 256 r.val _ e.2.1
  | ⟨2, _⟩ => exact tile_col b j 12 _ e.2.2

theorem rd1 (c : Dev nD) (b : Fin 4) (r : Fin 256) (j : Fin 256) : (iblk m c 1 (tile b j) : FVec Ideal S1x256x128 .bf16) (ValueIdx.ix3 (0 : Fin 1) r (inTile j))
    = (m ((c.tc : Thread nD τ).loc main_arg0) : FVec Ideal S4x256x3456 .bf16) (ValueIdx.ix3 b r (⟨1792 + j.val, by omega⟩ : Fin 3456)) := by
  refine Eq.trans (congrArg (V m c main_arg0) (funext fun a => Fin.ext ?_)) (congrFun (V_main_arg0 m c) _)
  have e := (ix_cols (tile b j)).2.1
  match a with
  | ⟨0, _⟩ => exact tile_batch b j _ e.1
  | ⟨1, _⟩ => exact at0 256 r.val _ e.2.1
  | ⟨2, _⟩ => exact tile_col b j 14 _ e.2.2

theorem rd2 (c : Dev nD) (b : Fin 4) (r : Fin 256) (j : Fin 256) : (iblk m c 2 (tile b j) : FVec Ideal S1x256x128 .bf16) (ValueIdx.ix3 (0 : Fin 1) r (inTile j))
    = (m ((c.tc : Thread nD τ).loc main_arg0) : FVec Ideal S4x256x3456 .bf16) (ValueIdx.ix3 b r (⟨2048 + j.val, by omega⟩ : Fin 3456)) := by
  refine Eq.trans (congrArg (V m c main_arg0) (funext fun a => Fin.ext ?_)) (congrFun (V_main_arg0 m c) _)
  have e := (ix_cols (tile b j)).2.2.1
  match a with
  | ⟨0, _⟩ => exact tile_batch b j _ e.1
  | ⟨1, _⟩ => exact at0 256 r.val _ e.2.1
  | ⟨2, _⟩ => exact tile_col b j 16 _ e.2.2

theorem rd3 (c : Dev nD) (b : Fin 4) (k : Fin 3) (j : Fin 256) : (iblk m c 3 (tile b j) : FVec Ideal S3x128 .f32) (ValueIdx.ix2 k (inTile j))
    = (m ((c.tc : Thread nD τ).loc main_arg1) : FVec Ideal S3x256 .f32) (ValueIdx.ix2 k j) := by
  refine Eq.trans (congrArg (V m c main_arg1) (funext fun a => Fin.ext ?_)) (congrFun (V_main_arg1 m c) _)
  have e := (ix_cols (tile b j)).2.2.2.1
  match a with
  | ⟨0, _⟩ => exact at0 3 k.val _ e.1
  | ⟨1, _⟩ => exact (tile_col b j 0 _ (e.2.trans (Nat.zero_add _).symm)).trans (by show 0 * 128 + j.val = j.val; omega)

theorem stored (c : Dev nD) (b : Fin 4) (r : Fin 256) (j : Fin 256) :
    out0_4 (F := Ideal) (iblk m c 0 (tile b j)) (iblk m c 1 (tile b j)) (iblk m c 2 (tile b j)) (iblk m c 3 (tile b j)) (ValueIdx.ix3 (0 : Fin 1) r (inTile j)) = val8 m c (ValueIdx.ix3 b r j) := by
  refine (out_apply _ _ _ _ r (inTile j)).trans ?_
  unfold val8 entry
  have e0 := funext fun i => rd0 m c b i j
  have e1 := funext fun i => rd1 m c b i j
  have e2 := funext fun i => rd2 m c b i j
  have e3 := funext fun k => rd3 m c b k j
  exact congrFun (congr (congr (congr (congrArg gated e0) e1) e2) e3) r

/-- The index of an entry's place in the array. -/
theorem place_eq (b : Fin 4) (r : Fin 256) (j : Fin 256) :
    (((cfg0.win 4).rect (tile b j)).emb (ValueIdx.ix3 (0 : Fin 1) r (inTile j) : S1x256x128.Idx) : S4x256x256.Idx) = ValueIdx.ix3 b r j := by
  funext a
  apply Fin.ext
  have e := (ix_cols (tile b j)).2.2.2.2
  match a with
  | ⟨0, _⟩ => exact tile_batch b j _ e.1
  | ⟨1, _⟩ => exact at0 256 r.val _ e.2.1
  | ⟨2, _⟩ => exact (tile_col b j 0 _ (e.2.2.trans (Nat.zero_add _).symm)).trans (by show 0 * 128 + j.val = j.val; omega)

theorem final (c : Dev nD) : (dats m 0 c).arrAt 4 cfg0.N = val8 m c := by
  refine funext fun (i : S4x256x256.Idx) => ?_
  obtain ⟨b, r, j, rfl⟩ : ∃ (b : Fin 4) (r : Fin 256) (j : Fin 256), i = ValueIdx.ix3 b r j := ⟨i 0, i 1, i 2, by funext a; match a with | ⟨0, _⟩ => rfl | ⟨1, _⟩ => rfl | ⟨2, _⟩ => rfl⟩
  have e := congrFun ((Value.blocks4 m c (tile b j) (flush0_4 (tile b j))).trans (Value.flushed4 m c (tile b j))) (ValueIdx.ix3 (0 : Fin 1) r (inTile j) : S1x256x128.Idx)
  refine (congrArg ((dats m 0 c).arrAt 4 cfg0.N) (place_eq b r j)).symm.trans ?_
  exact e.trans (stored m c b r j)

/-- The run, read: the result at `val8`, both arguments as they began. -/
theorem run_val8 (ρ : Dev nD → PrngReg) : θ_run defs (onTc (τ := τ) (main (F := Ideal))) ⟨m, fun _ => 0, ρ⟩ fun r => ∀ c : Dev nD,
      r.2.mem ((c.tc : Thread nD τ).loc main_v0) = val8 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => ⟨(hr c).1.trans (final m c), (hr c).2⟩) (Value.run_blocks m ρ)

end Cert.Kernel8Ideal.Hand

end
-- ==== Proof.ConvCtx.RefValue.lean ====
/-
  Hand-written, untrusted. THE EIGHTH REFERENCE'S RESULT read at an index at the ideal values: the gated sum of three shifted
  products.
-/
module

public import proofs.«01_k».proof.Proof.ConvCtx.Final
public import proofs.«01_k».proof.Proof.Gen.Reference8Ideal.Run
public import Idealize.ShloMosaic.Lib.Pointwise

@[expose] public section

noncomputable section

namespace Cert.Reference8Ideal.Hand

open Cert.Reference8Ideal Cert.Reference8Ideal.Gen Cert.Reference8Ideal.Value
open Idealize.ShloMosaic Idealize.ShloMosaic.StableHlo
open Cert.Kernel8Ideal.Hand (before gated entry)

/-- The product of the second and third parts, with a zero at each end. -/
def padded (u : FVec Ideal S4x256x256 .f32) : FVec Ideal S4x258x256 .f32 :=
  pad S4x258x256 ![0, 1, 0] ![0, 1, 0] ![0, 0, 0] u (sitofp .f32 (constantI S_ 32 0#32)) pads_S4x256x256_S4x258x256_000_110_000 h_S_

/-- Inside the padding, the product; in it, zero. -/
theorem padded_apply (u : FVec Ideal S4x256x256 .f32) (b : Fin 4) (r : Fin 258) (j : Fin 256) :
    padded u (ValueIdx.ix3 b r j) = if h : 1 ≤ r.val ∧ r.val - 1 < 256 then u (ValueIdx.ix3 b (⟨r.val - 1, h.2⟩ : Fin 256) j) else 0 := by
  unfold padded
  by_cases h : 1 ≤ r.val ∧ r.val - 1 < 256
  · rw [dif_pos h]
    refine pad_apply_of_inside (s := S4x256x256) (t := S4x258x256) _ _ _ u _ _ _ _ (ValueIdx.ix3 b (⟨r.val - 1, h.2⟩ : Fin 256) j) fun a => ?_
    match a with
    | ⟨0, _⟩ => show b.val = 0 + b.val * (0 + 1); omega
    | ⟨1, _⟩ => show r.val = 1 + (r.val - 1) * (0 + 1); omega
    | ⟨2, _⟩ => show j.val = 0 + j.val * (0 + 1); omega
  · rw [dif_neg h]
    refine (pad_apply_of_not_inside (s := S4x256x256) (t := S4x258x256) _ _ _ u _ _ _ _ (1 : Fin 3) fun hin => h ⟨hin.1, ?_⟩).trans ?_
    · have e : (r.val - 1) / (0 + 1) < 256 := hin.2.2
      omega
    · show ((((0#32 : BitVec 32).toInt : ℝ) : EReal)) = 0
      simp

/-- The three parts, the padded product and the three weights, put together. -/
def whole (p : FVec Ideal S4x256x3456 .bf16) (w : FVec Ideal S3x256 .f32) : FVec Ideal S4x256x256 .bf16 :=
  truncf .bf16 (mulf (extractStridedSlice S4x256x256 ![0, 0, 1536] (extf .f32 p bitsLt_bf16_f32) slices_S4x256x3456_S4x256x256_0_0_1536)
    (addf (addf
      (mulf (broadcastInDim S4x256x256 ![0, 1, 2] bcast_S1x1x256_S4x256x256_0_1_2 (broadcastInDim S1x1x256 ![2] bcast_S256_S1x1x256_2
          (shapeCast _ (extractStridedSlice S1x256 ![0, 0] w slices_S3x256_S1x256_0_0) shapeCasts_S1x256_S256)))
        (extractStridedSlice S4x256x256 ![0, 0, 0] (padded (mulf (extractStridedSlice S4x256x256 ![0, 0, 1792] (extf .f32 p bitsLt_bf16_f32) slices_S4x256x3456_S4x256x256_0_0_1792)
          (extractStridedSlice S4x256x256 ![0, 0, 2048] (extf .f32 p bitsLt_bf16_f32) slices_S4x256x3456_S4x256x256_0_0_2048))) slices_S4x258x256_S4x256x256_0_0_0))
      (mulf (broadcastInDim S4x256x256 ![0, 1, 2] bcast_S1x1x256_S4x256x256_0_1_2 (broadcastInDim S1x1x256 ![2] bcast_S256_S1x1x256_2
          (shapeCast _ (extractStridedSlice S1x256 ![1, 0] w slices_S3x256_S1x256_1_0) shapeCasts_S1x256_S256)))
        (extractStridedSlice S4x256x256 ![0, 1, 0] (padded (mulf (extractStridedSlice S4x256x256 ![0, 0, 1792] (extf .f32 p bitsLt_bf16_f32) slices_S4x256x3456_S4x256x256_0_0_1792)
          (extractStridedSlice S4x256x256 ![0, 0, 2048] (extf .f32 p bitsLt_bf16_f32) slices_S4x256x3456_S4x256x256_0_0_2048))) slices_S4x258x256_S4x256x256_0_1_0)))
      (mulf (broadcastInDim S4x256x256 ![0, 1, 2] bcast_S1x1x256_S4x256x256_0_1_2 (broadcastInDim S1x1x256 ![2] bcast_S256_S1x1x256_2
          (shapeCast _ (extractStridedSlice S1x256 ![2, 0] w slices_S3x256_S1x256_2_0) shapeCasts_S1x256_S256)))
        (extractStridedSlice S4x256x256 ![0, 2, 0] (padded (mulf (extractStridedSlice S4x256x256 ![0, 0, 1792] (extf .f32 p bitsLt_bf16_f32) slices_S4x256x3456_S4x256x256_0_0_1792)
          (extractStridedSlice S4x256x256 ![0, 0, 2048] (extf .f32 p bitsLt_bf16_f32) slices_S4x256x3456_S4x256x256_0_0_2048))) slices_S4x258x256_S4x256x256_0_2_0)))) bitsLt_bf16_f32

/-- The product's entry. -/
theorem prod_apply (p : FVec Ideal S4x256x3456 .bf16) (b : Fin 4) (r : Fin 256) (j : Fin 256) :
    (mulf (extractStridedSlice S4x256x256 ![0, 0, 1792] (extf .f32 p bitsLt_bf16_f32) slices_S4x256x3456_S4x256x256_0_0_1792)
      (extractStridedSlice S4x256x256 ![0, 0, 2048] (extf .f32 p bitsLt_bf16_f32) slices_S4x256x3456_S4x256x256_0_0_2048) : FVec Ideal S4x256x256 .f32) (ValueIdx.ix3 b r j)
      = p (ValueIdx.ix3 b r (⟨1792 + j.val, by omega⟩ : Fin 3456)) * p (ValueIdx.ix3 b r (⟨2048 + j.val, by omega⟩ : Fin 3456)) := by
  refine congrArg₂ (· * ·) ?_ ?_
  · refine (extractStridedSlice_apply (s := S4x256x3456) (t := S4x256x256) ![0, 0, 1792] _ _ _ (ValueIdx.ix3 b r (⟨1792 + j.val, by omega⟩ : Fin 3456)) fun a => ?_).trans rfl
    match a with
    | ⟨0, _⟩ => exact (Nat.zero_add _).symm
    | ⟨1, _⟩ => exact (Nat.zero_add _).symm
    | ⟨2, _⟩ => rfl
  · refine (extractStridedSlice_apply (s := S4x256x3456) (t := S4x256x256) ![0, 0, 2048] _ _ _ (ValueIdx.ix3 b r (⟨2048 + j.val, by omega⟩ : Fin 3456)) fun a => ?_).trans rfl
    match a with
    | ⟨0, _⟩ => exact (Nat.zero_add _).symm
    | ⟨1, _⟩ => exact (Nat.zero_add _).symm
    | ⟨2, _⟩ => rfl

/-- A weight's entry, spread over the batches and the positions. -/
theorem weight_apply (w : FVec Ideal S3x256 .f32) (k : Fin 3) (h : S3x256.Slices ![k.val, 0] S1x256) (b : Fin 4) (r : Fin 256) (j : Fin 256) :
    broadcastInDim S4x256x256 ![0, 1, 2] bcast_S1x1x256_S4x256x256_0_1_2 (broadcastInDim S1x1x256 ![2] bcast_S256_S1x1x256_2
      (shapeCast _ (extractStridedSlice S1x256 ![k.val, 0] w h) shapeCasts_S1x256_S256)) (ValueIdx.ix3 b r j) = w (ValueIdx.ix2 k j) := by
  refine (broadcastInDim_apply _ _ _ _ (ValueIdx.ix3 (0 : Fin 1) (0 : Fin 1) j) (fun a => by fin_cases a <;> rfl)).trans ?_
  refine (broadcastInDim_apply _ _ _ _ (ValueIdx.ix1 j) (fun a => by fin_cases a <;> rfl)).trans ?_
  refine (shapeCast_apply (s := S1x256) (t := S256) _ _ (ValueIdx.ix1 j) (ValueIdx.ix2 (0 : Fin 1) j) ?_).trans ?_
  · rw [Shape.rowMajor_val_one, Shape.rowMajor_val_two]
    show 0 * 256 + j.val = j.val
    omega
  · refine extractStridedSlice_apply (s := S3x256) (t := S1x256) _ _ _ _ (ValueIdx.ix2 k j) fun a => ?_
    match a with
    | ⟨0, _⟩ => rfl
    | ⟨1, _⟩ => exact (Nat.zero_add _).symm

/-- A window of the padded array. -/
theorem window_apply (x : FVec Ideal S4x258x256 .f32) (k : ℕ) (hk : k < 3) (h : S4x258x256.Slices ![0, k, 0] S4x256x256) (b : Fin 4) (r : Fin 256) (j : Fin 256) :
    extractStridedSlice S4x256x256 ![0, k, 0] x h (ValueIdx.ix3 b r j) = x (ValueIdx.ix3 b (⟨k + r.val, by omega⟩ : Fin 258) j) := by
  refine extractStridedSlice_apply (s := S4x258x256) (t := S4x256x256) _ _ _ _ (ValueIdx.ix3 b (⟨k + r.val, by omega⟩ : Fin 258) j) fun a => ?_
  match a with
  | ⟨0, _⟩ => exact (Nat.zero_add _).symm
  | ⟨1, _⟩ => rfl
  | ⟨2, _⟩ => exact (Nat.zero_add _).symm

theorem whole_apply (p : FVec Ideal S4x256x3456 .bf16) (w : FVec Ideal S3x256 .f32) (b : Fin 4) (r : Fin 256) (j : Fin 256) :
    whole p w (ValueIdx.ix3 b r j) = entry p w b r j := by
  have hr := r.isLt
  unfold whole entry gated
  refine congrArg₂ (· * ·) ?_ (congrArg₂ (· + ·) (congrArg₂ (· + ·) (congrArg₂ (· * ·) (weight_apply w 0 _ b r j) ?_) (congrArg₂ (· * ·) (weight_apply w 1 _ b r j) ?_))
    (congrArg₂ (· * ·) (weight_apply w 2 _ b r j) ?_))
  · refine (extractStridedSlice_apply (s := S4x256x3456) (t := S4x256x256) ![0, 0, 1536] _ _ _ (ValueIdx.ix3 b r (⟨1536 + j.val, by omega⟩ : Fin 3456)) fun a => ?_).trans rfl
    match a with
    | ⟨0, _⟩ => exact (Nat.zero_add _).symm
    | ⟨1, _⟩ => exact (Nat.zero_add _).symm
    | ⟨2, _⟩ => rfl
  · rw [window_apply _ 0 (by omega), padded_apply]
    unfold before
    by_cases h : r.val = 0
    · rw [dif_neg (fun e => by have e1 : 1 ≤ 0 + r.val := e.1; omega), dif_pos h]
    · rw [dif_pos (show 1 ≤ 0 + r.val ∧ 0 + r.val - 1 < 256 by omega), dif_neg h, prod_apply]
      have e : (⟨0 + r.val - 1, by omega⟩ : Fin 256) = ⟨r.val - 1, by omega⟩ := Fin.ext (by show 0 + r.val - 1 = r.val - 1; omega)
      exact congrArg (fun k : Fin 256 => p (ValueIdx.ix3 b k (⟨1792 + j.val, by omega⟩ : Fin 3456)) * p (ValueIdx.ix3 b k (⟨2048 + j.val, by omega⟩ : Fin 3456))) e
  · rw [window_apply _ 1 (by omega), padded_apply, dif_pos (show 1 ≤ 1 + r.val ∧ 1 + r.val - 1 < 256 by omega), prod_apply]
    have e : (⟨1 + r.val - 1, by omega⟩ : Fin 256) = r := Fin.ext (by show 1 + r.val - 1 = r.val; omega)
    exact congrArg (fun k : Fin 256 => p (ValueIdx.ix3 b k (⟨1792 + j.val, by omega⟩ : Fin 3456)) * p (ValueIdx.ix3 b k (⟨2048 + j.val, by omega⟩ : Fin 3456))) e
  · rw [window_apply _ 2 (by omega), padded_apply]
    unfold Cert.Kernel8Ideal.Hand.after
    by_cases h : r.val = 255
    · rw [dif_neg (fun e => by have e1 : 2 + r.val - 1 < 256 := e.2; omega), dif_pos h]
    · rw [dif_pos (show 1 ≤ 2 + r.val ∧ 2 + r.val - 1 < 256 by omega), dif_neg h, prod_apply]
      have e : (⟨2 + r.val - 1, by omega⟩ : Fin 256) = ⟨r.val + 1, by omega⟩ := Fin.ext (by show 2 + r.val - 1 = r.val + 1; omega)
      exact congrArg (fun k : Fin 256 => p (ValueIdx.ix3 b k (⟨1792 + j.val, by omega⟩ : Fin 3456)) * p (ValueIdx.ix3 b k (⟨2048 + j.val, by omega⟩ : Fin 3456))) e

end Cert.Reference8Ideal.Hand

end
-- ==== Proof.InProjCast.Value.lean ====
/-
  Hand-written, untrusted. WHAT ONE POINT OF THE FIRST LAYER'S INPUT PROJECTION STORES, read at an index at the ideal values:
  the second layer's block of results, and the two blocks of weights that it hands on.
-/
module

public import proofs.«01_k».proof.Proof.InProj.Value
public import proofs.«01_k».proof.Proof.Gen.Kernel9Ideal.Value

@[expose] public section

noncomputable section

namespace Cert.Kernel9Ideal.Hand

open Cert.Kernel9Ideal Cert.Kernel9Ideal.Gen
open Idealize.ShloMosaic

/-- A store of the whole block, of a function that the stored values are at every index. -/
theorem canon_one {s : Shape} (G : s.Idx → EReal) (L : List (View.Piece (Elt Ideal) s .bf16)) (y : s.Idx) (hc : ∃ p ∈ L, y ∈ p.1.set)
    (h : View.PiecesOf (Val := Elt Ideal) (e := .bf16) G L) : View.canon L y = G y :=
  (congrArg (fun L => View.canon L y) (List.append_nil L).symm).trans (View.canon_append_of_piecesOf (Val := Elt Ideal) (e := .bf16) G [] L h y hc)

section Point

variable (x0 : FVec Ideal S1024x1024 .f32) (x1 : FVec Ideal S1x1024 .f32) (x2 x3 : FVec Ideal S1x1x1024 .f32) (x4 : FVec Ideal S1024x3456 .bf16) (x5 x6 x7 : FVec Ideal S1024x128 .f32)
  (x8 : FVec Ideal S64x5632 .f32) (x9 : FVec Ideal S176x1024 .f32)

set_option maxHeartbeats 4000000 in
set_option maxRecDepth 8192 in
/-- The stores into the block of results are those of the second layer's call. -/
theorem out_eq : out0_10 (F := Ideal) x0 x1 x2 x3 x4 x5 x6 x7 x8 x9 = Cert.Kernel4Ideal.Gen.out0_8 (F := Ideal) x0 x1 x2 x3 x4 x5 x6 x7 := by
  unfold out0_10 Cert.Kernel4Ideal.Gen.out0_8
  rfl

theorem out_apply (y : S1024x3456.Idx) : out0_10 (F := Ideal) x0 x1 x2 x3 x4 x5 x6 x7 x8 x9 y = Cert.Kernel4Ideal.Hand.result x0 x1 x2 x3 x4 x5 x6 x7 y :=
  (congrFun (out_eq x0 x1 x2 x3 x4 x5 x6 x7 x8 x9) y).trans (Cert.Kernel4Ideal.Hand.out_apply x0 x1 x2 x3 x4 x5 x6 x7 y)

/-- The block of the first weights handed on is the block read. -/
theorem cast_first (y : S64x5632.Idx) : out0_11 (F := Ideal) x0 x1 x2 x3 x4 x5 x6 x7 x8 x9 y = x8 y := by
  unfold out0_11
  refine canon_one x8 _ y (cover0_11 _ y) ⟨fun x => ?_, trivial⟩
  rfl

/-- The block of the second weights handed on is the block read. -/
theorem cast_second (y : S176x1024.Idx) : out0_12 (F := Ideal) x0 x1 x2 x3 x4 x5 x6 x7 x8 x9 y = x9 y := by
  unfold out0_12
  refine canon_one x9 _ y (cover0_12 _ y) ⟨fun x => ?_, trivial⟩
  rfl

end Point

end Cert.Kernel9Ideal.Hand

end
-- ==== Proof.InProjCast.Final.lean ====
/-
  Hand-written, untrusted. WHAT THE FIRST LAYER'S INPUT PROJECTION CALL RETURNS, at an index of the arguments: the tables'
  layout and the windows' blocks read, the blocks of rows of the three results put together.
-/
module

public import proofs.«01_k».proof.Proof.InProjCast.Value
public import proofs.«01_k».proof.Proof.InProj.Final

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.StableHlo Idealize.SL.Sem
open Idealize.ShloMosaic.Pipeline (Dat)
open Cert.Kernel2Ideal.Hand (normed)
open Cert.Kernel4Ideal.Hand (stored angle upper lower batch site tokenProj tokenIn projRow Tab four twice mask zeros cos_apply upper_apply lower_apply inTile tile_row tile_batch tile_site at0)

variable (m : (ℓ : Loc nD τ sig) → Buf (Elt Ideal) ℓ)

/-- What the first result array is shown to hold. -/
def val9 (c : Dev nD) (i : S16384x3456.Idx) : EReal :=
  tokenIn (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (i 0) (i 1)

/-! ## The arrays that the host prepares -/

theorem host_w (c : Dev nD) : V m c main_v2 = truncf (F := Ideal) .bf16 (m ((c.tc : Thread nD τ).loc main_arg4) : FVec Ideal S1024x3456 .f32) bitsLt_bf16_f32 := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results_simp

theorem host_n (c : Dev nD) : V m c main_v11 = shapeCast S1x1024 (m ((c.tc : Thread nD τ).loc main_arg1) : FVec Ideal S1024 .f32) shapeCasts_S1024_S1x1024 := by
  show StableHlo.after (List.flatten [hostOps0, hostOps0_1, hostOps0_2, hostOps0_3, hostOps0_4]) (fun b => m (c, b)) (Proc.devRef .tc main_v11) = _
  simp only [hostOps0, hostOps0_1, hostOps0_2, hostOps0_3, hostOps0_4, List.flatten_cons, List.flatten_nil, List.append_nil, List.cons_append, List.nil_append]
  after_results_simp
  rfl

theorem host_cos (c : Dev nD) : V m c main_v8 = twice (four (m ((c.tc : Thread nD τ).loc main_arg5)) (m ((c.tc : Thread nD τ).loc main_arg7))) := by
  show StableHlo.after (List.flatten [hostOps0, hostOps0_1, hostOps0_2, hostOps0_3, hostOps0_4]) (fun b => m (c, b)) (Proc.devRef .tc main_v8) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

theorem host_upper (c : Dev nD) : V m c main_v9
    = twice (select (mask lit0) (four (m ((c.tc : Thread nD τ).loc main_arg6)) (m ((c.tc : Thread nD τ).loc main_arg8))) zeros) := by
  show StableHlo.after (List.flatten [hostOps0, hostOps0_1, hostOps0_2, hostOps0_3, hostOps0_4]) (fun b => m (c, b)) (Proc.devRef .tc main_v9) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

theorem host_lower (c : Dev nD) : V m c main_v10
    = twice (select (mask lit1) zeros (Host.negf (four (m ((c.tc : Thread nD τ).loc main_arg6)) (m ((c.tc : Thread nD τ).loc main_arg8))))) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

/-! ## The windows' index maps -/

theorem ix_row : ∀ t : Fin grid0.N, (cc0_transform_0 (grid0.coords t) 0 = t.val ∧ cc0_transform_0 (grid0.coords t) 1 = 0)
    ∧ (cc0_transform_10 (grid0.coords t) 0 = t.val ∧ cc0_transform_10 (grid0.coords t) 1 = 0) := by decide +kernel

theorem ix_mod : ∀ t : Fin grid0.N, (cc0_transform_2 (grid0.coords t) 0 = t.val / 4 ∧ cc0_transform_2 (grid0.coords t) 1 = 0 ∧ cc0_transform_2 (grid0.coords t) 2 = 0)
    ∧ (cc0_transform_3 (grid0.coords t) 0 = t.val / 4 ∧ cc0_transform_3 (grid0.coords t) 1 = 0 ∧ cc0_transform_3 (grid0.coords t) 2 = 0) := by decide +kernel

theorem ix_tab : ∀ t : Fin grid0.N, (cc0_transform_5 (grid0.coords t) 0 = t.val % 4 ∧ cc0_transform_5 (grid0.coords t) 1 = 0)
    ∧ (cc0_transform_6 (grid0.coords t) 0 = t.val % 4 ∧ cc0_transform_6 (grid0.coords t) 1 = 0)
    ∧ (cc0_transform_7 (grid0.coords t) 0 = t.val % 4 ∧ cc0_transform_7 (grid0.coords t) 1 = 0) := by decide +kernel

/-- The point that stores a row, and the row's place in its block. -/
def tile (r : Fin 16384) : Fin cfg0.N := ⟨r.val / 1024, by
  have h : cfg0.N = 16 := by decide
  rw [h]; have := r.isLt; omega⟩

/-! ## The windows' blocks at the point of a row -/

theorem rd0 (c : Dev nD) (r : Fin 16384) (k : Fin 1024) :
    (iblk m c 0 (tile r) : FVec Ideal S1024x1024 .f32) (ValueIdx.ix2 (inTile r) k) = (m ((c.tc : Thread nD τ).loc main_arg0) : FVec Ideal S16384x1024 .f32) (ValueIdx.ix2 r k) := by
  refine Eq.trans (congrArg (V m c main_arg0) (funext fun a => Fin.ext ?_)) (congrFun (V_main_arg0 m c) _)
  have e := (ix_row (tile r)).1
  match a with
  | ⟨0, _⟩ => exact tile_row r _ e.1
  | ⟨1, _⟩ => exact at0 1024 k.val _ e.2

theorem rd1 (c : Dev nD) (r : Fin 16384) (k : Fin 1024) :
    (iblk m c 1 (tile r) : FVec Ideal S1x1024 .f32) (ValueIdx.ix2 (0 : Fin 1) k) = (m ((c.tc : Thread nD τ).loc main_arg1) : FVec Ideal S1024 .f32) (ValueIdx.ix1 k) := by
  refine Eq.trans (congrArg (V m c main_v11) (funext fun a => Fin.ext ?_)) ((congrFun (host_n m c) (ValueIdx.ix2 (0 : Fin 1) k)).trans ?_)
  · match a with
    | ⟨0, _⟩ => exact at0 1 0 _ rfl
    | ⟨1, _⟩ => exact at0 1024 k.val _ rfl
  · pointwise
    try rfl

theorem rd2 (c : Dev nD) (r : Fin 16384) (k : Fin 1024) :
    (iblk m c 2 (tile r) : FVec Ideal S1x1x1024 .f32) (ValueIdx.ix3 (0 : Fin 1) (0 : Fin 1) k) = (m ((c.tc : Thread nD τ).loc main_arg2) : FVec Ideal S4x1x1024 .f32) (ValueIdx.ix3 (batch r) (0 : Fin 1) k) := by
  refine Eq.trans (congrArg (V m c main_arg2) (funext fun a => Fin.ext ?_)) (congrFun (V_main_arg2 m c) _)
  have e := (ix_mod (tile r)).1
  match a with
  | ⟨0, _⟩ => exact tile_batch r _ e.1
  | ⟨1, _⟩ => exact at0 1 0 _ e.2.1
  | ⟨2, _⟩ => exact at0 1024 k.val _ e.2.2

theorem rd3 (c : Dev nD) (r : Fin 16384) (k : Fin 1024) :
    (iblk m c 3 (tile r) : FVec Ideal S1x1x1024 .f32) (ValueIdx.ix3 (0 : Fin 1) (0 : Fin 1) k) = (m ((c.tc : Thread nD τ).loc main_arg3) : FVec Ideal S4x1x1024 .f32) (ValueIdx.ix3 (batch r) (0 : Fin 1) k) := by
  refine Eq.trans (congrArg (V m c main_arg3) (funext fun a => Fin.ext ?_)) (congrFun (V_main_arg3 m c) _)
  have e := (ix_mod (tile r)).2
  match a with
  | ⟨0, _⟩ => exact tile_batch r _ e.1
  | ⟨1, _⟩ => exact at0 1 0 _ e.2.1
  | ⟨2, _⟩ => exact at0 1024 k.val _ e.2.2

theorem rd4 (c : Dev nD) (r : Fin 16384) (i : Fin 1024) (k : Fin 3456) :
    (iblk m c 4 (tile r) : FVec Ideal S1024x3456 .bf16) (ValueIdx.ix2 i k) = (m ((c.tc : Thread nD τ).loc main_arg4) : FVec Ideal S1024x3456 .f32) (ValueIdx.ix2 i k) := by
  refine Eq.trans (congrArg (V m c main_v2) (funext fun a => Fin.ext ?_)) (congrFun (host_w m c) (ValueIdx.ix2 i k))
  match a with
  | ⟨0, _⟩ => exact at0 1024 i.val _ rfl
  | ⟨1, _⟩ => exact at0 3456 k.val _ rfl

theorem rd5 (c : Dev nD) (r : Fin 16384) (l : Fin 128) :
    (iblk m c 5 (tile r) : FVec Ideal S1024x128 .f32) (ValueIdx.ix2 (inTile r) l)
      = angle (fun q => (m ((c.tc : Thread nD τ).loc main_arg5) : Tab) (ValueIdx.ix2 (site r) q)) (fun q => (m ((c.tc : Thread nD τ).loc main_arg7) : Tab) (ValueIdx.ix2 (site r) q)) l := by
  refine Eq.trans (congrArg (V m c main_v8) (funext fun a => Fin.ext ?_)) ((congrFun (host_cos m c) (ValueIdx.ix2 (site r) l)).trans (cos_apply _ _ (site r) l))
  have e := (ix_tab (tile r)).1
  match a with
  | ⟨0, _⟩ => exact tile_site r _ e.1
  | ⟨1, _⟩ => exact at0 128 l.val _ e.2

theorem rd6 (c : Dev nD) (r : Fin 16384) (l : Fin 128) :
    (iblk m c 6 (tile r) : FVec Ideal S1024x128 .f32) (ValueIdx.ix2 (inTile r) l)
      = upper (angle (fun q => (m ((c.tc : Thread nD τ).loc main_arg6) : Tab) (ValueIdx.ix2 (site r) q)) (fun q => (m ((c.tc : Thread nD τ).loc main_arg8) : Tab) (ValueIdx.ix2 (site r) q))) l := by
  refine Eq.trans (congrArg (V m c main_v9) (funext fun a => Fin.ext ?_)) ((congrFun (host_upper m c) (ValueIdx.ix2 (site r) l)).trans (upper_apply _ _ (site r) l))
  have e := (ix_tab (tile r)).2.1
  match a with
  | ⟨0, _⟩ => exact tile_site r _ e.1
  | ⟨1, _⟩ => exact at0 128 l.val _ e.2

theorem rd7 (c : Dev nD) (r : Fin 16384) (l : Fin 128) :
    (iblk m c 7 (tile r) : FVec Ideal S1024x128 .f32) (ValueIdx.ix2 (inTile r) l)
      = lower (angle (fun q => (m ((c.tc : Thread nD τ).loc main_arg6) : Tab) (ValueIdx.ix2 (site r) q)) (fun q => (m ((c.tc : Thread nD τ).loc main_arg8) : Tab) (ValueIdx.ix2 (site r) q))) l := by
  refine Eq.trans (congrArg (V m c main_v10) (funext fun a => Fin.ext ?_)) ((congrFun (host_lower m c) (ValueIdx.ix2 (site r) l)).trans (lower_apply _ _ (site r) l))
  have e := (ix_tab (tile r)).2.2
  match a with
  | ⟨0, _⟩ => exact tile_site r _ e.1
  | ⟨1, _⟩ => exact at0 128 l.val _ e.2

/-! ## The result -/

/-- What the point of row `r` stores at that row. -/
theorem stored_at (c : Dev nD) (r : Fin 16384) (j : Fin 3456) :
    out0_10 (F := Ideal) (iblk m c 0 (tile r)) (iblk m c 1 (tile r)) (iblk m c 2 (tile r)) (iblk m c 3 (tile r)) (iblk m c 4 (tile r)) (iblk m c 5 (tile r)) (iblk m c 6 (tile r))
      (iblk m c 7 (tile r)) (iblk m c 8 (tile r)) (iblk m c 9 (tile r)) (ValueIdx.ix2 (inTile r) j) = val9 m c (ValueIdx.ix2 r j) := by
  refine (out_apply _ _ _ _ _ _ _ _ _ _ (ValueIdx.ix2 (inTile r) j)).trans ?_
  have e0 := funext (rd0 m c r)
  have e1 := funext (rd1 m c r)
  have e2 := funext (rd2 m c r)
  have e3 := funext (rd3 m c r)
  have en := congr (congr (congr (congrArg normed e0) e1) e2) e3
  have ep : projRow (iblk m c 0 (tile r)) (iblk m c 1 (tile r)) (iblk m c 2 (tile r)) (iblk m c 3 (tile r)) (iblk m c 4 (tile r)) (inTile r)
      = tokenProj (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) r :=
    funext fun J => Finset.sum_congr rfl fun k _ => congrArg₂ (· * ·) (congrFun en k) (rd4 m c r k J)
  have e5 := funext (rd5 m c r)
  have e6 := funext (rd6 m c r)
  have e7 := funext (rd7 m c r)
  exact congrFun (congr (congr (congr (congrArg stored ep) e5) e6) e7) j

/-- The index of row `r`'s place in the array. -/
theorem place_eq (r : Fin 16384) (j : Fin 3456) :
    (((cfg0.win 10).rect (tile r)).emb (ValueIdx.ix2 (inTile r) j : S1024x3456.Idx) : S16384x3456.Idx) = ValueIdx.ix2 r j := by
  funext a
  apply Fin.ext
  have e := (ix_row (tile r)).2
  match a with
  | ⟨0, _⟩ => exact tile_row r _ e.1
  | ⟨1, _⟩ => exact at0 3456 j.val _ e.2

theorem final (c : Dev nD) : (dats m 0 c).arrAt 10 cfg0.N = val9 m c := by
  refine funext fun (i : S16384x3456.Idx) => ?_
  obtain ⟨r, j, rfl⟩ : ∃ (r : Fin 16384) (j : Fin 3456), i = ValueIdx.ix2 r j := ⟨i 0, i 1, ValueIdx.eq_ix2 i⟩
  have e := congrFun ((Value.blocks10 m c (tile r) (flush0_10 (tile r))).trans (Value.flushed10 m c (tile r))) (ValueIdx.ix2 (inTile r) j : S1024x3456.Idx)
  refine (congrArg ((dats m 0 c).arrAt 10 cfg0.N) (place_eq r j)).symm.trans ?_
  exact e.trans (stored_at m c r j)

/-! ## The weights handed on -/

/-- What the second and the third result arrays are shown to hold. -/
def valFirst (c : Dev nD) (i : S1024x5632.Idx) : EReal := (m ((c.tc : Thread nD τ).loc main_arg9) : FVec Ideal S1024x5632 .f32) i
def valSecond (c : Dev nD) (i : S2816x1024.Idx) : EReal := (m ((c.tc : Thread nD τ).loc main_arg10) : FVec Ideal S2816x1024 .f32) i

theorem ix_cast : ∀ t : Fin grid0.N, ((cc0_transform_8 (grid0.coords t) 0 = t.val ∧ cc0_transform_8 (grid0.coords t) 1 = 0)
    ∧ (cc0_transform_11 (grid0.coords t) 0 = t.val ∧ cc0_transform_11 (grid0.coords t) 1 = 0))
    ∧ ((cc0_transform_9 (grid0.coords t) 0 = t.val ∧ cc0_transform_9 (grid0.coords t) 1 = 0)
    ∧ (cc0_transform_12 (grid0.coords t) 0 = t.val ∧ cc0_transform_12 (grid0.coords t) 1 = 0)) := by decide +kernel

/-- The point that stores a row of the first weights, and the row's place in its block. -/
def tileFirst (r : Fin 1024) : Fin cfg0.N := ⟨r.val / 64, by
  have h : cfg0.N = 16 := by decide
  rw [h]; have := r.isLt; omega⟩
def inFirst (r : Fin 1024) : Fin 64 := ⟨r.val % 64, Nat.mod_lt _ (by decide)⟩

theorem rowFirst (r : Fin 1024) (k : ℕ) (hk : k = (tileFirst r).val) : k * 64 + 1 * (inFirst r).val = r.val := by
  subst hk
  show r.val / 64 * 64 + 1 * (r.val % 64) = r.val
  omega

theorem readFirst (c : Dev nD) (r : Fin 1024) (j : Fin 5632) :
    (iblk m c 8 (tileFirst r) : FVec Ideal S64x5632 .f32) (ValueIdx.ix2 (inFirst r) j) = valFirst m c (ValueIdx.ix2 r j) := by
  refine Eq.trans (congrArg (V m c main_arg9) (funext fun a => Fin.ext ?_)) (congrFun (V_main_arg9 m c) _)
  have e := (ix_cast (tileFirst r)).1.1
  match a with
  | ⟨0, _⟩ => exact rowFirst r _ e.1
  | ⟨1, _⟩ => exact at0 5632 j.val _ e.2

theorem placeFirst (r : Fin 1024) (j : Fin 5632) :
    (((cfg0.win 11).rect (tileFirst r)).emb (ValueIdx.ix2 (inFirst r) j : S64x5632.Idx) : S1024x5632.Idx) = ValueIdx.ix2 r j := by
  funext a
  apply Fin.ext
  have e := (ix_cast (tileFirst r)).1.2
  match a with
  | ⟨0, _⟩ => exact rowFirst r _ e.1
  | ⟨1, _⟩ => exact at0 5632 j.val _ e.2

theorem finalFirst (c : Dev nD) : (dats m 0 c).arrAt 11 cfg0.N = valFirst m c := by
  refine funext fun (i : S1024x5632.Idx) => ?_
  obtain ⟨r, j, rfl⟩ : ∃ (r : Fin 1024) (j : Fin 5632), i = ValueIdx.ix2 r j := ⟨i 0, i 1, ValueIdx.eq_ix2 i⟩
  have e := congrFun ((Value.blocks11 m c (tileFirst r) (flush0_11 (tileFirst r))).trans (Value.flushed11 m c (tileFirst r))) (ValueIdx.ix2 (inFirst r) j : S64x5632.Idx)
  refine (congrArg ((dats m 0 c).arrAt 11 cfg0.N) (placeFirst r j)).symm.trans ?_
  exact (e.trans (cast_first _ _ _ _ _ _ _ _ _ _ (ValueIdx.ix2 (inFirst r) j))).trans (readFirst m c r j)

/-- The point that stores a row of the second weights, and the row's place in its block. -/
def tileSecond (r : Fin 2816) : Fin cfg0.N := ⟨r.val / 176, by
  have h : cfg0.N = 16 := by decide
  rw [h]; have := r.isLt; omega⟩
def inSecond (r : Fin 2816) : Fin 176 := ⟨r.val % 176, Nat.mod_lt _ (by decide)⟩

theorem rowSecond (r : Fin 2816) (k : ℕ) (hk : k = (tileSecond r).val) : k * 176 + 1 * (inSecond r).val = r.val := by
  subst hk
  show r.val / 176 * 176 + 1 * (r.val % 176) = r.val
  omega

theorem readSecond (c : Dev nD) (r : Fin 2816) (j : Fin 1024) :
    (iblk m c 9 (tileSecond r) : FVec Ideal S176x1024 .f32) (ValueIdx.ix2 (inSecond r) j) = valSecond m c (ValueIdx.ix2 r j) := by
  refine Eq.trans (congrArg (V m c main_arg10) (funext fun a => Fin.ext ?_)) (congrFun (V_main_arg10 m c) _)
  have e := (ix_cast (tileSecond r)).2.1
  match a with
  | ⟨0, _⟩ => exact rowSecond r _ e.1
  | ⟨1, _⟩ => exact at0 1024 j.val _ e.2

theorem placeSecond (r : Fin 2816) (j : Fin 1024) :
    (((cfg0.win 12).rect (tileSecond r)).emb (ValueIdx.ix2 (inSecond r) j : S176x1024.Idx) : S2816x1024.Idx) = ValueIdx.ix2 r j := by
  funext a
  apply Fin.ext
  have e := (ix_cast (tileSecond r)).2.2
  match a with
  | ⟨0, _⟩ => exact rowSecond r _ e.1
  | ⟨1, _⟩ => exact at0 1024 j.val _ e.2

theorem finalSecond (c : Dev nD) : (dats m 0 c).arrAt 12 cfg0.N = valSecond m c := by
  refine funext fun (i : S2816x1024.Idx) => ?_
  obtain ⟨r, j, rfl⟩ : ∃ (r : Fin 2816) (j : Fin 1024), i = ValueIdx.ix2 r j := ⟨i 0, i 1, ValueIdx.eq_ix2 i⟩
  have e := congrFun ((Value.blocks12 m c (tileSecond r) (flush0_12 (tileSecond r))).trans (Value.flushed12 m c (tileSecond r))) (ValueIdx.ix2 (inSecond r) j : S176x1024.Idx)
  refine (congrArg ((dats m 0 c).arrAt 12 cfg0.N) (placeSecond r j)).symm.trans ?_
  exact (e.trans (cast_second _ _ _ _ _ _ _ _ _ _ (ValueIdx.ix2 (inSecond r) j))).trans (readSecond m c r j)

/-- The run, read: the results at `val9`, `valFirst` and `valSecond`, every argument as it began. -/
theorem run_val9 (ρ : Dev nD → PrngReg) : θ_run defs (onTc (τ := τ) (main (F := Ideal))) ⟨m, fun _ => 0, ρ⟩ fun r => ∀ c : Dev nD,
      r.2.mem ((c.tc : Thread nD τ).loc main_v12_0) = val9 m c
      ∧ r.2.mem ((c.tc : Thread nD τ).loc main_v12_1) = valFirst m c
      ∧ r.2.mem ((c.tc : Thread nD τ).loc main_v12_2) = valSecond m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => ⟨(hr c).1.trans (final m c), (hr c).2.1.trans (finalFirst m c), (hr c).2.2.1.trans (finalSecond m c), (hr c).2.2.2⟩) (Value.run_blocks m ρ)

end Cert.Kernel9Ideal.Hand

end
-- ==== Proof.InProjCast.RefValue.lean ====
/-
  Hand-written, untrusted. THE NINTH REFERENCE'S FIRST RESULT read at an index at the ideal values: the lines are those of the
  fourth reference, and so are the laws of its pieces.
-/
module

public import proofs.«01_k».proof.Proof.InProj.RefValue
public import proofs.«01_k».proof.Proof.Gen.Reference9Ideal.Run

@[expose] public section

noncomputable section

namespace Cert.Reference9Ideal.Hand

open Cert.Reference9Ideal Cert.Reference9Ideal.Gen Cert.Reference9Ideal.Value
open Idealize.ShloMosaic Idealize.ShloMosaic.StableHlo
open Cert.Kernel2Ideal.Hand (normed scaled)
open Cert.Kernel4Ideal.Hand (stored batch site tokenProj tokenIn)
open Cert.Reference4Ideal.Hand (tokens modulated opened whole tokens_apply modulated_apply opened_apply whole_apply)

theorem result_eq (m : (ℓ : Loc nD τ sig) → Buf (Elt Ideal) ℓ) (c : Dev nD) (p : FVec Ideal S4x4096x3456 .f32)
    (e : p = opened (modulated (tokens (m ((c.tc : Thread nD τ).loc main_arg0))) (m ((c.tc : Thread nD τ).loc main_arg1)) (m ((c.tc : Thread nD τ).loc main_arg2)) (m ((c.tc : Thread nD τ).loc main_arg3)))
      (m ((c.tc : Thread nD τ).loc main_arg4))) :
    res_main_v119 (F := Ideal) m c = truncf (F := Ideal) .bf16 (shapeCast S16384x3456 (whole p (m ((c.tc : Thread nD τ).loc main_arg5)) (m ((c.tc : Thread nD τ).loc main_arg6))
      (m ((c.tc : Thread nD τ).loc main_arg7)) (m ((c.tc : Thread nD τ).loc main_arg8))) shapeCasts_S4x4096x3456_S16384x3456) bitsLt_bf16_f32 := by
  subst e
  rfl

/-- A row of the reference's result. -/
theorem result_apply (m : (ℓ : Loc nD τ sig) → Buf (Elt Ideal) ℓ) (c : Dev nD) (r : Fin 16384) (J : Fin 3456) :
    res_main_v119 (F := Ideal) m c (ValueIdx.ix2 r J)
      = tokenIn (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) r J := by
  rw [result_eq m c _ rfl]
  unfold tokenIn
  show shapeCast S16384x3456 (whole _ _ _ _ _) _ (ValueIdx.ix2 r J) = _
  refine (shapeCast_apply (s := S4x4096x3456) (t := S16384x3456) _ _ (ValueIdx.ix2 r J) (ValueIdx.ix3 (batch r) (site r) J) ?_).trans ?_
  · rw [Shape.rowMajor_val_three, Shape.rowMajor_val_two]
    show (r.val / 4096 * 4096 + r.val % 4096) * 3456 + J.val = r.val * 3456 + J.val
    omega
  · refine (whole_apply _ _ _ _ _ (batch r) (site r) J).trans (congrArg (fun f => stored f _ _ _ J) (funext fun K => ?_))
    refine (opened_apply _ _ _ _ K).trans ?_
    unfold tokenProj
    refine Finset.sum_congr rfl fun k _ => congrArg₂ (· * ·) ((modulated_apply _ _ _ _ _ _ k).trans ?_) rfl
    exact congrArg (fun f => normed f _ _ _ k) (funext fun k => tokens_apply _ r k)

end Cert.Reference9Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_expert_ids
public import proofs.«01_k».proof.Proof.Gen.Pre_finite_qk
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Value
public import proofs.«01_k».proof.Proof.Gen.Reference9Ideal
public import proofs.«01_k».proof.Proof.Gen.Reference9Ideal.Run
public import proofs.«01_k».proof.Proof.Experts.Ok
public import proofs.«01_k».proof.Proof.Experts.Final
public import proofs.«01_k».proof.Proof.Experts.RefValue
public import proofs.«01_k».proof.Proof.Ffn.Final
public import proofs.«01_k».proof.Proof.Ffn.RefValue
public import proofs.«01_k».proof.Proof.Conv.Final
public import proofs.«01_k».proof.Proof.Conv.RefValue
public import proofs.«01_k».proof.Proof.InProj.Final
public import proofs.«01_k».proof.Proof.InProj.RefValue
public import proofs.«01_k».proof.Proof.CtxAttn.Final
public import proofs.«01_k».proof.Proof.CtxAttn.RefValue
public import proofs.«01_k».proof.Proof.InProjCtx.Final
public import proofs.«01_k».proof.Proof.InProjCtx.RefValue
public import proofs.«01_k».proof.Proof.FfnCtx.Final
public import proofs.«01_k».proof.Proof.FfnCtx.RefValue
public import proofs.«01_k».proof.Proof.ConvCtx.Final
public import proofs.«01_k».proof.Proof.ConvCtx.RefValue
public import proofs.«01_k».proof.Proof.InProjCast.Final
public import proofs.«01_k».proof.Proof.InProjCast.RefValue
public import Idealize.ShloMosaic.Adequacy
public import Idealize.ShloMosaic.Init

@[expose] public section

noncomputable section

namespace Cert.Proof

open Idealize.ShloMosaic Idealize.SL.Sem Cert.Kernel

local instance : Cert.Pre_expert_ids.Facts := Cert.Pre_expert_ids.Gen.facts
local instance : Cert.Pre_finite_qk.Facts := Cert.Pre_finite_qk.Gen.facts
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Kernel5.Facts := Cert.Kernel5.Gen.facts
local instance : Cert.Kernel5Ideal.Facts := Cert.Kernel5Ideal.Gen.facts
local instance : Cert.Reference5Ideal.Facts := Cert.Reference5Ideal.Gen.facts
local instance : Cert.Kernel6.Facts := Cert.Kernel6.Gen.facts
local instance : Cert.Kernel6Ideal.Facts := Cert.Kernel6Ideal.Gen.facts
local instance : Cert.Reference6Ideal.Facts := Cert.Reference6Ideal.Gen.facts
local instance : Cert.Kernel7.Facts := Cert.Kernel7.Gen.facts
local instance : Cert.Kernel7Ideal.Facts := Cert.Kernel7Ideal.Gen.facts
local instance : Cert.Reference7Ideal.Facts := Cert.Reference7Ideal.Gen.facts
local instance : Cert.Kernel8.Facts := Cert.Kernel8.Gen.facts
local instance : Cert.Kernel8Ideal.Facts := Cert.Kernel8Ideal.Gen.facts
local instance : Cert.Reference8Ideal.Facts := Cert.Reference8Ideal.Gen.facts
local instance : Cert.Kernel9.Facts := Cert.Kernel9.Gen.facts
local instance : Cert.Kernel9Ideal.Facts := Cert.Kernel9Ideal.Gen.facts
local instance : Cert.Reference9Ideal.Facts := Cert.Reference9Ideal.Gen.facts

theorem ok_bits (m : (ℓ : Loc Cert.Kernel.nD Cert.Kernel.τ Cert.Kernel.sig) → Buf (Elt Bits) ℓ) (h : Cert.Pre_Kernel m) :
    Cert.KernelIdeal.Hand.Ok (F := Bits) m :=
  Cert.KernelIdeal.Hand.ok_of_lt (F := Bits) m fun j => Cert.KernelIdeal.Hand.id_lt (F := Bits) _ _ _ _ _ (h 0) j

theorem ok_ideal (m : (ℓ : Loc Cert.KernelIdeal.nD Cert.KernelIdeal.τ Cert.KernelIdeal.sig) → Buf (Elt Ideal) ℓ) (h : Cert.Pre_KernelIdeal m) :
    Cert.KernelIdeal.Hand.Ok (F := Ideal) m :=
  Cert.KernelIdeal.Hand.ok_of_lt (F := Ideal) m fun j => Cert.KernelIdeal.Hand.id_lt (F := Ideal) _ _ _ _ _ (h 0) j

/-- The two programs' body tables are one. -/
theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  obtain ⟨_ | n, h⟩ := l
  · rfl
  · exact absurd h (Nat.not_lt.2 (Nat.le_add_left _ _))

theorem defs_eq : Cert.Kernel.defs (F := Bits) = Cert.KernelIdeal.defs (F := Bits) :=
  congrArg (Pipeline.defs Cert.KernelIdeal.pcfgs) defs0_eq

theorem frame_kernel : Cert.quiescent_Kernel := by
  intro m ρ h
  rw [defs_eq]
  exact Cert.KernelIdeal.Hand.frame_run (F := Bits) m ρ (ok_bits m h)

theorem frame_kernelIdeal : Cert.quiescent_KernelIdeal := fun m ρ h =>
  Cert.KernelIdeal.Hand.frame_run (F := Ideal) m ρ (ok_ideal m h)

theorem frame_reference : Cert.quiescent_ReferenceIdeal := fun m ρ _ =>
  (θ_run Cert.ReferenceIdeal.defs _ _).mono (fun r hr => ⟨fun c => (hr c).2, Idealize.ShloMosaic.sem_eq_zero_of_no_sems (by decide) r.2⟩)
    (Cert.ReferenceIdeal.Value.run (F := Ideal) m ρ)

theorem frame_reference_pre : Cert.quiescent_ReferenceIdeal_pre_expert_ids := fun m ρ _ => frame_reference m ρ trivial

open Cert.KernelIdeal.Hand (T1 T2 V val) in
/-- Row for row, the reference's result is what the call leaves. -/
theorem values_eq (m : (ℓ : Loc Cert.KernelIdeal.nD Cert.KernelIdeal.τ Cert.KernelIdeal.sig) → Buf (Elt Ideal) ℓ) (h : Cert.Pre_KernelIdeal m)
    (V0 : Idealize.ShloMosaic.Valuation Cert.ReferenceIdeal.τ Cert.ReferenceIdeal.sig (Elt Ideal)) (c : Dev Cert.KernelIdeal.nD)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4)) :
    Cert.ReferenceIdeal.Value.val3 (F := Ideal) V0 (Proc.devRef .tc Cert.ReferenceIdeal.main_v146) = val m (ok_ideal m h) c := by
  have hlt : ∀ j, (T1 m 0 j : BitVec 32).toNat < 8 := fun j => Cert.KernelIdeal.Hand.id_lt (F := Ideal) _ _ _ _ _ (h 0) j
  obtain rfl : c = 0 := Subsingleton.elim _ _
  refine funext fun (i : Cert.KernelIdeal.S36864x1024.Idx) => ?_
  obtain ⟨r, j, rfl⟩ : ∃ (r : Fin 36864) (j : Fin 1024), i = ValueIdx.ix2 r j := ⟨i 0, i 1, by funext a; fin_cases a <;> rfl⟩
  have hr := r.isLt
  have hid : Cert.ReferenceIdeal.Hand.ids V0 = T1 m 0 := h1
  have hus : Cert.ReferenceIdeal.Hand.used V0 = T2 m 0 := h2
  have hl : (Cert.ReferenceIdeal.Hand.ids V0 (ValueIdx.ix1 (⟨r.val / 512, by omega⟩ : Fin 72))).toNat < 8 := by rw [hid]; exact hlt _
  refine (Cert.ReferenceIdeal.Hand.result_apply V0 r j hl).trans ?_
  have hrow : Cert.ReferenceIdeal.Hand.row (Cert.ReferenceIdeal.Value.res_main_v0 V0) r = Cert.KernelIdeal.Hand.slotRow m 0 r := by
    funext k
    exact (Cert.ReferenceIdeal.Hand.row_apply V0 r k).trans (congrFun h0 _)
  split
  · rename_i hu
    rw [Cert.KernelIdeal.Hand.val_used m (ok_ideal m h) hlt 0 r j (by rw [hus] at hu; exact hu), hrow, h3, h4]
    unfold Cert.ReferenceIdeal.Hand.wIn Cert.ReferenceIdeal.Hand.wOut
    have hbe : (⟨(Cert.ReferenceIdeal.Hand.ids V0 (ValueIdx.ix1 (⟨r.val / 512, by omega⟩ : Fin 72))).toNat, hl⟩ : Fin 8) = ⟨(Cert.KernelIdeal.Hand.beOf m r).toNat, hlt _⟩ :=
      Fin.ext (congrArg BitVec.toNat (congrFun hid _))
    rw [hbe]
  · rename_i hu
    exact (Cert.KernelIdeal.Hand.val_unused m (ok_ideal m h) 0 r j (by rw [hus] at hu; exact hu)).symm

theorem algebraic : Cert.algebraic_KernelIdeal_ReferenceIdeal := by
  intro m g m' g' h hargs
  refine ⟨Cert.KernelIdeal.Hand.val m (ok_ideal m h), ?_, ?_⟩
  · exact Cert.KernelIdeal.Hand.run_val m g (ok_ideal m h)
  · refine (θ_run Cert.ReferenceIdeal.defs _ _).mono (fun r hr c => ⟨?_, (hr c).2⟩) (Cert.ReferenceIdeal.Value.run (F := Ideal) m' g')
    refine (hr c).1.trans ((Cert.ReferenceIdeal.Value.val3_main_v146 (Idealize.ShloMosaic.StableHlo.launchContents m' c)).symm.trans ?_)
    exact values_eq m h _ c (hargs c).1 (hargs c).2.1 (hargs c).2.2.1 (hargs c).2.2.2.1 (hargs c).2.2.2.2

/-! ## The output projection and feed-forward call -/

/-- Its two programs' body tables are one. -/
theorem defs0_eq2 : Cert.Kernel2.defs₀ (F := Bits) = Cert.Kernel2Ideal.defs₀ (F := Bits) := by
  unfold Cert.Kernel2.defs₀ Cert.Kernel2Ideal.defs₀
  refine congrArg Defs.onTc (funext fun l => funext fun x => ?_)
  obtain ⟨_ | n, h⟩ := l
  · rfl
  · exact absurd h (Nat.not_lt.2 (Nat.le_add_left _ _))

theorem defs_eq2 : Cert.Kernel2.defs (F := Bits) = Cert.Kernel2Ideal.defs (F := Bits) :=
  congrArg (Pipeline.defs Cert.Kernel2Ideal.pcfgs) defs0_eq2

theorem frame_kernel2 : Cert.quiescent_Kernel2 := by
  intro m ρ _
  rw [defs_eq2]
  exact Cert.Kernel2Ideal.Gen.frame (F := Bits) m ρ

theorem frame_kernel2Ideal : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r hr => ⟨fun c => (hr c).2, Idealize.ShloMosaic.sem_eq_zero_of_no_sems (by decide) r.2⟩)
    (Cert.Reference2Ideal.Value.run (F := Ideal) m ρ)

theorem algebraic2 : Cert.algebraic_Kernel2Ideal_Reference2Ideal := by
  intro m g m' g' _ hargs
  refine ⟨Cert.Kernel2Ideal.Hand.val2 m, Cert.Kernel2Ideal.Hand.run_val2 m g, ?_⟩
  refine (θ_run Cert.Reference2Ideal.defs _ _).mono (fun r hr c => ⟨(hr c).1.trans ?_, (hr c).2⟩) (Cert.Reference2Ideal.Value.run (F := Ideal) m' g')
  obtain ⟨h0, h1, h2, h3, h4, h5, h6, h7, h8, h9, h10, h11⟩ := hargs c
  refine funext fun (i : Cert.Kernel2Ideal.S16384x1024.Idx) => ?_
  obtain ⟨r, j, rfl⟩ : ∃ (r : Fin 16384) (j : Fin 1024), i = ValueIdx.ix2 r j := ⟨i 0, i 1, by funext a; fin_cases a <;> rfl⟩
  refine (Cert.Reference2Ideal.Hand.result_apply m' c r j).trans ?_
  rw [h0, h1, h2, h3, h4, h5, h6, h7, h8, h9, h10, h11]
  rfl

/-! ## The short convolution's call -/

/-- Its two programs' body tables are one. -/
theorem defs0_eq3 : Cert.Kernel3.defs₀ (F := Bits) = Cert.Kernel3Ideal.defs₀ (F := Bits) := by
  unfold Cert.Kernel3.defs₀ Cert.Kernel3Ideal.defs₀
  refine congrArg Defs.onTc (funext fun l => funext fun x => ?_)
  obtain ⟨_ | n, h⟩ := l
  · rfl
  · exact absurd h (Nat.not_lt.2 (Nat.le_add_left _ _))

theorem defs_eq3 : Cert.Kernel3.defs (F := Bits) = Cert.Kernel3Ideal.defs (F := Bits) :=
  congrArg (Pipeline.defs Cert.Kernel3Ideal.pcfgs) defs0_eq3

theorem frame_kernel3 : Cert.quiescent_Kernel3 := by
  intro m ρ _
  rw [defs_eq3]
  exact Cert.Kernel3Ideal.Gen.frame (F := Bits) m ρ

theorem frame_kernel3Ideal : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r hr => ⟨fun c => (hr c).2, Idealize.ShloMosaic.sem_eq_zero_of_no_sems (by decide) r.2⟩)
    (Cert.Reference3Ideal.Value.run (F := Ideal) m ρ)

theorem algebraic3 : Cert.algebraic_Kernel3Ideal_Reference3Ideal := by
  intro m g m' g' _ hargs
  refine ⟨Cert.Kernel3Ideal.Hand.val3 m, Cert.Kernel3Ideal.Hand.run_val3 m g, ?_⟩
  refine (θ_run Cert.Reference3Ideal.defs _ _).mono (fun r hr c => ⟨(hr c).1.trans ?_, (hr c).2⟩) (Cert.Reference3Ideal.Value.run (F := Ideal) m' g')
  obtain ⟨h0, h1⟩ := hargs c
  refine funext fun (i : Cert.Kernel3Ideal.S4x4096x256.Idx) => ?_
  obtain ⟨b, r, j, rfl⟩ : ∃ (b : Fin 4) (r : Fin 4096) (j : Fin 256), i = ValueIdx.ix3 b r j :=
    ⟨i 0, i 1, i 2, by funext a; match a with | ⟨0, _⟩ => rfl | ⟨1, _⟩ => rfl | ⟨2, _⟩ => rfl⟩
  refine (Cert.Reference3Ideal.Hand.whole_apply _ _ b r j).trans ?_
  rw [h0, h1]
  rfl

/-! ## The input projection's call -/

/-- Its two programs' body tables are one. -/
theorem defs0_eq4 : Cert.Kernel4.defs₀ (F := Bits) = Cert.Kernel4Ideal.defs₀ (F := Bits) := by
  unfold Cert.Kernel4.defs₀ Cert.Kernel4Ideal.defs₀
  refine congrArg Defs.onTc (funext fun l => funext fun x => ?_)
  obtain ⟨_ | n, h⟩ := l
  · rfl
  · exact absurd h (Nat.not_lt.2 (Nat.le_add_left _ _))

theorem defs_eq4 : Cert.Kernel4.defs (F := Bits) = Cert.Kernel4Ideal.defs (F := Bits) :=
  congrArg (Pipeline.defs Cert.Kernel4Ideal.pcfgs) defs0_eq4

theorem frame_kernel4 : Cert.quiescent_Kernel4 := by
  intro m ρ _
  rw [defs_eq4]
  exact Cert.Kernel4Ideal.Gen.frame (F := Bits) m ρ

theorem frame_kernel4Ideal : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r hr => ⟨fun c => (hr c).2, Idealize.ShloMosaic.sem_eq_zero_of_no_sems (by decide) r.2⟩)
    (Cert.Reference4Ideal.Value.run (F := Ideal) m ρ)

theorem algebraic4 : Cert.algebraic_Kernel4Ideal_Reference4Ideal := by
  intro m g m' g' _ hargs
  refine ⟨Cert.Kernel4Ideal.Hand.val4 m, Cert.Kernel4Ideal.Hand.run_val4 m g, ?_⟩
  refine (θ_run Cert.Reference4Ideal.defs _ _).mono (fun r hr c => ⟨(hr c).1.trans ?_, (hr c).2⟩) (Cert.Reference4Ideal.Value.run (F := Ideal) m' g')
  obtain ⟨h0, h1, h2, h3, h4, h5, h6, h7, h8⟩ := hargs c
  refine funext fun (i : Cert.Kernel4Ideal.S16384x3456.Idx) => ?_
  obtain ⟨r, j, rfl⟩ : ∃ (r : Fin 16384) (j : Fin 3456), i = ValueIdx.ix2 r j := ⟨i 0, i 1, ValueIdx.eq_ix2 i⟩
  refine (Cert.Reference4Ideal.Hand.result_apply m' c r j).trans ?_
  rw [h0, h1, h2, h3, h4, h5, h6, h7, h8]
  rfl

/-! ## The context attention's call -/

/-- Its two programs' body tables are one. -/
theorem defs0_eq5 : Cert.Kernel5.defs₀ (F := Bits) = Cert.Kernel5Ideal.defs₀ (F := Bits) := by
  unfold Cert.Kernel5.defs₀ Cert.Kernel5Ideal.defs₀
  refine congrArg Defs.onTc (funext fun l => funext fun x => ?_)
  obtain ⟨_ | n, h⟩ := l
  · rfl
  · exact absurd h (Nat.not_lt.2 (Nat.le_add_left _ _))

theorem defs_eq5 : Cert.Kernel5.defs (F := Bits) = Cert.Kernel5Ideal.defs (F := Bits) :=
  congrArg (Pipeline.defs Cert.Kernel5Ideal.pcfgs) defs0_eq5

theorem frame_kernel5 : Cert.quiescent_Kernel5 := by
  intro m ρ _
  rw [defs_eq5]
  exact Cert.Kernel5Ideal.Gen.frame (F := Bits) m ρ

theorem frame_kernel5Ideal : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r hr => ⟨fun c => (hr c).2, Idealize.ShloMosaic.sem_eq_zero_of_no_sems (by decide) r.2⟩)
    (Cert.Reference5Ideal.Value.run (F := Ideal) m ρ)

theorem frame_kernel5Ideal_pre : Cert.quiescent_Kernel5Ideal_pre_finite_qk := fun m ρ _ => frame_kernel5Ideal m ρ trivial

theorem frame_reference5_pre : Cert.quiescent_Reference5Ideal_pre_finite_qk := fun m ρ _ => frame_reference5 m ρ trivial

theorem algebraic5 : Cert.algebraic_Kernel5Ideal_Reference5Ideal_pre_finite_qk := by
  intro m g m' g' h hargs
  refine ⟨Cert.Kernel5Ideal.Hand.val3 m, Cert.Kernel5Ideal.Hand.run_val3 m g, ?_⟩
  refine (θ_run Cert.Reference5Ideal.defs _ _).mono (fun r hr c => ⟨(hr c).1.trans ?_, (hr c).2⟩) (Cert.Reference5Ideal.Value.run (F := Ideal) m' g')
  refine funext fun (i : Cert.Kernel5Ideal.S4x256x384.Idx) => ?_
  obtain ⟨b, r, j, rfl⟩ : ∃ (b : Fin 4) (r : Fin 256) (j : Fin 384), i = ValueIdx.ix3 b r j :=
    ⟨i 0, i 1, i 2, by funext a; match a with | ⟨0, _⟩ => rfl | ⟨1, _⟩ => rfl | ⟨2, _⟩ => rfl⟩
  exact Cert.Reference5Ideal.Hand.result_apply m' c _ (hargs c).symm (h c) b r j

/-! ## The call of the context tokens' input projection -/

/-- Its two programs' body tables are one. -/
theorem defs0_eq6 : Cert.Kernel6.defs₀ (F := Bits) = Cert.Kernel6Ideal.defs₀ (F := Bits) := by
  unfold Cert.Kernel6.defs₀ Cert.Kernel6Ideal.defs₀
  refine congrArg Defs.onTc (funext fun l => funext fun x => ?_)
  obtain ⟨_ | n, h⟩ := l
  · rfl
  · exact absurd h (Nat.not_lt.2 (Nat.le_add_left _ _))

theorem defs_eq6 : Cert.Kernel6.defs (F := Bits) = Cert.Kernel6Ideal.defs (F := Bits) :=
  congrArg (Pipeline.defs Cert.Kernel6Ideal.pcfgs) defs0_eq6

theorem frame_kernel6 : Cert.quiescent_Kernel6 := by
  intro m ρ _
  rw [defs_eq6]
  exact Cert.Kernel6Ideal.Gen.frame (F := Bits) m ρ

theorem frame_kernel6Ideal : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r hr => ⟨fun c => (hr c).2, Idealize.ShloMosaic.sem_eq_zero_of_no_sems (by decide) r.2⟩)
    (Cert.Reference6Ideal.Value.run (F := Ideal) m ρ)

theorem algebraic6 : Cert.algebraic_Kernel6Ideal_Reference6Ideal := by
  intro m g m' g' _ hargs
  refine ⟨Cert.Kernel6Ideal.Hand.val6 m, Cert.Kernel6Ideal.Hand.run_val6 m g, ?_⟩
  refine (θ_run Cert.Reference6Ideal.defs _ _).mono (fun r hr c => ⟨(hr c).1.trans ?_, (hr c).2⟩) (Cert.Reference6Ideal.Value.run (F := Ideal) m' g')
  obtain ⟨h0, h1, h2, h3, h4⟩ := hargs c
  refine funext fun (i : Cert.Kernel6Ideal.S1024x3456.Idx) => ?_
  obtain ⟨r, j, rfl⟩ : ∃ (r : Fin 1024) (j : Fin 3456), i = ValueIdx.ix2 r j := ⟨i 0, i 1, ValueIdx.eq_ix2 i⟩
  refine (Cert.Reference6Ideal.Hand.result_apply m' c r j).trans ?_
  rw [h0, h1, h2, h3, h4]
  rfl

/-! ## The call of the context tokens' output projection and feed-forward -/

/-- Its two programs' body tables are one. -/
theorem defs0_eq7 : Cert.Kernel7.defs₀ (F := Bits) = Cert.Kernel7Ideal.defs₀ (F := Bits) := by
  unfold Cert.Kernel7.defs₀ Cert.Kernel7Ideal.defs₀
  refine congrArg Defs.onTc (funext fun l => funext fun x => ?_)
  obtain ⟨_ | n, h⟩ := l
  · rfl
  · exact absurd h (Nat.not_lt.2 (Nat.le_add_left _ _))

theorem defs_eq7 : Cert.Kernel7.defs (F := Bits) = Cert.Kernel7Ideal.defs (F := Bits) :=
  congrArg (Pipeline.defs Cert.Kernel7Ideal.pcfgs) defs0_eq7

theorem frame_kernel7 : Cert.quiescent_Kernel7 := by
  intro m ρ _
  rw [defs_eq7]
  exact Cert.Kernel7Ideal.Gen.frame (F := Bits) m ρ

theorem frame_kernel7Ideal : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono (fun r hr => ⟨fun c => (hr c).2, Idealize.ShloMosaic.sem_eq_zero_of_no_sems (by decide) r.2⟩)
    (Cert.Reference7Ideal.Value.run (F := Ideal) m ρ)

theorem algebraic7 : Cert.algebraic_Kernel7Ideal_Reference7Ideal := by
  intro m g m' g' _ hargs
  refine ⟨Cert.Kernel7Ideal.Hand.val7 m, Cert.Kernel7Ideal.Hand.run_val7 m g, ?_⟩
  refine (θ_run Cert.Reference7Ideal.defs _ _).mono (fun r hr c => ⟨(hr c).1.trans ?_, (hr c).2⟩) (Cert.Reference7Ideal.Value.run (F := Ideal) m' g')
  obtain ⟨h0, h1, h2, h3, h4, h5, h6, h7, h8, h9, h10, h11⟩ := hargs c
  refine funext fun (i : Cert.Kernel7Ideal.S1024x1024.Idx) => ?_
  obtain ⟨r, j, rfl⟩ : ∃ (r : Fin 1024) (j : Fin 1024), i = ValueIdx.ix2 r j := ⟨i 0, i 1, by funext a; fin_cases a <;> rfl⟩
  refine (Cert.Reference7Ideal.Hand.result_apply m' c r j).trans ?_
  rw [h0, h1, h2, h3, h4, h5, h6, h7, h8, h9, h10, h11]
  rfl

/-! ## The call of the context tokens' short convolution -/

/-- Its two programs' body tables are one. -/
theorem defs0_eq8 : Cert.Kernel8.defs₀ (F := Bits) = Cert.Kernel8Ideal.defs₀ (F := Bits) := by
  unfold Cert.Kernel8.defs₀ Cert.Kernel8Ideal.defs₀
  refine congrArg Defs.onTc (funext fun l => funext fun x => ?_)
  obtain ⟨_ | n, h⟩ := l
  · rfl
  · exact absurd h (Nat.not_lt.2 (Nat.le_add_left _ _))

theorem defs_eq8 : Cert.Kernel8.defs (F := Bits) = Cert.Kernel8Ideal.defs (F := Bits) :=
  congrArg (Pipeline.defs Cert.Kernel8Ideal.pcfgs) defs0_eq8

theorem frame_kernel8 : Cert.quiescent_Kernel8 := by
  intro m ρ _
  rw [defs_eq8]
  exact Cert.Kernel8Ideal.Gen.frame (F := Bits) m ρ

theorem frame_kernel8Ideal : Cert.quiescent_Kernel8Ideal := fun m ρ _ => Cert.Kernel8Ideal.Gen.frame (F := Ideal) m ρ

theorem frame_reference8 : Cert.quiescent_Reference8Ideal := fun m ρ _ =>
  (θ_run Cert.Reference8Ideal.defs _ _).mono (fun r hr => ⟨fun c => (hr c).2, Idealize.ShloMosaic.sem_eq_zero_of_no_sems (by decide) r.2⟩)
    (Cert.Reference8Ideal.Value.run (F := Ideal) m ρ)

theorem algebraic8 : Cert.algebraic_Kernel8Ideal_Reference8Ideal := by
  intro m g m' g' _ hargs
  refine ⟨Cert.Kernel8Ideal.Hand.val8 m, Cert.Kernel8Ideal.Hand.run_val8 m g, ?_⟩
  refine (θ_run Cert.Reference8Ideal.defs _ _).mono (fun r hr c => ⟨(hr c).1.trans ?_, (hr c).2⟩) (Cert.Reference8Ideal.Value.run (F := Ideal) m' g')
  obtain ⟨h0, h1⟩ := hargs c
  refine funext fun (i : Cert.Kernel8Ideal.S4x256x256.Idx) => ?_
  obtain ⟨b, r, j, rfl⟩ : ∃ (b : Fin 4) (r : Fin 256) (j : Fin 256), i = ValueIdx.ix3 b r j :=
    ⟨i 0, i 1, i 2, by funext a; match a with | ⟨0, _⟩ => rfl | ⟨1, _⟩ => rfl | ⟨2, _⟩ => rfl⟩
  refine (Cert.Reference8Ideal.Hand.whole_apply _ _ b r j).trans ?_
  rw [h0, h1]
  rfl

/-! ## The first layer's call of the latent tokens' input projection -/

/-- Its two programs' body tables are one. -/
theorem defs0_eq9 : Cert.Kernel9.defs₀ (F := Bits) = Cert.Kernel9Ideal.defs₀ (F := Bits) := by
  unfold Cert.Kernel9.defs₀ Cert.Kernel9Ideal.defs₀
  refine congrArg Defs.onTc (funext fun l => funext fun x => ?_)
  obtain ⟨_ | n, h⟩ := l
  · rfl
  · exact absurd h (Nat.not_lt.2 (Nat.le_add_left _ _))

theorem defs_eq9 : Cert.Kernel9.defs (F := Bits) = Cert.Kernel9Ideal.defs (F := Bits) :=
  congrArg (Pipeline.defs Cert.Kernel9Ideal.pcfgs) defs0_eq9

set_option maxHeartbeats 4000000 in
theorem frame_kernel9 : Cert.quiescent_Kernel9 := by
  intro m ρ _
  rw [defs_eq9]
  exact Cert.Kernel9Ideal.Gen.frame (F := Bits) m ρ

theorem frame_kernel9Ideal : Cert.quiescent_Kernel9Ideal := fun m ρ _ => Cert.Kernel9Ideal.Gen.frame (F := Ideal) m ρ

theorem frame_reference9 : Cert.quiescent_Reference9Ideal := fun m ρ _ =>
  (θ_run Cert.Reference9Ideal.defs _ _).mono (fun r hr => ⟨fun c => (hr c).2.2.2, Idealize.ShloMosaic.sem_eq_zero_of_no_sems (by decide) r.2⟩)
    (Cert.Reference9Ideal.Value.run (F := Ideal) m ρ)

theorem algebraic9 : Cert.algebraic_Kernel9Ideal_Reference9Ideal := by
  intro m g m' g' _ hargs
  refine ⟨Cert.Kernel9Ideal.Hand.val9 m, Cert.Kernel9Ideal.Hand.valFirst m, Cert.Kernel9Ideal.Hand.valSecond m, Cert.Kernel9Ideal.Hand.run_val9 m g, ?_⟩
  refine (θ_run Cert.Reference9Ideal.defs _ _).mono (fun r hr c => ⟨(hr c).1.trans ?_, (hr c).2.1.trans ?_, (hr c).2.2.1.trans ?_, (hr c).2.2.2⟩)
    (Cert.Reference9Ideal.Value.run (F := Ideal) m' g')
  all_goals obtain ⟨h0, h1, h2, h3, h4, h5, h6, h7, h8, h9, h10⟩ := hargs c
  · refine funext fun (i : Cert.Kernel9Ideal.S16384x3456.Idx) => ?_
    obtain ⟨r, j, rfl⟩ : ∃ (r : Fin 16384) (j : Fin 3456), i = ValueIdx.ix2 r j := ⟨i 0, i 1, ValueIdx.eq_ix2 i⟩
    refine (Cert.Reference9Ideal.Hand.result_apply m' c r j).trans ?_
    rw [h0, h1, h2, h3, h4, h5, h6, h7, h8]
    rfl
  · rw [h9]
    rfl
  · rw [h10]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_expert_ids.Gen.facts, Cert.Pre_finite_qk.Gen.facts,
  frame_kernel, frame_kernelIdeal, frame_reference, frame_reference_pre, frame_kernel2, frame_kernel2Ideal, frame_reference2,
  frame_kernel3, frame_kernel3Ideal, frame_reference3, frame_kernel4, frame_kernel4Ideal, frame_reference4,
  frame_kernel5, frame_kernel5Ideal, frame_kernel5Ideal_pre, frame_reference5, frame_reference5_pre,
  frame_kernel6, frame_kernel6Ideal, frame_reference6, frame_kernel7, frame_kernel7Ideal, frame_reference7, frame_kernel8, frame_kernel8Ideal, frame_reference8, frame_kernel9, frame_kernel9Ideal, frame_reference9,
  trivial, algebraic, trivial, algebraic2, trivial, algebraic3, trivial, algebraic4, trivial, algebraic5, trivial, algebraic6, trivial, algebraic7, trivial, algebraic8, trivial, algebraic9⟩

end Cert.Proof

end
